-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.PackStatement Cert.KernelIdeal.S8x128
  ∧ IdealRules.bf16_pair.Statement Cert.KernelIdeal.S16x128 Cert.KernelIdeal.S8x128
  ∧ IdealRules.bf16_pair.Statement Cert.KernelIdeal.S1x8x2x128 Cert.KernelIdeal.S1x8x1x128

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S4x4096 : Shape := ⟨2, ![4, 4096]⟩
abbrev S32000x8192 : Shape := ⟨2, ![32000, 8192]⟩
abbrev S32000x64 : Shape := ⟨2, ![32000, 64]⟩
abbrev S8192 : Shape := ⟨1, ![8192]⟩
abbrev S_ : Shape := ⟨0, ![]⟩

class Facts : Prop where
  bcast_S_S4x4096 : S_.BroadcastsInDim S4x4096 (![] : Fin 0 → Fin S4x4096.rank)

variable [Facts]

def fn {F : FTy → Type} [FloatOps F] (main_arg0 : IVec S4x4096 32) (main_arg1 : IVec S32000x8192 8) (main_arg2 : FVec F S32000x64 .f32) (main_arg3 : FVec F S8192 .bf16) : IVec S4x4096 1 :=
  let main_c : IVec S_ 32 := constantI S_ 32 0#32
  let main_v0 : IVec S4x4096 32 := broadcastInDim S4x4096 ![] bcast_S_S4x4096 main_c
  let main_v1 : IVec S4x4096 1 := cmpi .sge main_arg0 main_v0
  let main_c_0 : IVec S_ 32 := constantI S_ 32 32000#32
  let main_v2 : IVec S4x4096 32 := broadcastInDim S4x4096 ![] bcast_S_S4x4096 main_c_0
  let main_v3 : IVec S4x4096 1 := cmpi .slt main_arg0 main_v2
  let main_v4 : IVec S4x4096 1 := andi main_v1 main_v3
  main_v4
-- ==== Kernel.lean ====
abbrev S4x4096 : Shape := ⟨2, ![4, 4096]⟩
abbrev S32000x8192 : Shape := ⟨2, ![32000, 8192]⟩
abbrev S32000x64 : Shape := ⟨2, ![32000, 64]⟩
abbrev S8192 : Shape := ⟨1, ![8192]⟩
abbrev S8000x4x8192 : Shape := ⟨3, ![8000, 4, 8192]⟩
abbrev S8000x8192x4 : Shape := ⟨3, ![8000, 8192, 4]⟩
abbrev S8000x8192 : Shape := ⟨2, ![8000, 8192]⟩
abbrev S16384 : Shape := ⟨1, ![16384]⟩
abbrev S64x32000 : Shape := ⟨2, ![64, 32000]⟩
abbrev S64x128 : Shape := ⟨2, ![64, 128]⟩
abbrev S1048576x128 : Shape := ⟨2, ![1048576, 128]⟩
abbrev S256x64x128 : Shape := ⟨3, ![256, 64, 128]⟩
abbrev S4x64x8x128 : Shape := ⟨4, ![4, 64, 8, 128]⟩
abbrev S32 : Shape := ⟨1, ![32]⟩
abbrev S4 : Shape := ⟨1, ![4]⟩
abbrev S1 : Shape := ⟨1, ![1]⟩
abbrev S_ : Shape := ⟨0, ![]⟩
abbrev S1x64x128 : Shape := ⟨3, ![1, 64, 128]⟩
abbrev S1x8192 : Shape := ⟨2, ![1, 8192]⟩
abbrev S512x128 : Shape := ⟨2, ![512, 128]⟩
abbrev S1x64x8x128 : Shape := ⟨4, ![1, 64, 8, 128]⟩
abbrev S64x8x128 : Shape := ⟨3, ![64, 8, 128]⟩
abbrev S8x128 : Shape := ⟨2, ![8, 128]⟩
abbrev S32x128 : Shape := ⟨2, ![32, 128]⟩
abbrev S8x128x1 : Shape := ⟨3, ![8, 128, 1]⟩
abbrev S16x128 : Shape := ⟨2, ![16, 128]⟩
abbrev S64x4x128 : Shape := ⟨3, ![64, 4, 128]⟩
abbrev S8x1x128 : Shape := ⟨3, ![8, 1, 128]⟩
abbrev S1x8x2x128 : Shape := ⟨4, ![1, 8, 2, 128]⟩
abbrev S1x8x1x128 : Shape := ⟨4, ![1, 8, 1, 128]⟩
abbrev S8 : Shape := ⟨1, ![8]⟩
abbrev S8x1 : Shape := ⟨2, ![8, 1]⟩
abbrev S1x1 : Shape := ⟨2, ![1, 1]⟩
abbrev S2048x64x8x128 : Shape := ⟨4, ![2048, 64, 8, 128]⟩
abbrev S2048x8x64x128 : Shape := ⟨4, ![2048, 8, 64, 128]⟩
abbrev S4x4096x8192 : Shape := ⟨3, ![4, 4096, 8192]⟩

abbrev nBuf : Space → Nat
  | .hbm => 17
  | .vmem => 5
  | .smem => 1
  | _ => 0

abbrev bufTy : (tb : Table) → Fin (tcTables nBuf tb) → BufTy
  | .hbm, ⟨0, _⟩ => ⟨S4x4096, .i32⟩
  | .hbm, ⟨1, _⟩ => ⟨S32000x8192, .i8⟩
  | .hbm, ⟨2, _⟩ => ⟨S32000x64, .f32⟩
  | .hbm, ⟨3, _⟩ => ⟨S8192, .bf16⟩
  | .hbm, ⟨4, _⟩ => ⟨S8000x4x8192, .i8⟩
  | .hbm, ⟨5, _⟩ => ⟨S8000x8192x4, .i8⟩
  | .hbm, ⟨6, _⟩ => ⟨S8000x8192, .i32⟩
  | .hbm, ⟨7, _⟩ => ⟨S64x32000, .f32⟩
  | .hbm, ⟨8, _⟩ => ⟨S64x128, .bf16⟩
  | .hbm, ⟨9, _⟩ => ⟨S1048576x128, .bf16⟩
  | .hbm, ⟨10, _⟩ => ⟨S1048576x128, .bf16⟩
  | .hbm, ⟨11, _⟩ => ⟨S2048x64x8x128, .bf16⟩
  | .hbm, ⟨12, _⟩ => ⟨S2048x8x64x128, .bf16⟩
  | .hbm, ⟨13, _⟩ => ⟨S4x4096x8192, .bf16⟩
  | .hbm, ⟨14, _⟩ => ⟨S2048x64x8x128, .bf16⟩
  | .hbm, ⟨15, _⟩ => ⟨S2048x8x64x128, .bf16⟩
  | .hbm, ⟨16, _⟩ => ⟨S4x4096x8192, .bf16⟩
  | .local _ .vmem, ⟨0, _⟩ => ⟨S64x32000, .f32⟩
  | .local _ .vmem, ⟨1, _⟩ => ⟨S64x128, .bf16⟩
  | .local _ .vmem, ⟨2, _⟩ => ⟨S256x64x128, .i32⟩
  | .local _ .vmem, ⟨3, _⟩ => ⟨S4x64x8x128, .bf16⟩
  | .local _ .vmem, ⟨4, _⟩ => ⟨S4x64x8x128, .bf16⟩
  | .local _ .smem, ⟨0, _⟩ => ⟨S16384, .i32⟩
  | _, _ => ⟨S4x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v3 : Ref sig .tc := ⟨.smem, 0, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1

abbrev nD : Nat := 1
abbrev τ : Topo := Topo.v7x

variable {F : FTy → Type} [BitOps F]

abbrev grid0 : Pipeline.Grid := ⟨1, ![1], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_off1 (k0_t1 : Fin k0_t1_loop.trips) : Fin 1 → Nat :=
  let c0_i32_55 : BitVec 32 := 0#32
  let c0_i32 : BitVec 32 := 0#32
  let c1_i32 : BitVec 32 := 1#32
  let arg13 : BitVec 32 := Scf.iv c0_i32 c1_i32 k0_t1
  let c1_i32_54 : BitVec 32 := 1#32
  let v50 : BitVec 32 := Scalar.muli arg13 c1_i32_54
  let v51 : BitVec 32 := Scalar.addi c0_i32_55 v50
  let c8_i32 : BitVec 32 := 8#32
  let v62 : BitVec 32 := Scalar.muli v51 c8_i32
  let c0_i32_62 : BitVec 32 := 0#32
  let v63 : BitVec 32 := Scalar.addi v62 c0_i32_62
  let v64 : Index := Scalar.indexCast v63
  ![v64.toNat]
def k0_off2 (k0_t1 : Fin k0_t1_loop.trips) : Fin 1 → Nat :=
  let c0_i32_55 : BitVec 32 := 0#32
  let c0_i32 : BitVec 32 := 0#32
  let c1_i32 : BitVec 32 := 1#32
  let arg13 : BitVec 32 := Scf.iv c0_i32 c1_i32 k0_t1
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  ![v61.toNat]
def k0_off3 (k0_t1 : Fin k0_t1_loop.trips) : Fin 3 → Nat :=
  let c0_i32_55 : BitVec 32 := 0#32
  let c0_i32 : BitVec 32 := 0#32
  let c1_i32 : BitVec 32 := 1#32
  let arg13 : BitVec 32 := Scf.iv c0_i32 c1_i32 k0_t1
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  let c8_i32_64 : BitVec 32 := 8#32
  let v67 : BitVec 32 := Scalar.muli v61 c8_i32_64
  let c0_i32_65 : BitVec 32 := 0#32
  let v68 : BitVec 32 := Scalar.addi v67 c0_i32_65
  let c0_i32_66 : BitVec 32 := 0#32
  let c0_i32_67 : BitVec 32 := 0#32
  ![v68.toNat, 0, 0]
def k0_off4 (v65 : BitVec 32) : Fin 2 → Nat :=
  let c2_i32_63 : BitVec 32 := 2#32
  let v66 : BitVec 32 := Scalar.shrsi v65 c2_i32_63
  let c0_i32_68 : BitVec 32 := 0#32
  ![v66.toNat, 0]

def k0_chk1 (v65 : BitVec 32) : Prop :=
  (∀ a, (k0_off4 v65) a + S1x8192.size a ≤ S8000x8192.size a)
theorem k0_off4_inb : ∀ (v65 : BitVec 32) (k0_hw1 : k0_chk1 v65), ∀ a, (k0_off4 v65) a + S1x8192.size a ≤ S8000x8192.size a := fun v65 k0_hw1 => k0_hw1

def k0_off5 (k0_t1 : Fin k0_t1_loop.trips) : Fin 1 → Nat :=
  let c0_i32_55 : BitVec 32 := 0#32
  let c0_i32 : BitVec 32 := 0#32
  let c1_i32 : BitVec 32 := 1#32
  let arg13 : BitVec 32 := Scf.iv c0_i32 c1_i32 k0_t1
  let c1_i32_54 : BitVec 32 := 1#32
  let v50 : BitVec 32 := Scalar.muli arg13 c1_i32_54
  let v51 : BitVec 32 := Scalar.addi c0_i32_55 v50
  let c8_i32_69 : BitVec 32 := 8#32
  let v75 : BitVec 32 := Scalar.muli v51 c8_i32_69
  let c1_i32_70 : BitVec 32 := 1#32
  let v76 : BitVec 32 := Scalar.addi v75 c1_i32_70
  let v77 : Index := Scalar.indexCast v76
  ![v77.toNat]
def k0_off6 (k0_t1 : Fin k0_t1_loop.trips) : Fin 1 → Nat :=
  let c0_i32_55 : BitVec 32 := 0#32
  let c0_i32 : BitVec 32 := 0#32
  let c1_i32 : BitVec 32 := 1#32
  let arg13 : BitVec 32 := Scf.iv c0_i32 c1_i32 k0_t1
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  ![v61.toNat]
def k0_off7 (k0_t1 : Fin k0_t1_loop.trips) : Fin 3 → Nat :=
  let c0_i32_55 : BitVec 32 := 0#32
  let c0_i32 : BitVec 32 := 0#32
  let c1_i32 : BitVec 32 := 1#32
  let arg13 : BitVec 32 := Scf.iv c0_i32 c1_i32 k0_t1
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  let c8_i32_72 : BitVec 32 := 8#32
  let v80 : BitVec 32 := Scalar.muli v61 c8_i32_72
  let c1_i32_73 : BitVec 32 := 1#32
  let v81 : BitVec 32 := Scalar.addi v80 c1_i32_73
  let c0_i32_74 : BitVec 32 := 0#32
  let c0_i32_75 : BitVec 32 := 0#32
  ![v81.toNat, 0, 0]
def k0_off8 (v78 : BitVec 32) : Fin 2 → Nat :=
  let c2_i32_71 : BitVec 32 := 2#32
  let v79 : BitVec 32 := Scalar.shrsi v78 c2_i32_71
  let c0_i32_76 : BitVec 32 := 0#32
  ![v79.toNat, 0]

def k0_chk2 (v78 : BitVec 32) : Prop :=
  (∀ a, (k0_off8 v78) a + S1x8192.size a ≤ S8000x8192.size a)
theorem k0_off8_inb : ∀ (v78 : BitVec 32) (k0_hw2 : k0_chk2 v78), ∀ a, (k0_off8 v78) a + S1x8192.size a ≤ S8000x8192.size a := fun v78 k0_hw2 => k0_hw2

def k0_off9 (k0_t1 : Fin k0_t1_loop.trips) : Fin 1 → Nat :=
  let c0_i32_55 : BitVec 32 := 0#32
  let c0_i32 : BitVec 32 := 0#32
  let c1_i32 : BitVec 32 := 1#32
  let arg13 : BitVec 32 := Scf.iv c0_i32 c1_i32 k0_t1
  let c1_i32_54 : BitVec 32 := 1#32
  let v50 : BitVec 32 := Scalar.muli arg13 c1_i32_54
  let v51 : BitVec 32 := Scalar.addi c0_i32_55 v50
  let c8_i32_77 : BitVec 32 := 8#32
  let v88 : BitVec 32 := Scalar.muli v51 c8_i32_77
  let c2_i32_78 : BitVec 32 := 2#32
  let v89 : BitVec 32 := Scalar.addi v88 c2_i32_78
  let v90 : Index := Scalar.indexCast v89
  ![v90.toNat]
def k0_off10 (k0_t1 : Fin k0_t1_loop.trips) : Fin 1 → Nat :=
  let c0_i32_55 : BitVec 32 := 0#32
  let c0_i32 : BitVec 32 := 0#32
  let c1_i32 : BitVec 32 := 1#32
  let arg13 : BitVec 32 := Scf.iv c0_i32 c1_i32 k0_t1
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  ![v61.toNat]
def k0_off11 (k0_t1 : Fin k0_t1_loop.trips) : Fin 3 → Nat :=
  let c0_i32_55 : BitVec 32 := 0#32
  let c0_i32 : BitVec 32 := 0#32
  let c1_i32 : BitVec 32 := 1#32
  let arg13 : BitVec 32 := Scf.iv c0_i32 c1_i32 k0_t1
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  let c8_i32_80 : BitVec 32 := 8#32
  let v93 : BitVec 32 := Scalar.muli v61 c8_i32_80
  let c2_i32_81 : BitVec 32 := 2#32
  let v94 : BitVec 32 := Scalar.addi v93 c2_i32_81
  let c0_i32_82 : BitVec 32 := 0#32
  let c0_i32_83 : BitVec 32 := 0#32
  ![v94.toNat, 0, 0]
def k0_off12 (v91 : BitVec 32) : Fin 2 → Nat :=
  let c2_i32_79 : BitVec 32 := 2#32
  let v92 : BitVec 32 := Scalar.shrsi v91 c2_i32_79
  let c0_i32_84 : BitVec 32 := 0#32
  ![v92.toNat, 0]

def k0_chk3 (v91 : BitVec 32) : Prop :=
  (∀ a, (k0_off12 v91) a + S1x8192.size a ≤ S8000x8192.size a)
theorem k0_off12_inb : ∀ (v91 : BitVec 32) (k0_hw3 : k0_chk3 v91), ∀ a, (k0_off12 v91) a + S1x8192.size a ≤ S8000x8192.size a := fun v91 k0_hw3 => k0_hw3

def k0_off13 (k0_t1 : Fin k0_t1_loop.trips) : Fin 1 → Nat :=
  let c0_i32_55 : BitVec 32 := 0#32
  let c0_i32 : BitVec 32 := 0#32
  let c1_i32 : BitVec 32 := 1#32
  let arg13 : BitVec 32 := Scf.iv c0_i32 c1_i32 k0_t1
  let c1_i32_54 : BitVec 32 := 1#32
  let v50 : BitVec 32 := Scalar.muli arg13 c1_i32_54
  let v51 : BitVec 32 := Scalar.addi c0_i32_55 v50
  let c8_i32_85 : BitVec 32 := 8#32
  let v101 : BitVec 32 := Scalar.muli v51 c8_i32_85
  let c3_i32_86 : BitVec 32 := 3#32
  let v102 : BitVec 32 := Scalar.addi v101 c3_i32_86
  let v103 : Index := Scalar.indexCast v102
  ![v103.toNat]
def k0_off14 (k0_t1 : Fin k0_t1_loop.trips) : Fin 1 → Nat :=
  let c0_i32_55 : BitVec 32 := 0#32
  let c0_i32 : BitVec 32 := 0#32
  let c1_i32 : BitVec 32 := 1#32
  let arg13 : BitVec 32 := Scf.iv c0_i32 c1_i32 k0_t1
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  ![v61.toNat]
def k0_off15 (k0_t1 : Fin k0_t1_loop.trips) : Fin 3 → Nat :=
  let c0_i32_55 : BitVec 32 := 0#32
  let c0_i32 : BitVec 32 := 0#32
  let c1_i32 : BitVec 32 := 1#32
  let arg13 : BitVec 32 := Scf.iv c0_i32 c1_i32 k0_t1
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  let c8_i32_88 : BitVec 32 := 8#32
  let v106 : BitVec 32 := Scalar.muli v61 c8_i32_88
  let c3_i32_89 : BitVec 32 := 3#32
  let v107 : BitVec 32 := Scalar.addi v106 c3_i32_89
  let c0_i32_90 : BitVec 32 := 0#32
  let c0_i32_91 : BitVec 32 := 0#32
  ![v107.toNat, 0, 0]
def k0_off16 (v104 : BitVec 32) : Fin 2 → Nat :=
  let c2_i32_87 : BitVec 32 := 2#32
  let v105 : BitVec 32 := Scalar.shrsi v104 c2_i32_87
  let c0_i32_92 : BitVec 32 := 0#32
  ![v105.toNat, 0]

def k0_chk4 (v104 : BitVec 32) : Prop :=
  (∀ a, (k0_off16 v104) a + S1x8192.size a ≤ S8000x8192.size a)
theorem k0_off16_inb : ∀ (v104 : BitVec 32) (k0_hw4 : k0_chk4 v104), ∀ a, (k0_off16 v104) a + S1x8192.size a ≤ S8000x8192.size a := fun v104 k0_hw4 => k0_hw4

def k0_off17 (k0_t1 : Fin k0_t1_loop.trips) : Fin 1 → Nat :=
  let c0_i32_55 : BitVec 32 := 0#32
  let c0_i32 : BitVec 32 := 0#32
  let c1_i32 : BitVec 32 := 1#32
  let arg13 : BitVec 32 := Scf.iv c0_i32 c1_i32 k0_t1
  let c1_i32_54 : BitVec 32 := 1#32
  let v50 : BitVec 32 := Scalar.muli arg13 c1_i32_54
  let v51 : BitVec 32 := Scalar.addi c0_i32_55 v50
  let c8_i32_93 : BitVec 32 := 8#32
  let v114 : BitVec 32 := Scalar.muli v51 c8_i32_93
  let c4_i32 : BitVec 32 := 4#32
  let v115 : BitVec 32 := Scalar.addi v114 c4_i32
  let v116 : Index := Scalar.indexCast v115
  ![v116.toNat]
def k0_off18 (k0_t1 : Fin k0_t1_loop.trips) : Fin 1 → Nat :=
  let c0_i32_55 : BitVec 32 := 0#32
  let c0_i32 : BitVec 32 := 0#32
  let c1_i32 : BitVec 32 := 1#32
  let arg13 : BitVec 32 := Scf.iv c0_i32 c1_i32 k0_t1
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  ![v61.toNat]
def k0_off19 (k0_t1 : Fin k0_t1_loop.trips) : Fin 3 → Nat :=
  let c0_i32_55 : BitVec 32 := 0#32
  let c0_i32 : BitVec 32 := 0#32
  let c1_i32 : BitVec 32 := 1#32
  let arg13 : BitVec 32 := Scf.iv c0_i32 c1_i32 k0_t1
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  let c8_i32_95 : BitVec 32 := 8#32
  let v119 : BitVec 32 := Scalar.muli v61 c8_i32_95
  let c4_i32_96 : BitVec 32 := 4#32
  let v120 : BitVec 32 := Scalar.addi v119 c4_i32_96
  let c0_i32_97 : BitVec 32 := 0#32
  let c0_i32_98 : BitVec 32 := 0#32
  ![v120.toNat, 0, 0]
def k0_off20 (v117 : BitVec 32) : Fin 2 → Nat :=
  let c2_i32_94 : BitVec 32 := 2#32
  let v118 : BitVec 32 := Scalar.shrsi v117 c2_i32_94
  let c0_i32_99 : BitVec 32 := 0#32
  ![v118.toNat, 0]

def k0_chk5 (v117 : BitVec 32) : Prop :=
  (∀ a, (k0_off20 v117) a + S1x8192.size a ≤ S8000x8192.size a)
theorem k0_off20_inb : ∀ (v117 : BitVec 32) (k0_hw5 : k0_chk5 v117), ∀ a, (k0_off20 v117) a + S1x8192.size a ≤ S8000x8192.size a := fun v117 k0_hw5 => k0_hw5

def k0_off21 (k0_t1 : Fin k0_t1_loop.trips) : Fin 1 → Nat :=
  let c0_i32_55 : BitVec 32 := 0#32
  let c0_i32 : BitVec 32 := 0#32
  let c1_i32 : BitVec 32 := 1#32
  let arg13 : BitVec 32 := Scf.iv c0_i32 c1_i32 k0_t1
  let c1_i32_54 : BitVec 32 := 1#32
  let v50 : BitVec 32 := Scalar.muli arg13 c1_i32_54
  let v51 : BitVec 32 := Scalar.addi c0_i32_55 v50
  let c8_i32_100 : BitVec 32 := 8#32
  let v127 : BitVec 32 := Scalar.muli v51 c8_i32_100
  let c5_i32 : BitVec 32 := 5#32
  let v128 : BitVec 32 := Scalar.addi v127 c5_i32
  let v129 : Index := Scalar.indexCast v128
  ![v129.toNat]
def k0_off22 (k0_t1 : Fin k0_t1_loop.trips) : Fin 1 → Nat :=
  let c0_i32_55 : BitVec 32 := 0#32
  let c0_i32 : BitVec 32 := 0#32
  let c1_i32 : BitVec 32 := 1#32
  let arg13 : BitVec 32 := Scf.iv c0_i32 c1_i32 k0_t1
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  ![v61.toNat]
def k0_off23 (k0_t1 : Fin k0_t1_loop.trips) : Fin 3 → Nat :=
  let c0_i32_55 : BitVec 32 := 0#32
  let c0_i32 : BitVec 32 := 0#32
  let c1_i32 : BitVec 32 := 1#32
  let arg13 : BitVec 32 := Scf.iv c0_i32 c1_i32 k0_t1
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  let c8_i32_102 : BitVec 32 := 8#32
  let v132 : BitVec 32 := Scalar.muli v61 c8_i32_102
  let c5_i32_103 : BitVec 32 := 5#32
  let v133 : BitVec 32 := Scalar.addi v132 c5_i32_103
  let c0_i32_104 : BitVec 32 := 0#32
  let c0_i32_105 : BitVec 32 := 0#32
  ![v133.toNat, 0, 0]
def k0_off24 (v130 : BitVec 32) : Fin 2 → Nat :=
  let c2_i32_101 : BitVec 32 := 2#32
  let v131 : BitVec 32 := Scalar.shrsi v130 c2_i32_101
  let c0_i32_106 : BitVec 32 := 0#32
  ![v131.toNat, 0]

def k0_chk6 (v130 : BitVec 32) : Prop :=
  (∀ a, (k0_off24 v130) a + S1x8192.size a ≤ S8000x8192.size a)
theorem k0_off24_inb : ∀ (v130 : BitVec 32) (k0_hw6 : k0_chk6 v130), ∀ a, (k0_off24 v130) a + S1x8192.size a ≤ S8000x8192.size a := fun v130 k0_hw6 => k0_hw6

def k0_off25 (k0_t1 : Fin k0_t1_loop.trips) : Fin 1 → Nat :=
  let c0_i32_55 : BitVec 32 := 0#32
  let c0_i32 : BitVec 32 := 0#32
  let c1_i32 : BitVec 32 := 1#32
  let arg13 : BitVec 32 := Scf.iv c0_i32 c1_i32 k0_t1
  let c1_i32_54 : BitVec 32 := 1#32
  let v50 : BitVec 32 := Scalar.muli arg13 c1_i32_54
  let v51 : BitVec 32 := Scalar.addi c0_i32_55 v50
  let c8_i32_107 : BitVec 32 := 8#32
  let v140 : BitVec 32 := Scalar.muli v51 c8_i32_107
  let c6_i32 : BitVec 32 := 6#32
  let v141 : BitVec 32 := Scalar.addi v140 c6_i32
  let v142 : Index := Scalar.indexCast v141
  ![v142.toNat]
def k0_off26 (k0_t1 : Fin k0_t1_loop.trips) : Fin 1 → Nat :=
  let c0_i32_55 : BitVec 32 := 0#32
  let c0_i32 : BitVec 32 := 0#32
  let c1_i32 : BitVec 32 := 1#32
  let arg13 : BitVec 32 := Scf.iv c0_i32 c1_i32 k0_t1
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  ![v61.toNat]
def k0_off27 (k0_t1 : Fin k0_t1_loop.trips) : Fin 3 → Nat :=
  let c0_i32_55 : BitVec 32 := 0#32
  let c0_i32 : BitVec 32 := 0#32
  let c1_i32 : BitVec 32 := 1#32
  let arg13 : BitVec 32 := Scf.iv c0_i32 c1_i32 k0_t1
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  let c8_i32_109 : BitVec 32 := 8#32
  let v145 : BitVec 32 := Scalar.muli v61 c8_i32_109
  let c6_i32_110 : BitVec 32 := 6#32
  let v146 : BitVec 32 := Scalar.addi v145 c6_i32_110
  let c0_i32_111 : BitVec 32 := 0#32
  let c0_i32_112 : BitVec 32 := 0#32
  ![v146.toNat, 0, 0]
def k0_off28 (v143 : BitVec 32) : Fin 2 → Nat :=
  let c2_i32_108 : BitVec 32 := 2#32
  let v144 : BitVec 32 := Scalar.shrsi v143 c2_i32_108
  let c0_i32_113 : BitVec 32 := 0#32
  ![v144.toNat, 0]

def k0_chk7 (v143 : BitVec 32) : Prop :=
  (∀ a, (k0_off28 v143) a + S1x8192.size a ≤ S8000x8192.size a)
theorem k0_off28_inb : ∀ (v143 : BitVec 32) (k0_hw7 : k0_chk7 v143), ∀ a, (k0_off28 v143) a + S1x8192.size a ≤ S8000x8192.size a := fun v143 k0_hw7 => k0_hw7

def k0_off29 (k0_t1 : Fin k0_t1_loop.trips) : Fin 1 → Nat :=
  let c0_i32_55 : BitVec 32 := 0#32
  let c0_i32 : BitVec 32 := 0#32
  let c1_i32 : BitVec 32 := 1#32
  let arg13 : BitVec 32 := Scf.iv c0_i32 c1_i32 k0_t1
  let c1_i32_54 : BitVec 32 := 1#32
  let v50 : BitVec 32 := Scalar.muli arg13 c1_i32_54
  let v51 : BitVec 32 := Scalar.addi c0_i32_55 v50
  let c8_i32_114 : BitVec 32 := 8#32
  let v153 : BitVec 32 := Scalar.muli v51 c8_i32_114
  let c7_i32 : BitVec 32 := 7#32
  let v154 : BitVec 32 := Scalar.addi v153 c7_i32
  let v155 : Index := Scalar.indexCast v154
  ![v155.toNat]
def k0_off30 (k0_t1 : Fin k0_t1_loop.trips) : Fin 1 → Nat :=
  let c0_i32_55 : BitVec 32 := 0#32
  let c0_i32 : BitVec 32 := 0#32
  let c1_i32 : BitVec 32 := 1#32
  let arg13 : BitVec 32 := Scf.iv c0_i32 c1_i32 k0_t1
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  ![v61.toNat]
def k0_off31 (k0_t1 : Fin k0_t1_loop.trips) : Fin 3 → Nat :=
  let c0_i32_55 : BitVec 32 := 0#32
  let c0_i32 : BitVec 32 := 0#32
  let c1_i32 : BitVec 32 := 1#32
  let arg13 : BitVec 32 := Scf.iv c0_i32 c1_i32 k0_t1
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  let c8_i32_116 : BitVec 32 := 8#32
  let v158 : BitVec 32 := Scalar.muli v61 c8_i32_116
  let c7_i32_117 : BitVec 32 := 7#32
  let v159 : BitVec 32 := Scalar.addi v158 c7_i32_117
  let c0_i32_118 : BitVec 32 := 0#32
  let c0_i32_119 : BitVec 32 := 0#32
  ![v159.toNat, 0, 0]
def k0_off32 (v156 : BitVec 32) : Fin 2 → Nat :=
  let c2_i32_115 : BitVec 32 := 2#32
  let v157 : BitVec 32 := Scalar.shrsi v156 c2_i32_115
  let c0_i32_120 : BitVec 32 := 0#32
  ![v157.toNat, 0]

def k0_chk8 (v156 : BitVec 32) : Prop :=
  (∀ a, (k0_off32 v156) a + S1x8192.size a ≤ S8000x8192.size a)
theorem k0_off32_inb : ∀ (v156 : BitVec 32) (k0_hw8 : k0_chk8 v156), ∀ a, (k0_off32 v156) a + S1x8192.size a ≤ S8000x8192.size a := fun v156 k0_hw8 => k0_hw8

@[reducible] def k0_t2_loop : Scf.Loop 32 :=
  let c0_i32_1 : BitVec 32 := 0#32
  let c2048_i32 : BitVec 32 := 2048#32
  let v1 : BitVec 32 := Scalar.addi c0_i32_1 c2048_i32
  let c1_i32_2 : BitVec 32 := 1#32
  ⟨c0_i32_1, v1, c1_i32_2⟩
def k0_off33 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c8_i32 : BitVec 32 := 8#32
  let v72 : BitVec 32 := Scalar.muli v51 c8_i32
  let c0_i32_67 : BitVec 32 := 0#32
  let v73 : BitVec 32 := Scalar.addi v72 c0_i32_67
  let v74 : Index := Scalar.indexCast v73
  ![v74.toNat]
def k0_off34 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  ![v61.toNat]
def k0_off35 (k0_t2 : Fin k0_t2_loop.trips) : Fin 3 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  let c8_i32_69 : BitVec 32 := 8#32
  let v77 : BitVec 32 := Scalar.muli v61 c8_i32_69
  let c0_i32_70 : BitVec 32 := 0#32
  let v78 : BitVec 32 := Scalar.addi v77 c0_i32_70
  let c0_i32_71 : BitVec 32 := 0#32
  let c0_i32_72 : BitVec 32 := 0#32
  ![v78.toNat, 0, 0]
def k0_off36 (v75 : BitVec 32) : Fin 2 → Nat :=
  let c2_i32_68 : BitVec 32 := 2#32
  let v76 : BitVec 32 := Scalar.shrsi v75 c2_i32_68
  let c0_i32_73 : BitVec 32 := 0#32
  ![v76.toNat, 0]

def k0_chk9 (v75 : BitVec 32) : Prop :=
  (∀ a, (k0_off36 v75) a + S1x8192.size a ≤ S8000x8192.size a)
theorem k0_off36_inb : ∀ (v75 : BitVec 32) (k0_hw9 : k0_chk9 v75), ∀ a, (k0_off36 v75) a + S1x8192.size a ≤ S8000x8192.size a := fun v75 k0_hw9 => k0_hw9

def k0_off37 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c8_i32_74 : BitVec 32 := 8#32
  let v85 : BitVec 32 := Scalar.muli v51 c8_i32_74
  let c1_i32_75 : BitVec 32 := 1#32
  let v86 : BitVec 32 := Scalar.addi v85 c1_i32_75
  let v87 : Index := Scalar.indexCast v86
  ![v87.toNat]
def k0_off38 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  ![v61.toNat]
def k0_off39 (k0_t2 : Fin k0_t2_loop.trips) : Fin 3 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  let c8_i32_77 : BitVec 32 := 8#32
  let v90 : BitVec 32 := Scalar.muli v61 c8_i32_77
  let c1_i32_78 : BitVec 32 := 1#32
  let v91 : BitVec 32 := Scalar.addi v90 c1_i32_78
  let c0_i32_79 : BitVec 32 := 0#32
  let c0_i32_80 : BitVec 32 := 0#32
  ![v91.toNat, 0, 0]
def k0_off40 (v88 : BitVec 32) : Fin 2 → Nat :=
  let c2_i32_76 : BitVec 32 := 2#32
  let v89 : BitVec 32 := Scalar.shrsi v88 c2_i32_76
  let c0_i32_81 : BitVec 32 := 0#32
  ![v89.toNat, 0]

def k0_chk10 (v88 : BitVec 32) : Prop :=
  (∀ a, (k0_off40 v88) a + S1x8192.size a ≤ S8000x8192.size a)
theorem k0_off40_inb : ∀ (v88 : BitVec 32) (k0_hw10 : k0_chk10 v88), ∀ a, (k0_off40 v88) a + S1x8192.size a ≤ S8000x8192.size a := fun v88 k0_hw10 => k0_hw10

def k0_off41 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c8_i32_82 : BitVec 32 := 8#32
  let v98 : BitVec 32 := Scalar.muli v51 c8_i32_82
  let c2_i32_83 : BitVec 32 := 2#32
  let v99 : BitVec 32 := Scalar.addi v98 c2_i32_83
  let v100 : Index := Scalar.indexCast v99
  ![v100.toNat]
def k0_off42 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  ![v61.toNat]
def k0_off43 (k0_t2 : Fin k0_t2_loop.trips) : Fin 3 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  let c8_i32_85 : BitVec 32 := 8#32
  let v103 : BitVec 32 := Scalar.muli v61 c8_i32_85
  let c2_i32_86 : BitVec 32 := 2#32
  let v104 : BitVec 32 := Scalar.addi v103 c2_i32_86
  let c0_i32_87 : BitVec 32 := 0#32
  let c0_i32_88 : BitVec 32 := 0#32
  ![v104.toNat, 0, 0]
def k0_off44 (v101 : BitVec 32) : Fin 2 → Nat :=
  let c2_i32_84 : BitVec 32 := 2#32
  let v102 : BitVec 32 := Scalar.shrsi v101 c2_i32_84
  let c0_i32_89 : BitVec 32 := 0#32
  ![v102.toNat, 0]

def k0_chk11 (v101 : BitVec 32) : Prop :=
  (∀ a, (k0_off44 v101) a + S1x8192.size a ≤ S8000x8192.size a)
theorem k0_off44_inb : ∀ (v101 : BitVec 32) (k0_hw11 : k0_chk11 v101), ∀ a, (k0_off44 v101) a + S1x8192.size a ≤ S8000x8192.size a := fun v101 k0_hw11 => k0_hw11

def k0_off45 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c8_i32_90 : BitVec 32 := 8#32
  let v111 : BitVec 32 := Scalar.muli v51 c8_i32_90
  let c3_i32_91 : BitVec 32 := 3#32
  let v112 : BitVec 32 := Scalar.addi v111 c3_i32_91
  let v113 : Index := Scalar.indexCast v112
  ![v113.toNat]
def k0_off46 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  ![v61.toNat]
def k0_off47 (k0_t2 : Fin k0_t2_loop.trips) : Fin 3 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  let c8_i32_93 : BitVec 32 := 8#32
  let v116 : BitVec 32 := Scalar.muli v61 c8_i32_93
  let c3_i32_94 : BitVec 32 := 3#32
  let v117 : BitVec 32 := Scalar.addi v116 c3_i32_94
  let c0_i32_95 : BitVec 32 := 0#32
  let c0_i32_96 : BitVec 32 := 0#32
  ![v117.toNat, 0, 0]
def k0_off48 (v114 : BitVec 32) : Fin 2 → Nat :=
  let c2_i32_92 : BitVec 32 := 2#32
  let v115 : BitVec 32 := Scalar.shrsi v114 c2_i32_92
  let c0_i32_97 : BitVec 32 := 0#32
  ![v115.toNat, 0]

def k0_chk12 (v114 : BitVec 32) : Prop :=
  (∀ a, (k0_off48 v114) a + S1x8192.size a ≤ S8000x8192.size a)
theorem k0_off48_inb : ∀ (v114 : BitVec 32) (k0_hw12 : k0_chk12 v114), ∀ a, (k0_off48 v114) a + S1x8192.size a ≤ S8000x8192.size a := fun v114 k0_hw12 => k0_hw12

def k0_off49 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c8_i32_98 : BitVec 32 := 8#32
  let v124 : BitVec 32 := Scalar.muli v51 c8_i32_98
  let c4_i32_99 : BitVec 32 := 4#32
  let v125 : BitVec 32 := Scalar.addi v124 c4_i32_99
  let v126 : Index := Scalar.indexCast v125
  ![v126.toNat]
def k0_off50 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  ![v61.toNat]
def k0_off51 (k0_t2 : Fin k0_t2_loop.trips) : Fin 3 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  let c8_i32_101 : BitVec 32 := 8#32
  let v129 : BitVec 32 := Scalar.muli v61 c8_i32_101
  let c4_i32_102 : BitVec 32 := 4#32
  let v130 : BitVec 32 := Scalar.addi v129 c4_i32_102
  let c0_i32_103 : BitVec 32 := 0#32
  let c0_i32_104 : BitVec 32 := 0#32
  ![v130.toNat, 0, 0]
def k0_off52 (v127 : BitVec 32) : Fin 2 → Nat :=
  let c2_i32_100 : BitVec 32 := 2#32
  let v128 : BitVec 32 := Scalar.shrsi v127 c2_i32_100
  let c0_i32_105 : BitVec 32 := 0#32
  ![v128.toNat, 0]

def k0_chk13 (v127 : BitVec 32) : Prop :=
  (∀ a, (k0_off52 v127) a + S1x8192.size a ≤ S8000x8192.size a)
theorem k0_off52_inb : ∀ (v127 : BitVec 32) (k0_hw13 : k0_chk13 v127), ∀ a, (k0_off52 v127) a + S1x8192.size a ≤ S8000x8192.size a := fun v127 k0_hw13 => k0_hw13

def k0_off53 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c8_i32_106 : BitVec 32 := 8#32
  let v137 : BitVec 32 := Scalar.muli v51 c8_i32_106
  let c5_i32 : BitVec 32 := 5#32
  let v138 : BitVec 32 := Scalar.addi v137 c5_i32
  let v139 : Index := Scalar.indexCast v138
  ![v139.toNat]
def k0_off54 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  ![v61.toNat]
def k0_off55 (k0_t2 : Fin k0_t2_loop.trips) : Fin 3 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  let c8_i32_108 : BitVec 32 := 8#32
  let v142 : BitVec 32 := Scalar.muli v61 c8_i32_108
  let c5_i32_109 : BitVec 32 := 5#32
  let v143 : BitVec 32 := Scalar.addi v142 c5_i32_109
  let c0_i32_110 : BitVec 32 := 0#32
  let c0_i32_111 : BitVec 32 := 0#32
  ![v143.toNat, 0, 0]
def k0_off56 (v140 : BitVec 32) : Fin 2 → Nat :=
  let c2_i32_107 : BitVec 32 := 2#32
  let v141 : BitVec 32 := Scalar.shrsi v140 c2_i32_107
  let c0_i32_112 : BitVec 32 := 0#32
  ![v141.toNat, 0]

def k0_chk14 (v140 : BitVec 32) : Prop :=
  (∀ a, (k0_off56 v140) a + S1x8192.size a ≤ S8000x8192.size a)
theorem k0_off56_inb : ∀ (v140 : BitVec 32) (k0_hw14 : k0_chk14 v140), ∀ a, (k0_off56 v140) a + S1x8192.size a ≤ S8000x8192.size a := fun v140 k0_hw14 => k0_hw14

def k0_off57 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c8_i32_113 : BitVec 32 := 8#32
  let v150 : BitVec 32 := Scalar.muli v51 c8_i32_113
  let c6_i32 : BitVec 32 := 6#32
  let v151 : BitVec 32 := Scalar.addi v150 c6_i32
  let v152 : Index := Scalar.indexCast v151
  ![v152.toNat]
def k0_off58 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  ![v61.toNat]
def k0_off59 (k0_t2 : Fin k0_t2_loop.trips) : Fin 3 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  let c8_i32_115 : BitVec 32 := 8#32
  let v155 : BitVec 32 := Scalar.muli v61 c8_i32_115
  let c6_i32_116 : BitVec 32 := 6#32
  let v156 : BitVec 32 := Scalar.addi v155 c6_i32_116
  let c0_i32_117 : BitVec 32 := 0#32
  let c0_i32_118 : BitVec 32 := 0#32
  ![v156.toNat, 0, 0]
def k0_off60 (v153 : BitVec 32) : Fin 2 → Nat :=
  let c2_i32_114 : BitVec 32 := 2#32
  let v154 : BitVec 32 := Scalar.shrsi v153 c2_i32_114
  let c0_i32_119 : BitVec 32 := 0#32
  ![v154.toNat, 0]

def k0_chk15 (v153 : BitVec 32) : Prop :=
  (∀ a, (k0_off60 v153) a + S1x8192.size a ≤ S8000x8192.size a)
theorem k0_off60_inb : ∀ (v153 : BitVec 32) (k0_hw15 : k0_chk15 v153), ∀ a, (k0_off60 v153) a + S1x8192.size a ≤ S8000x8192.size a := fun v153 k0_hw15 => k0_hw15

def k0_off61 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c8_i32_120 : BitVec 32 := 8#32
  let v163 : BitVec 32 := Scalar.muli v51 c8_i32_120
  let c7_i32 : BitVec 32 := 7#32
  let v164 : BitVec 32 := Scalar.addi v163 c7_i32
  let v165 : Index := Scalar.indexCast v164
  ![v165.toNat]
def k0_off62 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  ![v61.toNat]
def k0_off63 (k0_t2 : Fin k0_t2_loop.trips) : Fin 3 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  let c8_i32_122 : BitVec 32 := 8#32
  let v168 : BitVec 32 := Scalar.muli v61 c8_i32_122
  let c7_i32_123 : BitVec 32 := 7#32
  let v169 : BitVec 32 := Scalar.addi v168 c7_i32_123
  let c0_i32_124 : BitVec 32 := 0#32
  let c0_i32_125 : BitVec 32 := 0#32
  ![v169.toNat, 0, 0]
def k0_off64 (v166 : BitVec 32) : Fin 2 → Nat :=
  let c2_i32_121 : BitVec 32 := 2#32
  let v167 : BitVec 32 := Scalar.shrsi v166 c2_i32_121
  let c0_i32_126 : BitVec 32 := 0#32
  ![v167.toNat, 0]

def k0_chk16 (v166 : BitVec 32) : Prop :=
  (∀ a, (k0_off64 v166) a + S1x8192.size a ≤ S8000x8192.size a)
theorem k0_off64_inb : ∀ (v166 : BitVec 32) (k0_hw16 : k0_chk16 v166), ∀ a, (k0_off64 v166) a + S1x8192.size a ≤ S8000x8192.size a := fun v166 k0_hw16 => k0_hw16

def k0_cond1 (k0_t2 : Fin k0_t2_loop.trips) : BitVec 1 :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32_127 : BitVec 32 := 4#32
  let v176 : BitVec 1 := Scalar.cmpi .sge v51 c4_i32_127
  let v177 : BitVec 32 := Scalar.extui v176
  let c0_i32_128 : BitVec 32 := 0#32
  let v178 : BitVec 1 := Scalar.cmpi .ne v177 c0_i32_128
  v178

def k0_off65 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  ![v71.toNat]
def k0_off66 (k0_t2 : Fin k0_t2_loop.trips) : Fin 2 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32_1410 : BitVec 32 := 4#32
  let v2885 : BitVec 32 := Scalar.subi v51 c4_i32_1410
  let c512_i32_1411 : BitVec 32 := 512#32
  let v2886 : BitVec 32 := Scalar.muli v2885 c512_i32_1411
  let c0_i32_1412 : BitVec 32 := 0#32
  ![v2886.toNat, 0]
def k0_off67 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_1413 : BitVec 32 := 0#32
  let c0_i32_1414 : BitVec 32 := 0#32
  let c0_i32_1415 : BitVec 32 := 0#32
  ![v71.toNat, 0, 0, 0]
def k0_off68 (k0_t2 : Fin k0_t2_loop.trips) (c0_i32_131 : BitVec 32) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c8_i32_129 : BitVec 32 := 8#32
  let v179 : BitVec 32 := Scalar.muli v51 c8_i32_129
  let c0_i32_130 : BitVec 32 := 0#32
  let v180 : BitVec 32 := Scalar.addi v179 c0_i32_130
  let v181 : BitVec 32 := Scalar.addi v180 c0_i32_131
  let v182 : Index := Scalar.indexCast v181
  ![v182.toNat]
def k0_mult1 (v183 : BitVec 32) : BitVec 32 :=
  let c7_i32_146 : BitVec 32 := 7#32
  let v203 : BitVec 32 := Scalar.shrsi v183 c7_i32_146
  let c128_i32 : BitVec 32 := 128#32
  let v204 : BitVec 32 := Scalar.muli v203 c128_i32
  v204

def k0_mult2 (v188 : BitVec 32) : BitVec 32 :=
  let c7_i32_147 : BitVec 32 := 7#32
  let v206 : BitVec 32 := Scalar.shrsi v188 c7_i32_147
  let c128_i32_148 : BitVec 32 := 128#32
  let v207 : BitVec 32 := Scalar.muli v206 c128_i32_148
  v207

def k0_off69 (k0_t2 : Fin k0_t2_loop.trips) (c0_i32_141 : BitVec 32) : Fin 3 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  let c8_i32_139 : BitVec 32 := 8#32
  let v193 : BitVec 32 := Scalar.muli v61 c8_i32_139
  let c0_i32_140 : BitVec 32 := 0#32
  let v194 : BitVec 32 := Scalar.addi v193 c0_i32_140
  let v195 : BitVec 32 := Scalar.addi v194 c0_i32_141
  let c0_i32_149 : BitVec 32 := 0#32
  let c0_i32_150 : BitVec 32 := 0#32
  ![v195.toNat, 0, 0]
def k0_off70 (v183 : BitVec 32) : Fin 2 → Nat :=
  let c0_163 : Index := 0#32
  let c7_i32_146 : BitVec 32 := 7#32
  let v203 : BitVec 32 := Scalar.shrsi v183 c7_i32_146
  let c128_i32 : BitVec 32 := 128#32
  let v204 : BitVec 32 := Scalar.muli v203 c128_i32
  let v205 : BitVec 32 := v204
  let v232 : Index := Scalar.indexCast v205
  ![0, v232.toNat]
def k0_off71 (v188 : BitVec 32) : Fin 2 → Nat :=
  let c0_166 : Index := 0#32
  let c7_i32_147 : BitVec 32 := 7#32
  let v206 : BitVec 32 := Scalar.shrsi v188 c7_i32_147
  let c128_i32_148 : BitVec 32 := 128#32
  let v207 : BitVec 32 := Scalar.muli v206 c128_i32_148
  let v208 : BitVec 32 := v207
  let v243 : Index := Scalar.indexCast v208
  ![0, v243.toNat]
def k0_off72 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_169 : BitVec 32 := 0#32
  let c0_i32_170 : BitVec 32 := 0#32
  let c0_i32_171 : BitVec 32 := 0#32
  ![v71.toNat, 0, 0, 0]
def k0_off73 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_169 : BitVec 32 := 0#32
  let c0_i32_170 : BitVec 32 := 0#32
  let c0_i32_171 : BitVec 32 := 0#32
  ![v71.toNat, 0, 0, 0]
def k0_off74 (v183 : BitVec 32) : Fin 2 → Nat :=
  let c8 : Index := 8#32
  let c7_i32_146 : BitVec 32 := 7#32
  let v203 : BitVec 32 := Scalar.shrsi v183 c7_i32_146
  let c128_i32 : BitVec 32 := 128#32
  let v204 : BitVec 32 := Scalar.muli v203 c128_i32
  let v205 : BitVec 32 := v204
  let v271 : Index := Scalar.indexCast v205
  ![8, v271.toNat]
def k0_off75 (v188 : BitVec 32) : Fin 2 → Nat :=
  let c8_177 : Index := 8#32
  let c7_i32_147 : BitVec 32 := 7#32
  let v206 : BitVec 32 := Scalar.shrsi v188 c7_i32_147
  let c128_i32_148 : BitVec 32 := 128#32
  let v207 : BitVec 32 := Scalar.muli v206 c128_i32_148
  let v208 : BitVec 32 := v207
  let v282 : Index := Scalar.indexCast v208
  ![8, v282.toNat]
def k0_off76 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_181 : BitVec 32 := 0#32
  let c0_i32_182 : BitVec 32 := 0#32
  ![v71.toNat, 8, 0, 0]
def k0_off77 (v183 : BitVec 32) : Fin 2 → Nat :=
  let c16_200 : Index := 16#32
  let c7_i32_146 : BitVec 32 := 7#32
  let v203 : BitVec 32 := Scalar.shrsi v183 c7_i32_146
  let c128_i32 : BitVec 32 := 128#32
  let v204 : BitVec 32 := Scalar.muli v203 c128_i32
  let v205 : BitVec 32 := v204
  let v334 : Index := Scalar.indexCast v205
  ![16, v334.toNat]
def k0_off78 (v188 : BitVec 32) : Fin 2 → Nat :=
  let c16_203 : Index := 16#32
  let c7_i32_147 : BitVec 32 := 7#32
  let v206 : BitVec 32 := Scalar.shrsi v188 c7_i32_147
  let c128_i32_148 : BitVec 32 := 128#32
  let v207 : BitVec 32 := Scalar.muli v206 c128_i32_148
  let v208 : BitVec 32 := v207
  let v345 : Index := Scalar.indexCast v208
  ![16, v345.toNat]
def k0_off79 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_207 : BitVec 32 := 0#32
  let c0_i32_208 : BitVec 32 := 0#32
  ![v71.toNat, 16, 0, 0]
def k0_off80 (v183 : BitVec 32) : Fin 2 → Nat :=
  let c24 : Index := 24#32
  let c7_i32_146 : BitVec 32 := 7#32
  let v203 : BitVec 32 := Scalar.shrsi v183 c7_i32_146
  let c128_i32 : BitVec 32 := 128#32
  let v204 : BitVec 32 := Scalar.muli v203 c128_i32
  let v205 : BitVec 32 := v204
  let v374 : Index := Scalar.indexCast v205
  ![24, v374.toNat]
def k0_off81 (v188 : BitVec 32) : Fin 2 → Nat :=
  let c24_214 : Index := 24#32
  let c7_i32_147 : BitVec 32 := 7#32
  let v206 : BitVec 32 := Scalar.shrsi v188 c7_i32_147
  let c128_i32_148 : BitVec 32 := 128#32
  let v207 : BitVec 32 := Scalar.muli v206 c128_i32_148
  let v208 : BitVec 32 := v207
  let v385 : Index := Scalar.indexCast v208
  ![24, v385.toNat]
def k0_off82 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_218 : BitVec 32 := 0#32
  let c0_i32_219 : BitVec 32 := 0#32
  ![v71.toNat, 24, 0, 0]
def k0_off83 (v183 : BitVec 32) : Fin 2 → Nat :=
  let c32_237 : Index := 32#32
  let c7_i32_146 : BitVec 32 := 7#32
  let v203 : BitVec 32 := Scalar.shrsi v183 c7_i32_146
  let c128_i32 : BitVec 32 := 128#32
  let v204 : BitVec 32 := Scalar.muli v203 c128_i32
  let v205 : BitVec 32 := v204
  let v437 : Index := Scalar.indexCast v205
  ![32, v437.toNat]
def k0_off84 (v188 : BitVec 32) : Fin 2 → Nat :=
  let c32_240 : Index := 32#32
  let c7_i32_147 : BitVec 32 := 7#32
  let v206 : BitVec 32 := Scalar.shrsi v188 c7_i32_147
  let c128_i32_148 : BitVec 32 := 128#32
  let v207 : BitVec 32 := Scalar.muli v206 c128_i32_148
  let v208 : BitVec 32 := v207
  let v448 : Index := Scalar.indexCast v208
  ![32, v448.toNat]
def k0_off85 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_244 : BitVec 32 := 0#32
  let c0_i32_245 : BitVec 32 := 0#32
  ![v71.toNat, 32, 0, 0]
def k0_off86 (v183 : BitVec 32) : Fin 2 → Nat :=
  let c40 : Index := 40#32
  let c7_i32_146 : BitVec 32 := 7#32
  let v203 : BitVec 32 := Scalar.shrsi v183 c7_i32_146
  let c128_i32 : BitVec 32 := 128#32
  let v204 : BitVec 32 := Scalar.muli v203 c128_i32
  let v205 : BitVec 32 := v204
  let v477 : Index := Scalar.indexCast v205
  ![40, v477.toNat]
def k0_off87 (v188 : BitVec 32) : Fin 2 → Nat :=
  let c40_251 : Index := 40#32
  let c7_i32_147 : BitVec 32 := 7#32
  let v206 : BitVec 32 := Scalar.shrsi v188 c7_i32_147
  let c128_i32_148 : BitVec 32 := 128#32
  let v207 : BitVec 32 := Scalar.muli v206 c128_i32_148
  let v208 : BitVec 32 := v207
  let v488 : Index := Scalar.indexCast v208
  ![40, v488.toNat]
def k0_off88 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_255 : BitVec 32 := 0#32
  let c0_i32_256 : BitVec 32 := 0#32
  ![v71.toNat, 40, 0, 0]
def k0_off89 (v183 : BitVec 32) : Fin 2 → Nat :=
  let c48_274 : Index := 48#32
  let c7_i32_146 : BitVec 32 := 7#32
  let v203 : BitVec 32 := Scalar.shrsi v183 c7_i32_146
  let c128_i32 : BitVec 32 := 128#32
  let v204 : BitVec 32 := Scalar.muli v203 c128_i32
  let v205 : BitVec 32 := v204
  let v540 : Index := Scalar.indexCast v205
  ![48, v540.toNat]
def k0_off90 (v188 : BitVec 32) : Fin 2 → Nat :=
  let c48_277 : Index := 48#32
  let c7_i32_147 : BitVec 32 := 7#32
  let v206 : BitVec 32 := Scalar.shrsi v188 c7_i32_147
  let c128_i32_148 : BitVec 32 := 128#32
  let v207 : BitVec 32 := Scalar.muli v206 c128_i32_148
  let v208 : BitVec 32 := v207
  let v551 : Index := Scalar.indexCast v208
  ![48, v551.toNat]
def k0_off91 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_281 : BitVec 32 := 0#32
  let c0_i32_282 : BitVec 32 := 0#32
  ![v71.toNat, 48, 0, 0]
def k0_off92 (v183 : BitVec 32) : Fin 2 → Nat :=
  let c56 : Index := 56#32
  let c7_i32_146 : BitVec 32 := 7#32
  let v203 : BitVec 32 := Scalar.shrsi v183 c7_i32_146
  let c128_i32 : BitVec 32 := 128#32
  let v204 : BitVec 32 := Scalar.muli v203 c128_i32
  let v205 : BitVec 32 := v204
  let v580 : Index := Scalar.indexCast v205
  ![56, v580.toNat]

def k0_chk17 (v183 : BitVec 32) : Prop :=
  (128 ∣ (k0_mult1 v183).toNat) ∧
  (∀ a, (k0_off70 v183) a + S8x128.size a ≤ S64x32000.size a) ∧
  (∀ a, (k0_off74 v183) a + S8x128.size a ≤ S64x32000.size a) ∧
  (∀ a, (k0_off77 v183) a + S8x128.size a ≤ S64x32000.size a) ∧
  (∀ a, (k0_off80 v183) a + S8x128.size a ≤ S64x32000.size a) ∧
  (∀ a, (k0_off83 v183) a + S8x128.size a ≤ S64x32000.size a) ∧
  (∀ a, (k0_off86 v183) a + S8x128.size a ≤ S64x32000.size a) ∧
  (∀ a, (k0_off89 v183) a + S8x128.size a ≤ S64x32000.size a) ∧
  (∀ a, (k0_off92 v183) a + S8x128.size a ≤ S64x32000.size a)
theorem k0_mult1_dvd : ∀ (v183 : BitVec 32) (k0_hw17 : k0_chk17 v183), 128 ∣ (k0_mult1 v183).toNat := fun v183 k0_hw17 => k0_hw17.1
theorem k0_off70_inb : ∀ (v183 : BitVec 32) (k0_hw17 : k0_chk17 v183), ∀ a, (k0_off70 v183) a + S8x128.size a ≤ S64x32000.size a := fun v183 k0_hw17 => k0_hw17.2.1
theorem k0_off74_inb : ∀ (v183 : BitVec 32) (k0_hw17 : k0_chk17 v183), ∀ a, (k0_off74 v183) a + S8x128.size a ≤ S64x32000.size a := fun v183 k0_hw17 => k0_hw17.2.2.1
theorem k0_off77_inb : ∀ (v183 : BitVec 32) (k0_hw17 : k0_chk17 v183), ∀ a, (k0_off77 v183) a + S8x128.size a ≤ S64x32000.size a := fun v183 k0_hw17 => k0_hw17.2.2.2.1
theorem k0_off80_inb : ∀ (v183 : BitVec 32) (k0_hw17 : k0_chk17 v183), ∀ a, (k0_off80 v183) a + S8x128.size a ≤ S64x32000.size a := fun v183 k0_hw17 => k0_hw17.2.2.2.2.1
theorem k0_off83_inb : ∀ (v183 : BitVec 32) (k0_hw17 : k0_chk17 v183), ∀ a, (k0_off83 v183) a + S8x128.size a ≤ S64x32000.size a := fun v183 k0_hw17 => k0_hw17.2.2.2.2.2.1
theorem k0_off86_inb : ∀ (v183 : BitVec 32) (k0_hw17 : k0_chk17 v183), ∀ a, (k0_off86 v183) a + S8x128.size a ≤ S64x32000.size a := fun v183 k0_hw17 => k0_hw17.2.2.2.2.2.2.1
theorem k0_off89_inb : ∀ (v183 : BitVec 32) (k0_hw17 : k0_chk17 v183), ∀ a, (k0_off89 v183) a + S8x128.size a ≤ S64x32000.size a := fun v183 k0_hw17 => k0_hw17.2.2.2.2.2.2.2.1
theorem k0_off92_inb : ∀ (v183 : BitVec 32) (k0_hw17 : k0_chk17 v183), ∀ a, (k0_off92 v183) a + S8x128.size a ≤ S64x32000.size a := fun v183 k0_hw17 => k0_hw17.2.2.2.2.2.2.2.2

def k0_off93 (v188 : BitVec 32) : Fin 2 → Nat :=
  let c56_288 : Index := 56#32
  let c7_i32_147 : BitVec 32 := 7#32
  let v206 : BitVec 32 := Scalar.shrsi v188 c7_i32_147
  let c128_i32_148 : BitVec 32 := 128#32
  let v207 : BitVec 32 := Scalar.muli v206 c128_i32_148
  let v208 : BitVec 32 := v207
  let v591 : Index := Scalar.indexCast v208
  ![56, v591.toNat]

def k0_chk18 (v188 : BitVec 32) : Prop :=
  (128 ∣ (k0_mult2 v188).toNat) ∧
  (∀ a, (k0_off71 v188) a + S8x128.size a ≤ S64x32000.size a) ∧
  (∀ a, (k0_off75 v188) a + S8x128.size a ≤ S64x32000.size a) ∧
  (∀ a, (k0_off78 v188) a + S8x128.size a ≤ S64x32000.size a) ∧
  (∀ a, (k0_off81 v188) a + S8x128.size a ≤ S64x32000.size a) ∧
  (∀ a, (k0_off84 v188) a + S8x128.size a ≤ S64x32000.size a) ∧
  (∀ a, (k0_off87 v188) a + S8x128.size a ≤ S64x32000.size a) ∧
  (∀ a, (k0_off90 v188) a + S8x128.size a ≤ S64x32000.size a) ∧
  (∀ a, (k0_off93 v188) a + S8x128.size a ≤ S64x32000.size a)
theorem k0_mult2_dvd : ∀ (v188 : BitVec 32) (k0_hw18 : k0_chk18 v188), 128 ∣ (k0_mult2 v188).toNat := fun v188 k0_hw18 => k0_hw18.1
theorem k0_off71_inb : ∀ (v188 : BitVec 32) (k0_hw18 : k0_chk18 v188), ∀ a, (k0_off71 v188) a + S8x128.size a ≤ S64x32000.size a := fun v188 k0_hw18 => k0_hw18.2.1
theorem k0_off75_inb : ∀ (v188 : BitVec 32) (k0_hw18 : k0_chk18 v188), ∀ a, (k0_off75 v188) a + S8x128.size a ≤ S64x32000.size a := fun v188 k0_hw18 => k0_hw18.2.2.1
theorem k0_off78_inb : ∀ (v188 : BitVec 32) (k0_hw18 : k0_chk18 v188), ∀ a, (k0_off78 v188) a + S8x128.size a ≤ S64x32000.size a := fun v188 k0_hw18 => k0_hw18.2.2.2.1
theorem k0_off81_inb : ∀ (v188 : BitVec 32) (k0_hw18 : k0_chk18 v188), ∀ a, (k0_off81 v188) a + S8x128.size a ≤ S64x32000.size a := fun v188 k0_hw18 => k0_hw18.2.2.2.2.1
theorem k0_off84_inb : ∀ (v188 : BitVec 32) (k0_hw18 : k0_chk18 v188), ∀ a, (k0_off84 v188) a + S8x128.size a ≤ S64x32000.size a := fun v188 k0_hw18 => k0_hw18.2.2.2.2.2.1
theorem k0_off87_inb : ∀ (v188 : BitVec 32) (k0_hw18 : k0_chk18 v188), ∀ a, (k0_off87 v188) a + S8x128.size a ≤ S64x32000.size a := fun v188 k0_hw18 => k0_hw18.2.2.2.2.2.2.1
theorem k0_off90_inb : ∀ (v188 : BitVec 32) (k0_hw18 : k0_chk18 v188), ∀ a, (k0_off90 v188) a + S8x128.size a ≤ S64x32000.size a := fun v188 k0_hw18 => k0_hw18.2.2.2.2.2.2.2.1
theorem k0_off93_inb : ∀ (v188 : BitVec 32) (k0_hw18 : k0_chk18 v188), ∀ a, (k0_off93 v188) a + S8x128.size a ≤ S64x32000.size a := fun v188 k0_hw18 => k0_hw18.2.2.2.2.2.2.2.2

def k0_off94 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_292 : BitVec 32 := 0#32
  let c0_i32_293 : BitVec 32 := 0#32
  ![v71.toNat, 56, 0, 0]
def k0_off95 (k0_t2 : Fin k0_t2_loop.trips) (c0_i32_310 : BitVec 32) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c8_i32_308 : BitVec 32 := 8#32
  let v647 : BitVec 32 := Scalar.muli v51 c8_i32_308
  let c2_i32_309 : BitVec 32 := 2#32
  let v648 : BitVec 32 := Scalar.addi v647 c2_i32_309
  let v649 : BitVec 32 := Scalar.addi v648 c0_i32_310
  let v650 : Index := Scalar.indexCast v649
  ![v650.toNat]
def k0_mult3 (v651 : BitVec 32) : BitVec 32 :=
  let c7_i32_326 : BitVec 32 := 7#32
  let v671 : BitVec 32 := Scalar.shrsi v651 c7_i32_326
  let c128_i32_327 : BitVec 32 := 128#32
  let v672 : BitVec 32 := Scalar.muli v671 c128_i32_327
  v672

def k0_mult4 (v656 : BitVec 32) : BitVec 32 :=
  let c7_i32_328 : BitVec 32 := 7#32
  let v674 : BitVec 32 := Scalar.shrsi v656 c7_i32_328
  let c128_i32_329 : BitVec 32 := 128#32
  let v675 : BitVec 32 := Scalar.muli v674 c128_i32_329
  v675

def k0_off96 (k0_t2 : Fin k0_t2_loop.trips) (c0_i32_320 : BitVec 32) : Fin 3 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  let c8_i32_318 : BitVec 32 := 8#32
  let v661 : BitVec 32 := Scalar.muli v61 c8_i32_318
  let c2_i32_319 : BitVec 32 := 2#32
  let v662 : BitVec 32 := Scalar.addi v661 c2_i32_319
  let v663 : BitVec 32 := Scalar.addi v662 c0_i32_320
  let c0_i32_330 : BitVec 32 := 0#32
  let c0_i32_331 : BitVec 32 := 0#32
  ![v663.toNat, 0, 0]
def k0_off97 (v651 : BitVec 32) : Fin 2 → Nat :=
  let c0_346 : Index := 0#32
  let c7_i32_326 : BitVec 32 := 7#32
  let v671 : BitVec 32 := Scalar.shrsi v651 c7_i32_326
  let c128_i32_327 : BitVec 32 := 128#32
  let v672 : BitVec 32 := Scalar.muli v671 c128_i32_327
  let v673 : BitVec 32 := v672
  let v700 : Index := Scalar.indexCast v673
  ![0, v700.toNat]
def k0_off98 (v656 : BitVec 32) : Fin 2 → Nat :=
  let c0_349 : Index := 0#32
  let c7_i32_328 : BitVec 32 := 7#32
  let v674 : BitVec 32 := Scalar.shrsi v656 c7_i32_328
  let c128_i32_329 : BitVec 32 := 128#32
  let v675 : BitVec 32 := Scalar.muli v674 c128_i32_329
  let v676 : BitVec 32 := v675
  let v711 : Index := Scalar.indexCast v676
  ![0, v711.toNat]
def k0_off99 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_352 : BitVec 32 := 0#32
  let c0_i32_353 : BitVec 32 := 0#32
  let c0_i32_354 : BitVec 32 := 0#32
  ![v71.toNat, 0, 0, 0]
def k0_off100 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_352 : BitVec 32 := 0#32
  let c0_i32_354 : BitVec 32 := 0#32
  ![v71.toNat, 0, 2, 0]
def k0_off101 (v651 : BitVec 32) : Fin 2 → Nat :=
  let c8_358 : Index := 8#32
  let c7_i32_326 : BitVec 32 := 7#32
  let v671 : BitVec 32 := Scalar.shrsi v651 c7_i32_326
  let c128_i32_327 : BitVec 32 := 128#32
  let v672 : BitVec 32 := Scalar.muli v671 c128_i32_327
  let v673 : BitVec 32 := v672
  let v739 : Index := Scalar.indexCast v673
  ![8, v739.toNat]
def k0_off102 (v656 : BitVec 32) : Fin 2 → Nat :=
  let c8_361 : Index := 8#32
  let c7_i32_328 : BitVec 32 := 7#32
  let v674 : BitVec 32 := Scalar.shrsi v656 c7_i32_328
  let c128_i32_329 : BitVec 32 := 128#32
  let v675 : BitVec 32 := Scalar.muli v674 c128_i32_329
  let v676 : BitVec 32 := v675
  let v750 : Index := Scalar.indexCast v676
  ![8, v750.toNat]
def k0_off103 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_366 : BitVec 32 := 0#32
  ![v71.toNat, 8, 2, 0]
def k0_off104 (v651 : BitVec 32) : Fin 2 → Nat :=
  let c16_386 : Index := 16#32
  let c7_i32_326 : BitVec 32 := 7#32
  let v671 : BitVec 32 := Scalar.shrsi v651 c7_i32_326
  let c128_i32_327 : BitVec 32 := 128#32
  let v672 : BitVec 32 := Scalar.muli v671 c128_i32_327
  let v673 : BitVec 32 := v672
  let v802 : Index := Scalar.indexCast v673
  ![16, v802.toNat]
def k0_off105 (v656 : BitVec 32) : Fin 2 → Nat :=
  let c16_389 : Index := 16#32
  let c7_i32_328 : BitVec 32 := 7#32
  let v674 : BitVec 32 := Scalar.shrsi v656 c7_i32_328
  let c128_i32_329 : BitVec 32 := 128#32
  let v675 : BitVec 32 := Scalar.muli v674 c128_i32_329
  let v676 : BitVec 32 := v675
  let v813 : Index := Scalar.indexCast v676
  ![16, v813.toNat]
def k0_off106 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_394 : BitVec 32 := 0#32
  ![v71.toNat, 16, 2, 0]
def k0_off107 (v651 : BitVec 32) : Fin 2 → Nat :=
  let c24_398 : Index := 24#32
  let c7_i32_326 : BitVec 32 := 7#32
  let v671 : BitVec 32 := Scalar.shrsi v651 c7_i32_326
  let c128_i32_327 : BitVec 32 := 128#32
  let v672 : BitVec 32 := Scalar.muli v671 c128_i32_327
  let v673 : BitVec 32 := v672
  let v842 : Index := Scalar.indexCast v673
  ![24, v842.toNat]
def k0_off108 (v656 : BitVec 32) : Fin 2 → Nat :=
  let c24_401 : Index := 24#32
  let c7_i32_328 : BitVec 32 := 7#32
  let v674 : BitVec 32 := Scalar.shrsi v656 c7_i32_328
  let c128_i32_329 : BitVec 32 := 128#32
  let v675 : BitVec 32 := Scalar.muli v674 c128_i32_329
  let v676 : BitVec 32 := v675
  let v853 : Index := Scalar.indexCast v676
  ![24, v853.toNat]
def k0_off109 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_406 : BitVec 32 := 0#32
  ![v71.toNat, 24, 2, 0]
def k0_off110 (v651 : BitVec 32) : Fin 2 → Nat :=
  let c32_426 : Index := 32#32
  let c7_i32_326 : BitVec 32 := 7#32
  let v671 : BitVec 32 := Scalar.shrsi v651 c7_i32_326
  let c128_i32_327 : BitVec 32 := 128#32
  let v672 : BitVec 32 := Scalar.muli v671 c128_i32_327
  let v673 : BitVec 32 := v672
  let v905 : Index := Scalar.indexCast v673
  ![32, v905.toNat]
def k0_off111 (v656 : BitVec 32) : Fin 2 → Nat :=
  let c32_429 : Index := 32#32
  let c7_i32_328 : BitVec 32 := 7#32
  let v674 : BitVec 32 := Scalar.shrsi v656 c7_i32_328
  let c128_i32_329 : BitVec 32 := 128#32
  let v675 : BitVec 32 := Scalar.muli v674 c128_i32_329
  let v676 : BitVec 32 := v675
  let v916 : Index := Scalar.indexCast v676
  ![32, v916.toNat]
def k0_off112 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_434 : BitVec 32 := 0#32
  ![v71.toNat, 32, 2, 0]
def k0_off113 (v651 : BitVec 32) : Fin 2 → Nat :=
  let c40_438 : Index := 40#32
  let c7_i32_326 : BitVec 32 := 7#32
  let v671 : BitVec 32 := Scalar.shrsi v651 c7_i32_326
  let c128_i32_327 : BitVec 32 := 128#32
  let v672 : BitVec 32 := Scalar.muli v671 c128_i32_327
  let v673 : BitVec 32 := v672
  let v945 : Index := Scalar.indexCast v673
  ![40, v945.toNat]
def k0_off114 (v656 : BitVec 32) : Fin 2 → Nat :=
  let c40_441 : Index := 40#32
  let c7_i32_328 : BitVec 32 := 7#32
  let v674 : BitVec 32 := Scalar.shrsi v656 c7_i32_328
  let c128_i32_329 : BitVec 32 := 128#32
  let v675 : BitVec 32 := Scalar.muli v674 c128_i32_329
  let v676 : BitVec 32 := v675
  let v956 : Index := Scalar.indexCast v676
  ![40, v956.toNat]
def k0_off115 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_446 : BitVec 32 := 0#32
  ![v71.toNat, 40, 2, 0]
def k0_off116 (v651 : BitVec 32) : Fin 2 → Nat :=
  let c48_466 : Index := 48#32
  let c7_i32_326 : BitVec 32 := 7#32
  let v671 : BitVec 32 := Scalar.shrsi v651 c7_i32_326
  let c128_i32_327 : BitVec 32 := 128#32
  let v672 : BitVec 32 := Scalar.muli v671 c128_i32_327
  let v673 : BitVec 32 := v672
  let v1008 : Index := Scalar.indexCast v673
  ![48, v1008.toNat]
def k0_off117 (v656 : BitVec 32) : Fin 2 → Nat :=
  let c48_469 : Index := 48#32
  let c7_i32_328 : BitVec 32 := 7#32
  let v674 : BitVec 32 := Scalar.shrsi v656 c7_i32_328
  let c128_i32_329 : BitVec 32 := 128#32
  let v675 : BitVec 32 := Scalar.muli v674 c128_i32_329
  let v676 : BitVec 32 := v675
  let v1019 : Index := Scalar.indexCast v676
  ![48, v1019.toNat]
def k0_off118 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_474 : BitVec 32 := 0#32
  ![v71.toNat, 48, 2, 0]
def k0_off119 (v651 : BitVec 32) : Fin 2 → Nat :=
  let c56_478 : Index := 56#32
  let c7_i32_326 : BitVec 32 := 7#32
  let v671 : BitVec 32 := Scalar.shrsi v651 c7_i32_326
  let c128_i32_327 : BitVec 32 := 128#32
  let v672 : BitVec 32 := Scalar.muli v671 c128_i32_327
  let v673 : BitVec 32 := v672
  let v1048 : Index := Scalar.indexCast v673
  ![56, v1048.toNat]

def k0_chk19 (v651 : BitVec 32) : Prop :=
  (128 ∣ (k0_mult3 v651).toNat) ∧
  (∀ a, (k0_off97 v651) a + S8x128.size a ≤ S64x32000.size a) ∧
  (∀ a, (k0_off101 v651) a + S8x128.size a ≤ S64x32000.size a) ∧
  (∀ a, (k0_off104 v651) a + S8x128.size a ≤ S64x32000.size a) ∧
  (∀ a, (k0_off107 v651) a + S8x128.size a ≤ S64x32000.size a) ∧
  (∀ a, (k0_off110 v651) a + S8x128.size a ≤ S64x32000.size a) ∧
  (∀ a, (k0_off113 v651) a + S8x128.size a ≤ S64x32000.size a) ∧
  (∀ a, (k0_off116 v651) a + S8x128.size a ≤ S64x32000.size a) ∧
  (∀ a, (k0_off119 v651) a + S8x128.size a ≤ S64x32000.size a)
theorem k0_mult3_dvd : ∀ (v651 : BitVec 32) (k0_hw19 : k0_chk19 v651), 128 ∣ (k0_mult3 v651).toNat := fun v651 k0_hw19 => k0_hw19.1
theorem k0_off97_inb : ∀ (v651 : BitVec 32) (k0_hw19 : k0_chk19 v651), ∀ a, (k0_off97 v651) a + S8x128.size a ≤ S64x32000.size a := fun v651 k0_hw19 => k0_hw19.2.1
theorem k0_off101_inb : ∀ (v651 : BitVec 32) (k0_hw19 : k0_chk19 v651), ∀ a, (k0_off101 v651) a + S8x128.size a ≤ S64x32000.size a := fun v651 k0_hw19 => k0_hw19.2.2.1
theorem k0_off104_inb : ∀ (v651 : BitVec 32) (k0_hw19 : k0_chk19 v651), ∀ a, (k0_off104 v651) a + S8x128.size a ≤ S64x32000.size a := fun v651 k0_hw19 => k0_hw19.2.2.2.1
theorem k0_off107_inb : ∀ (v651 : BitVec 32) (k0_hw19 : k0_chk19 v651), ∀ a, (k0_off107 v651) a + S8x128.size a ≤ S64x32000.size a := fun v651 k0_hw19 => k0_hw19.2.2.2.2.1
theorem k0_off110_inb : ∀ (v651 : BitVec 32) (k0_hw19 : k0_chk19 v651), ∀ a, (k0_off110 v651) a + S8x128.size a ≤ S64x32000.size a := fun v651 k0_hw19 => k0_hw19.2.2.2.2.2.1
theorem k0_off113_inb : ∀ (v651 : BitVec 32) (k0_hw19 : k0_chk19 v651), ∀ a, (k0_off113 v651) a + S8x128.size a ≤ S64x32000.size a := fun v651 k0_hw19 => k0_hw19.2.2.2.2.2.2.1
theorem k0_off116_inb : ∀ (v651 : BitVec 32) (k0_hw19 : k0_chk19 v651), ∀ a, (k0_off116 v651) a + S8x128.size a ≤ S64x32000.size a := fun v651 k0_hw19 => k0_hw19.2.2.2.2.2.2.2.1
theorem k0_off119_inb : ∀ (v651 : BitVec 32) (k0_hw19 : k0_chk19 v651), ∀ a, (k0_off119 v651) a + S8x128.size a ≤ S64x32000.size a := fun v651 k0_hw19 => k0_hw19.2.2.2.2.2.2.2.2

def k0_off120 (v656 : BitVec 32) : Fin 2 → Nat :=
  let c56_481 : Index := 56#32
  let c7_i32_328 : BitVec 32 := 7#32
  let v674 : BitVec 32 := Scalar.shrsi v656 c7_i32_328
  let c128_i32_329 : BitVec 32 := 128#32
  let v675 : BitVec 32 := Scalar.muli v674 c128_i32_329
  let v676 : BitVec 32 := v675
  let v1059 : Index := Scalar.indexCast v676
  ![56, v1059.toNat]

def k0_chk20 (v656 : BitVec 32) : Prop :=
  (128 ∣ (k0_mult4 v656).toNat) ∧
  (∀ a, (k0_off98 v656) a + S8x128.size a ≤ S64x32000.size a) ∧
  (∀ a, (k0_off102 v656) a + S8x128.size a ≤ S64x32000.size a) ∧
  (∀ a, (k0_off105 v656) a + S8x128.size a ≤ S64x32000.size a) ∧
  (∀ a, (k0_off108 v656) a + S8x128.size a ≤ S64x32000.size a) ∧
  (∀ a, (k0_off111 v656) a + S8x128.size a ≤ S64x32000.size a) ∧
  (∀ a, (k0_off114 v656) a + S8x128.size a ≤ S64x32000.size a) ∧
  (∀ a, (k0_off117 v656) a + S8x128.size a ≤ S64x32000.size a) ∧
  (∀ a, (k0_off120 v656) a + S8x128.size a ≤ S64x32000.size a)
theorem k0_mult4_dvd : ∀ (v656 : BitVec 32) (k0_hw20 : k0_chk20 v656), 128 ∣ (k0_mult4 v656).toNat := fun v656 k0_hw20 => k0_hw20.1
theorem k0_off98_inb : ∀ (v656 : BitVec 32) (k0_hw20 : k0_chk20 v656), ∀ a, (k0_off98 v656) a + S8x128.size a ≤ S64x32000.size a := fun v656 k0_hw20 => k0_hw20.2.1
theorem k0_off102_inb : ∀ (v656 : BitVec 32) (k0_hw20 : k0_chk20 v656), ∀ a, (k0_off102 v656) a + S8x128.size a ≤ S64x32000.size a := fun v656 k0_hw20 => k0_hw20.2.2.1
theorem k0_off105_inb : ∀ (v656 : BitVec 32) (k0_hw20 : k0_chk20 v656), ∀ a, (k0_off105 v656) a + S8x128.size a ≤ S64x32000.size a := fun v656 k0_hw20 => k0_hw20.2.2.2.1
theorem k0_off108_inb : ∀ (v656 : BitVec 32) (k0_hw20 : k0_chk20 v656), ∀ a, (k0_off108 v656) a + S8x128.size a ≤ S64x32000.size a := fun v656 k0_hw20 => k0_hw20.2.2.2.2.1
theorem k0_off111_inb : ∀ (v656 : BitVec 32) (k0_hw20 : k0_chk20 v656), ∀ a, (k0_off111 v656) a + S8x128.size a ≤ S64x32000.size a := fun v656 k0_hw20 => k0_hw20.2.2.2.2.2.1
theorem k0_off114_inb : ∀ (v656 : BitVec 32) (k0_hw20 : k0_chk20 v656), ∀ a, (k0_off114 v656) a + S8x128.size a ≤ S64x32000.size a := fun v656 k0_hw20 => k0_hw20.2.2.2.2.2.2.1
theorem k0_off117_inb : ∀ (v656 : BitVec 32) (k0_hw20 : k0_chk20 v656), ∀ a, (k0_off117 v656) a + S8x128.size a ≤ S64x32000.size a := fun v656 k0_hw20 => k0_hw20.2.2.2.2.2.2.2.1
theorem k0_off120_inb : ∀ (v656 : BitVec 32) (k0_hw20 : k0_chk20 v656), ∀ a, (k0_off120 v656) a + S8x128.size a ≤ S64x32000.size a := fun v656 k0_hw20 => k0_hw20.2.2.2.2.2.2.2.2

def k0_off121 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_486 : BitVec 32 := 0#32
  ![v71.toNat, 56, 2, 0]
def k0_off122 (k0_t2 : Fin k0_t2_loop.trips) (c0_i32_504 : BitVec 32) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c8_i32_502 : BitVec 32 := 8#32
  let v1115 : BitVec 32 := Scalar.muli v51 c8_i32_502
  let c4_i32_503 : BitVec 32 := 4#32
  let v1116 : BitVec 32 := Scalar.addi v1115 c4_i32_503
  let v1117 : BitVec 32 := Scalar.addi v1116 c0_i32_504
  let v1118 : Index := Scalar.indexCast v1117
  ![v1118.toNat]
def k0_mult5 (v1119 : BitVec 32) : BitVec 32 :=
  let c7_i32_520 : BitVec 32 := 7#32
  let v1139 : BitVec 32 := Scalar.shrsi v1119 c7_i32_520
  let c128_i32_521 : BitVec 32 := 128#32
  let v1140 : BitVec 32 := Scalar.muli v1139 c128_i32_521
  v1140

def k0_mult6 (v1124 : BitVec 32) : BitVec 32 :=
  let c7_i32_522 : BitVec 32 := 7#32
  let v1142 : BitVec 32 := Scalar.shrsi v1124 c7_i32_522
  let c128_i32_523 : BitVec 32 := 128#32
  let v1143 : BitVec 32 := Scalar.muli v1142 c128_i32_523
  v1143

def k0_off123 (k0_t2 : Fin k0_t2_loop.trips) (c0_i32_514 : BitVec 32) : Fin 3 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  let c8_i32_512 : BitVec 32 := 8#32
  let v1129 : BitVec 32 := Scalar.muli v61 c8_i32_512
  let c4_i32_513 : BitVec 32 := 4#32
  let v1130 : BitVec 32 := Scalar.addi v1129 c4_i32_513
  let v1131 : BitVec 32 := Scalar.addi v1130 c0_i32_514
  let c0_i32_524 : BitVec 32 := 0#32
  let c0_i32_525 : BitVec 32 := 0#32
  ![v1131.toNat, 0, 0]
def k0_off124 (v1119 : BitVec 32) : Fin 2 → Nat :=
  let c0_540 : Index := 0#32
  let c7_i32_520 : BitVec 32 := 7#32
  let v1139 : BitVec 32 := Scalar.shrsi v1119 c7_i32_520
  let c128_i32_521 : BitVec 32 := 128#32
  let v1140 : BitVec 32 := Scalar.muli v1139 c128_i32_521
  let v1141 : BitVec 32 := v1140
  let v1168 : Index := Scalar.indexCast v1141
  ![0, v1168.toNat]
def k0_off125 (v1124 : BitVec 32) : Fin 2 → Nat :=
  let c0_543 : Index := 0#32
  let c7_i32_522 : BitVec 32 := 7#32
  let v1142 : BitVec 32 := Scalar.shrsi v1124 c7_i32_522
  let c128_i32_523 : BitVec 32 := 128#32
  let v1143 : BitVec 32 := Scalar.muli v1142 c128_i32_523
  let v1144 : BitVec 32 := v1143
  let v1179 : Index := Scalar.indexCast v1144
  ![0, v1179.toNat]
def k0_off126 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_546 : BitVec 32 := 0#32
  let c0_i32_547 : BitVec 32 := 0#32
  let c0_i32_548 : BitVec 32 := 0#32
  ![v71.toNat, 0, 0, 0]
def k0_off127 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_546 : BitVec 32 := 0#32
  let c0_i32_548 : BitVec 32 := 0#32
  ![v71.toNat, 0, 4, 0]
def k0_off128 (v1119 : BitVec 32) : Fin 2 → Nat :=
  let c8_551 : Index := 8#32
  let c7_i32_520 : BitVec 32 := 7#32
  let v1139 : BitVec 32 := Scalar.shrsi v1119 c7_i32_520
  let c128_i32_521 : BitVec 32 := 128#32
  let v1140 : BitVec 32 := Scalar.muli v1139 c128_i32_521
  let v1141 : BitVec 32 := v1140
  let v1207 : Index := Scalar.indexCast v1141
  ![8, v1207.toNat]
def k0_off129 (v1124 : BitVec 32) : Fin 2 → Nat :=
  let c8_554 : Index := 8#32
  let c7_i32_522 : BitVec 32 := 7#32
  let v1142 : BitVec 32 := Scalar.shrsi v1124 c7_i32_522
  let c128_i32_523 : BitVec 32 := 128#32
  let v1143 : BitVec 32 := Scalar.muli v1142 c128_i32_523
  let v1144 : BitVec 32 := v1143
  let v1218 : Index := Scalar.indexCast v1144
  ![8, v1218.toNat]
def k0_off130 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_559 : BitVec 32 := 0#32
  ![v71.toNat, 8, 4, 0]
def k0_off131 (v1119 : BitVec 32) : Fin 2 → Nat :=
  let c16_579 : Index := 16#32
  let c7_i32_520 : BitVec 32 := 7#32
  let v1139 : BitVec 32 := Scalar.shrsi v1119 c7_i32_520
  let c128_i32_521 : BitVec 32 := 128#32
  let v1140 : BitVec 32 := Scalar.muli v1139 c128_i32_521
  let v1141 : BitVec 32 := v1140
  let v1270 : Index := Scalar.indexCast v1141
  ![16, v1270.toNat]
def k0_off132 (v1124 : BitVec 32) : Fin 2 → Nat :=
  let c16_582 : Index := 16#32
  let c7_i32_522 : BitVec 32 := 7#32
  let v1142 : BitVec 32 := Scalar.shrsi v1124 c7_i32_522
  let c128_i32_523 : BitVec 32 := 128#32
  let v1143 : BitVec 32 := Scalar.muli v1142 c128_i32_523
  let v1144 : BitVec 32 := v1143
  let v1281 : Index := Scalar.indexCast v1144
  ![16, v1281.toNat]
def k0_off133 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_587 : BitVec 32 := 0#32
  ![v71.toNat, 16, 4, 0]
def k0_off134 (v1119 : BitVec 32) : Fin 2 → Nat :=
  let c24_591 : Index := 24#32
  let c7_i32_520 : BitVec 32 := 7#32
  let v1139 : BitVec 32 := Scalar.shrsi v1119 c7_i32_520
  let c128_i32_521 : BitVec 32 := 128#32
  let v1140 : BitVec 32 := Scalar.muli v1139 c128_i32_521
  let v1141 : BitVec 32 := v1140
  let v1310 : Index := Scalar.indexCast v1141
  ![24, v1310.toNat]
def k0_off135 (v1124 : BitVec 32) : Fin 2 → Nat :=
  let c24_594 : Index := 24#32
  let c7_i32_522 : BitVec 32 := 7#32
  let v1142 : BitVec 32 := Scalar.shrsi v1124 c7_i32_522
  let c128_i32_523 : BitVec 32 := 128#32
  let v1143 : BitVec 32 := Scalar.muli v1142 c128_i32_523
  let v1144 : BitVec 32 := v1143
  let v1321 : Index := Scalar.indexCast v1144
  ![24, v1321.toNat]
def k0_off136 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_599 : BitVec 32 := 0#32
  ![v71.toNat, 24, 4, 0]
def k0_off137 (v1119 : BitVec 32) : Fin 2 → Nat :=
  let c32_619 : Index := 32#32
  let c7_i32_520 : BitVec 32 := 7#32
  let v1139 : BitVec 32 := Scalar.shrsi v1119 c7_i32_520
  let c128_i32_521 : BitVec 32 := 128#32
  let v1140 : BitVec 32 := Scalar.muli v1139 c128_i32_521
  let v1141 : BitVec 32 := v1140
  let v1373 : Index := Scalar.indexCast v1141
  ![32, v1373.toNat]
def k0_off138 (v1124 : BitVec 32) : Fin 2 → Nat :=
  let c32_622 : Index := 32#32
  let c7_i32_522 : BitVec 32 := 7#32
  let v1142 : BitVec 32 := Scalar.shrsi v1124 c7_i32_522
  let c128_i32_523 : BitVec 32 := 128#32
  let v1143 : BitVec 32 := Scalar.muli v1142 c128_i32_523
  let v1144 : BitVec 32 := v1143
  let v1384 : Index := Scalar.indexCast v1144
  ![32, v1384.toNat]
def k0_off139 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_627 : BitVec 32 := 0#32
  ![v71.toNat, 32, 4, 0]
def k0_off140 (v1119 : BitVec 32) : Fin 2 → Nat :=
  let c40_631 : Index := 40#32
  let c7_i32_520 : BitVec 32 := 7#32
  let v1139 : BitVec 32 := Scalar.shrsi v1119 c7_i32_520
  let c128_i32_521 : BitVec 32 := 128#32
  let v1140 : BitVec 32 := Scalar.muli v1139 c128_i32_521
  let v1141 : BitVec 32 := v1140
  let v1413 : Index := Scalar.indexCast v1141
  ![40, v1413.toNat]
def k0_off141 (v1124 : BitVec 32) : Fin 2 → Nat :=
  let c40_634 : Index := 40#32
  let c7_i32_522 : BitVec 32 := 7#32
  let v1142 : BitVec 32 := Scalar.shrsi v1124 c7_i32_522
  let c128_i32_523 : BitVec 32 := 128#32
  let v1143 : BitVec 32 := Scalar.muli v1142 c128_i32_523
  let v1144 : BitVec 32 := v1143
  let v1424 : Index := Scalar.indexCast v1144
  ![40, v1424.toNat]
def k0_off142 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_639 : BitVec 32 := 0#32
  ![v71.toNat, 40, 4, 0]
def k0_off143 (v1119 : BitVec 32) : Fin 2 → Nat :=
  let c48_659 : Index := 48#32
  let c7_i32_520 : BitVec 32 := 7#32
  let v1139 : BitVec 32 := Scalar.shrsi v1119 c7_i32_520
  let c128_i32_521 : BitVec 32 := 128#32
  let v1140 : BitVec 32 := Scalar.muli v1139 c128_i32_521
  let v1141 : BitVec 32 := v1140
  let v1476 : Index := Scalar.indexCast v1141
  ![48, v1476.toNat]
def k0_off144 (v1124 : BitVec 32) : Fin 2 → Nat :=
  let c48_662 : Index := 48#32
  let c7_i32_522 : BitVec 32 := 7#32
  let v1142 : BitVec 32 := Scalar.shrsi v1124 c7_i32_522
  let c128_i32_523 : BitVec 32 := 128#32
  let v1143 : BitVec 32 := Scalar.muli v1142 c128_i32_523
  let v1144 : BitVec 32 := v1143
  let v1487 : Index := Scalar.indexCast v1144
  ![48, v1487.toNat]
def k0_off145 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_667 : BitVec 32 := 0#32
  ![v71.toNat, 48, 4, 0]
def k0_off146 (v1119 : BitVec 32) : Fin 2 → Nat :=
  let c56_671 : Index := 56#32
  let c7_i32_520 : BitVec 32 := 7#32
  let v1139 : BitVec 32 := Scalar.shrsi v1119 c7_i32_520
  let c128_i32_521 : BitVec 32 := 128#32
  let v1140 : BitVec 32 := Scalar.muli v1139 c128_i32_521
  let v1141 : BitVec 32 := v1140
  let v1516 : Index := Scalar.indexCast v1141
  ![56, v1516.toNat]

def k0_chk21 (v1119 : BitVec 32) : Prop :=
  (128 ∣ (k0_mult5 v1119).toNat) ∧
  (∀ a, (k0_off124 v1119) a + S8x128.size a ≤ S64x32000.size a) ∧
  (∀ a, (k0_off128 v1119) a + S8x128.size a ≤ S64x32000.size a) ∧
  (∀ a, (k0_off131 v1119) a + S8x128.size a ≤ S64x32000.size a) ∧
  (∀ a, (k0_off134 v1119) a + S8x128.size a ≤ S64x32000.size a) ∧
  (∀ a, (k0_off137 v1119) a + S8x128.size a ≤ S64x32000.size a) ∧
  (∀ a, (k0_off140 v1119) a + S8x128.size a ≤ S64x32000.size a) ∧
  (∀ a, (k0_off143 v1119) a + S8x128.size a ≤ S64x32000.size a) ∧
  (∀ a, (k0_off146 v1119) a + S8x128.size a ≤ S64x32000.size a)
theorem k0_mult5_dvd : ∀ (v1119 : BitVec 32) (k0_hw21 : k0_chk21 v1119), 128 ∣ (k0_mult5 v1119).toNat := fun v1119 k0_hw21 => k0_hw21.1
theorem k0_off124_inb : ∀ (v1119 : BitVec 32) (k0_hw21 : k0_chk21 v1119), ∀ a, (k0_off124 v1119) a + S8x128.size a ≤ S64x32000.size a := fun v1119 k0_hw21 => k0_hw21.2.1
theorem k0_off128_inb : ∀ (v1119 : BitVec 32) (k0_hw21 : k0_chk21 v1119), ∀ a, (k0_off128 v1119) a + S8x128.size a ≤ S64x32000.size a := fun v1119 k0_hw21 => k0_hw21.2.2.1
theorem k0_off131_inb : ∀ (v1119 : BitVec 32) (k0_hw21 : k0_chk21 v1119), ∀ a, (k0_off131 v1119) a + S8x128.size a ≤ S64x32000.size a := fun v1119 k0_hw21 => k0_hw21.2.2.2.1
theorem k0_off134_inb : ∀ (v1119 : BitVec 32) (k0_hw21 : k0_chk21 v1119), ∀ a, (k0_off134 v1119) a + S8x128.size a ≤ S64x32000.size a := fun v1119 k0_hw21 => k0_hw21.2.2.2.2.1
theorem k0_off137_inb : ∀ (v1119 : BitVec 32) (k0_hw21 : k0_chk21 v1119), ∀ a, (k0_off137 v1119) a + S8x128.size a ≤ S64x32000.size a := fun v1119 k0_hw21 => k0_hw21.2.2.2.2.2.1
theorem k0_off140_inb : ∀ (v1119 : BitVec 32) (k0_hw21 : k0_chk21 v1119), ∀ a, (k0_off140 v1119) a + S8x128.size a ≤ S64x32000.size a := fun v1119 k0_hw21 => k0_hw21.2.2.2.2.2.2.1
theorem k0_off143_inb : ∀ (v1119 : BitVec 32) (k0_hw21 : k0_chk21 v1119), ∀ a, (k0_off143 v1119) a + S8x128.size a ≤ S64x32000.size a := fun v1119 k0_hw21 => k0_hw21.2.2.2.2.2.2.2.1
theorem k0_off146_inb : ∀ (v1119 : BitVec 32) (k0_hw21 : k0_chk21 v1119), ∀ a, (k0_off146 v1119) a + S8x128.size a ≤ S64x32000.size a := fun v1119 k0_hw21 => k0_hw21.2.2.2.2.2.2.2.2

def k0_off147 (v1124 : BitVec 32) : Fin 2 → Nat :=
  let c56_674 : Index := 56#32
  let c7_i32_522 : BitVec 32 := 7#32
  let v1142 : BitVec 32 := Scalar.shrsi v1124 c7_i32_522
  let c128_i32_523 : BitVec 32 := 128#32
  let v1143 : BitVec 32 := Scalar.muli v1142 c128_i32_523
  let v1144 : BitVec 32 := v1143
  let v1527 : Index := Scalar.indexCast v1144
  ![56, v1527.toNat]

def k0_chk22 (v1124 : BitVec 32) : Prop :=
  (128 ∣ (k0_mult6 v1124).toNat) ∧
  (∀ a, (k0_off125 v1124) a + S8x128.size a ≤ S64x32000.size a) ∧
  (∀ a, (k0_off129 v1124) a + S8x128.size a ≤ S64x32000.size a) ∧
  (∀ a, (k0_off132 v1124) a + S8x128.size a ≤ S64x32000.size a) ∧
  (∀ a, (k0_off135 v1124) a + S8x128.size a ≤ S64x32000.size a) ∧
  (∀ a, (k0_off138 v1124) a + S8x128.size a ≤ S64x32000.size a) ∧
  (∀ a, (k0_off141 v1124) a + S8x128.size a ≤ S64x32000.size a) ∧
  (∀ a, (k0_off144 v1124) a + S8x128.size a ≤ S64x32000.size a) ∧
  (∀ a, (k0_off147 v1124) a + S8x128.size a ≤ S64x32000.size a)
theorem k0_mult6_dvd : ∀ (v1124 : BitVec 32) (k0_hw22 : k0_chk22 v1124), 128 ∣ (k0_mult6 v1124).toNat := fun v1124 k0_hw22 => k0_hw22.1
theorem k0_off125_inb : ∀ (v1124 : BitVec 32) (k0_hw22 : k0_chk22 v1124), ∀ a, (k0_off125 v1124) a + S8x128.size a ≤ S64x32000.size a := fun v1124 k0_hw22 => k0_hw22.2.1
theorem k0_off129_inb : ∀ (v1124 : BitVec 32) (k0_hw22 : k0_chk22 v1124), ∀ a, (k0_off129 v1124) a + S8x128.size a ≤ S64x32000.size a := fun v1124 k0_hw22 => k0_hw22.2.2.1
theorem k0_off132_inb : ∀ (v1124 : BitVec 32) (k0_hw22 : k0_chk22 v1124), ∀ a, (k0_off132 v1124) a + S8x128.size a ≤ S64x32000.size a := fun v1124 k0_hw22 => k0_hw22.2.2.2.1
theorem k0_off135_inb : ∀ (v1124 : BitVec 32) (k0_hw22 : k0_chk22 v1124), ∀ a, (k0_off135 v1124) a + S8x128.size a ≤ S64x32000.size a := fun v1124 k0_hw22 => k0_hw22.2.2.2.2.1
theorem k0_off138_inb : ∀ (v1124 : BitVec 32) (k0_hw22 : k0_chk22 v1124), ∀ a, (k0_off138 v1124) a + S8x128.size a ≤ S64x32000.size a := fun v1124 k0_hw22 => k0_hw22.2.2.2.2.2.1
theorem k0_off141_inb : ∀ (v1124 : BitVec 32) (k0_hw22 : k0_chk22 v1124), ∀ a, (k0_off141 v1124) a + S8x128.size a ≤ S64x32000.size a := fun v1124 k0_hw22 => k0_hw22.2.2.2.2.2.2.1
theorem k0_off144_inb : ∀ (v1124 : BitVec 32) (k0_hw22 : k0_chk22 v1124), ∀ a, (k0_off144 v1124) a + S8x128.size a ≤ S64x32000.size a := fun v1124 k0_hw22 => k0_hw22.2.2.2.2.2.2.2.1
theorem k0_off147_inb : ∀ (v1124 : BitVec 32) (k0_hw22 : k0_chk22 v1124), ∀ a, (k0_off147 v1124) a + S8x128.size a ≤ S64x32000.size a := fun v1124 k0_hw22 => k0_hw22.2.2.2.2.2.2.2.2

def k0_off148 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_679 : BitVec 32 := 0#32
  ![v71.toNat, 56, 4, 0]
def k0_off149 (k0_t2 : Fin k0_t2_loop.trips) (c0_i32_697 : BitVec 32) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c8_i32_695 : BitVec 32 := 8#32
  let v1583 : BitVec 32 := Scalar.muli v51 c8_i32_695
  let c6_i32_696 : BitVec 32 := 6#32
  let v1584 : BitVec 32 := Scalar.addi v1583 c6_i32_696
  let v1585 : BitVec 32 := Scalar.addi v1584 c0_i32_697
  let v1586 : Index := Scalar.indexCast v1585
  ![v1586.toNat]
def k0_mult7 (v1587 : BitVec 32) : BitVec 32 :=
  let c7_i32_713 : BitVec 32 := 7#32
  let v1607 : BitVec 32 := Scalar.shrsi v1587 c7_i32_713
  let c128_i32_714 : BitVec 32 := 128#32
  let v1608 : BitVec 32 := Scalar.muli v1607 c128_i32_714
  v1608

def k0_mult8 (v1592 : BitVec 32) : BitVec 32 :=
  let c7_i32_715 : BitVec 32 := 7#32
  let v1610 : BitVec 32 := Scalar.shrsi v1592 c7_i32_715
  let c128_i32_716 : BitVec 32 := 128#32
  let v1611 : BitVec 32 := Scalar.muli v1610 c128_i32_716
  v1611

def k0_off150 (k0_t2 : Fin k0_t2_loop.trips) (c0_i32_707 : BitVec 32) : Fin 3 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_56 : BitVec 32 := 32#32
  let c0_i32_57 : BitVec 32 := 0#32
  let v52 : BitVec 1 := Scalar.cmpi .eq c32_i32_56 c0_i32_57
  let c1_i32_58 : BitVec 32 := 1#32
  let v53 : BitVec 32 := Scalar.select v52 c1_i32_58 c32_i32_56
  let v54 : BitVec 32 := Scalar.remsi v51 v53
  let c0_i32_60 : BitVec 32 := 0#32
  let v56 : BitVec 1 := Scalar.cmpi .slt v54 c0_i32_60
  let c0_i32_61 : BitVec 32 := 0#32
  let v57 : BitVec 1 := Scalar.cmpi .slt v53 c0_i32_61
  let v58 : BitVec 1 := Scalar.xori v56 v57
  let c0_i32_59 : BitVec 32 := 0#32
  let v55 : BitVec 1 := Scalar.cmpi .ne v54 c0_i32_59
  let v59 : BitVec 1 := Scalar.andi v58 v55
  let v60 : BitVec 32 := Scalar.addi v54 v53
  let v61 : BitVec 32 := Scalar.select v59 v60 v54
  let c8_i32_705 : BitVec 32 := 8#32
  let v1597 : BitVec 32 := Scalar.muli v61 c8_i32_705
  let c6_i32_706 : BitVec 32 := 6#32
  let v1598 : BitVec 32 := Scalar.addi v1597 c6_i32_706
  let v1599 : BitVec 32 := Scalar.addi v1598 c0_i32_707
  let c0_i32_717 : BitVec 32 := 0#32
  let c0_i32_718 : BitVec 32 := 0#32
  ![v1599.toNat, 0, 0]
def k0_off151 (v1587 : BitVec 32) : Fin 2 → Nat :=
  let c0_733 : Index := 0#32
  let c7_i32_713 : BitVec 32 := 7#32
  let v1607 : BitVec 32 := Scalar.shrsi v1587 c7_i32_713
  let c128_i32_714 : BitVec 32 := 128#32
  let v1608 : BitVec 32 := Scalar.muli v1607 c128_i32_714
  let v1609 : BitVec 32 := v1608
  let v1636 : Index := Scalar.indexCast v1609
  ![0, v1636.toNat]
def k0_off152 (v1592 : BitVec 32) : Fin 2 → Nat :=
  let c0_736 : Index := 0#32
  let c7_i32_715 : BitVec 32 := 7#32
  let v1610 : BitVec 32 := Scalar.shrsi v1592 c7_i32_715
  let c128_i32_716 : BitVec 32 := 128#32
  let v1611 : BitVec 32 := Scalar.muli v1610 c128_i32_716
  let v1612 : BitVec 32 := v1611
  let v1647 : Index := Scalar.indexCast v1612
  ![0, v1647.toNat]
def k0_off153 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_739 : BitVec 32 := 0#32
  let c0_i32_740 : BitVec 32 := 0#32
  let c0_i32_741 : BitVec 32 := 0#32
  ![v71.toNat, 0, 0, 0]
def k0_off154 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_739 : BitVec 32 := 0#32
  let c0_i32_741 : BitVec 32 := 0#32
  ![v71.toNat, 0, 6, 0]
def k0_off155 (v1587 : BitVec 32) : Fin 2 → Nat :=
  let c8_744 : Index := 8#32
  let c7_i32_713 : BitVec 32 := 7#32
  let v1607 : BitVec 32 := Scalar.shrsi v1587 c7_i32_713
  let c128_i32_714 : BitVec 32 := 128#32
  let v1608 : BitVec 32 := Scalar.muli v1607 c128_i32_714
  let v1609 : BitVec 32 := v1608
  let v1675 : Index := Scalar.indexCast v1609
  ![8, v1675.toNat]
def k0_off156 (v1592 : BitVec 32) : Fin 2 → Nat :=
  let c8_747 : Index := 8#32
  let c7_i32_715 : BitVec 32 := 7#32
  let v1610 : BitVec 32 := Scalar.shrsi v1592 c7_i32_715
  let c128_i32_716 : BitVec 32 := 128#32
  let v1611 : BitVec 32 := Scalar.muli v1610 c128_i32_716
  let v1612 : BitVec 32 := v1611
  let v1686 : Index := Scalar.indexCast v1612
  ![8, v1686.toNat]
def k0_off157 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_752 : BitVec 32 := 0#32
  ![v71.toNat, 8, 6, 0]
def k0_off158 (v1587 : BitVec 32) : Fin 2 → Nat :=
  let c16_772 : Index := 16#32
  let c7_i32_713 : BitVec 32 := 7#32
  let v1607 : BitVec 32 := Scalar.shrsi v1587 c7_i32_713
  let c128_i32_714 : BitVec 32 := 128#32
  let v1608 : BitVec 32 := Scalar.muli v1607 c128_i32_714
  let v1609 : BitVec 32 := v1608
  let v1738 : Index := Scalar.indexCast v1609
  ![16, v1738.toNat]
def k0_off159 (v1592 : BitVec 32) : Fin 2 → Nat :=
  let c16_775 : Index := 16#32
  let c7_i32_715 : BitVec 32 := 7#32
  let v1610 : BitVec 32 := Scalar.shrsi v1592 c7_i32_715
  let c128_i32_716 : BitVec 32 := 128#32
  let v1611 : BitVec 32 := Scalar.muli v1610 c128_i32_716
  let v1612 : BitVec 32 := v1611
  let v1749 : Index := Scalar.indexCast v1612
  ![16, v1749.toNat]
def k0_off160 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_780 : BitVec 32 := 0#32
  ![v71.toNat, 16, 6, 0]
def k0_off161 (v1587 : BitVec 32) : Fin 2 → Nat :=
  let c24_784 : Index := 24#32
  let c7_i32_713 : BitVec 32 := 7#32
  let v1607 : BitVec 32 := Scalar.shrsi v1587 c7_i32_713
  let c128_i32_714 : BitVec 32 := 128#32
  let v1608 : BitVec 32 := Scalar.muli v1607 c128_i32_714
  let v1609 : BitVec 32 := v1608
  let v1778 : Index := Scalar.indexCast v1609
  ![24, v1778.toNat]
def k0_off162 (v1592 : BitVec 32) : Fin 2 → Nat :=
  let c24_787 : Index := 24#32
  let c7_i32_715 : BitVec 32 := 7#32
  let v1610 : BitVec 32 := Scalar.shrsi v1592 c7_i32_715
  let c128_i32_716 : BitVec 32 := 128#32
  let v1611 : BitVec 32 := Scalar.muli v1610 c128_i32_716
  let v1612 : BitVec 32 := v1611
  let v1789 : Index := Scalar.indexCast v1612
  ![24, v1789.toNat]
def k0_off163 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_792 : BitVec 32 := 0#32
  ![v71.toNat, 24, 6, 0]
def k0_off164 (v1587 : BitVec 32) : Fin 2 → Nat :=
  let c32_812 : Index := 32#32
  let c7_i32_713 : BitVec 32 := 7#32
  let v1607 : BitVec 32 := Scalar.shrsi v1587 c7_i32_713
  let c128_i32_714 : BitVec 32 := 128#32
  let v1608 : BitVec 32 := Scalar.muli v1607 c128_i32_714
  let v1609 : BitVec 32 := v1608
  let v1841 : Index := Scalar.indexCast v1609
  ![32, v1841.toNat]
def k0_off165 (v1592 : BitVec 32) : Fin 2 → Nat :=
  let c32_815 : Index := 32#32
  let c7_i32_715 : BitVec 32 := 7#32
  let v1610 : BitVec 32 := Scalar.shrsi v1592 c7_i32_715
  let c128_i32_716 : BitVec 32 := 128#32
  let v1611 : BitVec 32 := Scalar.muli v1610 c128_i32_716
  let v1612 : BitVec 32 := v1611
  let v1852 : Index := Scalar.indexCast v1612
  ![32, v1852.toNat]
def k0_off166 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_820 : BitVec 32 := 0#32
  ![v71.toNat, 32, 6, 0]
def k0_off167 (v1587 : BitVec 32) : Fin 2 → Nat :=
  let c40_824 : Index := 40#32
  let c7_i32_713 : BitVec 32 := 7#32
  let v1607 : BitVec 32 := Scalar.shrsi v1587 c7_i32_713
  let c128_i32_714 : BitVec 32 := 128#32
  let v1608 : BitVec 32 := Scalar.muli v1607 c128_i32_714
  let v1609 : BitVec 32 := v1608
  let v1881 : Index := Scalar.indexCast v1609
  ![40, v1881.toNat]
def k0_off168 (v1592 : BitVec 32) : Fin 2 → Nat :=
  let c40_827 : Index := 40#32
  let c7_i32_715 : BitVec 32 := 7#32
  let v1610 : BitVec 32 := Scalar.shrsi v1592 c7_i32_715
  let c128_i32_716 : BitVec 32 := 128#32
  let v1611 : BitVec 32 := Scalar.muli v1610 c128_i32_716
  let v1612 : BitVec 32 := v1611
  let v1892 : Index := Scalar.indexCast v1612
  ![40, v1892.toNat]
def k0_off169 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_832 : BitVec 32 := 0#32
  ![v71.toNat, 40, 6, 0]
def k0_off170 (v1587 : BitVec 32) : Fin 2 → Nat :=
  let c48_852 : Index := 48#32
  let c7_i32_713 : BitVec 32 := 7#32
  let v1607 : BitVec 32 := Scalar.shrsi v1587 c7_i32_713
  let c128_i32_714 : BitVec 32 := 128#32
  let v1608 : BitVec 32 := Scalar.muli v1607 c128_i32_714
  let v1609 : BitVec 32 := v1608
  let v1944 : Index := Scalar.indexCast v1609
  ![48, v1944.toNat]
def k0_off171 (v1592 : BitVec 32) : Fin 2 → Nat :=
  let c48_855 : Index := 48#32
  let c7_i32_715 : BitVec 32 := 7#32
  let v1610 : BitVec 32 := Scalar.shrsi v1592 c7_i32_715
  let c128_i32_716 : BitVec 32 := 128#32
  let v1611 : BitVec 32 := Scalar.muli v1610 c128_i32_716
  let v1612 : BitVec 32 := v1611
  let v1955 : Index := Scalar.indexCast v1612
  ![48, v1955.toNat]
def k0_off172 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_860 : BitVec 32 := 0#32
  ![v71.toNat, 48, 6, 0]
def k0_off173 (v1587 : BitVec 32) : Fin 2 → Nat :=
  let c56_864 : Index := 56#32
  let c7_i32_713 : BitVec 32 := 7#32
  let v1607 : BitVec 32 := Scalar.shrsi v1587 c7_i32_713
  let c128_i32_714 : BitVec 32 := 128#32
  let v1608 : BitVec 32 := Scalar.muli v1607 c128_i32_714
  let v1609 : BitVec 32 := v1608
  let v1984 : Index := Scalar.indexCast v1609
  ![56, v1984.toNat]

def k0_chk23 (v1587 : BitVec 32) : Prop :=
  (128 ∣ (k0_mult7 v1587).toNat) ∧
  (∀ a, (k0_off151 v1587) a + S8x128.size a ≤ S64x32000.size a) ∧
  (∀ a, (k0_off155 v1587) a + S8x128.size a ≤ S64x32000.size a) ∧
  (∀ a, (k0_off158 v1587) a + S8x128.size a ≤ S64x32000.size a) ∧
  (∀ a, (k0_off161 v1587) a + S8x128.size a ≤ S64x32000.size a) ∧
  (∀ a, (k0_off164 v1587) a + S8x128.size a ≤ S64x32000.size a) ∧
  (∀ a, (k0_off167 v1587) a + S8x128.size a ≤ S64x32000.size a) ∧
  (∀ a, (k0_off170 v1587) a + S8x128.size a ≤ S64x32000.size a) ∧
  (∀ a, (k0_off173 v1587) a + S8x128.size a ≤ S64x32000.size a)
theorem k0_mult7_dvd : ∀ (v1587 : BitVec 32) (k0_hw23 : k0_chk23 v1587), 128 ∣ (k0_mult7 v1587).toNat := fun v1587 k0_hw23 => k0_hw23.1
theorem k0_off151_inb : ∀ (v1587 : BitVec 32) (k0_hw23 : k0_chk23 v1587), ∀ a, (k0_off151 v1587) a + S8x128.size a ≤ S64x32000.size a := fun v1587 k0_hw23 => k0_hw23.2.1
theorem k0_off155_inb : ∀ (v1587 : BitVec 32) (k0_hw23 : k0_chk23 v1587), ∀ a, (k0_off155 v1587) a + S8x128.size a ≤ S64x32000.size a := fun v1587 k0_hw23 => k0_hw23.2.2.1
theorem k0_off158_inb : ∀ (v1587 : BitVec 32) (k0_hw23 : k0_chk23 v1587), ∀ a, (k0_off158 v1587) a + S8x128.size a ≤ S64x32000.size a := fun v1587 k0_hw23 => k0_hw23.2.2.2.1
theorem k0_off161_inb : ∀ (v1587 : BitVec 32) (k0_hw23 : k0_chk23 v1587), ∀ a, (k0_off161 v1587) a + S8x128.size a ≤ S64x32000.size a := fun v1587 k0_hw23 => k0_hw23.2.2.2.2.1
theorem k0_off164_inb : ∀ (v1587 : BitVec 32) (k0_hw23 : k0_chk23 v1587), ∀ a, (k0_off164 v1587) a + S8x128.size a ≤ S64x32000.size a := fun v1587 k0_hw23 => k0_hw23.2.2.2.2.2.1
theorem k0_off167_inb : ∀ (v1587 : BitVec 32) (k0_hw23 : k0_chk23 v1587), ∀ a, (k0_off167 v1587) a + S8x128.size a ≤ S64x32000.size a := fun v1587 k0_hw23 => k0_hw23.2.2.2.2.2.2.1
theorem k0_off170_inb : ∀ (v1587 : BitVec 32) (k0_hw23 : k0_chk23 v1587), ∀ a, (k0_off170 v1587) a + S8x128.size a ≤ S64x32000.size a := fun v1587 k0_hw23 => k0_hw23.2.2.2.2.2.2.2.1
theorem k0_off173_inb : ∀ (v1587 : BitVec 32) (k0_hw23 : k0_chk23 v1587), ∀ a, (k0_off173 v1587) a + S8x128.size a ≤ S64x32000.size a := fun v1587 k0_hw23 => k0_hw23.2.2.2.2.2.2.2.2

def k0_off174 (v1592 : BitVec 32) : Fin 2 → Nat :=
  let c56_867 : Index := 56#32
  let c7_i32_715 : BitVec 32 := 7#32
  let v1610 : BitVec 32 := Scalar.shrsi v1592 c7_i32_715
  let c128_i32_716 : BitVec 32 := 128#32
  let v1611 : BitVec 32 := Scalar.muli v1610 c128_i32_716
  let v1612 : BitVec 32 := v1611
  let v1995 : Index := Scalar.indexCast v1612
  ![56, v1995.toNat]

def k0_chk24 (v1592 : BitVec 32) : Prop :=
  (128 ∣ (k0_mult8 v1592).toNat) ∧
  (∀ a, (k0_off152 v1592) a + S8x128.size a ≤ S64x32000.size a) ∧
  (∀ a, (k0_off156 v1592) a + S8x128.size a ≤ S64x32000.size a) ∧
  (∀ a, (k0_off159 v1592) a + S8x128.size a ≤ S64x32000.size a) ∧
  (∀ a, (k0_off162 v1592) a + S8x128.size a ≤ S64x32000.size a) ∧
  (∀ a, (k0_off165 v1592) a + S8x128.size a ≤ S64x32000.size a) ∧
  (∀ a, (k0_off168 v1592) a + S8x128.size a ≤ S64x32000.size a) ∧
  (∀ a, (k0_off171 v1592) a + S8x128.size a ≤ S64x32000.size a) ∧
  (∀ a, (k0_off174 v1592) a + S8x128.size a ≤ S64x32000.size a)
theorem k0_mult8_dvd : ∀ (v1592 : BitVec 32) (k0_hw24 : k0_chk24 v1592), 128 ∣ (k0_mult8 v1592).toNat := fun v1592 k0_hw24 => k0_hw24.1
theorem k0_off152_inb : ∀ (v1592 : BitVec 32) (k0_hw24 : k0_chk24 v1592), ∀ a, (k0_off152 v1592) a + S8x128.size a ≤ S64x32000.size a := fun v1592 k0_hw24 => k0_hw24.2.1
theorem k0_off156_inb : ∀ (v1592 : BitVec 32) (k0_hw24 : k0_chk24 v1592), ∀ a, (k0_off156 v1592) a + S8x128.size a ≤ S64x32000.size a := fun v1592 k0_hw24 => k0_hw24.2.2.1
theorem k0_off159_inb : ∀ (v1592 : BitVec 32) (k0_hw24 : k0_chk24 v1592), ∀ a, (k0_off159 v1592) a + S8x128.size a ≤ S64x32000.size a := fun v1592 k0_hw24 => k0_hw24.2.2.2.1
theorem k0_off162_inb : ∀ (v1592 : BitVec 32) (k0_hw24 : k0_chk24 v1592), ∀ a, (k0_off162 v1592) a + S8x128.size a ≤ S64x32000.size a := fun v1592 k0_hw24 => k0_hw24.2.2.2.2.1
theorem k0_off165_inb : ∀ (v1592 : BitVec 32) (k0_hw24 : k0_chk24 v1592), ∀ a, (k0_off165 v1592) a + S8x128.size a ≤ S64x32000.size a := fun v1592 k0_hw24 => k0_hw24.2.2.2.2.2.1
theorem k0_off168_inb : ∀ (v1592 : BitVec 32) (k0_hw24 : k0_chk24 v1592), ∀ a, (k0_off168 v1592) a + S8x128.size a ≤ S64x32000.size a := fun v1592 k0_hw24 => k0_hw24.2.2.2.2.2.2.1
theorem k0_off171_inb : ∀ (v1592 : BitVec 32) (k0_hw24 : k0_chk24 v1592), ∀ a, (k0_off171 v1592) a + S8x128.size a ≤ S64x32000.size a := fun v1592 k0_hw24 => k0_hw24.2.2.2.2.2.2.2.1
theorem k0_off174_inb : ∀ (v1592 : BitVec 32) (k0_hw24 : k0_chk24 v1592), ∀ a, (k0_off174 v1592) a + S8x128.size a ≤ S64x32000.size a := fun v1592 k0_hw24 => k0_hw24.2.2.2.2.2.2.2.2

def k0_off175 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_872 : BitVec 32 := 0#32
  ![v71.toNat, 56, 6, 0]
def k0_off176 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  ![v71.toNat]
def k0_off177 (k0_t2 : Fin k0_t2_loop.trips) : Fin 2 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c512_i32 : BitVec 32 := 512#32
  let v2051 : BitVec 32 := Scalar.muli v51 c512_i32
  let c0_i32_888 : BitVec 32 := 0#32
  ![v2051.toNat, 0]
def k0_off178 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_892 : BitVec 32 := 0#32
  let c0_i32_893 : BitVec 32 := 0#32
  let c0_i32_894 : BitVec 32 := 0#32
  ![v71.toNat, 0, 0, 0]
def k0_off179 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_907 : BitVec 32 := 0#32
  let c0_i32_908 : BitVec 32 := 0#32
  ![v71.toNat, 8, 0, 0]
def k0_off180 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_923 : BitVec 32 := 0#32
  let c0_i32_924 : BitVec 32 := 0#32
  ![v71.toNat, 16, 0, 0]
def k0_off181 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_939 : BitVec 32 := 0#32
  let c0_i32_940 : BitVec 32 := 0#32
  ![v71.toNat, 24, 0, 0]
def k0_off182 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_955 : BitVec 32 := 0#32
  let c0_i32_956 : BitVec 32 := 0#32
  ![v71.toNat, 32, 0, 0]
def k0_off183 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_971 : BitVec 32 := 0#32
  let c0_i32_972 : BitVec 32 := 0#32
  ![v71.toNat, 40, 0, 0]
def k0_off184 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_987 : BitVec 32 := 0#32
  let c0_i32_988 : BitVec 32 := 0#32
  ![v71.toNat, 48, 0, 0]
def k0_off185 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_1003 : BitVec 32 := 0#32
  let c0_i32_1004 : BitVec 32 := 0#32
  ![v71.toNat, 56, 0, 0]
def k0_off186 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_1018 : BitVec 32 := 0#32
  let c0_i32_1020 : BitVec 32 := 0#32
  ![v71.toNat, 0, 2, 0]
def k0_off187 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_1036 : BitVec 32 := 0#32
  ![v71.toNat, 8, 2, 0]
def k0_off188 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_1052 : BitVec 32 := 0#32
  ![v71.toNat, 16, 2, 0]
def k0_off189 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_1068 : BitVec 32 := 0#32
  ![v71.toNat, 24, 2, 0]
def k0_off190 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_1084 : BitVec 32 := 0#32
  ![v71.toNat, 32, 2, 0]
def k0_off191 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_1100 : BitVec 32 := 0#32
  ![v71.toNat, 40, 2, 0]
def k0_off192 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_1116 : BitVec 32 := 0#32
  ![v71.toNat, 48, 2, 0]
def k0_off193 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_1132 : BitVec 32 := 0#32
  ![v71.toNat, 56, 2, 0]
def k0_off194 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_1146 : BitVec 32 := 0#32
  let c0_i32_1148 : BitVec 32 := 0#32
  ![v71.toNat, 0, 4, 0]
def k0_off195 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_1164 : BitVec 32 := 0#32
  ![v71.toNat, 8, 4, 0]
def k0_off196 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_1180 : BitVec 32 := 0#32
  ![v71.toNat, 16, 4, 0]
def k0_off197 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_1196 : BitVec 32 := 0#32
  ![v71.toNat, 24, 4, 0]
def k0_off198 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_1212 : BitVec 32 := 0#32
  ![v71.toNat, 32, 4, 0]
def k0_off199 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_1228 : BitVec 32 := 0#32
  ![v71.toNat, 40, 4, 0]
def k0_off200 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_1244 : BitVec 32 := 0#32
  ![v71.toNat, 48, 4, 0]
def k0_off201 (k0_t2 : Fin k0_t2_loop.trips) : Fin 4 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c4_i32 : BitVec 32 := 4#32
  let c0_i32_62 : BitVec 32 := 0#32
  let v62 : BitVec 1 := Scalar.cmpi .eq c4_i32 c0_i32_62
  let c1_i32_63 : BitVec 32 := 1#32
  let v63 : BitVec 32 := Scalar.select v62 c1_i32_63 c4_i32
  let v64 : BitVec 32 := Scalar.remsi v51 v63
  let c0_i32_65 : BitVec 32 := 0#32
  let v66 : BitVec 1 := Scalar.cmpi .slt v64 c0_i32_65
  let c0_i32_66 : BitVec 32 := 0#32
  let v67 : BitVec 1 := Scalar.cmpi .slt v63 c0_i32_66
  let v68 : BitVec 1 := Scalar.xori v66 v67
  let c0_i32_64 : BitVec 32 := 0#32
  let v65 : BitVec 1 := Scalar.cmpi .ne v64 c0_i32_64
  let v69 : BitVec 1 := Scalar.andi v68 v65
  let v70 : BitVec 32 := Scalar.addi v64 v63
  let v71 : BitVec 32 := Scalar.select v69 v70 v64
  let c0_i32_1260 : BitVec 32 := 0#32
  ![v71.toNat, 56, 4, 0]
def k0_cond2 (k0_t2 : Fin k0_t2_loop.trips) : BitVec 1 :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_1407 : BitVec 32 := 32#32
  let v2881 : BitVec 32 := Scalar.addi v51 c32_i32_1407
  let c2048_i32_1408 : BitVec 32 := 2048#32
  let v2882 : BitVec 1 := Scalar.cmpi .slt v2881 c2048_i32_1408
  let v2883 : BitVec 32 := Scalar.extui v2882
  let c0_i32_1409 : BitVec 32 := 0#32
  let v2884 : BitVec 1 := Scalar.cmpi .ne v2883 c0_i32_1409
  v2884

def k0_off202 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_1410 : BitVec 32 := 32#32
  let v2885 : BitVec 32 := Scalar.addi v51 c32_i32_1410
  let c8_i32_1417 : BitVec 32 := 8#32
  let v2896 : BitVec 32 := Scalar.muli v2885 c8_i32_1417
  let c0_i32_1418 : BitVec 32 := 0#32
  let v2897 : BitVec 32 := Scalar.addi v2896 c0_i32_1418
  let v2898 : Index := Scalar.indexCast v2897
  ![v2898.toNat]
def k0_off203 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_1410 : BitVec 32 := 32#32
  let v2885 : BitVec 32 := Scalar.addi v51 c32_i32_1410
  let c32_i32_1411 : BitVec 32 := 32#32
  let c0_i32_1412 : BitVec 32 := 0#32
  let v2886 : BitVec 1 := Scalar.cmpi .eq c32_i32_1411 c0_i32_1412
  let c1_i32_1413 : BitVec 32 := 1#32
  let v2887 : BitVec 32 := Scalar.select v2886 c1_i32_1413 c32_i32_1411
  let v2888 : BitVec 32 := Scalar.remsi v2885 v2887
  let c0_i32_1415 : BitVec 32 := 0#32
  let v2890 : BitVec 1 := Scalar.cmpi .slt v2888 c0_i32_1415
  let c0_i32_1416 : BitVec 32 := 0#32
  let v2891 : BitVec 1 := Scalar.cmpi .slt v2887 c0_i32_1416
  let v2892 : BitVec 1 := Scalar.xori v2890 v2891
  let c0_i32_1414 : BitVec 32 := 0#32
  let v2889 : BitVec 1 := Scalar.cmpi .ne v2888 c0_i32_1414
  let v2893 : BitVec 1 := Scalar.andi v2892 v2889
  let v2894 : BitVec 32 := Scalar.addi v2888 v2887
  let v2895 : BitVec 32 := Scalar.select v2893 v2894 v2888
  ![v2895.toNat]
def k0_off204 (k0_t2 : Fin k0_t2_loop.trips) : Fin 3 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_1410 : BitVec 32 := 32#32
  let v2885 : BitVec 32 := Scalar.addi v51 c32_i32_1410
  let c32_i32_1411 : BitVec 32 := 32#32
  let c0_i32_1412 : BitVec 32 := 0#32
  let v2886 : BitVec 1 := Scalar.cmpi .eq c32_i32_1411 c0_i32_1412
  let c1_i32_1413 : BitVec 32 := 1#32
  let v2887 : BitVec 32 := Scalar.select v2886 c1_i32_1413 c32_i32_1411
  let v2888 : BitVec 32 := Scalar.remsi v2885 v2887
  let c0_i32_1415 : BitVec 32 := 0#32
  let v2890 : BitVec 1 := Scalar.cmpi .slt v2888 c0_i32_1415
  let c0_i32_1416 : BitVec 32 := 0#32
  let v2891 : BitVec 1 := Scalar.cmpi .slt v2887 c0_i32_1416
  let v2892 : BitVec 1 := Scalar.xori v2890 v2891
  let c0_i32_1414 : BitVec 32 := 0#32
  let v2889 : BitVec 1 := Scalar.cmpi .ne v2888 c0_i32_1414
  let v2893 : BitVec 1 := Scalar.andi v2892 v2889
  let v2894 : BitVec 32 := Scalar.addi v2888 v2887
  let v2895 : BitVec 32 := Scalar.select v2893 v2894 v2888
  let c8_i32_1420 : BitVec 32 := 8#32
  let v2901 : BitVec 32 := Scalar.muli v2895 c8_i32_1420
  let c0_i32_1421 : BitVec 32 := 0#32
  let v2902 : BitVec 32 := Scalar.addi v2901 c0_i32_1421
  let c0_i32_1422 : BitVec 32 := 0#32
  let c0_i32_1423 : BitVec 32 := 0#32
  ![v2902.toNat, 0, 0]
def k0_off205 (v2899 : BitVec 32) : Fin 2 → Nat :=
  let c2_i32_1419 : BitVec 32 := 2#32
  let v2900 : BitVec 32 := Scalar.shrsi v2899 c2_i32_1419
  let c0_i32_1424 : BitVec 32 := 0#32
  ![v2900.toNat, 0]

def k0_chk25 (k0_t2 : Fin k0_t2_loop.trips) (v2899 : BitVec 32) : Prop :=
  (∀ (k0_h2 : k0_cond2 k0_t2 = 1#1), ∀ a, (k0_off205 v2899) a + S1x8192.size a ≤ S8000x8192.size a)
theorem k0_off205_inb : ∀ (k0_t2 : Fin k0_t2_loop.trips) (v2899 : BitVec 32) (k0_hw25 : k0_chk25 k0_t2 v2899), ∀ (k0_h2 : k0_cond2 k0_t2 = 1#1), ∀ a, (k0_off205 v2899) a + S1x8192.size a ≤ S8000x8192.size a := fun k0_t2 v2899 k0_hw25 k0_h2 => k0_hw25 k0_h2

def k0_off206 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_1410 : BitVec 32 := 32#32
  let v2885 : BitVec 32 := Scalar.addi v51 c32_i32_1410
  let c8_i32_1425 : BitVec 32 := 8#32
  let v2909 : BitVec 32 := Scalar.muli v2885 c8_i32_1425
  let c1_i32_1426 : BitVec 32 := 1#32
  let v2910 : BitVec 32 := Scalar.addi v2909 c1_i32_1426
  let v2911 : Index := Scalar.indexCast v2910
  ![v2911.toNat]
def k0_off207 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_1410 : BitVec 32 := 32#32
  let v2885 : BitVec 32 := Scalar.addi v51 c32_i32_1410
  let c32_i32_1411 : BitVec 32 := 32#32
  let c0_i32_1412 : BitVec 32 := 0#32
  let v2886 : BitVec 1 := Scalar.cmpi .eq c32_i32_1411 c0_i32_1412
  let c1_i32_1413 : BitVec 32 := 1#32
  let v2887 : BitVec 32 := Scalar.select v2886 c1_i32_1413 c32_i32_1411
  let v2888 : BitVec 32 := Scalar.remsi v2885 v2887
  let c0_i32_1415 : BitVec 32 := 0#32
  let v2890 : BitVec 1 := Scalar.cmpi .slt v2888 c0_i32_1415
  let c0_i32_1416 : BitVec 32 := 0#32
  let v2891 : BitVec 1 := Scalar.cmpi .slt v2887 c0_i32_1416
  let v2892 : BitVec 1 := Scalar.xori v2890 v2891
  let c0_i32_1414 : BitVec 32 := 0#32
  let v2889 : BitVec 1 := Scalar.cmpi .ne v2888 c0_i32_1414
  let v2893 : BitVec 1 := Scalar.andi v2892 v2889
  let v2894 : BitVec 32 := Scalar.addi v2888 v2887
  let v2895 : BitVec 32 := Scalar.select v2893 v2894 v2888
  ![v2895.toNat]
def k0_off208 (k0_t2 : Fin k0_t2_loop.trips) : Fin 3 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_1410 : BitVec 32 := 32#32
  let v2885 : BitVec 32 := Scalar.addi v51 c32_i32_1410
  let c32_i32_1411 : BitVec 32 := 32#32
  let c0_i32_1412 : BitVec 32 := 0#32
  let v2886 : BitVec 1 := Scalar.cmpi .eq c32_i32_1411 c0_i32_1412
  let c1_i32_1413 : BitVec 32 := 1#32
  let v2887 : BitVec 32 := Scalar.select v2886 c1_i32_1413 c32_i32_1411
  let v2888 : BitVec 32 := Scalar.remsi v2885 v2887
  let c0_i32_1415 : BitVec 32 := 0#32
  let v2890 : BitVec 1 := Scalar.cmpi .slt v2888 c0_i32_1415
  let c0_i32_1416 : BitVec 32 := 0#32
  let v2891 : BitVec 1 := Scalar.cmpi .slt v2887 c0_i32_1416
  let v2892 : BitVec 1 := Scalar.xori v2890 v2891
  let c0_i32_1414 : BitVec 32 := 0#32
  let v2889 : BitVec 1 := Scalar.cmpi .ne v2888 c0_i32_1414
  let v2893 : BitVec 1 := Scalar.andi v2892 v2889
  let v2894 : BitVec 32 := Scalar.addi v2888 v2887
  let v2895 : BitVec 32 := Scalar.select v2893 v2894 v2888
  let c8_i32_1428 : BitVec 32 := 8#32
  let v2914 : BitVec 32 := Scalar.muli v2895 c8_i32_1428
  let c1_i32_1429 : BitVec 32 := 1#32
  let v2915 : BitVec 32 := Scalar.addi v2914 c1_i32_1429
  let c0_i32_1430 : BitVec 32 := 0#32
  let c0_i32_1431 : BitVec 32 := 0#32
  ![v2915.toNat, 0, 0]
def k0_off209 (v2912 : BitVec 32) : Fin 2 → Nat :=
  let c2_i32_1427 : BitVec 32 := 2#32
  let v2913 : BitVec 32 := Scalar.shrsi v2912 c2_i32_1427
  let c0_i32_1432 : BitVec 32 := 0#32
  ![v2913.toNat, 0]

def k0_chk26 (k0_t2 : Fin k0_t2_loop.trips) (v2912 : BitVec 32) : Prop :=
  (∀ (k0_h2 : k0_cond2 k0_t2 = 1#1), ∀ a, (k0_off209 v2912) a + S1x8192.size a ≤ S8000x8192.size a)
theorem k0_off209_inb : ∀ (k0_t2 : Fin k0_t2_loop.trips) (v2912 : BitVec 32) (k0_hw26 : k0_chk26 k0_t2 v2912), ∀ (k0_h2 : k0_cond2 k0_t2 = 1#1), ∀ a, (k0_off209 v2912) a + S1x8192.size a ≤ S8000x8192.size a := fun k0_t2 v2912 k0_hw26 k0_h2 => k0_hw26 k0_h2

def k0_off210 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_1410 : BitVec 32 := 32#32
  let v2885 : BitVec 32 := Scalar.addi v51 c32_i32_1410
  let c8_i32_1433 : BitVec 32 := 8#32
  let v2922 : BitVec 32 := Scalar.muli v2885 c8_i32_1433
  let c2_i32_1434 : BitVec 32 := 2#32
  let v2923 : BitVec 32 := Scalar.addi v2922 c2_i32_1434
  let v2924 : Index := Scalar.indexCast v2923
  ![v2924.toNat]
def k0_off211 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_1410 : BitVec 32 := 32#32
  let v2885 : BitVec 32 := Scalar.addi v51 c32_i32_1410
  let c32_i32_1411 : BitVec 32 := 32#32
  let c0_i32_1412 : BitVec 32 := 0#32
  let v2886 : BitVec 1 := Scalar.cmpi .eq c32_i32_1411 c0_i32_1412
  let c1_i32_1413 : BitVec 32 := 1#32
  let v2887 : BitVec 32 := Scalar.select v2886 c1_i32_1413 c32_i32_1411
  let v2888 : BitVec 32 := Scalar.remsi v2885 v2887
  let c0_i32_1415 : BitVec 32 := 0#32
  let v2890 : BitVec 1 := Scalar.cmpi .slt v2888 c0_i32_1415
  let c0_i32_1416 : BitVec 32 := 0#32
  let v2891 : BitVec 1 := Scalar.cmpi .slt v2887 c0_i32_1416
  let v2892 : BitVec 1 := Scalar.xori v2890 v2891
  let c0_i32_1414 : BitVec 32 := 0#32
  let v2889 : BitVec 1 := Scalar.cmpi .ne v2888 c0_i32_1414
  let v2893 : BitVec 1 := Scalar.andi v2892 v2889
  let v2894 : BitVec 32 := Scalar.addi v2888 v2887
  let v2895 : BitVec 32 := Scalar.select v2893 v2894 v2888
  ![v2895.toNat]
def k0_off212 (k0_t2 : Fin k0_t2_loop.trips) : Fin 3 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_1410 : BitVec 32 := 32#32
  let v2885 : BitVec 32 := Scalar.addi v51 c32_i32_1410
  let c32_i32_1411 : BitVec 32 := 32#32
  let c0_i32_1412 : BitVec 32 := 0#32
  let v2886 : BitVec 1 := Scalar.cmpi .eq c32_i32_1411 c0_i32_1412
  let c1_i32_1413 : BitVec 32 := 1#32
  let v2887 : BitVec 32 := Scalar.select v2886 c1_i32_1413 c32_i32_1411
  let v2888 : BitVec 32 := Scalar.remsi v2885 v2887
  let c0_i32_1415 : BitVec 32 := 0#32
  let v2890 : BitVec 1 := Scalar.cmpi .slt v2888 c0_i32_1415
  let c0_i32_1416 : BitVec 32 := 0#32
  let v2891 : BitVec 1 := Scalar.cmpi .slt v2887 c0_i32_1416
  let v2892 : BitVec 1 := Scalar.xori v2890 v2891
  let c0_i32_1414 : BitVec 32 := 0#32
  let v2889 : BitVec 1 := Scalar.cmpi .ne v2888 c0_i32_1414
  let v2893 : BitVec 1 := Scalar.andi v2892 v2889
  let v2894 : BitVec 32 := Scalar.addi v2888 v2887
  let v2895 : BitVec 32 := Scalar.select v2893 v2894 v2888
  let c8_i32_1436 : BitVec 32 := 8#32
  let v2927 : BitVec 32 := Scalar.muli v2895 c8_i32_1436
  let c2_i32_1437 : BitVec 32 := 2#32
  let v2928 : BitVec 32 := Scalar.addi v2927 c2_i32_1437
  let c0_i32_1438 : BitVec 32 := 0#32
  let c0_i32_1439 : BitVec 32 := 0#32
  ![v2928.toNat, 0, 0]
def k0_off213 (v2925 : BitVec 32) : Fin 2 → Nat :=
  let c2_i32_1435 : BitVec 32 := 2#32
  let v2926 : BitVec 32 := Scalar.shrsi v2925 c2_i32_1435
  let c0_i32_1440 : BitVec 32 := 0#32
  ![v2926.toNat, 0]

def k0_chk27 (k0_t2 : Fin k0_t2_loop.trips) (v2925 : BitVec 32) : Prop :=
  (∀ (k0_h2 : k0_cond2 k0_t2 = 1#1), ∀ a, (k0_off213 v2925) a + S1x8192.size a ≤ S8000x8192.size a)
theorem k0_off213_inb : ∀ (k0_t2 : Fin k0_t2_loop.trips) (v2925 : BitVec 32) (k0_hw27 : k0_chk27 k0_t2 v2925), ∀ (k0_h2 : k0_cond2 k0_t2 = 1#1), ∀ a, (k0_off213 v2925) a + S1x8192.size a ≤ S8000x8192.size a := fun k0_t2 v2925 k0_hw27 k0_h2 => k0_hw27 k0_h2

def k0_off214 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_1410 : BitVec 32 := 32#32
  let v2885 : BitVec 32 := Scalar.addi v51 c32_i32_1410
  let c8_i32_1441 : BitVec 32 := 8#32
  let v2935 : BitVec 32 := Scalar.muli v2885 c8_i32_1441
  let c3_i32_1442 : BitVec 32 := 3#32
  let v2936 : BitVec 32 := Scalar.addi v2935 c3_i32_1442
  let v2937 : Index := Scalar.indexCast v2936
  ![v2937.toNat]
def k0_off215 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_1410 : BitVec 32 := 32#32
  let v2885 : BitVec 32 := Scalar.addi v51 c32_i32_1410
  let c32_i32_1411 : BitVec 32 := 32#32
  let c0_i32_1412 : BitVec 32 := 0#32
  let v2886 : BitVec 1 := Scalar.cmpi .eq c32_i32_1411 c0_i32_1412
  let c1_i32_1413 : BitVec 32 := 1#32
  let v2887 : BitVec 32 := Scalar.select v2886 c1_i32_1413 c32_i32_1411
  let v2888 : BitVec 32 := Scalar.remsi v2885 v2887
  let c0_i32_1415 : BitVec 32 := 0#32
  let v2890 : BitVec 1 := Scalar.cmpi .slt v2888 c0_i32_1415
  let c0_i32_1416 : BitVec 32 := 0#32
  let v2891 : BitVec 1 := Scalar.cmpi .slt v2887 c0_i32_1416
  let v2892 : BitVec 1 := Scalar.xori v2890 v2891
  let c0_i32_1414 : BitVec 32 := 0#32
  let v2889 : BitVec 1 := Scalar.cmpi .ne v2888 c0_i32_1414
  let v2893 : BitVec 1 := Scalar.andi v2892 v2889
  let v2894 : BitVec 32 := Scalar.addi v2888 v2887
  let v2895 : BitVec 32 := Scalar.select v2893 v2894 v2888
  ![v2895.toNat]
def k0_off216 (k0_t2 : Fin k0_t2_loop.trips) : Fin 3 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_1410 : BitVec 32 := 32#32
  let v2885 : BitVec 32 := Scalar.addi v51 c32_i32_1410
  let c32_i32_1411 : BitVec 32 := 32#32
  let c0_i32_1412 : BitVec 32 := 0#32
  let v2886 : BitVec 1 := Scalar.cmpi .eq c32_i32_1411 c0_i32_1412
  let c1_i32_1413 : BitVec 32 := 1#32
  let v2887 : BitVec 32 := Scalar.select v2886 c1_i32_1413 c32_i32_1411
  let v2888 : BitVec 32 := Scalar.remsi v2885 v2887
  let c0_i32_1415 : BitVec 32 := 0#32
  let v2890 : BitVec 1 := Scalar.cmpi .slt v2888 c0_i32_1415
  let c0_i32_1416 : BitVec 32 := 0#32
  let v2891 : BitVec 1 := Scalar.cmpi .slt v2887 c0_i32_1416
  let v2892 : BitVec 1 := Scalar.xori v2890 v2891
  let c0_i32_1414 : BitVec 32 := 0#32
  let v2889 : BitVec 1 := Scalar.cmpi .ne v2888 c0_i32_1414
  let v2893 : BitVec 1 := Scalar.andi v2892 v2889
  let v2894 : BitVec 32 := Scalar.addi v2888 v2887
  let v2895 : BitVec 32 := Scalar.select v2893 v2894 v2888
  let c8_i32_1444 : BitVec 32 := 8#32
  let v2940 : BitVec 32 := Scalar.muli v2895 c8_i32_1444
  let c3_i32_1445 : BitVec 32 := 3#32
  let v2941 : BitVec 32 := Scalar.addi v2940 c3_i32_1445
  let c0_i32_1446 : BitVec 32 := 0#32
  let c0_i32_1447 : BitVec 32 := 0#32
  ![v2941.toNat, 0, 0]
def k0_off217 (v2938 : BitVec 32) : Fin 2 → Nat :=
  let c2_i32_1443 : BitVec 32 := 2#32
  let v2939 : BitVec 32 := Scalar.shrsi v2938 c2_i32_1443
  let c0_i32_1448 : BitVec 32 := 0#32
  ![v2939.toNat, 0]

def k0_chk28 (k0_t2 : Fin k0_t2_loop.trips) (v2938 : BitVec 32) : Prop :=
  (∀ (k0_h2 : k0_cond2 k0_t2 = 1#1), ∀ a, (k0_off217 v2938) a + S1x8192.size a ≤ S8000x8192.size a)
theorem k0_off217_inb : ∀ (k0_t2 : Fin k0_t2_loop.trips) (v2938 : BitVec 32) (k0_hw28 : k0_chk28 k0_t2 v2938), ∀ (k0_h2 : k0_cond2 k0_t2 = 1#1), ∀ a, (k0_off217 v2938) a + S1x8192.size a ≤ S8000x8192.size a := fun k0_t2 v2938 k0_hw28 k0_h2 => k0_hw28 k0_h2

def k0_off218 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_1410 : BitVec 32 := 32#32
  let v2885 : BitVec 32 := Scalar.addi v51 c32_i32_1410
  let c8_i32_1449 : BitVec 32 := 8#32
  let v2948 : BitVec 32 := Scalar.muli v2885 c8_i32_1449
  let c4_i32_1450 : BitVec 32 := 4#32
  let v2949 : BitVec 32 := Scalar.addi v2948 c4_i32_1450
  let v2950 : Index := Scalar.indexCast v2949
  ![v2950.toNat]
def k0_off219 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_1410 : BitVec 32 := 32#32
  let v2885 : BitVec 32 := Scalar.addi v51 c32_i32_1410
  let c32_i32_1411 : BitVec 32 := 32#32
  let c0_i32_1412 : BitVec 32 := 0#32
  let v2886 : BitVec 1 := Scalar.cmpi .eq c32_i32_1411 c0_i32_1412
  let c1_i32_1413 : BitVec 32 := 1#32
  let v2887 : BitVec 32 := Scalar.select v2886 c1_i32_1413 c32_i32_1411
  let v2888 : BitVec 32 := Scalar.remsi v2885 v2887
  let c0_i32_1415 : BitVec 32 := 0#32
  let v2890 : BitVec 1 := Scalar.cmpi .slt v2888 c0_i32_1415
  let c0_i32_1416 : BitVec 32 := 0#32
  let v2891 : BitVec 1 := Scalar.cmpi .slt v2887 c0_i32_1416
  let v2892 : BitVec 1 := Scalar.xori v2890 v2891
  let c0_i32_1414 : BitVec 32 := 0#32
  let v2889 : BitVec 1 := Scalar.cmpi .ne v2888 c0_i32_1414
  let v2893 : BitVec 1 := Scalar.andi v2892 v2889
  let v2894 : BitVec 32 := Scalar.addi v2888 v2887
  let v2895 : BitVec 32 := Scalar.select v2893 v2894 v2888
  ![v2895.toNat]
def k0_off220 (k0_t2 : Fin k0_t2_loop.trips) : Fin 3 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_1410 : BitVec 32 := 32#32
  let v2885 : BitVec 32 := Scalar.addi v51 c32_i32_1410
  let c32_i32_1411 : BitVec 32 := 32#32
  let c0_i32_1412 : BitVec 32 := 0#32
  let v2886 : BitVec 1 := Scalar.cmpi .eq c32_i32_1411 c0_i32_1412
  let c1_i32_1413 : BitVec 32 := 1#32
  let v2887 : BitVec 32 := Scalar.select v2886 c1_i32_1413 c32_i32_1411
  let v2888 : BitVec 32 := Scalar.remsi v2885 v2887
  let c0_i32_1415 : BitVec 32 := 0#32
  let v2890 : BitVec 1 := Scalar.cmpi .slt v2888 c0_i32_1415
  let c0_i32_1416 : BitVec 32 := 0#32
  let v2891 : BitVec 1 := Scalar.cmpi .slt v2887 c0_i32_1416
  let v2892 : BitVec 1 := Scalar.xori v2890 v2891
  let c0_i32_1414 : BitVec 32 := 0#32
  let v2889 : BitVec 1 := Scalar.cmpi .ne v2888 c0_i32_1414
  let v2893 : BitVec 1 := Scalar.andi v2892 v2889
  let v2894 : BitVec 32 := Scalar.addi v2888 v2887
  let v2895 : BitVec 32 := Scalar.select v2893 v2894 v2888
  let c8_i32_1452 : BitVec 32 := 8#32
  let v2953 : BitVec 32 := Scalar.muli v2895 c8_i32_1452
  let c4_i32_1453 : BitVec 32 := 4#32
  let v2954 : BitVec 32 := Scalar.addi v2953 c4_i32_1453
  let c0_i32_1454 : BitVec 32 := 0#32
  let c0_i32_1455 : BitVec 32 := 0#32
  ![v2954.toNat, 0, 0]
def k0_off221 (v2951 : BitVec 32) : Fin 2 → Nat :=
  let c2_i32_1451 : BitVec 32 := 2#32
  let v2952 : BitVec 32 := Scalar.shrsi v2951 c2_i32_1451
  let c0_i32_1456 : BitVec 32 := 0#32
  ![v2952.toNat, 0]

def k0_chk29 (k0_t2 : Fin k0_t2_loop.trips) (v2951 : BitVec 32) : Prop :=
  (∀ (k0_h2 : k0_cond2 k0_t2 = 1#1), ∀ a, (k0_off221 v2951) a + S1x8192.size a ≤ S8000x8192.size a)
theorem k0_off221_inb : ∀ (k0_t2 : Fin k0_t2_loop.trips) (v2951 : BitVec 32) (k0_hw29 : k0_chk29 k0_t2 v2951), ∀ (k0_h2 : k0_cond2 k0_t2 = 1#1), ∀ a, (k0_off221 v2951) a + S1x8192.size a ≤ S8000x8192.size a := fun k0_t2 v2951 k0_hw29 k0_h2 => k0_hw29 k0_h2

def k0_off222 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_1410 : BitVec 32 := 32#32
  let v2885 : BitVec 32 := Scalar.addi v51 c32_i32_1410
  let c8_i32_1457 : BitVec 32 := 8#32
  let v2961 : BitVec 32 := Scalar.muli v2885 c8_i32_1457
  let c5_i32_1458 : BitVec 32 := 5#32
  let v2962 : BitVec 32 := Scalar.addi v2961 c5_i32_1458
  let v2963 : Index := Scalar.indexCast v2962
  ![v2963.toNat]
def k0_off223 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_1410 : BitVec 32 := 32#32
  let v2885 : BitVec 32 := Scalar.addi v51 c32_i32_1410
  let c32_i32_1411 : BitVec 32 := 32#32
  let c0_i32_1412 : BitVec 32 := 0#32
  let v2886 : BitVec 1 := Scalar.cmpi .eq c32_i32_1411 c0_i32_1412
  let c1_i32_1413 : BitVec 32 := 1#32
  let v2887 : BitVec 32 := Scalar.select v2886 c1_i32_1413 c32_i32_1411
  let v2888 : BitVec 32 := Scalar.remsi v2885 v2887
  let c0_i32_1415 : BitVec 32 := 0#32
  let v2890 : BitVec 1 := Scalar.cmpi .slt v2888 c0_i32_1415
  let c0_i32_1416 : BitVec 32 := 0#32
  let v2891 : BitVec 1 := Scalar.cmpi .slt v2887 c0_i32_1416
  let v2892 : BitVec 1 := Scalar.xori v2890 v2891
  let c0_i32_1414 : BitVec 32 := 0#32
  let v2889 : BitVec 1 := Scalar.cmpi .ne v2888 c0_i32_1414
  let v2893 : BitVec 1 := Scalar.andi v2892 v2889
  let v2894 : BitVec 32 := Scalar.addi v2888 v2887
  let v2895 : BitVec 32 := Scalar.select v2893 v2894 v2888
  ![v2895.toNat]
def k0_off224 (k0_t2 : Fin k0_t2_loop.trips) : Fin 3 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_1410 : BitVec 32 := 32#32
  let v2885 : BitVec 32 := Scalar.addi v51 c32_i32_1410
  let c32_i32_1411 : BitVec 32 := 32#32
  let c0_i32_1412 : BitVec 32 := 0#32
  let v2886 : BitVec 1 := Scalar.cmpi .eq c32_i32_1411 c0_i32_1412
  let c1_i32_1413 : BitVec 32 := 1#32
  let v2887 : BitVec 32 := Scalar.select v2886 c1_i32_1413 c32_i32_1411
  let v2888 : BitVec 32 := Scalar.remsi v2885 v2887
  let c0_i32_1415 : BitVec 32 := 0#32
  let v2890 : BitVec 1 := Scalar.cmpi .slt v2888 c0_i32_1415
  let c0_i32_1416 : BitVec 32 := 0#32
  let v2891 : BitVec 1 := Scalar.cmpi .slt v2887 c0_i32_1416
  let v2892 : BitVec 1 := Scalar.xori v2890 v2891
  let c0_i32_1414 : BitVec 32 := 0#32
  let v2889 : BitVec 1 := Scalar.cmpi .ne v2888 c0_i32_1414
  let v2893 : BitVec 1 := Scalar.andi v2892 v2889
  let v2894 : BitVec 32 := Scalar.addi v2888 v2887
  let v2895 : BitVec 32 := Scalar.select v2893 v2894 v2888
  let c8_i32_1460 : BitVec 32 := 8#32
  let v2966 : BitVec 32 := Scalar.muli v2895 c8_i32_1460
  let c5_i32_1461 : BitVec 32 := 5#32
  let v2967 : BitVec 32 := Scalar.addi v2966 c5_i32_1461
  let c0_i32_1462 : BitVec 32 := 0#32
  let c0_i32_1463 : BitVec 32 := 0#32
  ![v2967.toNat, 0, 0]
def k0_off225 (v2964 : BitVec 32) : Fin 2 → Nat :=
  let c2_i32_1459 : BitVec 32 := 2#32
  let v2965 : BitVec 32 := Scalar.shrsi v2964 c2_i32_1459
  let c0_i32_1464 : BitVec 32 := 0#32
  ![v2965.toNat, 0]

def k0_chk30 (k0_t2 : Fin k0_t2_loop.trips) (v2964 : BitVec 32) : Prop :=
  (∀ (k0_h2 : k0_cond2 k0_t2 = 1#1), ∀ a, (k0_off225 v2964) a + S1x8192.size a ≤ S8000x8192.size a)
theorem k0_off225_inb : ∀ (k0_t2 : Fin k0_t2_loop.trips) (v2964 : BitVec 32) (k0_hw30 : k0_chk30 k0_t2 v2964), ∀ (k0_h2 : k0_cond2 k0_t2 = 1#1), ∀ a, (k0_off225 v2964) a + S1x8192.size a ≤ S8000x8192.size a := fun k0_t2 v2964 k0_hw30 k0_h2 => k0_hw30 k0_h2

def k0_off226 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_1410 : BitVec 32 := 32#32
  let v2885 : BitVec 32 := Scalar.addi v51 c32_i32_1410
  let c8_i32_1465 : BitVec 32 := 8#32
  let v2974 : BitVec 32 := Scalar.muli v2885 c8_i32_1465
  let c6_i32_1466 : BitVec 32 := 6#32
  let v2975 : BitVec 32 := Scalar.addi v2974 c6_i32_1466
  let v2976 : Index := Scalar.indexCast v2975
  ![v2976.toNat]
def k0_off227 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_1410 : BitVec 32 := 32#32
  let v2885 : BitVec 32 := Scalar.addi v51 c32_i32_1410
  let c32_i32_1411 : BitVec 32 := 32#32
  let c0_i32_1412 : BitVec 32 := 0#32
  let v2886 : BitVec 1 := Scalar.cmpi .eq c32_i32_1411 c0_i32_1412
  let c1_i32_1413 : BitVec 32 := 1#32
  let v2887 : BitVec 32 := Scalar.select v2886 c1_i32_1413 c32_i32_1411
  let v2888 : BitVec 32 := Scalar.remsi v2885 v2887
  let c0_i32_1415 : BitVec 32 := 0#32
  let v2890 : BitVec 1 := Scalar.cmpi .slt v2888 c0_i32_1415
  let c0_i32_1416 : BitVec 32 := 0#32
  let v2891 : BitVec 1 := Scalar.cmpi .slt v2887 c0_i32_1416
  let v2892 : BitVec 1 := Scalar.xori v2890 v2891
  let c0_i32_1414 : BitVec 32 := 0#32
  let v2889 : BitVec 1 := Scalar.cmpi .ne v2888 c0_i32_1414
  let v2893 : BitVec 1 := Scalar.andi v2892 v2889
  let v2894 : BitVec 32 := Scalar.addi v2888 v2887
  let v2895 : BitVec 32 := Scalar.select v2893 v2894 v2888
  ![v2895.toNat]
def k0_off228 (k0_t2 : Fin k0_t2_loop.trips) : Fin 3 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_1410 : BitVec 32 := 32#32
  let v2885 : BitVec 32 := Scalar.addi v51 c32_i32_1410
  let c32_i32_1411 : BitVec 32 := 32#32
  let c0_i32_1412 : BitVec 32 := 0#32
  let v2886 : BitVec 1 := Scalar.cmpi .eq c32_i32_1411 c0_i32_1412
  let c1_i32_1413 : BitVec 32 := 1#32
  let v2887 : BitVec 32 := Scalar.select v2886 c1_i32_1413 c32_i32_1411
  let v2888 : BitVec 32 := Scalar.remsi v2885 v2887
  let c0_i32_1415 : BitVec 32 := 0#32
  let v2890 : BitVec 1 := Scalar.cmpi .slt v2888 c0_i32_1415
  let c0_i32_1416 : BitVec 32 := 0#32
  let v2891 : BitVec 1 := Scalar.cmpi .slt v2887 c0_i32_1416
  let v2892 : BitVec 1 := Scalar.xori v2890 v2891
  let c0_i32_1414 : BitVec 32 := 0#32
  let v2889 : BitVec 1 := Scalar.cmpi .ne v2888 c0_i32_1414
  let v2893 : BitVec 1 := Scalar.andi v2892 v2889
  let v2894 : BitVec 32 := Scalar.addi v2888 v2887
  let v2895 : BitVec 32 := Scalar.select v2893 v2894 v2888
  let c8_i32_1468 : BitVec 32 := 8#32
  let v2979 : BitVec 32 := Scalar.muli v2895 c8_i32_1468
  let c6_i32_1469 : BitVec 32 := 6#32
  let v2980 : BitVec 32 := Scalar.addi v2979 c6_i32_1469
  let c0_i32_1470 : BitVec 32 := 0#32
  let c0_i32_1471 : BitVec 32 := 0#32
  ![v2980.toNat, 0, 0]
def k0_off229 (v2977 : BitVec 32) : Fin 2 → Nat :=
  let c2_i32_1467 : BitVec 32 := 2#32
  let v2978 : BitVec 32 := Scalar.shrsi v2977 c2_i32_1467
  let c0_i32_1472 : BitVec 32 := 0#32
  ![v2978.toNat, 0]

def k0_chk31 (k0_t2 : Fin k0_t2_loop.trips) (v2977 : BitVec 32) : Prop :=
  (∀ (k0_h2 : k0_cond2 k0_t2 = 1#1), ∀ a, (k0_off229 v2977) a + S1x8192.size a ≤ S8000x8192.size a)
theorem k0_off229_inb : ∀ (k0_t2 : Fin k0_t2_loop.trips) (v2977 : BitVec 32) (k0_hw31 : k0_chk31 k0_t2 v2977), ∀ (k0_h2 : k0_cond2 k0_t2 = 1#1), ∀ a, (k0_off229 v2977) a + S1x8192.size a ≤ S8000x8192.size a := fun k0_t2 v2977 k0_hw31 k0_h2 => k0_hw31 k0_h2

def k0_off230 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_1410 : BitVec 32 := 32#32
  let v2885 : BitVec 32 := Scalar.addi v51 c32_i32_1410
  let c8_i32_1473 : BitVec 32 := 8#32
  let v2987 : BitVec 32 := Scalar.muli v2885 c8_i32_1473
  let c7_i32_1474 : BitVec 32 := 7#32
  let v2988 : BitVec 32 := Scalar.addi v2987 c7_i32_1474
  let v2989 : Index := Scalar.indexCast v2988
  ![v2989.toNat]
def k0_off231 (k0_t2 : Fin k0_t2_loop.trips) : Fin 1 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_1410 : BitVec 32 := 32#32
  let v2885 : BitVec 32 := Scalar.addi v51 c32_i32_1410
  let c32_i32_1411 : BitVec 32 := 32#32
  let c0_i32_1412 : BitVec 32 := 0#32
  let v2886 : BitVec 1 := Scalar.cmpi .eq c32_i32_1411 c0_i32_1412
  let c1_i32_1413 : BitVec 32 := 1#32
  let v2887 : BitVec 32 := Scalar.select v2886 c1_i32_1413 c32_i32_1411
  let v2888 : BitVec 32 := Scalar.remsi v2885 v2887
  let c0_i32_1415 : BitVec 32 := 0#32
  let v2890 : BitVec 1 := Scalar.cmpi .slt v2888 c0_i32_1415
  let c0_i32_1416 : BitVec 32 := 0#32
  let v2891 : BitVec 1 := Scalar.cmpi .slt v2887 c0_i32_1416
  let v2892 : BitVec 1 := Scalar.xori v2890 v2891
  let c0_i32_1414 : BitVec 32 := 0#32
  let v2889 : BitVec 1 := Scalar.cmpi .ne v2888 c0_i32_1414
  let v2893 : BitVec 1 := Scalar.andi v2892 v2889
  let v2894 : BitVec 32 := Scalar.addi v2888 v2887
  let v2895 : BitVec 32 := Scalar.select v2893 v2894 v2888
  ![v2895.toNat]
def k0_off232 (k0_t2 : Fin k0_t2_loop.trips) : Fin 3 → Nat :=
  let c0_i32_55 : BitVec 32 := 0#32
  let c0_i32_1 : BitVec 32 := 0#32
  let c1_i32_2 : BitVec 32 := 1#32
  let arg13 : BitVec 32 := Scf.iv c0_i32_1 c1_i32_2 k0_t2
  let c1_i32_54 : BitVec 32 := 1#32
  let v50 : BitVec 32 := Scalar.muli arg13 c1_i32_54
  let v51 : BitVec 32 := Scalar.addi c0_i32_55 v50
  let c32_i32_1410 : BitVec 32 := 32#32
  let v2885 : BitVec 32 := Scalar.addi v51 c32_i32_1410
  let c32_i32_1411 : BitVec 32 := 32#32
  let c0_i32_1412 : BitVec 32 := 0#32
  let v2886 : BitVec 1 := Scalar.cmpi .eq c32_i32_1411 c0_i32_1412
  let c1_i32_1413 : BitVec 32 := 1#32
  let v2887 : BitVec 32 := Scalar.select v2886 c1_i32_1413 c32_i32_1411
  let v2888 : BitVec 32 := Scalar.remsi v2885 v2887
  let c0_i32_1415 : BitVec 32 := 0#32
  let v2890 : BitVec 1 := Scalar.cmpi .slt v2888 c0_i32_1415
  let c0_i32_1416 : BitVec 32 := 0#32
  let v2891 : BitVec 1 := Scalar.cmpi .slt v2887 c0_i32_1416
  let v2892 : BitVec 1 := Scalar.xori v2890 v2891
  let c0_i32_1414 : BitVec 32 := 0#32
  let v2889 : BitVec 1 := Scalar.cmpi .ne v2888 c0_i32_1414
  let v2893 : BitVec 1 := Scalar.andi v2892 v2889
  let v2894 : BitVec 32 := Scalar.addi v2888 v2887
  let v2895 : BitVec 32 := Scalar.select v2893 v2894 v2888
  let c8_i32_1476 : BitVec 32 := 8#32
  let v2992 : BitVec 32 := Scalar.muli v2895 c8_i32_1476
  let c7_i32_1477 : BitVec 32 := 7#32
  let v2993 : BitVec 32 := Scalar.addi v2992 c7_i32_1477
  let c0_i32_1478 : BitVec 32 := 0#32
  let c0_i32_1479 : BitVec 32 := 0#32
  ![v2993.toNat, 0, 0]
def k0_off233 (v2990 : BitVec 32) : Fin 2 → Nat :=
  let c2_i32_1475 : BitVec 32 := 2#32
  let v2991 : BitVec 32 := Scalar.shrsi v2990 c2_i32_1475
  let c0_i32_1480 : BitVec 32 := 0#32
  ![v2991.toNat, 0]

def k0_chk32 (k0_t2 : Fin k0_t2_loop.trips) (v2990 : BitVec 32) : Prop :=
  (∀ (k0_h2 : k0_cond2 k0_t2 = 1#1), ∀ a, (k0_off233 v2990) a + S1x8192.size a ≤ S8000x8192.size a)
theorem k0_off233_inb : ∀ (k0_t2 : Fin k0_t2_loop.trips) (v2990 : BitVec 32) (k0_hw32 : k0_chk32 k0_t2 v2990), ∀ (k0_h2 : k0_cond2 k0_t2 = 1#1), ∀ a, (k0_off233 v2990) a + S1x8192.size a ≤ S8000x8192.size a := fun k0_t2 v2990 k0_hw32 k0_h2 => k0_hw32 k0_h2

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x32000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== KernelIdeal.lean ====
variable {F : FTy → Type} [FloatOps F]
-- ==== ReferenceIdeal.lean ====
abbrev S4x4096 : Shape := ⟨2, ![4, 4096]⟩
abbrev S32000x8192 : Shape := ⟨2, ![32000, 8192]⟩
abbrev S32000x64 : Shape := ⟨2, ![32000, 64]⟩
abbrev S8192 : Shape := ⟨1, ![8192]⟩
abbrev S_ : Shape := ⟨0, ![]⟩
abbrev S4x4096x1 : Shape := ⟨3, ![4, 4096, 1]⟩
abbrev S4x4096x8192 : Shape := ⟨3, ![4, 4096, 8192]⟩
abbrev S4x4096x64 : Shape := ⟨3, ![4, 4096, 64]⟩
abbrev S64 : Shape := ⟨1, ![64]⟩
abbrev S64x1 : Shape := ⟨2, ![64, 1]⟩
abbrev S1x8192 : Shape := ⟨2, ![1, 8192]⟩
abbrev S64x8192 : Shape := ⟨2, ![64, 8192]⟩
abbrev S1x1x8192 : Shape := ⟨3, ![1, 1, 8192]⟩

abbrev nBuf : Space → Nat
  | .hbm => 73
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S32000x8192, .i8⟩
  | .hbm, ⟨2, _⟩ => ⟨S32000x64, .f32⟩
  | .hbm, ⟨3, _⟩ => ⟨S8192, .bf16⟩
  | .hbm, ⟨4, _⟩ => ⟨S_, .i32⟩
  | .hbm, ⟨5, _⟩ => ⟨S4x4096, .i32⟩
  | .hbm, ⟨6, _⟩ => ⟨S4x4096, .i1⟩
  | .hbm, ⟨7, _⟩ => ⟨S_, .i32⟩
  | .hbm, ⟨8, _⟩ => ⟨S4x4096, .i32⟩
  | .hbm, ⟨9, _⟩ => ⟨S4x4096, .i32⟩
  | .hbm, ⟨10, _⟩ => ⟨S4x4096, .i32⟩
  | .hbm, ⟨11, _⟩ => ⟨S4x4096x1, .i32⟩
  | .hbm, ⟨12, _⟩ => ⟨S4x4096x8192, .i8⟩
  | .hbm, ⟨13, _⟩ => ⟨S_, .i32⟩
  | .hbm, ⟨14, _⟩ => ⟨S4x4096, .i32⟩
  | .hbm, ⟨15, _⟩ => ⟨S4x4096, .i1⟩
  | .hbm, ⟨16, _⟩ => ⟨S_, .i32⟩
  | .hbm, ⟨17, _⟩ => ⟨S4x4096, .i32⟩
  | .hbm, ⟨18, _⟩ => ⟨S4x4096, .i32⟩
  | .hbm, ⟨19, _⟩ => ⟨S4x4096, .i32⟩
  | .hbm, ⟨20, _⟩ => ⟨S4x4096x1, .i32⟩
  | .hbm, ⟨21, _⟩ => ⟨S4x4096x64, .f32⟩
  | .hbm, ⟨22, _⟩ => ⟨S4x4096x64, .bf16⟩
  | .hbm, ⟨23, _⟩ => ⟨S64, .i32⟩
  | .hbm, ⟨24, _⟩ => ⟨S64x1, .i32⟩
  | .hbm, ⟨25, _⟩ => ⟨S8192, .i32⟩
  | .hbm, ⟨26, _⟩ => ⟨S1x8192, .i32⟩
  | .hbm, ⟨27, _⟩ => ⟨S_, .i32⟩
  | .hbm, ⟨28, _⟩ => ⟨S_, .i32⟩
  | .hbm, ⟨29, _⟩ => ⟨S1x8192, .i32⟩
  | .hbm, ⟨30, _⟩ => ⟨S1x8192, .i32⟩
  | .hbm, ⟨31, _⟩ => ⟨S1x8192, .i32⟩
  | .hbm, ⟨32, _⟩ => ⟨S_, .i32⟩
  | .hbm, ⟨33, _⟩ => ⟨S1x8192, .i32⟩
  | .hbm, ⟨34, _⟩ => ⟨S1x8192, .i1⟩
  | .hbm, ⟨35, _⟩ => ⟨S1x8192, .i32⟩
  | .hbm, ⟨36, _⟩ => ⟨S1x8192, .i32⟩
  | .hbm, ⟨37, _⟩ => ⟨S_, .i32⟩
  | .hbm, ⟨38, _⟩ => ⟨S1x8192, .i32⟩
  | .hbm, ⟨39, _⟩ => ⟨S1x8192, .i1⟩
  | .hbm, ⟨40, _⟩ => ⟨S1x8192, .i1⟩
  | .hbm, ⟨41, _⟩ => ⟨S_, .i32⟩
  | .hbm, ⟨42, _⟩ => ⟨S1x8192, .i32⟩
  | .hbm, ⟨43, _⟩ => ⟨S1x8192, .i32⟩
  | .hbm, ⟨44, _⟩ => ⟨S1x8192, .i32⟩
  | .hbm, ⟨45, _⟩ => ⟨S64x8192, .i32⟩
  | .hbm, ⟨46, _⟩ => ⟨S64x8192, .i32⟩
  | .hbm, ⟨47, _⟩ => ⟨S64x8192, .i1⟩
  | .hbm, ⟨48, _⟩ => ⟨S64x8192, .bf16⟩
  | .hbm, ⟨49, _⟩ => ⟨S4x4096x8192, .f32⟩
  | .hbm, ⟨50, _⟩ => ⟨S4x4096x8192, .bf16⟩
  | .hbm, ⟨51, _⟩ => ⟨S4x4096x8192, .i32⟩
  | .hbm, ⟨52, _⟩ => ⟨S4x4096x8192, .bf16⟩
  | .hbm, ⟨53, _⟩ => ⟨S4x4096x8192, .bf16⟩
  | .hbm, ⟨54, _⟩ => ⟨S4x4096x8192, .f32⟩
  | .hbm, ⟨55, _⟩ => ⟨S4x4096x8192, .f32⟩
  | .hbm, ⟨56, _⟩ => ⟨S_, .f32⟩
  | .hbm, ⟨57, _⟩ => ⟨S4x4096, .f32⟩
  | .hbm, ⟨58, _⟩ => ⟨S4x4096x1, .f32⟩
  | .hbm, ⟨59, _⟩ => ⟨S_, .f32⟩
  | .hbm, ⟨60, _⟩ => ⟨S4x4096x1, .f32⟩
  | .hbm, ⟨61, _⟩ => ⟨S4x4096x1, .f32⟩
  | .hbm, ⟨62, _⟩ => ⟨S_, .f32⟩
  | .hbm, ⟨63, _⟩ => ⟨S4x4096x1, .f32⟩
  | .hbm, ⟨64, _⟩ => ⟨S4x4096x1, .f32⟩
  | .hbm, ⟨65, _⟩ => ⟨S4x4096x1, .f32⟩
  | .hbm, ⟨66, _⟩ => ⟨S4x4096x8192, .f32⟩
  | .hbm, ⟨67, _⟩ => ⟨S4x4096x8192, .f32⟩
  | .hbm, ⟨68, _⟩ => ⟨S8192, .f32⟩
  | .hbm, ⟨69, _⟩ => ⟨S1x1x8192, .f32⟩
  | .hbm, ⟨70, _⟩ => ⟨S4x4096x8192, .f32⟩
  | .hbm, ⟨71, _⟩ => ⟨S4x4096x8192, .f32⟩
  | .hbm, ⟨72, _⟩ => ⟨S4x4096x8192, .bf16⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩

abbrev nD : Nat := 1
abbrev τ : Topo := Topo.v7x

variable {F : FTy → Type} [FloatOps F]
-- ==== Proof.OffsIdeal.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.KitQuiescent
public import Idealize.ShloMosaic.Lib.Ring
public import Idealize.ShloMosaic.Lib.Batch
public import Idealize.ShloMosaic.Lib.Tactic

/-! The offsets of the body's slices in closed form.  Trip `k` of either loop handles tile `k`: eight rows
`8 k … 8 k + 7`, gathered into slot `k % 32` of the row buffer and written through slot `k % 4` of the two tile
buffers.  Every name below is a function of a natural number, periodic in it where the buffer is a ring. -/

@[expose] public section

namespace Cert.Proof.RingIdeal

open Cert.KernelIdeal Cert.KernelIdeal.Gen
open Idealize.ShloMosaic

/-- Where the `n`-th token's id lies, where gathered row `j` lies, the gather semaphore of tile `u`, the store
    semaphore of tile `u`, part `(g, p)` of tile `u`'s slot, tile `u`'s block of a result. -/
abbrev idOff (n : ℕ) : Fin 1 → Nat := ![n]
abbrev rowOff (j : ℕ) : Fin 3 → Nat := ![j % 256, 0, 0]
abbrev cellOff (u : ℕ) : Fin 1 → Nat := ![u % 32]
abbrev scellOff (u : ℕ) : Fin 1 → Nat := ![u % 4]
abbrev slotAt (u g p : ℕ) : Fin 4 → Nat := ![u % 4, g, p, 0]
abbrev blkOff (u : ℕ) : Fin 2 → Nat := ![512 * u, 0]

theorem t2_trips : k0_t2_loop.trips = 2048 := by decide +kernel
theorem t1_trips : k0_t1_loop.trips = 32 := by decide +kernel
theorem trip_lt (k : Fin k0_t2_loop.trips) : k.val < 4096 := by have := k.isLt; have := t2_trips; omega
theorem trip32_lt (k : Fin k0_t2_loop.trips) : k.val + 32 < 4096 := by have := k.isLt; have := t2_trips; omega
theorem tword : ∀ k : Fin k0_t2_loop.trips,
    (Scalar.addi 0#32 (Scalar.muli (Scf.iv 0#32 1#32 k.val) 1#32)).toNat = k.val := by decide +kernel
theorem tword32 (k : Fin k0_t2_loop.trips) :
    (Scalar.addi (Scalar.addi 0#32 (Scalar.muli (Scf.iv 0#32 1#32 k.val) 1#32)) 32#32).toNat = k.val + 32 := by
  have h := tword k; have := trip_lt k
  simp only [Scalar.addi, IntOp.addi, BitVec.toNat_add, BitVec.toNat_ofNat] at h ⊢; omega

theorem lin_of {v : BitVec 32} {u : ℕ} (h : v.toNat = u) (r : ℕ) (hr : r < 8) (hu : u < 4096) :
    (Scalar.addi (Scalar.muli v 8#32) (BitVec.ofNat 32 r)).toNat = 8 * u + r := by
  simp only [Scalar.addi, IntOp.addi, Scalar.muli, IntOp.muli, BitVec.toNat_add, BitVec.toNat_mul, BitVec.toNat_ofNat, h]; omega
theorem ids_of {v : BitVec 32} {u : ℕ} (h : v.toNat = u) (r : ℕ) (hr : r < 8) (hu : u < 4096) :
    (![(Scalar.indexCast (Scalar.addi (Scalar.muli v 8#32) (BitVec.ofNat 32 r))).toNat] : Fin 1 → ℕ) = idOff (8 * u + r) :=
  congrArg (fun b => ![b]) (lin_of h r hr hu)
theorem row_of {v : BitVec 32} {u : ℕ} (h : v.toNat = u % 32) (r : ℕ) (hr : r < 8) :
    (![(Scalar.addi (Scalar.muli v 8#32) (BitVec.ofNat 32 r)).toNat, 0, 0] : Fin 3 → ℕ) = rowOff (8 * u + r) :=
  congrArg (fun b => ![b, 0, 0]) ((lin_of h r hr (by omega)).trans (by omega))
theorem pairLin_of {v : BitVec 32} {u : ℕ} (h : v.toNat = u) (p q : ℕ) (hr : p + q < 8) (hu : u < 4096) :
    (Scalar.addi (Scalar.addi (Scalar.muli v 8#32) (BitVec.ofNat 32 p)) (BitVec.ofNat 32 q)).toNat = 8 * u + (p + q) := by
  simp only [Scalar.addi, IntOp.addi, Scalar.muli, IntOp.muli, BitVec.toNat_add, BitVec.toNat_mul, BitVec.toNat_ofNat, h]; omega
theorem pairIds_of {v : BitVec 32} {u : ℕ} (h : v.toNat = u) (p q : ℕ) (hr : p + q < 8) (hu : u < 4096) :
    (![(Scalar.indexCast (Scalar.addi (Scalar.addi (Scalar.muli v 8#32) (BitVec.ofNat 32 p)) (BitVec.ofNat 32 q))).toNat] : Fin 1 → ℕ)
      = idOff (8 * u + (p + q)) :=
  congrArg (fun b => ![b]) (pairLin_of h p q hr hu)
theorem pairRow_of {v : BitVec 32} {u : ℕ} (h : v.toNat = u % 32) (p q : ℕ) (hr : p + q < 8) :
    (![(Scalar.addi (Scalar.addi (Scalar.muli v 8#32) (BitVec.ofNat 32 p)) (BitVec.ofNat 32 q)).toNat, 0, 0] : Fin 3 → ℕ)
      = rowOff (8 * u + (p + q)) :=
  congrArg (fun b => ![b, 0, 0]) ((pairLin_of h p q hr (by omega)).trans (by omega))

theorem off1_eq : ∀ k : Fin k0_t1_loop.trips, k0_off1 k = idOff (8 * k.val + 0) := by decide +kernel
theorem off2_eq : ∀ k : Fin k0_t1_loop.trips, k0_off2 k = cellOff k.val := by decide +kernel
theorem off3_eq : ∀ k : Fin k0_t1_loop.trips, k0_off3 k = rowOff (8 * k.val + 0) := by decide +kernel
theorem off5_eq : ∀ k : Fin k0_t1_loop.trips, k0_off5 k = idOff (8 * k.val + 1) := by decide +kernel
theorem off6_eq : ∀ k : Fin k0_t1_loop.trips, k0_off6 k = cellOff k.val := by decide +kernel
theorem off7_eq : ∀ k : Fin k0_t1_loop.trips, k0_off7 k = rowOff (8 * k.val + 1) := by decide +kernel
theorem off9_eq : ∀ k : Fin k0_t1_loop.trips, k0_off9 k = idOff (8 * k.val + 2) := by decide +kernel
theorem off10_eq : ∀ k : Fin k0_t1_loop.trips, k0_off10 k = cellOff k.val := by decide +kernel
theorem off11_eq : ∀ k : Fin k0_t1_loop.trips, k0_off11 k = rowOff (8 * k.val + 2) := by decide +kernel
theorem off13_eq : ∀ k : Fin k0_t1_loop.trips, k0_off13 k = idOff (8 * k.val + 3) := by decide +kernel
theorem off14_eq : ∀ k : Fin k0_t1_loop.trips, k0_off14 k = cellOff k.val := by decide +kernel
theorem off15_eq : ∀ k : Fin k0_t1_loop.trips, k0_off15 k = rowOff (8 * k.val + 3) := by decide +kernel
theorem off17_eq : ∀ k : Fin k0_t1_loop.trips, k0_off17 k = idOff (8 * k.val + 4) := by decide +kernel
theorem off18_eq : ∀ k : Fin k0_t1_loop.trips, k0_off18 k = cellOff k.val := by decide +kernel
theorem off19_eq : ∀ k : Fin k0_t1_loop.trips, k0_off19 k = rowOff (8 * k.val + 4) := by decide +kernel
theorem off21_eq : ∀ k : Fin k0_t1_loop.trips, k0_off21 k = idOff (8 * k.val + 5) := by decide +kernel
theorem off22_eq : ∀ k : Fin k0_t1_loop.trips, k0_off22 k = cellOff k.val := by decide +kernel
theorem off23_eq : ∀ k : Fin k0_t1_loop.trips, k0_off23 k = rowOff (8 * k.val + 5) := by decide +kernel
theorem off25_eq : ∀ k : Fin k0_t1_loop.trips, k0_off25 k = idOff (8 * k.val + 6) := by decide +kernel
theorem off26_eq : ∀ k : Fin k0_t1_loop.trips, k0_off26 k = cellOff k.val := by decide +kernel
theorem off27_eq : ∀ k : Fin k0_t1_loop.trips, k0_off27 k = rowOff (8 * k.val + 6) := by decide +kernel
theorem off29_eq : ∀ k : Fin k0_t1_loop.trips, k0_off29 k = idOff (8 * k.val + 7) := by decide +kernel
theorem off30_eq : ∀ k : Fin k0_t1_loop.trips, k0_off30 k = cellOff k.val := by decide +kernel
theorem off31_eq : ∀ k : Fin k0_t1_loop.trips, k0_off31 k = rowOff (8 * k.val + 7) := by decide +kernel
theorem off34_eq : ∀ k : Fin k0_t2_loop.trips, k0_off34 k = cellOff k.val := by decide +kernel
theorem off203_eq : ∀ k : Fin k0_t2_loop.trips, k0_off203 k = cellOff (k.val + 32) := by decide +kernel
theorem off65_eq : ∀ k : Fin k0_t2_loop.trips, k0_off65 k = scellOff k.val := by decide +kernel
theorem off177_eq : ∀ k : Fin k0_t2_loop.trips, k0_off177 k = blkOff k.val := by decide +kernel
theorem off66_eq : ∀ k : Fin k0_t2_loop.trips, 4 ≤ k.val → k0_off66 k = blkOff (k.val - 4) := by decide +kernel
theorem off176_eq (k : Fin k0_t2_loop.trips) : k0_off176 k = scellOff k.val := off65_eq k
theorem off38_eq (k : Fin k0_t2_loop.trips) : k0_off38 k = cellOff k.val := off34_eq k
theorem off207_eq (k : Fin k0_t2_loop.trips) : k0_off207 k = cellOff (k.val + 32) := off203_eq k
theorem off42_eq (k : Fin k0_t2_loop.trips) : k0_off42 k = cellOff k.val := off34_eq k
theorem off211_eq (k : Fin k0_t2_loop.trips) : k0_off211 k = cellOff (k.val + 32) := off203_eq k
theorem off46_eq (k : Fin k0_t2_loop.trips) : k0_off46 k = cellOff k.val := off34_eq k
theorem off215_eq (k : Fin k0_t2_loop.trips) : k0_off215 k = cellOff (k.val + 32) := off203_eq k
theorem off50_eq (k : Fin k0_t2_loop.trips) : k0_off50 k = cellOff k.val := off34_eq k
theorem off219_eq (k : Fin k0_t2_loop.trips) : k0_off219 k = cellOff (k.val + 32) := off203_eq k
theorem off54_eq (k : Fin k0_t2_loop.trips) : k0_off54 k = cellOff k.val := off34_eq k
theorem off223_eq (k : Fin k0_t2_loop.trips) : k0_off223 k = cellOff (k.val + 32) := off203_eq k
theorem off58_eq (k : Fin k0_t2_loop.trips) : k0_off58 k = cellOff k.val := off34_eq k
theorem off227_eq (k : Fin k0_t2_loop.trips) : k0_off227 k = cellOff (k.val + 32) := off203_eq k
theorem off62_eq (k : Fin k0_t2_loop.trips) : k0_off62 k = cellOff k.val := off34_eq k
theorem off231_eq (k : Fin k0_t2_loop.trips) : k0_off231 k = cellOff (k.val + 32) := off203_eq k
theorem off33_eq (k : Fin k0_t2_loop.trips) : k0_off33 k = idOff (8 * k.val + 0) := ids_of (tword k) 0 (by decide) (trip_lt k)
theorem off35_eq (k : Fin k0_t2_loop.trips) : k0_off35 k = rowOff (8 * k.val + 0) := row_of (congrFun (off34_eq k) 0) 0 (by decide)
theorem off202_eq (k : Fin k0_t2_loop.trips) : k0_off202 k = idOff (8 * (k.val + 32) + 0) := ids_of (tword32 k) 0 (by decide) (trip32_lt k)
theorem off204_eq (k : Fin k0_t2_loop.trips) : k0_off204 k = rowOff (8 * (k.val + 32) + 0) := row_of (congrFun (off203_eq k) 0) 0 (by decide)
theorem off37_eq (k : Fin k0_t2_loop.trips) : k0_off37 k = idOff (8 * k.val + 1) := ids_of (tword k) 1 (by decide) (trip_lt k)
theorem off39_eq (k : Fin k0_t2_loop.trips) : k0_off39 k = rowOff (8 * k.val + 1) := row_of (congrFun (off34_eq k) 0) 1 (by decide)
theorem off206_eq (k : Fin k0_t2_loop.trips) : k0_off206 k = idOff (8 * (k.val + 32) + 1) := ids_of (tword32 k) 1 (by decide) (trip32_lt k)
theorem off208_eq (k : Fin k0_t2_loop.trips) : k0_off208 k = rowOff (8 * (k.val + 32) + 1) := row_of (congrFun (off203_eq k) 0) 1 (by decide)
theorem off41_eq (k : Fin k0_t2_loop.trips) : k0_off41 k = idOff (8 * k.val + 2) := ids_of (tword k) 2 (by decide) (trip_lt k)
theorem off43_eq (k : Fin k0_t2_loop.trips) : k0_off43 k = rowOff (8 * k.val + 2) := row_of (congrFun (off34_eq k) 0) 2 (by decide)
theorem off210_eq (k : Fin k0_t2_loop.trips) : k0_off210 k = idOff (8 * (k.val + 32) + 2) := ids_of (tword32 k) 2 (by decide) (trip32_lt k)
theorem off212_eq (k : Fin k0_t2_loop.trips) : k0_off212 k = rowOff (8 * (k.val + 32) + 2) := row_of (congrFun (off203_eq k) 0) 2 (by decide)
theorem off45_eq (k : Fin k0_t2_loop.trips) : k0_off45 k = idOff (8 * k.val + 3) := ids_of (tword k) 3 (by decide) (trip_lt k)
theorem off47_eq (k : Fin k0_t2_loop.trips) : k0_off47 k = rowOff (8 * k.val + 3) := row_of (congrFun (off34_eq k) 0) 3 (by decide)
theorem off214_eq (k : Fin k0_t2_loop.trips) : k0_off214 k = idOff (8 * (k.val + 32) + 3) := ids_of (tword32 k) 3 (by decide) (trip32_lt k)
theorem off216_eq (k : Fin k0_t2_loop.trips) : k0_off216 k = rowOff (8 * (k.val + 32) + 3) := row_of (congrFun (off203_eq k) 0) 3 (by decide)
theorem off49_eq (k : Fin k0_t2_loop.trips) : k0_off49 k = idOff (8 * k.val + 4) := ids_of (tword k) 4 (by decide) (trip_lt k)
theorem off51_eq (k : Fin k0_t2_loop.trips) : k0_off51 k = rowOff (8 * k.val + 4) := row_of (congrFun (off34_eq k) 0) 4 (by decide)
theorem off218_eq (k : Fin k0_t2_loop.trips) : k0_off218 k = idOff (8 * (k.val + 32) + 4) := ids_of (tword32 k) 4 (by decide) (trip32_lt k)
theorem off220_eq (k : Fin k0_t2_loop.trips) : k0_off220 k = rowOff (8 * (k.val + 32) + 4) := row_of (congrFun (off203_eq k) 0) 4 (by decide)
theorem off53_eq (k : Fin k0_t2_loop.trips) : k0_off53 k = idOff (8 * k.val + 5) := ids_of (tword k) 5 (by decide) (trip_lt k)
theorem off55_eq (k : Fin k0_t2_loop.trips) : k0_off55 k = rowOff (8 * k.val + 5) := row_of (congrFun (off34_eq k) 0) 5 (by decide)
theorem off222_eq (k : Fin k0_t2_loop.trips) : k0_off222 k = idOff (8 * (k.val + 32) + 5) := ids_of (tword32 k) 5 (by decide) (trip32_lt k)
theorem off224_eq (k : Fin k0_t2_loop.trips) : k0_off224 k = rowOff (8 * (k.val + 32) + 5) := row_of (congrFun (off203_eq k) 0) 5 (by decide)
theorem off57_eq (k : Fin k0_t2_loop.trips) : k0_off57 k = idOff (8 * k.val + 6) := ids_of (tword k) 6 (by decide) (trip_lt k)
theorem off59_eq (k : Fin k0_t2_loop.trips) : k0_off59 k = rowOff (8 * k.val + 6) := row_of (congrFun (off34_eq k) 0) 6 (by decide)
theorem off226_eq (k : Fin k0_t2_loop.trips) : k0_off226 k = idOff (8 * (k.val + 32) + 6) := ids_of (tword32 k) 6 (by decide) (trip32_lt k)
theorem off228_eq (k : Fin k0_t2_loop.trips) : k0_off228 k = rowOff (8 * (k.val + 32) + 6) := row_of (congrFun (off203_eq k) 0) 6 (by decide)
theorem off61_eq (k : Fin k0_t2_loop.trips) : k0_off61 k = idOff (8 * k.val + 7) := ids_of (tword k) 7 (by decide) (trip_lt k)
theorem off63_eq (k : Fin k0_t2_loop.trips) : k0_off63 k = rowOff (8 * k.val + 7) := row_of (congrFun (off34_eq k) 0) 7 (by decide)
theorem off230_eq (k : Fin k0_t2_loop.trips) : k0_off230 k = idOff (8 * (k.val + 32) + 7) := ids_of (tword32 k) 7 (by decide) (trip32_lt k)
theorem off232_eq (k : Fin k0_t2_loop.trips) : k0_off232 k = rowOff (8 * (k.val + 32) + 7) := row_of (congrFun (off203_eq k) 0) 7 (by decide)
theorem off68_eq0 (k : Fin k0_t2_loop.trips) : k0_off68 k 0#32 = idOff (8 * k.val + 0) := pairIds_of (tword k) 0 0 (by decide) (trip_lt k)
theorem off69_eq0 (k : Fin k0_t2_loop.trips) : k0_off69 k 0#32 = rowOff (8 * k.val + 0) := pairRow_of (congrFun (off34_eq k) 0) 0 0 (by decide)
theorem off68_eq1 (k : Fin k0_t2_loop.trips) : k0_off68 k 1#32 = idOff (8 * k.val + 1) := pairIds_of (tword k) 0 1 (by decide) (trip_lt k)
theorem off69_eq1 (k : Fin k0_t2_loop.trips) : k0_off69 k 1#32 = rowOff (8 * k.val + 1) := pairRow_of (congrFun (off34_eq k) 0) 0 1 (by decide)
theorem off95_eq0 (k : Fin k0_t2_loop.trips) : k0_off95 k 0#32 = idOff (8 * k.val + 2) := pairIds_of (tword k) 2 0 (by decide) (trip_lt k)
theorem off96_eq0 (k : Fin k0_t2_loop.trips) : k0_off96 k 0#32 = rowOff (8 * k.val + 2) := pairRow_of (congrFun (off34_eq k) 0) 2 0 (by decide)
theorem off95_eq1 (k : Fin k0_t2_loop.trips) : k0_off95 k 1#32 = idOff (8 * k.val + 3) := pairIds_of (tword k) 2 1 (by decide) (trip_lt k)
theorem off96_eq1 (k : Fin k0_t2_loop.trips) : k0_off96 k 1#32 = rowOff (8 * k.val + 3) := pairRow_of (congrFun (off34_eq k) 0) 2 1 (by decide)
theorem off122_eq0 (k : Fin k0_t2_loop.trips) : k0_off122 k 0#32 = idOff (8 * k.val + 4) := pairIds_of (tword k) 4 0 (by decide) (trip_lt k)
theorem off123_eq0 (k : Fin k0_t2_loop.trips) : k0_off123 k 0#32 = rowOff (8 * k.val + 4) := pairRow_of (congrFun (off34_eq k) 0) 4 0 (by decide)
theorem off122_eq1 (k : Fin k0_t2_loop.trips) : k0_off122 k 1#32 = idOff (8 * k.val + 5) := pairIds_of (tword k) 4 1 (by decide) (trip_lt k)
theorem off123_eq1 (k : Fin k0_t2_loop.trips) : k0_off123 k 1#32 = rowOff (8 * k.val + 5) := pairRow_of (congrFun (off34_eq k) 0) 4 1 (by decide)
theorem off149_eq0 (k : Fin k0_t2_loop.trips) : k0_off149 k 0#32 = idOff (8 * k.val + 6) := pairIds_of (tword k) 6 0 (by decide) (trip_lt k)
theorem off150_eq0 (k : Fin k0_t2_loop.trips) : k0_off150 k 0#32 = rowOff (8 * k.val + 6) := pairRow_of (congrFun (off34_eq k) 0) 6 0 (by decide)
theorem off149_eq1 (k : Fin k0_t2_loop.trips) : k0_off149 k 1#32 = idOff (8 * k.val + 7) := pairIds_of (tword k) 6 1 (by decide) (trip_lt k)
theorem off150_eq1 (k : Fin k0_t2_loop.trips) : k0_off150 k 1#32 = rowOff (8 * k.val + 7) := pairRow_of (congrFun (off34_eq k) 0) 6 1 (by decide)
theorem off67_eq (k : Fin k0_t2_loop.trips) : k0_off67 k = slotAt k.val 0 0 := congrArg (fun b => ![b, 0, 0, 0]) (congrFun (off65_eq k) 0)
theorem off72_eq (k : Fin k0_t2_loop.trips) : k0_off72 k = slotAt k.val 0 0 := congrArg (fun b => ![b, 0, 0, 0]) (congrFun (off65_eq k) 0)
theorem off73_eq (k : Fin k0_t2_loop.trips) : k0_off73 k = slotAt k.val 0 0 := congrArg (fun b => ![b, 0, 0, 0]) (congrFun (off65_eq k) 0)
theorem off76_eq (k : Fin k0_t2_loop.trips) : k0_off76 k = slotAt k.val 8 0 := congrArg (fun b => ![b, 8, 0, 0]) (congrFun (off65_eq k) 0)
theorem off79_eq (k : Fin k0_t2_loop.trips) : k0_off79 k = slotAt k.val 16 0 := congrArg (fun b => ![b, 16, 0, 0]) (congrFun (off65_eq k) 0)
theorem off82_eq (k : Fin k0_t2_loop.trips) : k0_off82 k = slotAt k.val 24 0 := congrArg (fun b => ![b, 24, 0, 0]) (congrFun (off65_eq k) 0)
theorem off85_eq (k : Fin k0_t2_loop.trips) : k0_off85 k = slotAt k.val 32 0 := congrArg (fun b => ![b, 32, 0, 0]) (congrFun (off65_eq k) 0)
theorem off88_eq (k : Fin k0_t2_loop.trips) : k0_off88 k = slotAt k.val 40 0 := congrArg (fun b => ![b, 40, 0, 0]) (congrFun (off65_eq k) 0)
theorem off91_eq (k : Fin k0_t2_loop.trips) : k0_off91 k = slotAt k.val 48 0 := congrArg (fun b => ![b, 48, 0, 0]) (congrFun (off65_eq k) 0)
theorem off94_eq (k : Fin k0_t2_loop.trips) : k0_off94 k = slotAt k.val 56 0 := congrArg (fun b => ![b, 56, 0, 0]) (congrFun (off65_eq k) 0)
theorem off99_eq (k : Fin k0_t2_loop.trips) : k0_off99 k = slotAt k.val 0 0 := congrArg (fun b => ![b, 0, 0, 0]) (congrFun (off65_eq k) 0)
theorem off100_eq (k : Fin k0_t2_loop.trips) : k0_off100 k = slotAt k.val 0 2 := congrArg (fun b => ![b, 0, 2, 0]) (congrFun (off65_eq k) 0)
theorem off103_eq (k : Fin k0_t2_loop.trips) : k0_off103 k = slotAt k.val 8 2 := congrArg (fun b => ![b, 8, 2, 0]) (congrFun (off65_eq k) 0)
theorem off106_eq (k : Fin k0_t2_loop.trips) : k0_off106 k = slotAt k.val 16 2 := congrArg (fun b => ![b, 16, 2, 0]) (congrFun (off65_eq k) 0)
theorem off109_eq (k : Fin k0_t2_loop.trips) : k0_off109 k = slotAt k.val 24 2 := congrArg (fun b => ![b, 24, 2, 0]) (congrFun (off65_eq k) 0)
theorem off112_eq (k : Fin k0_t2_loop.trips) : k0_off112 k = slotAt k.val 32 2 := congrArg (fun b => ![b, 32, 2, 0]) (congrFun (off65_eq k) 0)
theorem off115_eq (k : Fin k0_t2_loop.trips) : k0_off115 k = slotAt k.val 40 2 := congrArg (fun b => ![b, 40, 2, 0]) (congrFun (off65_eq k) 0)
theorem off118_eq (k : Fin k0_t2_loop.trips) : k0_off118 k = slotAt k.val 48 2 := congrArg (fun b => ![b, 48, 2, 0]) (congrFun (off65_eq k) 0)
theorem off121_eq (k : Fin k0_t2_loop.trips) : k0_off121 k = slotAt k.val 56 2 := congrArg (fun b => ![b, 56, 2, 0]) (congrFun (off65_eq k) 0)
theorem off126_eq (k : Fin k0_t2_loop.trips) : k0_off126 k = slotAt k.val 0 0 := congrArg (fun b => ![b, 0, 0, 0]) (congrFun (off65_eq k) 0)
theorem off127_eq (k : Fin k0_t2_loop.trips) : k0_off127 k = slotAt k.val 0 4 := congrArg (fun b => ![b, 0, 4, 0]) (congrFun (off65_eq k) 0)
theorem off130_eq (k : Fin k0_t2_loop.trips) : k0_off130 k = slotAt k.val 8 4 := congrArg (fun b => ![b, 8, 4, 0]) (congrFun (off65_eq k) 0)
theorem off133_eq (k : Fin k0_t2_loop.trips) : k0_off133 k = slotAt k.val 16 4 := congrArg (fun b => ![b, 16, 4, 0]) (congrFun (off65_eq k) 0)
theorem off136_eq (k : Fin k0_t2_loop.trips) : k0_off136 k = slotAt k.val 24 4 := congrArg (fun b => ![b, 24, 4, 0]) (congrFun (off65_eq k) 0)
theorem off139_eq (k : Fin k0_t2_loop.trips) : k0_off139 k = slotAt k.val 32 4 := congrArg (fun b => ![b, 32, 4, 0]) (congrFun (off65_eq k) 0)
theorem off142_eq (k : Fin k0_t2_loop.trips) : k0_off142 k = slotAt k.val 40 4 := congrArg (fun b => ![b, 40, 4, 0]) (congrFun (off65_eq k) 0)
theorem off145_eq (k : Fin k0_t2_loop.trips) : k0_off145 k = slotAt k.val 48 4 := congrArg (fun b => ![b, 48, 4, 0]) (congrFun (off65_eq k) 0)
theorem off148_eq (k : Fin k0_t2_loop.trips) : k0_off148 k = slotAt k.val 56 4 := congrArg (fun b => ![b, 56, 4, 0]) (congrFun (off65_eq k) 0)
theorem off153_eq (k : Fin k0_t2_loop.trips) : k0_off153 k = slotAt k.val 0 0 := congrArg (fun b => ![b, 0, 0, 0]) (congrFun (off65_eq k) 0)
theorem off154_eq (k : Fin k0_t2_loop.trips) : k0_off154 k = slotAt k.val 0 6 := congrArg (fun b => ![b, 0, 6, 0]) (congrFun (off65_eq k) 0)
theorem off157_eq (k : Fin k0_t2_loop.trips) : k0_off157 k = slotAt k.val 8 6 := congrArg (fun b => ![b, 8, 6, 0]) (congrFun (off65_eq k) 0)
theorem off160_eq (k : Fin k0_t2_loop.trips) : k0_off160 k = slotAt k.val 16 6 := congrArg (fun b => ![b, 16, 6, 0]) (congrFun (off65_eq k) 0)
theorem off163_eq (k : Fin k0_t2_loop.trips) : k0_off163 k = slotAt k.val 24 6 := congrArg (fun b => ![b, 24, 6, 0]) (congrFun (off65_eq k) 0)
theorem off166_eq (k : Fin k0_t2_loop.trips) : k0_off166 k = slotAt k.val 32 6 := congrArg (fun b => ![b, 32, 6, 0]) (congrFun (off65_eq k) 0)
theorem off169_eq (k : Fin k0_t2_loop.trips) : k0_off169 k = slotAt k.val 40 6 := congrArg (fun b => ![b, 40, 6, 0]) (congrFun (off65_eq k) 0)
theorem off172_eq (k : Fin k0_t2_loop.trips) : k0_off172 k = slotAt k.val 48 6 := congrArg (fun b => ![b, 48, 6, 0]) (congrFun (off65_eq k) 0)
theorem off175_eq (k : Fin k0_t2_loop.trips) : k0_off175 k = slotAt k.val 56 6 := congrArg (fun b => ![b, 56, 6, 0]) (congrFun (off65_eq k) 0)
theorem off178_eq (k : Fin k0_t2_loop.trips) : k0_off178 k = slotAt k.val 0 0 := congrArg (fun b => ![b, 0, 0, 0]) (congrFun (off65_eq k) 0)
theorem off179_eq (k : Fin k0_t2_loop.trips) : k0_off179 k = slotAt k.val 8 0 := congrArg (fun b => ![b, 8, 0, 0]) (congrFun (off65_eq k) 0)
theorem off180_eq (k : Fin k0_t2_loop.trips) : k0_off180 k = slotAt k.val 16 0 := congrArg (fun b => ![b, 16, 0, 0]) (congrFun (off65_eq k) 0)
theorem off181_eq (k : Fin k0_t2_loop.trips) : k0_off181 k = slotAt k.val 24 0 := congrArg (fun b => ![b, 24, 0, 0]) (congrFun (off65_eq k) 0)
theorem off182_eq (k : Fin k0_t2_loop.trips) : k0_off182 k = slotAt k.val 32 0 := congrArg (fun b => ![b, 32, 0, 0]) (congrFun (off65_eq k) 0)
theorem off183_eq (k : Fin k0_t2_loop.trips) : k0_off183 k = slotAt k.val 40 0 := congrArg (fun b => ![b, 40, 0, 0]) (congrFun (off65_eq k) 0)
theorem off184_eq (k : Fin k0_t2_loop.trips) : k0_off184 k = slotAt k.val 48 0 := congrArg (fun b => ![b, 48, 0, 0]) (congrFun (off65_eq k) 0)
theorem off185_eq (k : Fin k0_t2_loop.trips) : k0_off185 k = slotAt k.val 56 0 := congrArg (fun b => ![b, 56, 0, 0]) (congrFun (off65_eq k) 0)
theorem off186_eq (k : Fin k0_t2_loop.trips) : k0_off186 k = slotAt k.val 0 2 := congrArg (fun b => ![b, 0, 2, 0]) (congrFun (off65_eq k) 0)
theorem off187_eq (k : Fin k0_t2_loop.trips) : k0_off187 k = slotAt k.val 8 2 := congrArg (fun b => ![b, 8, 2, 0]) (congrFun (off65_eq k) 0)
theorem off188_eq (k : Fin k0_t2_loop.trips) : k0_off188 k = slotAt k.val 16 2 := congrArg (fun b => ![b, 16, 2, 0]) (congrFun (off65_eq k) 0)
theorem off189_eq (k : Fin k0_t2_loop.trips) : k0_off189 k = slotAt k.val 24 2 := congrArg (fun b => ![b, 24, 2, 0]) (congrFun (off65_eq k) 0)
theorem off190_eq (k : Fin k0_t2_loop.trips) : k0_off190 k = slotAt k.val 32 2 := congrArg (fun b => ![b, 32, 2, 0]) (congrFun (off65_eq k) 0)
theorem off191_eq (k : Fin k0_t2_loop.trips) : k0_off191 k = slotAt k.val 40 2 := congrArg (fun b => ![b, 40, 2, 0]) (congrFun (off65_eq k) 0)
theorem off192_eq (k : Fin k0_t2_loop.trips) : k0_off192 k = slotAt k.val 48 2 := congrArg (fun b => ![b, 48, 2, 0]) (congrFun (off65_eq k) 0)
theorem off193_eq (k : Fin k0_t2_loop.trips) : k0_off193 k = slotAt k.val 56 2 := congrArg (fun b => ![b, 56, 2, 0]) (congrFun (off65_eq k) 0)
theorem off194_eq (k : Fin k0_t2_loop.trips) : k0_off194 k = slotAt k.val 0 4 := congrArg (fun b => ![b, 0, 4, 0]) (congrFun (off65_eq k) 0)
theorem off195_eq (k : Fin k0_t2_loop.trips) : k0_off195 k = slotAt k.val 8 4 := congrArg (fun b => ![b, 8, 4, 0]) (congrFun (off65_eq k) 0)
theorem off196_eq (k : Fin k0_t2_loop.trips) : k0_off196 k = slotAt k.val 16 4 := congrArg (fun b => ![b, 16, 4, 0]) (congrFun (off65_eq k) 0)
theorem off197_eq (k : Fin k0_t2_loop.trips) : k0_off197 k = slotAt k.val 24 4 := congrArg (fun b => ![b, 24, 4, 0]) (congrFun (off65_eq k) 0)
theorem off198_eq (k : Fin k0_t2_loop.trips) : k0_off198 k = slotAt k.val 32 4 := congrArg (fun b => ![b, 32, 4, 0]) (congrFun (off65_eq k) 0)
theorem off199_eq (k : Fin k0_t2_loop.trips) : k0_off199 k = slotAt k.val 40 4 := congrArg (fun b => ![b, 40, 4, 0]) (congrFun (off65_eq k) 0)
theorem off200_eq (k : Fin k0_t2_loop.trips) : k0_off200 k = slotAt k.val 48 4 := congrArg (fun b => ![b, 48, 4, 0]) (congrFun (off65_eq k) 0)
theorem off201_eq (k : Fin k0_t2_loop.trips) : k0_off201 k = slotAt k.val 56 4 := congrArg (fun b => ![b, 56, 4, 0]) (congrFun (off65_eq k) 0)

end Cert.Proof.RingIdeal
-- ==== Proof.Names.lean ====
module

public import proofs.«01_k».proof.Proof.OffsIdeal

/-! The names the proof holds resources by: rows of the gather buffer, rows of the packed table, slots of the two
tile buffers, blocks of the two results, and the semaphores. -/

@[expose] public section

noncomputable section

namespace Cert.Proof.RingIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

abbrev idM : Memref sig .tc .smem S16384 .i32 := Memref.whole main_v3
abbrev wordM : Memref sig .tc .hbm S8000x8192 .i32 := Memref.whole main_v2
abbrev outM : Memref sig .tc .hbm S1048576x128 .bf16 := Memref.whole main_v6_0
abbrev embM : Memref sig .tc .hbm S1048576x128 .bf16 := Memref.whole main_v6_1
abbrev rowM : Memref sig .tc .vmem S256x64x128 .i32 := Memref.whole cc0_scratch0
abbrev ebM : Memref sig .tc .vmem S4x64x8x128 .bf16 := Memref.whole cc0_scratch1
abbrev obM : Memref sig .tc .vmem S4x64x8x128 .bf16 := Memref.whole cc0_scratch2

theorem rowOff_inb (j : ℕ) : ∀ a, rowOff j a + S1x64x128.size a ≤ S256x64x128.size a := by
  intro a; fin_cases a
  · show j % 256 + 1 ≤ 256; omega
  · show 0 + 64 ≤ 64; omega
  · show 0 + 128 ≤ 128; omega
theorem rowOff_lead (j : ℕ) : (Rect.unit (s := S256x64x128) (rowOff j) S1x64x128.size (rowOff_inb j)).LeadingBlock :=
  ⟨fun _ => rfl, Or.inl ⟨le_refl _, Or.inr fun a => by fin_cases a <;> exact ⟨rfl, rfl⟩⟩⟩
theorem cellOff_inb (u : ℕ) : ∀ a, cellOff u a + S1.size a ≤ S32.size a := by
  intro a; fin_cases a; show u % 32 + 1 ≤ 32; omega
theorem scellOff_inb (u : ℕ) : ∀ a, scellOff u a + S1.size a ≤ S4.size a := by
  intro a; fin_cases a; show u % 4 + 1 ≤ 4; omega
theorem slotAt_inb (u : ℕ) : ∀ a, slotAt u 0 0 a + S1x64x8x128.size a ≤ S4x64x8x128.size a := by
  intro a; fin_cases a
  · show u % 4 + 1 ≤ 4; omega
  · show 0 + 64 ≤ 64; omega
  · show 0 + 8 ≤ 8; omega
  · show 0 + 128 ≤ 128; omega
theorem slotAt_lead (u : ℕ) : (Rect.unit (s := S4x64x8x128) (slotAt u 0 0) S1x64x8x128.size (slotAt_inb u)).LeadingBlock :=
  ⟨fun _ => rfl, Or.inl ⟨le_refl _, Or.inr fun a => by fin_cases a <;> exact ⟨rfl, rfl⟩⟩⟩
abbrev wOff (v : BitVec 32) : Fin 2 → Nat := ![v.toNat / 4 % 8000, 0]
theorem wOff_inb (v : BitVec 32) : ∀ a, wOff v a + S1x8192.size a ≤ S8000x8192.size a := by
  intro a; fin_cases a
  · show v.toNat / 4 % 8000 + 1 ≤ 8000; omega
  · show 0 + 8192 ≤ 8192; omega
/-- Tile `u`'s block of a result, the tile number read modulo the number of tiles. -/
abbrev rOff (u : ℕ) : Fin 2 → Nat := ![512 * (u % 2048), 0]
theorem rOff_inb (u : ℕ) : ∀ a, rOff u a + S512x128.size a ≤ S1048576x128.size a := by
  intro a; fin_cases a
  · show 512 * (u % 2048) + 512 ≤ 1048576; omega
  · show 0 + 128 ≤ 128; omega

/-- Gathered row `j` as the body reads it, and as the gather's destination. -/
def qrow (j : ℕ) : Memref sig .tc .vmem S64x128 .i32 :=
  (rowM.slice (Rect.unit (s := S256x64x128) (rowOff j) S1x64x128.size (rowOff_inb j)) (fun _ => rfl)).squeeze S64x128 squeezes_S1x64x128_S64x128
def qline (j : ℕ) : Memref sig .tc .vmem S1x8192 .i32 :=
  (qrow j).reshape S1x8192 reshapes_S64x128_S1x8192.1 reshapes_S64x128_S1x8192.2
    ((View.contiguous_reshape _ _).mpr ((Memref.isWhole_whole cc0_scratch0).contiguous.slice _ (rowOff_lead j)))
/-- The semaphore of tile `u`'s gathers, and of its stores of either result. -/
def qcell (u : ℕ) : DmaSems sig S_ := (cc0_scratch3.slice (Rect.unit (s := S32) (cellOff u) S1.size (cellOff_inb u))).squeeze S_ squeezes_S1_S_
def ecell (u : ℕ) : DmaSems sig S_ := (cc0_scratch4.slice (Rect.unit (s := S4) (scellOff u) S1.size (scellOff_inb u))).squeeze S_ squeezes_S1_S_
def ocell (u : ℕ) : DmaSems sig S_ := (cc0_scratch5.slice (Rect.unit (s := S4) (scellOff u) S1.size (scellOff_inb u))).squeeze S_ squeezes_S1_S_
/-- The packed table's row that holds the codes of id `v`. -/
def wrow (v : BitVec 32) : Memref sig .tc .hbm S1x8192 .i32 :=
  wordM.slice (Rect.unit (s := S8000x8192) (wOff v) S1x8192.size (wOff_inb v)) (fun _ => rfl)

/-- Tile `u`'s slot of either tile buffer as the body reads it, and as the stores' source; tile `u`'s block of either
    result. -/
def eslot (u : ℕ) : Memref sig .tc .vmem S64x8x128 .bf16 :=
  (ebM.slice (Rect.unit (s := S4x64x8x128) (slotAt u 0 0) S1x64x8x128.size (slotAt_inb u)) (fun _ => rfl)).squeeze S64x8x128 squeezes_S1x64x8x128_S64x8x128
def oslot (u : ℕ) : Memref sig .tc .vmem S64x8x128 .bf16 :=
  (obM.slice (Rect.unit (s := S4x64x8x128) (slotAt u 0 0) S1x64x8x128.size (slotAt_inb u)) (fun _ => rfl)).squeeze S64x8x128 squeezes_S1x64x8x128_S64x8x128
def esrc (u : ℕ) : Memref sig .tc .vmem S512x128 .bf16 :=
  (eslot u).reshape S512x128 reshapes_S64x8x128_S512x128.1 reshapes_S64x8x128_S512x128.2
    ((View.contiguous_reshape _ _).mpr ((Memref.isWhole_whole cc0_scratch1).contiguous.slice _ (slotAt_lead u)))
def osrc (u : ℕ) : Memref sig .tc .vmem S512x128 .bf16 :=
  (oslot u).reshape S512x128 reshapes_S64x8x128_S512x128.1 reshapes_S64x8x128_S512x128.2
    ((View.contiguous_reshape _ _).mpr ((Memref.isWhole_whole cc0_scratch2).contiguous.slice _ (slotAt_lead u)))
def eblk (u : ℕ) : Memref sig .tc .hbm S512x128 .bf16 :=
  embM.slice (Rect.unit (s := S1048576x128) (rOff u) S512x128.size (rOff_inb u)) (fun _ => rfl)
def oblk (u : ℕ) : Memref sig .tc .hbm S512x128 .bf16 :=
  outM.slice (Rect.unit (s := S1048576x128) (rOff u) S512x128.size (rOff_inb u)) (fun _ => rfl)

theorem shr2_toNat {v : BitVec 32} (h : (Scalar.shrsi v 2#32).toNat < 8000) : (Scalar.shrsi v 2#32).toNat = v.toNat / 4 := by
  have e1 : Scalar.shrsi v 2#32 = v.sshiftRight 2 := rfl
  rw [e1] at h ⊢
  by_cases hm : v.msb = true
  · exfalso
    rw [BitVec.sshiftRight_eq_of_msb_true hm, BitVec.toNat_not, BitVec.toNat_ushiftRight, BitVec.toNat_not, Nat.shiftRight_eq_div_pow] at h
    omega
  · rw [BitVec.sshiftRight_eq_of_msb_false (by simpa using hm), BitVec.toNat_ushiftRight, Nat.shiftRight_eq_div_pow]
theorem wordOff_eq {v : BitVec 32} (hh : ∀ a, (![(Scalar.shrsi v 2#32).toNat, 0] : Fin 2 → ℕ) a + S1x8192.size a ≤ S8000x8192.size a) :
    (![(Scalar.shrsi v 2#32).toNat, 0] : Fin 2 → ℕ) = wOff v := by
  have h0 : (Scalar.shrsi v 2#32).toNat + 1 ≤ 8000 := hh 0
  have e := shr2_toNat (v := v) (by omega)
  exact congrArg (fun b => ![b, 0]) (by omega)
theorem blk_of {off : Fin 2 → ℕ} {u : ℕ} (e : off = blkOff u) (hu : u < 2048) : off = rOff u := by
  rw [e]; exact congrArg (fun b => ![512 * b, 0]) (Nat.mod_eq_of_lt hu).symm
theorem trip_lt' (k : Fin k0_t2_loop.trips) : k.val < 2048 := lt_of_lt_of_eq k.isLt t2_trips

theorem row_congr {off : Fin 3 → ℕ} {j : ℕ} (e : off = rowOff j) (hh hs) :
    (rowM.slice (Rect.unit (s := S256x64x128) off S1x64x128.size hh) hs).squeeze S64x128 squeezes_S1x64x128_S64x128 = qrow j :=
  congrArg (fun M : Memref sig .tc .vmem S1x64x128 .i32 => M.squeeze S64x128 squeezes_S1x64x128_S64x128) (Memref.slice_unit_congr _ e _ _ _ _)
theorem qcell_congr {off : Fin 1 → ℕ} {u : ℕ} (e : off = cellOff u) (hh) :
    (cc0_scratch3.slice (Rect.unit (s := S32) off S1.size hh)).squeeze S_ squeezes_S1_S_ = qcell u :=
  congrArg (fun A : DmaSems sig S1 => A.squeeze S_ squeezes_S1_S_) (SemArray.slice_unit_congr _ e _ _)
theorem ecell_congr {off : Fin 1 → ℕ} {u : ℕ} (e : off = scellOff u) (hh) :
    (cc0_scratch4.slice (Rect.unit (s := S4) off S1.size hh)).squeeze S_ squeezes_S1_S_ = ecell u :=
  congrArg (fun A : DmaSems sig S1 => A.squeeze S_ squeezes_S1_S_) (SemArray.slice_unit_congr _ e _ _)
theorem ocell_congr {off : Fin 1 → ℕ} {u : ℕ} (e : off = scellOff u) (hh) :
    (cc0_scratch5.slice (Rect.unit (s := S4) off S1.size hh)).squeeze S_ squeezes_S1_S_ = ocell u :=
  congrArg (fun A : DmaSems sig S1 => A.squeeze S_ squeezes_S1_S_) (SemArray.slice_unit_congr _ e _ _)
theorem word_congr {off : Fin 2 → ℕ} {v : BitVec 32} (e : off = wOff v) (hh hs) :
    wordM.slice (Rect.unit (s := S8000x8192) off S1x8192.size hh) hs = wrow v := Memref.slice_unit_congr _ e _ _ _ (fun _ => rfl)
theorem eslot_congr {off : Fin 4 → ℕ} {u : ℕ} (e : off = slotAt u 0 0) (hh hs) :
    (ebM.slice (Rect.unit (s := S4x64x8x128) off S1x64x8x128.size hh) hs).squeeze S64x8x128 squeezes_S1x64x8x128_S64x8x128 = eslot u :=
  congrArg (fun M : Memref sig .tc .vmem S1x64x8x128 .bf16 => M.squeeze S64x8x128 squeezes_S1x64x8x128_S64x8x128) (Memref.slice_unit_congr _ e _ _ _ _)
theorem oslot_congr {off : Fin 4 → ℕ} {u : ℕ} (e : off = slotAt u 0 0) (hh hs) :
    (obM.slice (Rect.unit (s := S4x64x8x128) off S1x64x8x128.size hh) hs).squeeze S64x8x128 squeezes_S1x64x8x128_S64x8x128 = oslot u :=
  congrArg (fun M : Memref sig .tc .vmem S1x64x8x128 .bf16 => M.squeeze S64x8x128 squeezes_S1x64x8x128_S64x8x128) (Memref.slice_unit_congr _ e _ _ _ _)
theorem eblk_congr {off : Fin 2 → ℕ} {u : ℕ} (e : off = rOff u) (hh hs) :
    embM.slice (Rect.unit (s := S1048576x128) off S512x128.size hh) hs = eblk u := Memref.slice_unit_congr _ e _ _ _ (fun _ => rfl)
theorem oblk_congr {off : Fin 2 → ℕ} {u : ℕ} (e : off = rOff u) (hh hs) :
    outM.slice (Rect.unit (s := S1048576x128) off S512x128.size hh) hs = oblk u := Memref.slice_unit_congr _ e _ _ _ (fun _ => rfl)

/-! ### The body's slices are those names -/

@[sl_canon] theorem qline_mk (j : ℕ) (h1 h2 h3) : (qrow j).reshape S1x8192 h1 h2 h3 = qline j := rfl
@[sl_canon] theorem esrc_mk (u : ℕ) (h1 h2 h3) : (eslot u).reshape S512x128 h1 h2 h3 = esrc u := rfl
@[sl_canon] theorem osrc_mk (u : ℕ) (h1 h2 h3) : (oslot u).reshape S512x128 h1 h2 h3 = osrc u := rfl
@[sl_canon] theorem qcell2 (k : Fin k0_t1_loop.trips) (hh) :
    (cc0_scratch3.slice (Rect.unit (s := S32) (k0_off2 k) S1.size hh)).squeeze S_ squeezes_S1_S_ = qcell (k.val) := qcell_congr (off2_eq k) _
@[sl_canon] theorem row3 (k : Fin k0_t1_loop.trips) (hh hs) :
    (rowM.slice (Rect.unit (s := S256x64x128) (k0_off3 k) S1x64x128.size hh) hs).squeeze S64x128 squeezes_S1x64x128_S64x128 = qrow (8 * k.val + 0) := row_congr (off3_eq k) _ _
@[sl_canon] theorem word4 (v : BitVec 32) (hh hs) :
    wordM.slice (Rect.unit (s := S8000x8192) (k0_off4 v) S1x8192.size hh) hs = wrow v := word_congr (wordOff_eq hh) _ _
@[sl_canon] theorem qcell6 (k : Fin k0_t1_loop.trips) (hh) :
    (cc0_scratch3.slice (Rect.unit (s := S32) (k0_off6 k) S1.size hh)).squeeze S_ squeezes_S1_S_ = qcell (k.val) := qcell_congr (off6_eq k) _
@[sl_canon] theorem row7 (k : Fin k0_t1_loop.trips) (hh hs) :
    (rowM.slice (Rect.unit (s := S256x64x128) (k0_off7 k) S1x64x128.size hh) hs).squeeze S64x128 squeezes_S1x64x128_S64x128 = qrow (8 * k.val + 1) := row_congr (off7_eq k) _ _
@[sl_canon] theorem word8 (v : BitVec 32) (hh hs) :
    wordM.slice (Rect.unit (s := S8000x8192) (k0_off8 v) S1x8192.size hh) hs = wrow v := word_congr (wordOff_eq hh) _ _
@[sl_canon] theorem qcell10 (k : Fin k0_t1_loop.trips) (hh) :
    (cc0_scratch3.slice (Rect.unit (s := S32) (k0_off10 k) S1.size hh)).squeeze S_ squeezes_S1_S_ = qcell (k.val) := qcell_congr (off10_eq k) _
@[sl_canon] theorem row11 (k : Fin k0_t1_loop.trips) (hh hs) :
    (rowM.slice (Rect.unit (s := S256x64x128) (k0_off11 k) S1x64x128.size hh) hs).squeeze S64x128 squeezes_S1x64x128_S64x128 = qrow (8 * k.val + 2) := row_congr (off11_eq k) _ _
@[sl_canon] theorem word12 (v : BitVec 32) (hh hs) :
    wordM.slice (Rect.unit (s := S8000x8192) (k0_off12 v) S1x8192.size hh) hs = wrow v := word_congr (wordOff_eq hh) _ _
@[sl_canon] theorem qcell14 (k : Fin k0_t1_loop.trips) (hh) :
    (cc0_scratch3.slice (Rect.unit (s := S32) (k0_off14 k) S1.size hh)).squeeze S_ squeezes_S1_S_ = qcell (k.val) := qcell_congr (off14_eq k) _
@[sl_canon] theorem row15 (k : Fin k0_t1_loop.trips) (hh hs) :
    (rowM.slice (Rect.unit (s := S256x64x128) (k0_off15 k) S1x64x128.size hh) hs).squeeze S64x128 squeezes_S1x64x128_S64x128 = qrow (8 * k.val + 3) := row_congr (off15_eq k) _ _
@[sl_canon] theorem word16 (v : BitVec 32) (hh hs) :
    wordM.slice (Rect.unit (s := S8000x8192) (k0_off16 v) S1x8192.size hh) hs = wrow v := word_congr (wordOff_eq hh) _ _
@[sl_canon] theorem qcell18 (k : Fin k0_t1_loop.trips) (hh) :
    (cc0_scratch3.slice (Rect.unit (s := S32) (k0_off18 k) S1.size hh)).squeeze S_ squeezes_S1_S_ = qcell (k.val) := qcell_congr (off18_eq k) _
@[sl_canon] theorem row19 (k : Fin k0_t1_loop.trips) (hh hs) :
    (rowM.slice (Rect.unit (s := S256x64x128) (k0_off19 k) S1x64x128.size hh) hs).squeeze S64x128 squeezes_S1x64x128_S64x128 = qrow (8 * k.val + 4) := row_congr (off19_eq k) _ _
@[sl_canon] theorem word20 (v : BitVec 32) (hh hs) :
    wordM.slice (Rect.unit (s := S8000x8192) (k0_off20 v) S1x8192.size hh) hs = wrow v := word_congr (wordOff_eq hh) _ _
@[sl_canon] theorem qcell22 (k : Fin k0_t1_loop.trips) (hh) :
    (cc0_scratch3.slice (Rect.unit (s := S32) (k0_off22 k) S1.size hh)).squeeze S_ squeezes_S1_S_ = qcell (k.val) := qcell_congr (off22_eq k) _
@[sl_canon] theorem row23 (k : Fin k0_t1_loop.trips) (hh hs) :
    (rowM.slice (Rect.unit (s := S256x64x128) (k0_off23 k) S1x64x128.size hh) hs).squeeze S64x128 squeezes_S1x64x128_S64x128 = qrow (8 * k.val + 5) := row_congr (off23_eq k) _ _
@[sl_canon] theorem word24 (v : BitVec 32) (hh hs) :
    wordM.slice (Rect.unit (s := S8000x8192) (k0_off24 v) S1x8192.size hh) hs = wrow v := word_congr (wordOff_eq hh) _ _
@[sl_canon] theorem qcell26 (k : Fin k0_t1_loop.trips) (hh) :
    (cc0_scratch3.slice (Rect.unit (s := S32) (k0_off26 k) S1.size hh)).squeeze S_ squeezes_S1_S_ = qcell (k.val) := qcell_congr (off26_eq k) _
@[sl_canon] theorem row27 (k : Fin k0_t1_loop.trips) (hh hs) :
    (rowM.slice (Rect.unit (s := S256x64x128) (k0_off27 k) S1x64x128.size hh) hs).squeeze S64x128 squeezes_S1x64x128_S64x128 = qrow (8 * k.val + 6) := row_congr (off27_eq k) _ _
@[sl_canon] theorem word28 (v : BitVec 32) (hh hs) :
    wordM.slice (Rect.unit (s := S8000x8192) (k0_off28 v) S1x8192.size hh) hs = wrow v := word_congr (wordOff_eq hh) _ _
@[sl_canon] theorem qcell30 (k : Fin k0_t1_loop.trips) (hh) :
    (cc0_scratch3.slice (Rect.unit (s := S32) (k0_off30 k) S1.size hh)).squeeze S_ squeezes_S1_S_ = qcell (k.val) := qcell_congr (off30_eq k) _
@[sl_canon] theorem row31 (k : Fin k0_t1_loop.trips) (hh hs) :
    (rowM.slice (Rect.unit (s := S256x64x128) (k0_off31 k) S1x64x128.size hh) hs).squeeze S64x128 squeezes_S1x64x128_S64x128 = qrow (8 * k.val + 7) := row_congr (off31_eq k) _ _
@[sl_canon] theorem word32 (v : BitVec 32) (hh hs) :
    wordM.slice (Rect.unit (s := S8000x8192) (k0_off32 v) S1x8192.size hh) hs = wrow v := word_congr (wordOff_eq hh) _ _
@[sl_canon] theorem qcell34 (k : Fin k0_t2_loop.trips) (hh) :
    (cc0_scratch3.slice (Rect.unit (s := S32) (k0_off34 k) S1.size hh)).squeeze S_ squeezes_S1_S_ = qcell (k.val) := qcell_congr (off34_eq k) _
@[sl_canon] theorem row35 (k : Fin k0_t2_loop.trips) (hh hs) :
    (rowM.slice (Rect.unit (s := S256x64x128) (k0_off35 k) S1x64x128.size hh) hs).squeeze S64x128 squeezes_S1x64x128_S64x128 = qrow (8 * k.val + 0) := row_congr (off35_eq k) _ _
@[sl_canon] theorem word36 (v : BitVec 32) (hh hs) :
    wordM.slice (Rect.unit (s := S8000x8192) (k0_off36 v) S1x8192.size hh) hs = wrow v := word_congr (wordOff_eq hh) _ _
@[sl_canon] theorem qcell38 (k : Fin k0_t2_loop.trips) (hh) :
    (cc0_scratch3.slice (Rect.unit (s := S32) (k0_off38 k) S1.size hh)).squeeze S_ squeezes_S1_S_ = qcell (k.val) := qcell_congr (off38_eq k) _
@[sl_canon] theorem row39 (k : Fin k0_t2_loop.trips) (hh hs) :
    (rowM.slice (Rect.unit (s := S256x64x128) (k0_off39 k) S1x64x128.size hh) hs).squeeze S64x128 squeezes_S1x64x128_S64x128 = qrow (8 * k.val + 1) := row_congr (off39_eq k) _ _
@[sl_canon] theorem word40 (v : BitVec 32) (hh hs) :
    wordM.slice (Rect.unit (s := S8000x8192) (k0_off40 v) S1x8192.size hh) hs = wrow v := word_congr (wordOff_eq hh) _ _
@[sl_canon] theorem qcell42 (k : Fin k0_t2_loop.trips) (hh) :
    (cc0_scratch3.slice (Rect.unit (s := S32) (k0_off42 k) S1.size hh)).squeeze S_ squeezes_S1_S_ = qcell (k.val) := qcell_congr (off42_eq k) _
@[sl_canon] theorem row43 (k : Fin k0_t2_loop.trips) (hh hs) :
    (rowM.slice (Rect.unit (s := S256x64x128) (k0_off43 k) S1x64x128.size hh) hs).squeeze S64x128 squeezes_S1x64x128_S64x128 = qrow (8 * k.val + 2) := row_congr (off43_eq k) _ _
@[sl_canon] theorem word44 (v : BitVec 32) (hh hs) :
    wordM.slice (Rect.unit (s := S8000x8192) (k0_off44 v) S1x8192.size hh) hs = wrow v := word_congr (wordOff_eq hh) _ _
@[sl_canon] theorem qcell46 (k : Fin k0_t2_loop.trips) (hh) :
    (cc0_scratch3.slice (Rect.unit (s := S32) (k0_off46 k) S1.size hh)).squeeze S_ squeezes_S1_S_ = qcell (k.val) := qcell_congr (off46_eq k) _
@[sl_canon] theorem row47 (k : Fin k0_t2_loop.trips) (hh hs) :
    (rowM.slice (Rect.unit (s := S256x64x128) (k0_off47 k) S1x64x128.size hh) hs).squeeze S64x128 squeezes_S1x64x128_S64x128 = qrow (8 * k.val + 3) := row_congr (off47_eq k) _ _
@[sl_canon] theorem word48 (v : BitVec 32) (hh hs) :
    wordM.slice (Rect.unit (s := S8000x8192) (k0_off48 v) S1x8192.size hh) hs = wrow v := word_congr (wordOff_eq hh) _ _
@[sl_canon] theorem qcell50 (k : Fin k0_t2_loop.trips) (hh) :
    (cc0_scratch3.slice (Rect.unit (s := S32) (k0_off50 k) S1.size hh)).squeeze S_ squeezes_S1_S_ = qcell (k.val) := qcell_congr (off50_eq k) _
@[sl_canon] theorem row51 (k : Fin k0_t2_loop.trips) (hh hs) :
    (rowM.slice (Rect.unit (s := S256x64x128) (k0_off51 k) S1x64x128.size hh) hs).squeeze S64x128 squeezes_S1x64x128_S64x128 = qrow (8 * k.val + 4) := row_congr (off51_eq k) _ _
@[sl_canon] theorem word52 (v : BitVec 32) (hh hs) :
    wordM.slice (Rect.unit (s := S8000x8192) (k0_off52 v) S1x8192.size hh) hs = wrow v := word_congr (wordOff_eq hh) _ _
@[sl_canon] theorem qcell54 (k : Fin k0_t2_loop.trips) (hh) :
    (cc0_scratch3.slice (Rect.unit (s := S32) (k0_off54 k) S1.size hh)).squeeze S_ squeezes_S1_S_ = qcell (k.val) := qcell_congr (off54_eq k) _
@[sl_canon] theorem row55 (k : Fin k0_t2_loop.trips) (hh hs) :
    (rowM.slice (Rect.unit (s := S256x64x128) (k0_off55 k) S1x64x128.size hh) hs).squeeze S64x128 squeezes_S1x64x128_S64x128 = qrow (8 * k.val + 5) := row_congr (off55_eq k) _ _
@[sl_canon] theorem word56 (v : BitVec 32) (hh hs) :
    wordM.slice (Rect.unit (s := S8000x8192) (k0_off56 v) S1x8192.size hh) hs = wrow v := word_congr (wordOff_eq hh) _ _
@[sl_canon] theorem qcell58 (k : Fin k0_t2_loop.trips) (hh) :
    (cc0_scratch3.slice (Rect.unit (s := S32) (k0_off58 k) S1.size hh)).squeeze S_ squeezes_S1_S_ = qcell (k.val) := qcell_congr (off58_eq k) _
@[sl_canon] theorem row59 (k : Fin k0_t2_loop.trips) (hh hs) :
    (rowM.slice (Rect.unit (s := S256x64x128) (k0_off59 k) S1x64x128.size hh) hs).squeeze S64x128 squeezes_S1x64x128_S64x128 = qrow (8 * k.val + 6) := row_congr (off59_eq k) _ _
@[sl_canon] theorem word60 (v : BitVec 32) (hh hs) :
    wordM.slice (Rect.unit (s := S8000x8192) (k0_off60 v) S1x8192.size hh) hs = wrow v := word_congr (wordOff_eq hh) _ _
@[sl_canon] theorem qcell62 (k : Fin k0_t2_loop.trips) (hh) :
    (cc0_scratch3.slice (Rect.unit (s := S32) (k0_off62 k) S1.size hh)).squeeze S_ squeezes_S1_S_ = qcell (k.val) := qcell_congr (off62_eq k) _
@[sl_canon] theorem row63 (k : Fin k0_t2_loop.trips) (hh hs) :
    (rowM.slice (Rect.unit (s := S256x64x128) (k0_off63 k) S1x64x128.size hh) hs).squeeze S64x128 squeezes_S1x64x128_S64x128 = qrow (8 * k.val + 7) := row_congr (off63_eq k) _ _
@[sl_canon] theorem word64 (v : BitVec 32) (hh hs) :
    wordM.slice (Rect.unit (s := S8000x8192) (k0_off64 v) S1x8192.size hh) hs = wrow v := word_congr (wordOff_eq hh) _ _
@[sl_canon] theorem qcell203 (k : Fin k0_t2_loop.trips) (hh) :
    (cc0_scratch3.slice (Rect.unit (s := S32) (k0_off203 k) S1.size hh)).squeeze S_ squeezes_S1_S_ = qcell (k.val + 32) := qcell_congr (off203_eq k) _
@[sl_canon] theorem row204 (k : Fin k0_t2_loop.trips) (hh hs) :
    (rowM.slice (Rect.unit (s := S256x64x128) (k0_off204 k) S1x64x128.size hh) hs).squeeze S64x128 squeezes_S1x64x128_S64x128 = qrow (8 * (k.val + 32) + 0) := row_congr (off204_eq k) _ _
@[sl_canon] theorem word205 (v : BitVec 32) (hh hs) :
    wordM.slice (Rect.unit (s := S8000x8192) (k0_off205 v) S1x8192.size hh) hs = wrow v := word_congr (wordOff_eq hh) _ _
@[sl_canon] theorem qcell207 (k : Fin k0_t2_loop.trips) (hh) :
    (cc0_scratch3.slice (Rect.unit (s := S32) (k0_off207 k) S1.size hh)).squeeze S_ squeezes_S1_S_ = qcell (k.val + 32) := qcell_congr (off207_eq k) _
@[sl_canon] theorem row208 (k : Fin k0_t2_loop.trips) (hh hs) :
    (rowM.slice (Rect.unit (s := S256x64x128) (k0_off208 k) S1x64x128.size hh) hs).squeeze S64x128 squeezes_S1x64x128_S64x128 = qrow (8 * (k.val + 32) + 1) := row_congr (off208_eq k) _ _
@[sl_canon] theorem word209 (v : BitVec 32) (hh hs) :
    wordM.slice (Rect.unit (s := S8000x8192) (k0_off209 v) S1x8192.size hh) hs = wrow v := word_congr (wordOff_eq hh) _ _
@[sl_canon] theorem qcell211 (k : Fin k0_t2_loop.trips) (hh) :
    (cc0_scratch3.slice (Rect.unit (s := S32) (k0_off211 k) S1.size hh)).squeeze S_ squeezes_S1_S_ = qcell (k.val + 32) := qcell_congr (off211_eq k) _
@[sl_canon] theorem row212 (k : Fin k0_t2_loop.trips) (hh hs) :
    (rowM.slice (Rect.unit (s := S256x64x128) (k0_off212 k) S1x64x128.size hh) hs).squeeze S64x128 squeezes_S1x64x128_S64x128 = qrow (8 * (k.val + 32) + 2) := row_congr (off212_eq k) _ _
@[sl_canon] theorem word213 (v : BitVec 32) (hh hs) :
    wordM.slice (Rect.unit (s := S8000x8192) (k0_off213 v) S1x8192.size hh) hs = wrow v := word_congr (wordOff_eq hh) _ _
@[sl_canon] theorem qcell215 (k : Fin k0_t2_loop.trips) (hh) :
    (cc0_scratch3.slice (Rect.unit (s := S32) (k0_off215 k) S1.size hh)).squeeze S_ squeezes_S1_S_ = qcell (k.val + 32) := qcell_congr (off215_eq k) _
@[sl_canon] theorem row216 (k : Fin k0_t2_loop.trips) (hh hs) :
    (rowM.slice (Rect.unit (s := S256x64x128) (k0_off216 k) S1x64x128.size hh) hs).squeeze S64x128 squeezes_S1x64x128_S64x128 = qrow (8 * (k.val + 32) + 3) := row_congr (off216_eq k) _ _
@[sl_canon] theorem word217 (v : BitVec 32) (hh hs) :
    wordM.slice (Rect.unit (s := S8000x8192) (k0_off217 v) S1x8192.size hh) hs = wrow v := word_congr (wordOff_eq hh) _ _
@[sl_canon] theorem qcell219 (k : Fin k0_t2_loop.trips) (hh) :
    (cc0_scratch3.slice (Rect.unit (s := S32) (k0_off219 k) S1.size hh)).squeeze S_ squeezes_S1_S_ = qcell (k.val + 32) := qcell_congr (off219_eq k) _
@[sl_canon] theorem row220 (k : Fin k0_t2_loop.trips) (hh hs) :
    (rowM.slice (Rect.unit (s := S256x64x128) (k0_off220 k) S1x64x128.size hh) hs).squeeze S64x128 squeezes_S1x64x128_S64x128 = qrow (8 * (k.val + 32) + 4) := row_congr (off220_eq k) _ _
@[sl_canon] theorem word221 (v : BitVec 32) (hh hs) :
    wordM.slice (Rect.unit (s := S8000x8192) (k0_off221 v) S1x8192.size hh) hs = wrow v := word_congr (wordOff_eq hh) _ _
@[sl_canon] theorem qcell223 (k : Fin k0_t2_loop.trips) (hh) :
    (cc0_scratch3.slice (Rect.unit (s := S32) (k0_off223 k) S1.size hh)).squeeze S_ squeezes_S1_S_ = qcell (k.val + 32) := qcell_congr (off223_eq k) _
@[sl_canon] theorem row224 (k : Fin k0_t2_loop.trips) (hh hs) :
    (rowM.slice (Rect.unit (s := S256x64x128) (k0_off224 k) S1x64x128.size hh) hs).squeeze S64x128 squeezes_S1x64x128_S64x128 = qrow (8 * (k.val + 32) + 5) := row_congr (off224_eq k) _ _
@[sl_canon] theorem word225 (v : BitVec 32) (hh hs) :
    wordM.slice (Rect.unit (s := S8000x8192) (k0_off225 v) S1x8192.size hh) hs = wrow v := word_congr (wordOff_eq hh) _ _
@[sl_canon] theorem qcell227 (k : Fin k0_t2_loop.trips) (hh) :
    (cc0_scratch3.slice (Rect.unit (s := S32) (k0_off227 k) S1.size hh)).squeeze S_ squeezes_S1_S_ = qcell (k.val + 32) := qcell_congr (off227_eq k) _
@[sl_canon] theorem row228 (k : Fin k0_t2_loop.trips) (hh hs) :
    (rowM.slice (Rect.unit (s := S256x64x128) (k0_off228 k) S1x64x128.size hh) hs).squeeze S64x128 squeezes_S1x64x128_S64x128 = qrow (8 * (k.val + 32) + 6) := row_congr (off228_eq k) _ _
@[sl_canon] theorem word229 (v : BitVec 32) (hh hs) :
    wordM.slice (Rect.unit (s := S8000x8192) (k0_off229 v) S1x8192.size hh) hs = wrow v := word_congr (wordOff_eq hh) _ _
@[sl_canon] theorem qcell231 (k : Fin k0_t2_loop.trips) (hh) :
    (cc0_scratch3.slice (Rect.unit (s := S32) (k0_off231 k) S1.size hh)).squeeze S_ squeezes_S1_S_ = qcell (k.val + 32) := qcell_congr (off231_eq k) _
@[sl_canon] theorem row232 (k : Fin k0_t2_loop.trips) (hh hs) :
    (rowM.slice (Rect.unit (s := S256x64x128) (k0_off232 k) S1x64x128.size hh) hs).squeeze S64x128 squeezes_S1x64x128_S64x128 = qrow (8 * (k.val + 32) + 7) := row_congr (off232_eq k) _ _
@[sl_canon] theorem word233 (v : BitVec 32) (hh hs) :
    wordM.slice (Rect.unit (s := S8000x8192) (k0_off233 v) S1x8192.size hh) hs = wrow v := word_congr (wordOff_eq hh) _ _
@[sl_canon] theorem row69h0 (k : Fin k0_t2_loop.trips) (hh hs) :
    (rowM.slice (Rect.unit (s := S256x64x128) (k0_off69 k 0#32) S1x64x128.size hh) hs).squeeze S64x128 squeezes_S1x64x128_S64x128 = qrow (8 * k.val + 0) := row_congr (off69_eq0 k) _ _
@[sl_canon] theorem row69h1 (k : Fin k0_t2_loop.trips) (hh hs) :
    (rowM.slice (Rect.unit (s := S256x64x128) (k0_off69 k 1#32) S1x64x128.size hh) hs).squeeze S64x128 squeezes_S1x64x128_S64x128 = qrow (8 * k.val + 1) := row_congr (off69_eq1 k) _ _
@[sl_canon] theorem row96h0 (k : Fin k0_t2_loop.trips) (hh hs) :
    (rowM.slice (Rect.unit (s := S256x64x128) (k0_off96 k 0#32) S1x64x128.size hh) hs).squeeze S64x128 squeezes_S1x64x128_S64x128 = qrow (8 * k.val + 2) := row_congr (off96_eq0 k) _ _
@[sl_canon] theorem row96h1 (k : Fin k0_t2_loop.trips) (hh hs) :
    (rowM.slice (Rect.unit (s := S256x64x128) (k0_off96 k 1#32) S1x64x128.size hh) hs).squeeze S64x128 squeezes_S1x64x128_S64x128 = qrow (8 * k.val + 3) := row_congr (off96_eq1 k) _ _
@[sl_canon] theorem row123h0 (k : Fin k0_t2_loop.trips) (hh hs) :
    (rowM.slice (Rect.unit (s := S256x64x128) (k0_off123 k 0#32) S1x64x128.size hh) hs).squeeze S64x128 squeezes_S1x64x128_S64x128 = qrow (8 * k.val + 4) := row_congr (off123_eq0 k) _ _
@[sl_canon] theorem row123h1 (k : Fin k0_t2_loop.trips) (hh hs) :
    (rowM.slice (Rect.unit (s := S256x64x128) (k0_off123 k 1#32) S1x64x128.size hh) hs).squeeze S64x128 squeezes_S1x64x128_S64x128 = qrow (8 * k.val + 5) := row_congr (off123_eq1 k) _ _
@[sl_canon] theorem row150h0 (k : Fin k0_t2_loop.trips) (hh hs) :
    (rowM.slice (Rect.unit (s := S256x64x128) (k0_off150 k 0#32) S1x64x128.size hh) hs).squeeze S64x128 squeezes_S1x64x128_S64x128 = qrow (8 * k.val + 6) := row_congr (off150_eq0 k) _ _
@[sl_canon] theorem row150h1 (k : Fin k0_t2_loop.trips) (hh hs) :
    (rowM.slice (Rect.unit (s := S256x64x128) (k0_off150 k 1#32) S1x64x128.size hh) hs).squeeze S64x128 squeezes_S1x64x128_S64x128 = qrow (8 * k.val + 7) := row_congr (off150_eq1 k) _ _
@[sl_canon] theorem ecell65 (k : Fin k0_t2_loop.trips) (hh) :
    (cc0_scratch4.slice (Rect.unit (s := S4) (k0_off65 k) S1.size hh)).squeeze S_ squeezes_S1_S_ = ecell (k.val) := ecell_congr (off65_eq k) _
@[sl_canon] theorem ocell65 (k : Fin k0_t2_loop.trips) (hh) :
    (cc0_scratch5.slice (Rect.unit (s := S4) (k0_off65 k) S1.size hh)).squeeze S_ squeezes_S1_S_ = ocell (k.val) := ocell_congr (off65_eq k) _
@[sl_canon] theorem ecell176 (k : Fin k0_t2_loop.trips) (hh) :
    (cc0_scratch4.slice (Rect.unit (s := S4) (k0_off176 k) S1.size hh)).squeeze S_ squeezes_S1_S_ = ecell (k.val) := ecell_congr (off176_eq k) _
@[sl_canon] theorem ocell176 (k : Fin k0_t2_loop.trips) (hh) :
    (cc0_scratch5.slice (Rect.unit (s := S4) (k0_off176 k) S1.size hh)).squeeze S_ squeezes_S1_S_ = ocell (k.val) := ocell_congr (off176_eq k) _
@[sl_canon] theorem eslot67 (k : Fin k0_t2_loop.trips) (hh hs) :
    (ebM.slice (Rect.unit (s := S4x64x8x128) (k0_off67 k) S1x64x8x128.size hh) hs).squeeze S64x8x128 squeezes_S1x64x8x128_S64x8x128 = eslot k.val := eslot_congr (off67_eq k) _ _
@[sl_canon] theorem oslot67 (k : Fin k0_t2_loop.trips) (hh hs) :
    (obM.slice (Rect.unit (s := S4x64x8x128) (k0_off67 k) S1x64x8x128.size hh) hs).squeeze S64x8x128 squeezes_S1x64x8x128_S64x8x128 = oslot k.val := oslot_congr (off67_eq k) _ _
@[sl_canon] theorem eslot153 (k : Fin k0_t2_loop.trips) (hh hs) :
    (ebM.slice (Rect.unit (s := S4x64x8x128) (k0_off153 k) S1x64x8x128.size hh) hs).squeeze S64x8x128 squeezes_S1x64x8x128_S64x8x128 = eslot k.val := eslot_congr (off153_eq k) _ _
@[sl_canon] theorem oslot153 (k : Fin k0_t2_loop.trips) (hh hs) :
    (obM.slice (Rect.unit (s := S4x64x8x128) (k0_off153 k) S1x64x8x128.size hh) hs).squeeze S64x8x128 squeezes_S1x64x8x128_S64x8x128 = oslot k.val := oslot_congr (off153_eq k) _ _
@[sl_canon] theorem eblk177 (k : Fin k0_t2_loop.trips) (hh hs) :
    embM.slice (Rect.unit (s := S1048576x128) (k0_off177 k) S512x128.size hh) hs = eblk k.val := eblk_congr (blk_of (off177_eq k) (trip_lt' k)) _ _
@[sl_canon] theorem eblk66 (k : Fin k0_t2_loop.trips) (hk : 4 ≤ k.val) (hh hs) :
    embM.slice (Rect.unit (s := S1048576x128) (k0_off66 k) S512x128.size hh) hs = eblk (k.val - 4) := eblk_congr (blk_of (off66_eq k hk) (by have := trip_lt' k; omega)) _ _
@[sl_canon] theorem oblk177 (k : Fin k0_t2_loop.trips) (hh hs) :
    outM.slice (Rect.unit (s := S1048576x128) (k0_off177 k) S512x128.size hh) hs = oblk k.val := oblk_congr (blk_of (off177_eq k) (trip_lt' k)) _ _
@[sl_canon] theorem oblk66 (k : Fin k0_t2_loop.trips) (hk : 4 ≤ k.val) (hh hs) :
    outM.slice (Rect.unit (s := S1048576x128) (k0_off66 k) S512x128.size hh) hs = oblk (k.val - 4) := oblk_congr (blk_of (off66_eq k hk) (by have := trip_lt' k; omega)) _ _

end Cert.Proof.RingIdeal
-- ==== Proof.Gather.lean ====
module

public import proofs.«01_k».proof.Proof.Names

/-! The gather ring: a tile's eight row copies ride one semaphore as a batch of eight transfers, each delivering one
row of the gather buffer written with one row of the packed table. -/

@[expose] public section

noncomputable section

namespace Cert.Proof.RingIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

section Pieces

variable (c : Dev nD) (G : S16384.Idx → Elt F .i32) (W : S8000x8192.Idx → Elt F .i32)

/-- The `n`-th token's id. -/
abbrev idIx (n : ℕ) : S16384.Idx := fun a => ⟨n % 16384, by fin_cases a; exact Nat.mod_lt _ (by decide)⟩
abbrev idAt (n : ℕ) : Elt F .i32 := G (idIx n)

abbrev all8 (Φ : ℕ → sProp 𝕄) : sProp 𝕄 := iprop(Φ 0 ∗ Φ 1 ∗ Φ 2 ∗ Φ 3 ∗ Φ 4 ∗ Φ 5 ∗ Φ 6 ∗ Φ 7)

/-- The ids' array, whole; the packed table under row `j`'s read token; a gathered row at any contents. -/
abbrev idsP : sProp 𝕄 := idM.view.loc (c : Thread nD τ) ↦{fullShare.right} G
abbrev tok (j : ℕ) : PosShare TreeShare := Transfers.shareTokN fullShare (j % 256)
abbrev wTok (j : ℕ) : sProp 𝕄 := wordM.view.loc (c : Thread nD τ) ↦{tok j} W
abbrev rowAny (j : ℕ) : sProp 𝕄 := iprop(∃ f, (qline j).view.loc (c : Thread nD τ) ↦[(qline j).view.set]{fullShare} f)
/-- Tile `u`'s gather slot idle: its semaphore at zero, its rows and its read tokens in hand. -/
def freeG (u : ℕ) : sProp 𝕄 :=
  iprop(semVal ((c : Thread nD τ), SemLoc.dma (qcell u).sem) 0 ∗ all8 (fun r => rowAny c (8 * u + r)) ∗ all8 (fun r => wTok c W (8 * u + r)))

/-- The table's row for row `j`'s id under its token, and the rest of the table under that token. -/
abbrev wPart (j : ℕ) : sProp 𝕄 :=
  (wrow (idAt G j)).view.loc (c : Thread nD τ) ↦[(wrow (idAt G j)).view.set]{tok j} W
abbrev wRest (j : ℕ) : sProp 𝕄 :=
  wordM.view.loc (c : Thread nD τ) ↦[Finset.univ \ (wrow (idAt G j)).view.set]{tok j} W
/-- What row `j`'s copy delivers: the row written whole with the table's row, and the table's row back. -/
abbrev rowIn (j : ℕ) : sProp 𝕄 :=
  iprop((∃ f, (qline j).view.loc (c : Thread nD τ) ↦[(qline j).view.set]{fullShare}
      (qline j).view.writes (Elt F) f [⟨Rect.whole S1x8192, ReadAs.same.apply ((wrow (idAt G j)).view.read (Elt F) W)⟩]) ∗ wPart c G W j)
abbrev gD (u : ℕ) : Fin 8 → sProp 𝕄 := fun r => rowIn c G W (8 * u + r.val)
theorem pt_storable (ℓ : Loc nD τ sig) (S : Finset (Idx ℓ)) (q : PosShare TreeShare) (f : Buf (Elt F) ℓ) :
    BI.Storable (upEmb : UEmb _ 𝕄) (ℓ ↦[S]{q} f) := inferInstance
instance wPart_storable (j : ℕ) : BI.Storable (upEmb : UEmb _ 𝕄) (wPart c G W j) := pt_storable _ _ _ _
instance rowIn_storable (j : ℕ) : BI.Storable (upEmb : UEmb _ 𝕄) (rowIn c G W j) := by
  unfold rowIn
  have h := wPart_storable c G W j
  infer_instance
instance gD_storable (u : ℕ) (r : Fin 8) : BI.Storable (upEmb : UEmb _ 𝕄) (gD c G W u r) := rowIn_storable c G W _
abbrev gN : ℕ := 1024
abbrev gBatch (u j w : ℕ) : sProp 𝕄 :=
  Transfers.Batch (countersEmb (U := UU nD τ)) (c : Thread nD τ) (.dma (qcell u).sem) () gN (gD c G W u) j w
/-- Tile `u`'s gathers under way. -/
def inG (u : ℕ) : sProp 𝕄 := iprop(gBatch c G W u 8 0 ∗ all8 (fun r => wRest c G W (8 * u + r)))

theorem wTok_split (j : ℕ) : wTok c W j ⊢ iprop(wPart c G W j ∗ wRest c G W j) := by
  exact (pointsTo_split_subset (Finset.subset_univ _)).1

end Pieces

theorem id_read (G : S16384.Idx → Elt F .i32) {off : Fin 1 → ℕ} {n : ℕ} (e : off = idOff n) (hn : n < 16384) (hh)
    (hp : 0 < (Rect.unit (s := S16384) off S1.size hh).toLoadRect.shape.numel) :
    View.readAt (Elt F) idM.view (Rect.unit (s := S16384) off S1.size hh).toLoadRect G (Shape.Idx.first hp) = idAt G n := by
  subst e
  rw [show idAt G n = G (idIx n) from rfl]
  refine congrArg G (funext fun a => Fin.ext ?_)
  fin_cases a
  show _ = n % 16384
  rw [Nat.mod_eq_of_lt hn]
  rfl
theorem shr2_of_lt {v : BitVec 32} (h : v.toNat < 32000) : (Scalar.shrsi v 2#32).toNat = v.toNat / 4 := by
  have e1 : Scalar.shrsi v 2#32 = v.sshiftRight 2 := rfl
  have hm : v.msb = false := by rw [BitVec.msb_eq_decide]; simp; omega
  rw [e1, BitVec.sshiftRight_eq_of_msb_false hm, BitVec.toNat_ushiftRight, Nat.shiftRight_eq_div_pow]
theorem chk_row {v : BitVec 32} (h : v.toNat < 32000) :
    ∀ a, (![(Scalar.shrsi v 2#32).toNat, 0] : Fin 2 → ℕ) a + S1x8192.size a ≤ S8000x8192.size a := by
  intro a; fin_cases a
  · show (Scalar.shrsi v 2#32).toNat + 1 ≤ 8000; rw [shr2_of_lt h]; omega
  · show 0 + 8192 ≤ 8192; omega

/-- The first lane of a token's block in the scales' array, as the body computes it. -/
abbrev laneW (v : BitVec 32) : ℕ := (Scalar.indexCast (Scalar.muli (Scalar.shrsi v 7#32) 128#32)).toNat
theorem laneW_of_lt {v : BitVec 32} (h : v.toNat < 32000) : laneW v = v.toNat / 128 * 128 := by
  have e1 : Scalar.shrsi v 7#32 = v.sshiftRight 7 := rfl
  have hm : v.msb = false := by rw [BitVec.msb_eq_decide]; simp; omega
  have e2 : laneW v = (Scalar.shrsi v 7#32 * 128#32).toNat := rfl
  rw [e2, e1, BitVec.sshiftRight_eq_of_msb_false hm, BitVec.toNat_mul, BitVec.toNat_ushiftRight, Nat.shiftRight_eq_div_pow]
  show v.toNat / 2 ^ 7 * 128 % 2 ^ 32 = _
  omega
theorem chk_lane {v : BitVec 32} (h : v.toNat < 32000) {g : ℕ} (hg : g ≤ 56) :
    ∀ a, (![g, laneW v] : Fin 2 → ℕ) a + S8x128.size a ≤ S64x32000.size a := by
  intro a; fin_cases a
  · show g + 8 ≤ 64; omega
  · show laneW v + 128 ≤ 32000; rw [laneW_of_lt h]; omega
theorem chk_pair {v : BitVec 32} (h : v.toNat < 32000) :
    (128 ∣ laneW v) ∧
    (∀ a, (![0, laneW v] : Fin 2 → ℕ) a + S8x128.size a ≤ S64x32000.size a) ∧
    (∀ a, (![8, laneW v] : Fin 2 → ℕ) a + S8x128.size a ≤ S64x32000.size a) ∧
    (∀ a, (![16, laneW v] : Fin 2 → ℕ) a + S8x128.size a ≤ S64x32000.size a) ∧
    (∀ a, (![24, laneW v] : Fin 2 → ℕ) a + S8x128.size a ≤ S64x32000.size a) ∧
    (∀ a, (![32, laneW v] : Fin 2 → ℕ) a + S8x128.size a ≤ S64x32000.size a) ∧
    (∀ a, (![40, laneW v] : Fin 2 → ℕ) a + S8x128.size a ≤ S64x32000.size a) ∧
    (∀ a, (![48, laneW v] : Fin 2 → ℕ) a + S8x128.size a ≤ S64x32000.size a) ∧
    (∀ a, (![56, laneW v] : Fin 2 → ℕ) a + S8x128.size a ≤ S64x32000.size a) :=
  ⟨by rw [laneW_of_lt h]; exact Dvd.intro_left _ rfl, chk_lane h (by omega), chk_lane h (by omega), chk_lane h (by omega),
    chk_lane h (by omega), chk_lane h (by omega), chk_lane h (by omega), chk_lane h (by omega), chk_lane h (by omega)⟩

section Trip1
variable (c : Dev nD) (G : S16384.Idx → Elt F .i32) (W : S8000x8192.Idx → Elt F .i32)
  (arg3 : Memref sig .tc .vmem S64x32000 .f32) (harg3 : arg3.IsWhole) (arg4 : Memref sig .tc .vmem S64x128 .bf16) (harg4 : arg4.IsWhole)
  (i : grid0.Coords)

theorem t1_step [∀ e, Nonempty (Elt F e)] (hG : ∀ x, (G x).toNat < 32000) (k : Fin k0_t1_loop.trips) :
    iprop(idsP c G ∗ freeG c W k.val) ⊢ wp frame (wpE defs₀ 𝒱₀ (c : Thread nD τ) none) Set.univ
      (k0_t1_body (F := F) i idM (Memref.isWhole_whole _) wordM (Memref.isWhole_whole _) arg3 harg3 arg4 harg4
        outM (Memref.isWhole_whole _) embM (Memref.isWhole_whole _) rowM (Memref.isWhole_whole _) ebM (Memref.isWhole_whole _)
        obM (Memref.isWhole_whole _) cc0_scratch3 cc0_scratch4 cc0_scratch5 k ())
      (fun _ => iprop(idsP c G ∗ inG c G W k.val)) := by
  unfold freeG inG rowAny
  iintro ⟨HI, HC, ⟨⟨%f0, HR0⟩, ⟨%f1, HR1⟩, ⟨%f2, HR2⟩, ⟨%f3, HR3⟩, ⟨%f4, HR4⟩, ⟨%f5, HR5⟩, ⟨%f6, HR6⟩, ⟨%f7, HR7⟩⟩, HT0, HT1, HT2, HT3, HT4, HT5, HT6, HT7⟩
  ihave HT0 := (wTok_split c G W (8 * k.val + 0)) $$ HT0
  icases HT0 with ⟨HP0, HW0⟩
  ihave HT1 := (wTok_split c G W (8 * k.val + 1)) $$ HT1
  icases HT1 with ⟨HP1, HW1⟩
  ihave HT2 := (wTok_split c G W (8 * k.val + 2)) $$ HT2
  icases HT2 with ⟨HP2, HW2⟩
  ihave HT3 := (wTok_split c G W (8 * k.val + 3)) $$ HT3
  icases HT3 with ⟨HP3, HW3⟩
  ihave HT4 := (wTok_split c G W (8 * k.val + 4)) $$ HT4
  icases HT4 with ⟨HP4, HW4⟩
  ihave HT5 := (wTok_split c G W (8 * k.val + 5)) $$ HT5
  icases HT5 with ⟨HP5, HW5⟩
  ihave HT6 := (wTok_split c G W (8 * k.val + 6)) $$ HT6
  icases HT6 with ⟨HP6, HW6⟩
  ihave HT7 := (wTok_split c G W (8 * k.val + 7)) $$ HT7
  icases HT7 with ⟨HP7, HW7⟩
  imod (Transfers.batch_alloc' (Lvl := ℕ) (countersEmb (U := UU nD τ)) (c : Thread nD τ) () gN (gD c G W k.val) (sm := .dma (qcell k.val).sem) (E := Set.univ)) $$ HC with HB
  have hk : k.val < 32 := lt_of_lt_of_eq k.isLt t1_trips
  sl_unfold [k0_t1_body]
  sl_exec
  have e0 : t1_step.sl.r G k = idAt G (8 * k.val + 0) := id_read G (off1_eq k) (by omega) _ _
  have c0 : k0_chk1 (idAt G (8 * k.val + 0)) := chk_row (hG _)
  rw [e0]
  sl_exec
  have e1 : t1_step.sl.r_1 G k = idAt G (8 * k.val + 1) := id_read G (off5_eq k) (by omega) _ _
  have c1 : k0_chk2 (idAt G (8 * k.val + 1)) := chk_row (hG _)
  rw [e1]
  sl_exec
  have e2 : t1_step.sl.r_3 G k = idAt G (8 * k.val + 2) := id_read G (off9_eq k) (by omega) _ _
  have c2 : k0_chk3 (idAt G (8 * k.val + 2)) := chk_row (hG _)
  rw [e2]
  sl_exec
  have e3 : t1_step.sl.r_4 G k = idAt G (8 * k.val + 3) := id_read G (off13_eq k) (by omega) _ _
  have c3 : k0_chk4 (idAt G (8 * k.val + 3)) := chk_row (hG _)
  rw [e3]
  sl_exec
  have e4 : t1_step.sl.r_5 G k = idAt G (8 * k.val + 4) := id_read G (off17_eq k) (by omega) _ _
  have c4 : k0_chk5 (idAt G (8 * k.val + 4)) := chk_row (hG _)
  rw [e4]
  sl_exec
  have e5 : t1_step.sl.r_7 G k = idAt G (8 * k.val + 5) := id_read G (off21_eq k) (by omega) _ _
  have c5 : k0_chk6 (idAt G (8 * k.val + 5)) := chk_row (hG _)
  rw [e5]
  sl_exec
  have e6 : t1_step.sl.r_8 G k = idAt G (8 * k.val + 6) := id_read G (off25_eq k) (by omega) _ _
  have c6 : k0_chk7 (idAt G (8 * k.val + 6)) := chk_row (hG _)
  rw [e6]
  sl_exec
  have e7 : t1_step.sl.r_10 G k = idAt G (8 * k.val + 7) := id_read G (off29_eq k) (by omega) _ _
  have c7 : k0_chk8 (idAt G (8 * k.val + 7)) := chk_row (hG _)
  rw [e7]
  sl_exec
  sl_step
  isplitl [HI]; · iexact HI
  isplitl [HB]; · iexact HB
  isplitl [HW0]; · iexact HW0
  isplitl [HW1]; · iexact HW1
  isplitl [HW2]; · iexact HW2
  isplitl [HW3]; · iexact HW3
  isplitl [HW4]; · iexact HW4
  isplitl [HW5]; · iexact HW5
  isplitl [HW6]; · iexact HW6
  iexact HW7
end Trip1
end Cert.Proof.RingIdeal
-- ==== Proof.Slab.lean ====
module

public import proofs.«01_k».proof.Proof.Gather
public import Idealize.ShloMosaic.Lib.Pointwise.Reshape

/-! The words a gathered row holds once its copy has landed. -/

@[expose] public section

noncomputable section

namespace Cert.Proof.RingIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Slab
variable (c : Dev nD) (G : S16384.Idx → Elt F .i32) (W : S8000x8192.Idx → Elt F .i32)

/-- The packed word of token `n` at group `g` and lane `l`. -/
def wIx (v : BitVec 32) (g l : ℕ) : S8000x8192.Idx :=
  (Fin.cons ⟨v.toNat / 4 % 8000, Nat.mod_lt _ (by decide)⟩ (Fin.cons ⟨(128 * g + l) % 8192, Nat.mod_lt _ (by decide)⟩ finZeroElim))
/-- The packed word that lands at index `y` of the gather buffer. -/
def wAt (v : BitVec 32) (y : S256x64x128.Idx) : S8000x8192.Idx := wIx v (y 1).val (y 2).val
/-- Row `j` of the gather buffer once token `j`'s row has landed, at any index of the buffer. -/
def slab (j : ℕ) : Buf (Elt F) (rowM.view.loc (c : Thread nD τ)) := fun y => W (wAt (idAt G j) y)

theorem wrow_read (v : BitVec 32) (x : S1x8192.Idx) :
    (wrow v).view.read (Elt F) W x = W ((wrow v).view.emb x) := rfl
theorem reshape_row (h : S1x8192.numel = S64x128.numel) (h' : S64x128.numel = S1x64x128.numel) (x : S1x8192.Idx) :
    Shape.reshapeEquiv h' (Shape.reshapeEquiv h x) = (Fin.cons ⟨0, (by decide : 0 < 1)⟩ (Fin.cons ⟨(x 1).val / 128, by have : (x 1).val < 8192 := (x 1).isLt; show _ < 64; omega⟩
      (Fin.cons ⟨(x 1).val % 128, Nat.mod_lt _ (by decide)⟩ finZeroElim)) : S1x64x128.Idx) := by
  rw [Shape.reshapeEquiv_reshapeEquiv]
  refine Shape.reshapeEquiv_eq_of_vals _ _ _ _ _ (rowMajor_val3 _ 8192 128 rfl rfl) (rowMajor_val2 _ 8192 rfl) ?_
  have h0 : (x 0).val < 1 := (x 0).isLt
  show 0 * 8192 + (x 1).val / 128 * 128 + (x 1).val % 128 = _
  omega
theorem wIx_emb (v : BitVec 32) (j : ℕ) (x : S1x8192.Idx) : (wrow v).view.emb x = wAt v ((qline j).view.emb x) := by
  have h0 : (x 0).val < 1 := (x 0).isLt
  have h1 : (x 1).val < 8192 := (x 1).isLt
  have e : (qline j).view.emb x = (Rect.unit (s := S256x64x128) (rowOff j) S1x64x128.size (rowOff_inb j)).emb
      (Shape.reshapeEquiv (s := S1x64x128) (s' := S64x128) (by decide) (Shape.reshapeEquiv (s := S64x128) (s' := S1x8192) (by decide) x)) := rfl
  rw [e, reshape_row (by decide) (by decide)]
  have e2 : (wrow v).view.emb x = (Rect.unit (s := S8000x8192) (wOff v) S1x8192.size (wOff_inb v)).emb x := rfl
  rw [e2]
  funext a
  fin_cases a
  · apply Fin.ext
    rw [Rect.emb_apply]
    show v.toNat / 4 % 8000 + 1 * (x 0).val = v.toNat / 4 % 8000
    omega
  · apply Fin.ext
    rw [Rect.emb_apply]
    show 0 + 1 * (x 1).val = (128 * (0 + 1 * ((x 1).val / 128)) + (0 + 1 * ((x 1).val % 128))) % 8192
    omega
theorem row_slab (j : ℕ) (f) : ((qline j).view.loc (c : Thread nD τ) ↦[(qline j).view.set]{fullShare}
      (qline j).view.writes (Elt F) f [⟨Rect.whole S1x8192, ReadAs.same.apply ((wrow (idAt G j)).view.read (Elt F) W)⟩] : sProp 𝕄)
    ⊢ (qrow j).view.loc (c : Thread nD τ) ↦[(qrow j).view.set]{fullShare} slab c G W j := by
  have hs : (qline j).view.set = (qrow j).view.set := View.set_reshape _ _
  rw [← hs]
  refine Entails.of_eq (pointsTo_congr (ℓ := (qline j).view.loc (c : Thread nD τ)) (g := slab c G W j) fun y hy => ?_)
  obtain ⟨x, rfl⟩ : ∃ x, (qline j).view.emb x = y := by simpa [View.set] using hy
  have h := congrFun (View.read_writes_whole (qline j).view f (ReadAs.same.apply ((wrow (idAt G j)).view.read (Elt F) W))) x
  have h2 : W ((wrow (idAt G j)).view.emb x) = slab c G W j ((qline j).view.emb x) := by
    rw [wIx_emb _ j]; rfl
  have e : ∀ g, (qline j).view.read (Elt F) g x = g ((qline j).view.emb x) := fun _ => rfl
  rw [e] at h
  have h3 : (ReadAs.same (Val := Elt F) (e := EltTy.i32) (s := S1x8192)).apply ((wrow (idAt G j)).view.read (Elt F) W) x = W ((wrow (idAt G j)).view.emb x) := rfl
  have h4 := h.trans h3
  have h5 := h4.trans h2
  exact h5
end Slab
end Cert.Proof.RingIdeal
-- ==== Proof.Ring.lean ====
module

public import proofs.«01_k».proof.Proof.Slab

/-! The two rings of output tiles: slots idle, tiles under way, blocks done. -/

@[expose] public section

noncomputable section

namespace Cert.Proof.RingIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

theorem reshape_per {sp : Space} {s s' : Shape} {e : EltTy} {m m' : Memref sig .tc sp s e} (h : m = m') (h1 : s'.numel = s.numel) (h2) (h3) (h3') :
    m.reshape s' h1 h2 h3 = m'.reshape s' h1 h2 h3' := by subst h; rfl
theorem qcell_per {u u' : ℕ} (h : u % 32 = u' % 32) : qcell u = qcell u' := qcell_congr (congrArg (fun b => ![b]) h) _
theorem ecell_per {u u' : ℕ} (h : u % 4 = u' % 4) : ecell u = ecell u' := ecell_congr (congrArg (fun b => ![b]) h) _
theorem ocell_per {u u' : ℕ} (h : u % 4 = u' % 4) : ocell u = ocell u' := ocell_congr (congrArg (fun b => ![b]) h) _
theorem qrow_per {j j' : ℕ} (h : j % 256 = j' % 256) : qrow j = qrow j' := row_congr (congrArg (fun b => ![b, 0, 0]) h) _ _
theorem qline_per {j j' : ℕ} (h : j % 256 = j' % 256) : qline j = qline j' := by unfold qline; exact reshape_per (qrow_per h) _ _ _ _
theorem eslot_per {u u' : ℕ} (h : u % 4 = u' % 4) : eslot u = eslot u' := eslot_congr (congrArg (fun b => ![b, 0, 0, 0]) h) _ _
theorem oslot_per {u u' : ℕ} (h : u % 4 = u' % 4) : oslot u = oslot u' := oslot_congr (congrArg (fun b => ![b, 0, 0, 0]) h) _ _
theorem esrc_per {u u' : ℕ} (h : u % 4 = u' % 4) : esrc u = esrc u' := by unfold esrc; exact reshape_per (eslot_per h) _ _ _ _
theorem osrc_per {u u' : ℕ} (h : u % 4 = u' % 4) : osrc u = osrc u' := by unfold osrc; exact reshape_per (oslot_per h) _ _ _ _

theorem cond1_iff (k : Fin k0_t2_loop.trips) : k0_cond1 k = 1#1 ↔ 4 ≤ k.val := by
  revert k; decide +kernel
theorem cond2_iff (k : Fin k0_t2_loop.trips) : k0_cond2 k = 1#1 ↔ k.val + 32 < 2048 := by
  revert k; decide +kernel

section Ring
variable (c : Dev nD)

/-- A memref's elements held at share `q` and contents `f`; and outright at any contents. -/
abbrev heldAt {sp : Space} {s : Shape} {e : EltTy} (m : Memref sig .tc sp s e) (q : PosShare TreeShare) (f : Buf (Elt F) (m.view.loc (c : Thread nD τ))) : sProp 𝕄 :=
  m.view.loc (c : Thread nD τ) ↦[m.view.set]{q} f
abbrev heldAny {sp : Space} {s : Shape} {e : EltTy} (m : Memref sig .tc sp s e) : sProp 𝕄 := iprop(∃ f, heldAt c m fullShare f)
/-- A block of a result that is done: it holds an array of which `OK` says what it is. -/
def doneAt (blk : Memref sig .tc .hbm S512x128 .bf16) (OK : (S512x128.Idx → Elt F .bf16) → Prop) : sProp 𝕄 :=
  iprop(∃ f, heldAt c blk fullShare f ∗ ⌜OK (blk.view.read (Elt F) f)⌝)
/-- A tile under way from its slot to its block: what the copy's wait delivers. -/
abbrev landed (src : Memref sig .tc .vmem S512x128 .bf16) (blk : Memref sig .tc .hbm S512x128 .bf16) (f : Buf (Elt F) (blk.view.loc (c : Thread nD τ)))
    (e : Buf (Elt F) (src.view.loc (c : Thread nD τ))) : Buf (Elt F) (blk.view.loc (c : Thread nD τ)) :=
  blk.view.writes (Elt F) f [⟨Rect.whole S512x128, ReadAs.same.apply (src.view.read (Elt F) e)⟩]
abbrev flight (q : DmaSems sig S_) (src : Memref sig .tc .vmem S512x128 .bf16) (blk : Memref sig .tc .hbm S512x128 .bf16) (sh : PosShare TreeShare)
    (f : Buf (Elt F) (blk.view.loc (c : Thread nD τ))) (e : Buf (Elt F) (src.view.loc (c : Thread nD τ))) : sProp 𝕄 :=
  Transfers.Flight (countersEmb (U := UU nD τ)) (c : Thread nD τ) (.dma q.sem) () 4096
    iprop(heldAt c blk fullShare (landed c src blk f e) ∗ heldAt c src sh e)
/-- The embedding's tile under way while half of its slot is still read; the result's tile under way. -/
def flE (q : DmaSems sig S_) (src : Memref sig .tc .vmem S512x128 .bf16) (blk : Memref sig .tc .hbm S512x128 .bf16) (OK : (S512x128.Idx → Elt F .bf16) → Prop) : sProp 𝕄 :=
  iprop(∃ f e, flight c q src blk fullShare.right f e ∗ heldAt c src fullShare.left e ∗ ⌜OK (src.view.read (Elt F) e)⌝)
def flO (q : DmaSems sig S_) (src : Memref sig .tc .vmem S512x128 .bf16) (blk : Memref sig .tc .hbm S512x128 .bf16) (OK : (S512x128.Idx → Elt F .bf16) → Prop) : sProp 𝕄 :=
  iprop(∃ f e, flight c q src blk fullShare f e ∗ ⌜OK (src.view.read (Elt F) e)⌝)

theorem done_of (src : Memref sig .tc .vmem S512x128 .bf16) (blk : Memref sig .tc .hbm S512x128 .bf16) (f e)
    (OK : (S512x128.Idx → Elt F .bf16) → Prop) (h : OK (src.view.read (Elt F) e)) :
    heldAt c blk fullShare (landed c src blk f e) ⊢ doneAt c blk OK := by
  unfold doneAt
  iintro H
  iexists _
  isplitl [H]; · iexact H
  ipureintro
  have e1 := View.read_writes_whole blk.view f (ReadAs.same.apply (src.view.read (Elt F) e))
  exact e1 ▸ h
theorem half_split {sp : Space} {s : Shape} {e : EltTy} (m : Memref sig .tc sp s e) (f : Buf (Elt F) (m.view.loc (c : Thread nD τ))) :
    heldAt c m fullShare f ⊢ iprop(heldAt c m fullShare.left f ∗ heldAt c m fullShare.right f) := (pointsTo_share (PosShare.mem_left_op_right _)).1
theorem half_join {sp : Space} {s : Shape} {e : EltTy} (m : Memref sig .tc sp s e) (f : Buf (Elt F) (m.view.loc (c : Thread nD τ))) :
    iprop(heldAt c m fullShare.left f ∗ heldAt c m fullShare.right f) ⊢ heldAt c m fullShare f := (pointsTo_share (PosShare.mem_left_op_right _)).2
/-- A slot's elements are its source's: the source is the slot reshaped. -/
theorem esrc_set (u : ℕ) : (esrc u).view.set = (eslot u).view.set := View.set_reshape _ _
theorem osrc_set (u : ℕ) : (osrc u).view.set = (oslot u).view.set := View.set_reshape _ _
theorem e_to_src (u : ℕ) (q) (f : Buf (Elt F) ((eslot u).view.loc (c : Thread nD τ))) : heldAt c (eslot u) q f ⊢ heldAt c (esrc u) q f := by
  show ((eslot u).view.loc (c : Thread nD τ) ↦[(eslot u).view.set]{q} f : sProp 𝕄) ⊢ ((eslot u).view.loc (c : Thread nD τ) ↦[(esrc u).view.set]{q} f)
  rw [esrc_set]
theorem e_to_slot (u : ℕ) (q) (f : Buf (Elt F) ((esrc u).view.loc (c : Thread nD τ))) : heldAt c (esrc u) q f ⊢ heldAt c (eslot u) q f := by
  show ((eslot u).view.loc (c : Thread nD τ) ↦[(esrc u).view.set]{q} f : sProp 𝕄) ⊢ ((eslot u).view.loc (c : Thread nD τ) ↦[(eslot u).view.set]{q} f)
  rw [esrc_set]
theorem o_to_src (u : ℕ) (q) (f : Buf (Elt F) ((oslot u).view.loc (c : Thread nD τ))) : heldAt c (oslot u) q f ⊢ heldAt c (osrc u) q f := by
  show ((oslot u).view.loc (c : Thread nD τ) ↦[(oslot u).view.set]{q} f : sProp 𝕄) ⊢ ((oslot u).view.loc (c : Thread nD τ) ↦[(osrc u).view.set]{q} f)
  rw [osrc_set]
theorem o_to_slot (u : ℕ) (q) (f : Buf (Elt F) ((osrc u).view.loc (c : Thread nD τ))) : heldAt c (osrc u) q f ⊢ heldAt c (oslot u) q f := by
  show ((oslot u).view.loc (c : Thread nD τ) ↦[(osrc u).view.set]{q} f : sProp 𝕄) ⊢ ((oslot u).view.loc (c : Thread nD τ) ↦[(oslot u).view.set]{q} f)
  rw [osrc_set]

theorem cond1_of {k : Fin k0_t2_loop.trips} (h : 4 ≤ k.val) : k0_cond1 k = 1#1 := (cond1_iff k).2 h

variable (EOK OOK : ℕ → (S512x128.Idx → Elt F .bf16) → Prop)

/-- Slot `s` idle: both semaphores at zero, both slots in hand. -/
def idleO (s : ℕ) : sProp 𝕄 :=
  iprop(semVal ((c : Thread nD τ), SemLoc.dma (ecell s).sem) 0 ∗ semVal ((c : Thread nD τ), SemLoc.dma (ocell s).sem) 0 ∗ heldAny c (eslot s) ∗ heldAny c (oslot s))
/-- Slot `s` with tile `u`'s two copies under way. -/
def busyO (s u : ℕ) : sProp 𝕄 := iprop(flE c (ecell s) (esrc s) (eblk u) (EOK u) ∗ flO c (ocell s) (osrc s) (oblk u) (OOK u))
/-- Tile `u`'s blocks of the two results done. -/
def doneB (u : ℕ) : sProp 𝕄 := iprop(doneAt c (eblk u) (EOK u) ∗ doneAt c (oblk u) (OOK u))
/-- What slot `k` holds when trip `k` begins, and what the trip's waits give back. -/
def slotIn (k : ℕ) : sProp 𝕄 := if 4 ≤ k then busyO c EOK OOK k (k - 4) else idleO c k
def backB (k : ℕ) : sProp 𝕄 := if 4 ≤ k then doneB c EOK OOK (k - 4) else iprop(⌜True⌝)

theorem slotIn_pos {k : ℕ} (h : 4 ≤ k) : slotIn c EOK OOK k = busyO c EOK OOK k (k - 4) := if_pos h
theorem slotIn_neg {k : ℕ} (h : ¬ 4 ≤ k) : slotIn c EOK OOK k = idleO c k := if_neg h
theorem busyO_per {s s' : ℕ} (h : s % 4 = s' % 4) (u : ℕ) : busyO c EOK OOK s u = busyO c EOK OOK s' u := by
  unfold busyO; rw [ecell_per h, ocell_per h, esrc_per h, osrc_per h]
end Ring
end Cert.Proof.RingIdeal
-- ==== Proof.Vals.lean ====
module

public import proofs.«01_k».proof.Proof.Slab
public import Idealize.ShloMosaic.Lib.Pointwise.Reshape

/-! What one trip leaves in its two tile buffers, as functions of the gathered rows, the scales and the weight. -/

@[expose] public section

noncomputable section

namespace Cert.Proof.RingIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Good
variable {α : Type}

/-- The place inside its store of an index of a tile buffer. -/
def locIx (y : S4x64x8x128.Idx) : S1x8x2x128.Idx :=
  Fin.cons ⟨0, by decide⟩ (Fin.cons ⟨(y 1).val % 8, Nat.mod_lt _ (by decide)⟩ (Fin.cons ⟨(y 2).val % 2, Nat.mod_lt _ (by decide)⟩
    (Fin.cons ⟨(y 3).val, (y 3).isLt⟩ finZeroElim)))
/-- The first `n` stores of tile `u`'s slot hold what `T` says, `T p q` being the store of token pair `p` and groups `8 q …`. -/
def Good (M : Memref sig .tc .vmem S4x64x8x128 .bf16) (u n : ℕ) (T : ℕ → ℕ → S1x8x2x128.Idx → Elt F .bf16) (f : M.view.ty.Contents (Elt F)) : Prop :=
  ∀ y : S4x64x8x128.Idx, (y 0).val = u % 4 → 8 * ((y 2).val / 2) + (y 1).val / 8 < n → M.view.read (Elt F) f y = T ((y 2).val / 2) ((y 1).val / 8) (locIx y)

theorem slot_emb (u p q : ℕ) (inb) (y : S4x64x8x128.Idx) (h0 : (y 0).val = u % 4) (h1 : (y 1).val / 8 = q) (h2 : (y 2).val / 2 = p) :
    (Rect.unit (s := S4x64x8x128) (slotAt u (8 * q) (2 * p)) S1x8x2x128.size inb).emb (locIx y) = y := by
  funext a; apply Fin.ext; rw [Rect.emb_apply]
  fin_cases a
  · show u % 4 + 1 * 0 = (y 0).val; omega
  · show 8 * q + 1 * ((y 1).val % 8) = (y 1).val; omega
  · show 2 * p + 1 * ((y 2).val % 2) = (y 2).val; omega
  · show 0 + 1 * (y 3).val = (y 3).val; omega

theorem good_zero (M : Memref sig .tc .vmem S4x64x8x128 .bf16) (u : ℕ) (T : ℕ → ℕ → S1x8x2x128.Idx → Elt F .bf16) (f) : Good M u 0 T f :=
  fun _ _ h => absurd h (Nat.not_lt_zero _)
theorem good_step {M : Memref sig .tc .vmem S4x64x8x128 .bf16} {u : ℕ} (p q : ℕ) (hq : q < 8) {T : ℕ → ℕ → S1x8x2x128.Idx → Elt F .bf16}
    {f : M.view.ty.Contents (Elt F)} (hf : Good M u (8 * p + q) T f) {off : Fin 4 → ℕ} (ho : off = slotAt u (8 * q) (2 * p)) {inb} {val : S1x8x2x128.Idx → Elt F .bf16}
    (hv : val = T p q) :
    Good M u (8 * p + q + 1) T (View.write (Elt F) (M.access (Rect.unit (s := S4x64x8x128) off S1x8x2x128.size inb)) f val Finset.univ) := by
  subst ho hv
  intro y h0 hn
  have h1 : (y 1).val < 64 := (y 1).isLt
  by_cases h : (y 1).val / 8 = q ∧ (y 2).val / 2 = p
  · have e := slot_emb u p q inb y h0 h.1 h.2
    have := View.read_write_of_mem (v := M.view.slice (Rect.unit (s := S4x64x8x128) (slotAt u (8 * q) (2 * p)) S1x8x2x128.size inb)) f (T p q) (Finset.mem_univ (locIx y))
    rw [h.1, h.2]
    refine Eq.trans ?_ this
    show _ = M.view.read (Elt F) _ ((Rect.unit (s := S4x64x8x128) (slotAt u (8 * q) (2 * p)) S1x8x2x128.size inb).emb (locIx y))
    rw [e]
  · have hn' : 8 * ((y 2).val / 2) + (y 1).val / 8 < 8 * p + q := by omega
    refine Eq.trans ?_ (hf y h0 hn')
    rw [View.read_apply, View.read_apply]
    refine congrArg _ ?_
    refine View.write_of_not_mem (v := M.view.slice (Rect.unit (s := S4x64x8x128) (slotAt u (8 * q) (2 * p)) S1x8x2x128.size inb)) f (T p q) Finset.univ ?_
    intro hm
    obtain ⟨x, -, hx⟩ := Finset.mem_map.1 hm
    have hx' : M.view.emb ((Rect.unit (s := S4x64x8x128) (slotAt u (8 * q) (2 * p)) S1x8x2x128.size inb).emb x) = M.view.emb y := hx
    have e := M.view.emb.injective hx'
    subst e
    have x1 : (x 1).val < 8 := (x 1).isLt
    have x2 : (x 2).val < 2 := (x 2).isLt
    apply h
    rw [Rect.emb_apply, Rect.emb_apply]
    constructor
    · show (8 * q + 1 * (x 1).val) / 8 = q; omega
    · show (2 * p + 1 * (x 2).val) / 2 = p; omega
end Good

section Vals
variable (c : Dev nD) (G : S16384.Idx → Elt F .i32) (W : S8000x8192.Idx → Elt F .i32)
variable (S : S64x32000.Idx → Elt F .f32)

theorem grp_inb (b : ℕ) (a : Fin S64x128.rank) : S8x128.size a = 0 ∨ (![b % 50, 0] : Fin 2 → ℕ) a + (![2, 1] : Fin 2 → ℕ) a * (S8x128.size a - 1) < S64x128.size a := by
  fin_cases a
  · right; show b % 50 + 2 * (8 - 1) < 64; omega
  · right; show 0 + 1 * (128 - 1) < 128; omega
/-- Every second group of gathered row `j` from group `b` on. -/
def grp (j b : ℕ) : S8x128.Idx → Elt F .i32 :=
  View.readAt (Elt F) (qrow j).view { off := ![b % 50, 0], size := S8x128.size, stride := ![2, 1], inb := grp_inb b } (slab c G W j)
theorem sc_inb {v : BitVec 32} (h : v.toNat < 32000) (q : ℕ) : ∀ a, (![8 * (q % 8), laneW v] : Fin 2 → ℕ) a + S8x128.size a ≤ S64x32000.size a := by
  intro a; fin_cases a
  · show 8 * (q % 8) + 8 ≤ 64; omega
  · exact (chk_pair h).2.1 1
/-- The scales of groups `8 q …` in the lanes of the 128 tokens that token `v` is one of. -/
def scAt (v : BitVec 32) (h : v.toNat < 32000) (q : ℕ) : S8x128.Idx → Elt F .f32 :=
  fun x => S ((Rect.unit (s := S64x32000) ![8 * (q % 8), laneW v] S8x128.size (sc_inb h q)).toLoadRect.idx x)
def shW (v : BitVec 32) : BitVec 32 := Scalar.muli (Scalar.andi v 3#32) 8#32
def laneOf (v : BitVec 32) : IVec S8x128 32 := broadcast S8x128 (Scalar.andi v 127#32)
/-- The codes of two tokens' groups `8 q …`, the tokens alternating row by row. -/
def tileV (j j' q : ℕ) (v0 v1 : BitVec 32) (h0 : v0.toNat < 32000) (h1 : v1.toNat < 32000) : FVec F S16x128 .bf16 :=
  let C : FVec F S32x128 .bf16 := k0_pay16 (shW v0) (shW v1) (grp c G W j (16 * (q / 2))) (grp c G W j' (16 * (q / 2))) (grp c G W j (16 * (q / 2) + 1)) (grp c G W j' (16 * (q / 2) + 1))
  if q % 2 = 0 then k0_pay18 (laneOf v0) (laneOf v1) C (k0_pay17 (scAt S v0 h0 q)) (scAt S v1 h1 q)
  else k0_pay11 (laneOf v0) (laneOf v1) C (scAt S v0 h0 q) (scAt S v1 h1 q)
def storeV (t : FVec F S16x128 .bf16) : S1x8x2x128.Idx → Elt F .bf16 :=
  k0_pay9 (rowsOfParity 0 S8x128 t bitcasts_S16x128_w16_S8x128_w32) (rowsOfParity 1 S8x128 t bitcasts_S16x128_w16_S8x128_w32)
/-- The running sum of squares after the groups up to `8 n + 7`. -/
def accV (j j' : ℕ) (v0 v1 : BitVec 32) (h0 : v0.toNat < 32000) (h1 : v1.toNat < 32000) (n : ℕ) : FVec F S8x128 .f32 :=
  Nat.rec (k0_pay10 (tileV c G W S j j' 0 v0 v1 h0 h1)) (fun n a => k0_pay15 a (tileV c G W S j j' (n + 1) v0 v1 h0 h1)) n
def ms0V (j j' : ℕ) (v0 v1 : BitVec 32) (h0 : v0.toNat < 32000) (h1 : v1.toNat < 32000) : FVec F S1x1 .f32 :=
  k0_pay50 (accV c G W S j j' v0 v1 h0 h1 6) (tileV c G W S j j' 7 v0 v1 h0 h1)
def ms1V (j j' : ℕ) (v0 v1 : BitVec 32) (h0 : v0.toNat < 32000) (h1 : v1.toNat < 32000) : FVec F S1x1 .f32 :=
  k0_pay51 (accV c G W S j j' v0 v1 h0 h1 6) (tileV c G W S j j' 7 v0 v1 h0 h1)
variable (v : ℕ → BitVec 32) (hv : ∀ j, (v j).toNat < 32000)
/-- What tile `k` stores into the second result for token pair `p` and groups `8 q …`. -/
def embTile (k p q : ℕ) : S1x8x2x128.Idx → Elt F .bf16 :=
  storeV (tileV c G W S (8 * k + 2 * p) (8 * k + (2 * p + 1)) q (v (2 * p)) (v (2 * p + 1)) (hv _) (hv _))
theorem wt_inb (q : ℕ) : ∀ a, (![8 * (q % 8), 0] : Fin 2 → ℕ) a + S8x128.size a ≤ S64x128.size a := by
  intro a; fin_cases a
  · show 8 * (q % 8) + 8 ≤ 64; omega
  · show 0 + 128 ≤ 128; omega
variable (N : S64x128.Idx → Elt F .bf16)
/-- What tile `k` stores into the first result for token pair `p` and groups `8 q …`. -/
def outTile (k p q : ℕ) : S1x8x2x128.Idx → Elt F .bf16 :=
  k0_pay207 (ms0V c G W S (8 * k + 2 * p) (8 * k + (2 * p + 1)) (v (2 * p)) (v (2 * p + 1)) (hv _) (hv _))
    (ms1V c G W S (8 * k + 2 * p) (8 * k + (2 * p + 1)) (v (2 * p)) (v (2 * p + 1)) (hv _) (hv _))
    (embTile c G W S v hv k p q)
    (fun x => N ((Rect.unit (s := S64x128) ![8 * (q % 8), 0] S8x128.size (wt_inb q)).toLoadRect.idx x))
/-- A list of eight ids, then `d`. -/
def ids8 (a0 a1 a2 a3 a4 a5 a6 a7 : BitVec 32) (d : ℕ → BitVec 32) : ℕ → BitVec 32
  | 0 => a0 | 1 => a1 | 2 => a2 | 3 => a3 | 4 => a4 | 5 => a5 | 6 => a6 | 7 => a7 | n => d n
theorem ids8_eq (d : ℕ → BitVec 32) : ids8 (d 0) (d 1) (d 2) (d 3) (d 4) (d 5) (d 6) (d 7) d = d := by
  funext n; unfold ids8; split <;> rfl
/-- The ids of tile `u`'s tokens. -/
abbrev idsT (u : ℕ) : ℕ → BitVec 32 := fun j => idAt G (8 * u + j)
/-- Where a row of a tile sits in the tile's slot: row `8 g + r` is group `g` of token `r`. -/
def rowIx (u : ℕ) (x : S512x128.Idx) : S4x64x8x128.Idx :=
  Fin.cons ⟨u % 4, Nat.mod_lt _ (by decide)⟩ (Fin.cons ⟨(x 0).val / 8, by have : (x 0).val < 512 := (x 0).isLt; show _ < 64; omega⟩
    (Fin.cons ⟨(x 0).val % 8, Nat.mod_lt _ (by decide)⟩ (Fin.cons ⟨(x 1).val, (x 1).isLt⟩ finZeroElim)))
def rowsOf (u : ℕ) (T : ℕ → ℕ → S1x8x2x128.Idx → Elt F .bf16) (x : S512x128.Idx) : Elt F .bf16 :=
  T ((rowIx u x 2).val / 2) ((rowIx u x 1).val / 8) (locIx (rowIx u x))
theorem reshape_tile (u : ℕ) (inb) (h : S1x64x8x128.numel = S64x8x128.numel) (h' : S64x8x128.numel = S512x128.numel) (x : S512x128.Idx) :
    (Rect.unit (s := S4x64x8x128) (slotAt u 0 0) S1x64x8x128.size inb).emb (Shape.reshapeEquiv (s := S1x64x8x128) (s' := S64x8x128) h.symm
      (Shape.reshapeEquiv (s := S64x8x128) (s' := S512x128) h'.symm x)) = rowIx u x := by
  have h0 : (x 0).val < 512 := (x 0).isLt
  rw [Shape.reshapeEquiv_reshapeEquiv, Shape.reshapeEquiv_eq_of_vals (s := S1x64x8x128) (s' := S512x128) _ _ (Fin.cons ⟨0, (by decide : 0 < 1)⟩ (Fin.cons ⟨(x 0).val / 8, by show _ < 64; omega⟩
    (Fin.cons ⟨(x 0).val % 8, Nat.mod_lt _ (by decide)⟩ (Fin.cons ⟨(x 1).val, (x 1).isLt⟩ finZeroElim))) : S1x64x8x128.Idx) _ _
    (rowMajor_val4 _ 65536 1024 128 rfl rfl rfl) (rowMajor_val2 _ 128 rfl) ?_]
  · funext a; apply Fin.ext; rw [Rect.emb_apply]
    fin_cases a
    · show u % 4 + 1 * 0 = u % 4; omega
    · show 0 + 1 * ((x 0).val / 8) = (x 0).val / 8; omega
    · show 0 + 1 * ((x 0).val % 8) = (x 0).val % 8; omega
    · show 0 + 1 * (x 1).val = (x 1).val; omega
  · show 0 * 65536 + (x 0).val / 8 * 1024 + (x 0).val % 8 * 128 + (x 1).val = (x 0).val * 128 + (x 1).val
    omega
theorem good_rows_e {u : ℕ} {T : ℕ → ℕ → S1x8x2x128.Idx → Elt F .bf16} {f} (h : Good ebM u 32 T f) : (esrc u).view.read (Elt F) f = rowsOf u T := by
  funext x
  have h0 : (x 0).val < 512 := (x 0).isLt
  refine Eq.trans ?_ (h (rowIx u x) rfl (show 8 * ((x 0).val % 8 / 2) + (x 0).val / 8 / 8 < 32 by omega))
  rw [← reshape_tile u (slotAt_inb u) (by decide) (by decide) x]; rfl
theorem good_rows_o {u : ℕ} {T : ℕ → ℕ → S1x8x2x128.Idx → Elt F .bf16} {f} (h : Good obM u 32 T f) : (osrc u).view.read (Elt F) f = rowsOf u T := by
  funext x
  have h0 : (x 0).val < 512 := (x 0).isLt
  refine Eq.trans ?_ (h (rowIx u x) rfl (show 8 * ((x 0).val % 8 / 2) + (x 0).val / 8 / 8 < 32 by omega))
  rw [← reshape_tile u (slotAt_inb u) (by decide) (by decide) x]; rfl
/-- Tile `u` of the two results, row by row. -/
def embRows (hG : ∀ x, (G x).toNat < 32000) (u : ℕ) : S512x128.Idx → Elt F .bf16 :=
  rowsOf u (embTile c G W S (idsT G u) (fun _ => hG _) u)
def outRows (hG : ∀ x, (G x).toNat < 32000) (u : ℕ) : S512x128.Idx → Elt F .bf16 :=
  rowsOf u (outTile c G W S (idsT G u) (fun _ => hG _) N u)
/-- What a filled slot of the second result is read back as. -/
theorem good_read {u : ℕ} {T : ℕ → ℕ → S1x8x2x128.Idx → Elt F .bf16} {f} (h : Good ebM u 32 T f) {p q : ℕ} (hp : p < 4) (hq : q < 8)
    {off : Fin 4 → ℕ} (ho : off = slotAt u (8 * q) (2 * p)) (inb) :
    View.readAt (Elt F) ebM.view (Rect.unit (s := S4x64x8x128) off S1x8x2x128.size inb).toLoadRect f = T p q := by
  subst ho
  funext x
  have x0 : (x 0).val < 1 := (x 0).isLt
  have x1 : (x 1).val < 8 := (x 1).isLt
  have x2 : (x 2).val < 2 := (x 2).isLt
  have e0 : ((Rect.unit (s := S4x64x8x128) (slotAt u (8 * q) (2 * p)) S1x8x2x128.size inb).emb x 0).val = u % 4 + 1 * (x 0).val := Rect.emb_apply _ _ _
  have e1 : ((Rect.unit (s := S4x64x8x128) (slotAt u (8 * q) (2 * p)) S1x8x2x128.size inb).emb x 1).val = 8 * q + 1 * (x 1).val := Rect.emb_apply _ _ _
  have e2 : ((Rect.unit (s := S4x64x8x128) (slotAt u (8 * q) (2 * p)) S1x8x2x128.size inb).emb x 2).val = 2 * p + 1 * (x 2).val := Rect.emb_apply _ _ _
  have e3 : ((Rect.unit (s := S4x64x8x128) (slotAt u (8 * q) (2 * p)) S1x8x2x128.size inb).emb x 3).val = 0 + 1 * (x 3).val := Rect.emb_apply _ _ _
  have a1 : ((Rect.unit (s := S4x64x8x128) (slotAt u (8 * q) (2 * p)) S1x8x2x128.size inb).emb x 1).val / 8 = q := by rw [e1]; omega
  have a2 : ((Rect.unit (s := S4x64x8x128) (slotAt u (8 * q) (2 * p)) S1x8x2x128.size inb).emb x 2).val / 2 = p := by rw [e2]; omega
  have := h ((Rect.unit (s := S4x64x8x128) (slotAt u (8 * q) (2 * p)) S1x8x2x128.size inb).emb x) (by rw [e0]; omega) (by rw [a1, a2]; omega)
  rw [a1, a2] at this
  refine Eq.trans (show _ = _ from rfl) (this.trans (congrArg (T p q) ?_))
  funext a; apply Fin.ext
  fin_cases a
  · show 0 = (x 0).val; omega
  · show _ % 8 = (x 1).val; rw [e1]; omega
  · show _ % 2 = (x 2).val; rw [e2]; omega
  · exact e3.trans ((Nat.zero_add _).trans (Nat.one_mul _))
end Vals
end Cert.Proof.RingIdeal
end
-- ==== Proof.Trip.lean ====
module

public import proofs.«01_k».proof.Proof.Ring
public import proofs.«01_k».proof.Proof.Vals

/-! One trip of the main loop. -/

@[expose] public section

noncomputable section

namespace Cert.Proof.RingIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! The executor reads a slot access's place from its offset's closed form. -/
instance (u g p : ℕ) : ClosedOff (slotAt u g p) := ⟨![u % 4, g, p, 0], rfl⟩
instance (k : Fin k0_t2_loop.trips) : ClosedOff (k0_off72 k) := ⟨![k.val % 4, 0, 0, 0], off72_eq k⟩
instance (k : Fin k0_t2_loop.trips) : ClosedOff (k0_off73 k) := ⟨![k.val % 4, 0, 0, 0], off73_eq k⟩
instance (k : Fin k0_t2_loop.trips) : ClosedOff (k0_off76 k) := ⟨![k.val % 4, 8, 0, 0], off76_eq k⟩
instance (k : Fin k0_t2_loop.trips) : ClosedOff (k0_off79 k) := ⟨![k.val % 4, 16, 0, 0], off79_eq k⟩
instance (k : Fin k0_t2_loop.trips) : ClosedOff (k0_off82 k) := ⟨![k.val % 4, 24, 0, 0], off82_eq k⟩
instance (k : Fin k0_t2_loop.trips) : ClosedOff (k0_off85 k) := ⟨![k.val % 4, 32, 0, 0], off85_eq k⟩
instance (k : Fin k0_t2_loop.trips) : ClosedOff (k0_off88 k) := ⟨![k.val % 4, 40, 0, 0], off88_eq k⟩
instance (k : Fin k0_t2_loop.trips) : ClosedOff (k0_off91 k) := ⟨![k.val % 4, 48, 0, 0], off91_eq k⟩
instance (k : Fin k0_t2_loop.trips) : ClosedOff (k0_off94 k) := ⟨![k.val % 4, 56, 0, 0], off94_eq k⟩
instance (k : Fin k0_t2_loop.trips) : ClosedOff (k0_off99 k) := ⟨![k.val % 4, 0, 0, 0], off99_eq k⟩
instance (k : Fin k0_t2_loop.trips) : ClosedOff (k0_off100 k) := ⟨![k.val % 4, 0, 2, 0], off100_eq k⟩
instance (k : Fin k0_t2_loop.trips) : ClosedOff (k0_off103 k) := ⟨![k.val % 4, 8, 2, 0], off103_eq k⟩
instance (k : Fin k0_t2_loop.trips) : ClosedOff (k0_off106 k) := ⟨![k.val % 4, 16, 2, 0], off106_eq k⟩
instance (k : Fin k0_t2_loop.trips) : ClosedOff (k0_off109 k) := ⟨![k.val % 4, 24, 2, 0], off109_eq k⟩
instance (k : Fin k0_t2_loop.trips) : ClosedOff (k0_off112 k) := ⟨![k.val % 4, 32, 2, 0], off112_eq k⟩
instance (k : Fin k0_t2_loop.trips) : ClosedOff (k0_off115 k) := ⟨![k.val % 4, 40, 2, 0], off115_eq k⟩
instance (k : Fin k0_t2_loop.trips) : ClosedOff (k0_off118 k) := ⟨![k.val % 4, 48, 2, 0], off118_eq k⟩
instance (k : Fin k0_t2_loop.trips) : ClosedOff (k0_off121 k) := ⟨![k.val % 4, 56, 2, 0], off121_eq k⟩
instance (k : Fin k0_t2_loop.trips) : ClosedOff (k0_off126 k) := ⟨![k.val % 4, 0, 0, 0], off126_eq k⟩
instance (k : Fin k0_t2_loop.trips) : ClosedOff (k0_off127 k) := ⟨![k.val % 4, 0, 4, 0], off127_eq k⟩
instance (k : Fin k0_t2_loop.trips) : ClosedOff (k0_off130 k) := ⟨![k.val % 4, 8, 4, 0], off130_eq k⟩
instance (k : Fin k0_t2_loop.trips) : ClosedOff (k0_off133 k) := ⟨![k.val % 4, 16, 4, 0], off133_eq k⟩
instance (k : Fin k0_t2_loop.trips) : ClosedOff (k0_off136 k) := ⟨![k.val % 4, 24, 4, 0], off136_eq k⟩
instance (k : Fin k0_t2_loop.trips) : ClosedOff (k0_off139 k) := ⟨![k.val % 4, 32, 4, 0], off139_eq k⟩
instance (k : Fin k0_t2_loop.trips) : ClosedOff (k0_off142 k) := ⟨![k.val % 4, 40, 4, 0], off142_eq k⟩
instance (k : Fin k0_t2_loop.trips) : ClosedOff (k0_off145 k) := ⟨![k.val % 4, 48, 4, 0], off145_eq k⟩
instance (k : Fin k0_t2_loop.trips) : ClosedOff (k0_off148 k) := ⟨![k.val % 4, 56, 4, 0], off148_eq k⟩
instance (k : Fin k0_t2_loop.trips) : ClosedOff (k0_off154 k) := ⟨![k.val % 4, 0, 6, 0], off154_eq k⟩
instance (k : Fin k0_t2_loop.trips) : ClosedOff (k0_off157 k) := ⟨![k.val % 4, 8, 6, 0], off157_eq k⟩
instance (k : Fin k0_t2_loop.trips) : ClosedOff (k0_off160 k) := ⟨![k.val % 4, 16, 6, 0], off160_eq k⟩
instance (k : Fin k0_t2_loop.trips) : ClosedOff (k0_off163 k) := ⟨![k.val % 4, 24, 6, 0], off163_eq k⟩
instance (k : Fin k0_t2_loop.trips) : ClosedOff (k0_off166 k) := ⟨![k.val % 4, 32, 6, 0], off166_eq k⟩
instance (k : Fin k0_t2_loop.trips) : ClosedOff (k0_off169 k) := ⟨![k.val % 4, 40, 6, 0], off169_eq k⟩
instance (k : Fin k0_t2_loop.trips) : ClosedOff (k0_off172 k) := ⟨![k.val % 4, 48, 6, 0], off172_eq k⟩
instance (k : Fin k0_t2_loop.trips) : ClosedOff (k0_off175 k) := ⟨![k.val % 4, 56, 6, 0], off175_eq k⟩
instance (k : Fin k0_t2_loop.trips) : ClosedOff (k0_off178 k) := ⟨![k.val % 4, 0, 0, 0], off178_eq k⟩
instance (k : Fin k0_t2_loop.trips) : ClosedOff (k0_off179 k) := ⟨![k.val % 4, 8, 0, 0], off179_eq k⟩
instance (k : Fin k0_t2_loop.trips) : ClosedOff (k0_off180 k) := ⟨![k.val % 4, 16, 0, 0], off180_eq k⟩
instance (k : Fin k0_t2_loop.trips) : ClosedOff (k0_off181 k) := ⟨![k.val % 4, 24, 0, 0], off181_eq k⟩
instance (k : Fin k0_t2_loop.trips) : ClosedOff (k0_off182 k) := ⟨![k.val % 4, 32, 0, 0], off182_eq k⟩
instance (k : Fin k0_t2_loop.trips) : ClosedOff (k0_off183 k) := ⟨![k.val % 4, 40, 0, 0], off183_eq k⟩
instance (k : Fin k0_t2_loop.trips) : ClosedOff (k0_off184 k) := ⟨![k.val % 4, 48, 0, 0], off184_eq k⟩
instance (k : Fin k0_t2_loop.trips) : ClosedOff (k0_off185 k) := ⟨![k.val % 4, 56, 0, 0], off185_eq k⟩
instance (k : Fin k0_t2_loop.trips) : ClosedOff (k0_off186 k) := ⟨![k.val % 4, 0, 2, 0], off186_eq k⟩
instance (k : Fin k0_t2_loop.trips) : ClosedOff (k0_off187 k) := ⟨![k.val % 4, 8, 2, 0], off187_eq k⟩
instance (k : Fin k0_t2_loop.trips) : ClosedOff (k0_off188 k) := ⟨![k.val % 4, 16, 2, 0], off188_eq k⟩
instance (k : Fin k0_t2_loop.trips) : ClosedOff (k0_off189 k) := ⟨![k.val % 4, 24, 2, 0], off189_eq k⟩
instance (k : Fin k0_t2_loop.trips) : ClosedOff (k0_off190 k) := ⟨![k.val % 4, 32, 2, 0], off190_eq k⟩
instance (k : Fin k0_t2_loop.trips) : ClosedOff (k0_off191 k) := ⟨![k.val % 4, 40, 2, 0], off191_eq k⟩
instance (k : Fin k0_t2_loop.trips) : ClosedOff (k0_off192 k) := ⟨![k.val % 4, 48, 2, 0], off192_eq k⟩
instance (k : Fin k0_t2_loop.trips) : ClosedOff (k0_off193 k) := ⟨![k.val % 4, 56, 2, 0], off193_eq k⟩
instance (k : Fin k0_t2_loop.trips) : ClosedOff (k0_off194 k) := ⟨![k.val % 4, 0, 4, 0], off194_eq k⟩
instance (k : Fin k0_t2_loop.trips) : ClosedOff (k0_off195 k) := ⟨![k.val % 4, 8, 4, 0], off195_eq k⟩
instance (k : Fin k0_t2_loop.trips) : ClosedOff (k0_off196 k) := ⟨![k.val % 4, 16, 4, 0], off196_eq k⟩
instance (k : Fin k0_t2_loop.trips) : ClosedOff (k0_off197 k) := ⟨![k.val % 4, 24, 4, 0], off197_eq k⟩
instance (k : Fin k0_t2_loop.trips) : ClosedOff (k0_off198 k) := ⟨![k.val % 4, 32, 4, 0], off198_eq k⟩
instance (k : Fin k0_t2_loop.trips) : ClosedOff (k0_off199 k) := ⟨![k.val % 4, 40, 4, 0], off199_eq k⟩
instance (k : Fin k0_t2_loop.trips) : ClosedOff (k0_off200 k) := ⟨![k.val % 4, 48, 4, 0], off200_eq k⟩
instance (k : Fin k0_t2_loop.trips) : ClosedOff (k0_off201 k) := ⟨![k.val % 4, 56, 4, 0], off201_eq k⟩

section Trip2
variable (c : Dev nD) (G : S16384.Idx → Elt F .i32) (W : S8000x8192.Idx → Elt F .i32)
  (arg3 : Memref sig .tc .vmem S64x32000 .f32) (harg3 : arg3.IsWhole) (arg4 : Memref sig .tc .vmem S64x128 .bf16) (harg4 : arg4.IsWhole)
  (i : grid0.Coords) (SC : Buf (Elt F) (arg3.view.loc (c : Thread nD τ))) (NW : Buf (Elt F) (arg4.view.loc (c : Thread nD τ)))

theorem wTok_join (j : ℕ) : iprop(wPart c G W j ∗ wRest c G W j) ⊢ wTok c W j :=
  (pointsTo_split_subset (Finset.subset_univ _)).2
theorem slab_of (u : ℕ) (r : Fin 8) : iprop((∃ f, (qline (8 * u + r.val)).view.loc (c : Thread nD τ) ↦[(qline (8 * u + r.val)).view.set]{fullShare}
      (qline (8 * u + r.val)).view.writes (Elt F) f [⟨Rect.whole S1x8192, ReadAs.same.apply ((wrow (idAt G (8 * u + r.val))).view.read (Elt F) W)⟩]))
    ⊢ ((qrow (8 * u + r.val)).view.loc (c : Thread nD τ) ↦[(qrow (8 * u + r.val)).view.set]{fullShare} slab c G W (8 * u + r.val) : sProp 𝕄) := by
  iintro ⟨%f, H⟩
  iapply (row_slab c G W (8 * u + r.val) f)
  iexact H

abbrev scP : sProp 𝕄 := arg3.view.loc (c : Thread nD τ) ↦[arg3.view.set]{fullShare} SC
abbrev nwP : sProp 𝕄 := arg4.view.loc (c : Thread nD τ) ↦[arg4.view.set]{fullShare} NW
variable (EOK OOK : ℕ → (S512x128.Idx → Elt F .bf16) → Prop)

/-- A block of a result before its tile is stored; the gather ring's slot once the trip has restarted it. -/
def fresh (blk : Memref sig .tc .hbm S512x128 .bf16) : sProp 𝕄 := heldAny c blk
def gNext (k : ℕ) : sProp 𝕄 := if k + 32 < 2048 then inG c G W (k + 32) else freeG c W (k + 32)

theorem rows_any (j : ℕ) (f : Buf (Elt F) ((qrow j).view.loc (c : Thread nD τ))) : heldAt c (qrow j) fullShare f ⊢ rowAny c j := by
  have e : (qline j).view.set = (qrow j).view.set := View.set_reshape _ _
  have h : heldAt c (qrow j) fullShare f ⊢ ((qline j).view.loc (c : Thread nD τ) ↦[(qline j).view.set]{fullShare} f : sProp 𝕄) := by
    show ((qrow j).view.loc (c : Thread nD τ) ↦[(qrow j).view.set]{fullShare} f : sProp 𝕄) ⊢ ((qrow j).view.loc (c : Thread nD τ) ↦[(qline j).view.set]{fullShare} f)
    rw [e]
  iintro H
  iexists f
  iapply h
  iexact H
theorem rowAny_per {j j' : ℕ} (h : j % 256 = j' % 256) : rowAny (F := F) c j = rowAny c j' := by
  unfold rowAny; rw [qline_per h]
theorem ok_any {OK : ℕ → (S512x128.Idx → Elt F .bf16) → Prop} (h : ∀ u e, OK u e) (u : ℕ) (m : Memref sig .tc .vmem S512x128 .bf16)
    (f : Buf (Elt F) (m.view.loc (c : Thread nD τ))) : OK u (m.view.read (Elt F) f) := h u _
/-- A slot once stored, as its copy's source: only what it reads as matters from then on. -/
theorem e_fix (u : ℕ) (f : Buf (Elt F) ((eslot u).view.loc (c : Thread nD τ))) (h : EOK u ((esrc u).view.read (Elt F) f)) :
    heldAt c (eslot u) fullShare f ⊢ iprop(∃ e, heldAt c (eslot u) fullShare e ∗ ⌜e = f⌝ ∗ ⌜EOK u ((esrc u).view.read (Elt F) e)⌝) := by
  iintro H
  iexists f
  isplitl [H]; · iexact H
  isplitl; · ipureintro; rfl
  ipureintro; exact h
theorem o_fix (u : ℕ) (f : Buf (Elt F) ((oslot u).view.loc (c : Thread nD τ))) (h : OOK u ((osrc u).view.read (Elt F) f)) :
    heldAt c (oslot u) fullShare f ⊢ iprop(∃ e, heldAt c (osrc u) fullShare e ∗ ⌜OOK u ((osrc u).view.read (Elt F) e)⌝) := by
  iintro H
  iexists f
  isplitl [H]; · iapply (o_to_src c u fullShare f); iexact H
  ipureintro; exact h
theorem flE_of (s u : ℕ) (f e) (h : EOK u ((esrc s).view.read (Elt F) e)) :
    iprop(flight c (ecell s) (esrc s) (eblk u) fullShare.right f e ∗ heldAt c (esrc s) fullShare.left e) ⊢ flE c (ecell s) (esrc s) (eblk u) (EOK u) := by
  unfold flE
  iintro ⟨H, H'⟩
  iexists f, e
  isplitl [H]; · iexact H
  isplitl [H']; · iexact H'
  ipureintro; exact h
theorem flO_of (s u : ℕ) (f e) (h : OOK u ((osrc s).view.read (Elt F) e)) :
    flight c (ocell s) (osrc s) (oblk u) fullShare f e ⊢ flO c (ocell s) (osrc s) (oblk u) (OOK u) := by
  unfold flO
  iintro H
  iexists f, e
  isplitl [H]; · iexact H
  ipureintro; exact h
theorem freeG_per {u u' : ℕ} (h : u % 32 = u' % 32) : freeG c W u = freeG c W u' := by
  have e (r : ℕ) : (8 * u + r) % 256 = (8 * u' + r) % 256 := by omega
  have e1 : (fun r => rowAny (F := F) c (8 * u + r)) = fun r => rowAny c (8 * u' + r) := funext fun r => rowAny_per c (e r)
  have e2 : (fun r => wTok c W (8 * u + r)) = fun r => wTok c W (8 * u' + r) := funext fun r => by simp only [wTok, tok, e r]
  unfold freeG
  rw [qcell_per h, e1, e2]

set_option maxHeartbeats 2000000 in
theorem t2_step [∀ e, Nonempty (Elt F e)] (hG : ∀ x, (G x).toNat < 32000)
    (hE : ∀ u, EOK u (embRows c G W (arg3.view.read (Elt F) SC) hG u))
    (hO : ∀ u, OOK u (outRows c G W (arg3.view.read (Elt F) SC) (arg4.view.read (Elt F) NW) hG u)) (k : Fin k0_t2_loop.trips) :
    iprop(idsP c G ∗ inG c G W k.val ∗ (∃ o, owes c 0 o) ∗ scP c arg3 SC ∗ nwP c arg4 NW ∗ slotIn c EOK OOK k.val
      ∗ fresh c (eblk k.val) ∗ fresh c (oblk k.val)) ⊢ wp frame (wpE defs₀ 𝒱₀ (c : Thread nD τ) none) Set.univ
      (k0_t2_body (F := F) i idM (Memref.isWhole_whole _) wordM (Memref.isWhole_whole _) arg3 harg3 arg4 harg4
        outM (Memref.isWhole_whole _) embM (Memref.isWhole_whole _) rowM (Memref.isWhole_whole _) ebM (Memref.isWhole_whole _)
        obM (Memref.isWhole_whole _) cc0_scratch3 cc0_scratch4 cc0_scratch5 k ())
      (fun _ => iprop(idsP c G ∗ gNext c G W k.val ∗ (∃ o, owes c 0 o) ∗ scP c arg3 SC ∗ nwP c arg4 NW
        ∗ busyO c EOK OOK k.val k.val ∗ backB c EOK OOK k.val)) := by
  unfold inG
  iintro ⟨HI, ⟨HB, HW0, HW1, HW2, HW3, HW4, HW5, HW6, HW7⟩, ⟨%ow, Howe⟩, HSC, HNW, HS, HNE, HNO⟩
  have hk : k.val < 2048 := lt_of_lt_of_eq k.isLt t2_trips
  sl_unfold [k0_t2_body]
  sl_exec (disch := first | exact chk_row (hG _) | exact chk_pair (hG _) | exact fun _ => chk_row (hG _))
  -- the two output copies of four trips ago
  iapply (wp_wand_r frame _ Set.univ (Q := fun x => iprop(⌜x.1 = idAt G (8 * k.val + 0)⌝ ∗ idsP c G ∗ (∃ o, owes c 0 o)
    ∗ idleO c k.val ∗ backB c EOK OOK k.val)))
  isplitl [HI Howe HS]
  · by_cases h4 : 4 ≤ k.val
    · have hc := (cond1_iff k).2 h4
      ihave HS := (Entails.of_eq (slotIn_pos c EOK OOK h4)) $$ HS
      unfold busyO flE flO
      icases HS with ⟨⟨%fe, %ee, HF, HL, %he⟩, ⟨%fo, %eo, HFo, %ho⟩⟩
      sl_exec (disch := first | exact chk_row (hG _) | exact chk_pair (hG _) | exact fun _ => chk_row (hG _))
      sl_step
      ihave HL := (half_join c (esrc k.val) ee) $$ [HL HF_src]
      · isplitl [HL]; · iexact HL
        iexact HF_src
      ihave HL := (e_to_slot c k.val fullShare ee) $$ HL
      ihave HFo_src := (o_to_slot c k.val fullShare eo) $$ HFo_src
      isplitr
      · ipureintro; exact id_read G (off68_eq0 k) (by omega) _ _
      isplitl [HI]; · iexact HI
      isplitl [Howe]; · iexists _; iexact Howe
      isplitl [HF HFo HL HFo_src]
      · unfold idleO
        isplitl [HF]; · iexact HF
        isplitl [HFo]; · iexact HFo
        isplitl [HL]; · iexists ee; iexact HL
        iexists eo; iexact HFo_src
      unfold backB
      rw [if_pos h4]
      unfold doneB
      isplitl [HF_dst]
      · iapply (done_of c (esrc k.val) (eblk (k.val - 4)) fe ee (EOK (k.val - 4)) he); iexact HF_dst
      iapply (done_of c (osrc k.val) (oblk (k.val - 4)) fo eo (OOK (k.val - 4)) ho); iexact HFo_dst
    · have hc : ¬ k0_cond1 k = 1#1 := fun h => h4 ((cond1_iff k).1 h)
      ihave HS := (Entails.of_eq (slotIn_neg c EOK OOK h4)) $$ HS
      sl_exec (disch := first | exact chk_row (hG _) | exact chk_pair (hG _) | exact fun _ => chk_row (hG _))
      sl_step
      isplitr
      · ipureintro; exact id_read G (off68_eq0 k) (by omega) _ _
      isplitl [HI]; · iexact HI
      isplitl [Howe]; · iexists _; iexact Howe
      isplitl [HS]; · iexact HS
      unfold backB
      rw [if_neg h4]
      ipureintro; trivial
  iintro %x ⟨%hx, HI, ⟨%ow, Howe⟩, HS, HBK⟩
  obtain ⟨v183, hw17, v185⟩ := x
  dsimp only at hx
  unfold idleO
  icases HS with ⟨HEC, HOC, ⟨%es, HE⟩, ⟨%os, HO⟩⟩
  ihave HT0 := (wTok_join c G W (8 * k.val + 0)) $$ [HB_src0 HW0]
  · isplitl [HB_src0]; · iexact HB_src0
    iexact HW0
  ihave HR0 := (slab_of c G W k.val 0) $$ HB_dst0
  ihave HT1 := (wTok_join c G W (8 * k.val + 1)) $$ [HB_src1 HW1]
  · isplitl [HB_src1]; · iexact HB_src1
    iexact HW1
  ihave HR1 := (slab_of c G W k.val 1) $$ HB_dst1
  ihave HT2 := (wTok_join c G W (8 * k.val + 2)) $$ [HB_src2 HW2]
  · isplitl [HB_src2]; · iexact HB_src2
    iexact HW2
  ihave HR2 := (slab_of c G W k.val 2) $$ HB_dst2
  ihave HT3 := (wTok_join c G W (8 * k.val + 3)) $$ [HB_src3 HW3]
  · isplitl [HB_src3]; · iexact HB_src3
    iexact HW3
  ihave HR3 := (slab_of c G W k.val 3) $$ HB_dst3
  ihave HT4 := (wTok_join c G W (8 * k.val + 4)) $$ [HB_src4 HW4]
  · isplitl [HB_src4]; · iexact HB_src4
    iexact HW4
  ihave HR4 := (slab_of c G W k.val 4) $$ HB_dst4
  ihave HT5 := (wTok_join c G W (8 * k.val + 5)) $$ [HB_src5 HW5]
  · isplitl [HB_src5]; · iexact HB_src5
    iexact HW5
  ihave HR5 := (slab_of c G W k.val 5) $$ HB_dst5
  ihave HT6 := (wTok_join c G W (8 * k.val + 6)) $$ [HB_src6 HW6]
  · isplitl [HB_src6]; · iexact HB_src6
    iexact HW6
  ihave HR6 := (slab_of c G W k.val 6) $$ HB_dst6
  ihave HT7 := (wTok_join c G W (8 * k.val + 7)) $$ [HB_src7 HW7]
  · isplitl [HB_src7]; · iexact HB_src7
    iexact HW7
  ihave HR7 := (slab_of c G W k.val 7) $$ HB_dst7
  sl_exec (disch := first | exact chk_row (hG _) | exact chk_pair (hG _) | exact fun _ => chk_row (hG _))
  -- the eight ids, and what the tile's stores amount to
  have hids : (ids8 v183 (t2_step.sl.r_10 G k) (t2_step.sl.r_43 G k) (t2_step.sl.r_46 G k) (t2_step.sl.r_79 G k) (t2_step.sl.r_82 G k) (t2_step.sl.r_115 G k) (t2_step.sl.r_118 G k) (idsT G k.val)) = idsT G k.val := by
    rw [hx, show t2_step.sl.r_10 G k = idAt G (8 * k.val + 1) from id_read G (off68_eq1 k) (by omega) _ _,
      show t2_step.sl.r_43 G k = idAt G (8 * k.val + 2) from id_read G (off95_eq0 k) (by omega) _ _, show t2_step.sl.r_46 G k = idAt G (8 * k.val + 3) from id_read G (off95_eq1 k) (by omega) _ _,
      show t2_step.sl.r_79 G k = idAt G (8 * k.val + 4) from id_read G (off122_eq0 k) (by omega) _ _, show t2_step.sl.r_82 G k = idAt G (8 * k.val + 5) from id_read G (off122_eq1 k) (by omega) _ _,
      show t2_step.sl.r_115 G k = idAt G (8 * k.val + 6) from id_read G (off149_eq0 k) (by omega) _ _, show t2_step.sl.r_118 G k = idAt G (8 * k.val + 7) from id_read G (off149_eq1 k) (by omega) _ _]
    exact ids8_eq (idsT G k.val)
  have hge (hv) : Good ebM k.val 32 (embTile c G W (arg3.view.read (Elt F) SC) (ids8 v183 (t2_step.sl.r_10 G k) (t2_step.sl.r_43 G k) (t2_step.sl.r_46 G k) (t2_step.sl.r_79 G k) (t2_step.sl.r_82 G k) (t2_step.sl.r_115 G k) (t2_step.sl.r_118 G k) (idsT G k.val)) hv k.val) (t2_step.sl.HE_w32 c G W arg3 SC hG k v183 hw17 es) := by
    refine good_step 3 7 (by decide) ?_ (off175_eq k) rfl
    refine good_step 3 6 (by decide) ?_ (off172_eq k) rfl
    refine good_step 3 5 (by decide) ?_ (off169_eq k) rfl
    refine good_step 3 4 (by decide) ?_ (off166_eq k) rfl
    refine good_step 3 3 (by decide) ?_ (off163_eq k) rfl
    refine good_step 3 2 (by decide) ?_ (off160_eq k) rfl
    refine good_step 3 1 (by decide) ?_ (off157_eq k) rfl
    refine good_step 3 0 (by decide) ?_ (off154_eq k) rfl
    refine good_step 2 7 (by decide) ?_ (off148_eq k) rfl
    refine good_step 2 6 (by decide) ?_ (off145_eq k) rfl
    refine good_step 2 5 (by decide) ?_ (off142_eq k) rfl
    refine good_step 2 4 (by decide) ?_ (off139_eq k) rfl
    refine good_step 2 3 (by decide) ?_ (off136_eq k) rfl
    refine good_step 2 2 (by decide) ?_ (off133_eq k) rfl
    refine good_step 2 1 (by decide) ?_ (off130_eq k) rfl
    refine good_step 2 0 (by decide) ?_ (off127_eq k) rfl
    refine good_step 1 7 (by decide) ?_ (off121_eq k) rfl
    refine good_step 1 6 (by decide) ?_ (off118_eq k) rfl
    refine good_step 1 5 (by decide) ?_ (off115_eq k) rfl
    refine good_step 1 4 (by decide) ?_ (off112_eq k) rfl
    refine good_step 1 3 (by decide) ?_ (off109_eq k) rfl
    refine good_step 1 2 (by decide) ?_ (off106_eq k) rfl
    refine good_step 1 1 (by decide) ?_ (off103_eq k) rfl
    refine good_step 1 0 (by decide) ?_ (off100_eq k) rfl
    refine good_step 0 7 (by decide) ?_ (off94_eq k) rfl
    refine good_step 0 6 (by decide) ?_ (off91_eq k) rfl
    refine good_step 0 5 (by decide) ?_ (off88_eq k) rfl
    refine good_step 0 4 (by decide) ?_ (off85_eq k) rfl
    refine good_step 0 3 (by decide) ?_ (off82_eq k) rfl
    refine good_step 0 2 (by decide) ?_ (off79_eq k) rfl
    refine good_step 0 1 (by decide) ?_ (off76_eq k) rfl
    refine good_step 0 0 (by decide) ?_ (off73_eq k) rfl
    exact good_zero _ _ _ _
  have hge' := hge
  rw [hids] at hge'
  ihave HE := (e_fix c EOK k.val (t2_step.sl.HE_w32 c G W arg3 SC hG k v183 hw17 es) ((good_rows_e (hge' fun _ => hG _)).symm ▸ hE k.val)) $$ HE
  icases HE with ⟨%ee, HE, %hee, %hok⟩
  ihave HE := (half_split c (eslot k.val) ee) $$ HE
  icases HE with ⟨HE, HEr⟩
  ihave HEr := (e_to_src c k.val fullShare.right ee) $$ HEr
  unfold fresh
  icases HNE with ⟨%fne, HNE⟩
  sl_exec (disch := first | exact chk_row (hG _) | exact chk_pair (hG _) | exact fun _ => chk_row (hG _))
  have hgo (hv) : Good obM k.val 32 (outTile c G W (arg3.view.read (Elt F) SC) (ids8 v183 (t2_step.sl.r_10 G k) (t2_step.sl.r_43 G k) (t2_step.sl.r_46 G k) (t2_step.sl.r_79 G k) (t2_step.sl.r_82 G k) (t2_step.sl.r_115 G k) (t2_step.sl.r_118 G k) (idsT G k.val)) hv (arg4.view.read (Elt F) NW) k.val) (t2_step.sl.HO_w32 c G W arg3 arg4 SC NW hG k v183 hw17 os ee) := by
    have hge := hge hv
    rw [← hee] at hge
    refine good_step 3 7 (by decide) ?_ (off175_eq k) (congrArg (fun x => k0_pay207 _ _ x _) (good_read hge (by decide) (by decide) (off175_eq k) _))
    refine good_step 3 6 (by decide) ?_ (off172_eq k) (congrArg (fun x => k0_pay207 _ _ x _) (good_read hge (by decide) (by decide) (off172_eq k) _))
    refine good_step 3 5 (by decide) ?_ (off169_eq k) (congrArg (fun x => k0_pay207 _ _ x _) (good_read hge (by decide) (by decide) (off169_eq k) _))
    refine good_step 3 4 (by decide) ?_ (off166_eq k) (congrArg (fun x => k0_pay207 _ _ x _) (good_read hge (by decide) (by decide) (off166_eq k) _))
    refine good_step 3 3 (by decide) ?_ (off163_eq k) (congrArg (fun x => k0_pay207 _ _ x _) (good_read hge (by decide) (by decide) (off163_eq k) _))
    refine good_step 3 2 (by decide) ?_ (off160_eq k) (congrArg (fun x => k0_pay207 _ _ x _) (good_read hge (by decide) (by decide) (off160_eq k) _))
    refine good_step 3 1 (by decide) ?_ (off157_eq k) (congrArg (fun x => k0_pay207 _ _ x _) (good_read hge (by decide) (by decide) (off157_eq k) _))
    refine good_step 3 0 (by decide) ?_ (off154_eq k) (congrArg (fun x => k0_pay207 _ _ x _) (good_read hge (by decide) (by decide) (off154_eq k) _))
    refine good_step 2 7 (by decide) ?_ (off201_eq k) (congrArg (fun x => k0_pay207 _ _ x _) (good_read hge (by decide) (by decide) (off201_eq k) _))
    refine good_step 2 6 (by decide) ?_ (off200_eq k) (congrArg (fun x => k0_pay207 _ _ x _) (good_read hge (by decide) (by decide) (off200_eq k) _))
    refine good_step 2 5 (by decide) ?_ (off199_eq k) (congrArg (fun x => k0_pay207 _ _ x _) (good_read hge (by decide) (by decide) (off199_eq k) _))
    refine good_step 2 4 (by decide) ?_ (off198_eq k) (congrArg (fun x => k0_pay207 _ _ x _) (good_read hge (by decide) (by decide) (off198_eq k) _))
    refine good_step 2 3 (by decide) ?_ (off197_eq k) (congrArg (fun x => k0_pay207 _ _ x _) (good_read hge (by decide) (by decide) (off197_eq k) _))
    refine good_step 2 2 (by decide) ?_ (off196_eq k) (congrArg (fun x => k0_pay207 _ _ x _) (good_read hge (by decide) (by decide) (off196_eq k) _))
    refine good_step 2 1 (by decide) ?_ (off195_eq k) (congrArg (fun x => k0_pay207 _ _ x _) (good_read hge (by decide) (by decide) (off195_eq k) _))
    refine good_step 2 0 (by decide) ?_ (off194_eq k) (congrArg (fun x => k0_pay207 _ _ x _) (good_read hge (by decide) (by decide) (off194_eq k) _))
    refine good_step 1 7 (by decide) ?_ (off193_eq k) (congrArg (fun x => k0_pay207 _ _ x _) (good_read hge (by decide) (by decide) (off193_eq k) _))
    refine good_step 1 6 (by decide) ?_ (off192_eq k) (congrArg (fun x => k0_pay207 _ _ x _) (good_read hge (by decide) (by decide) (off192_eq k) _))
    refine good_step 1 5 (by decide) ?_ (off191_eq k) (congrArg (fun x => k0_pay207 _ _ x _) (good_read hge (by decide) (by decide) (off191_eq k) _))
    refine good_step 1 4 (by decide) ?_ (off190_eq k) (congrArg (fun x => k0_pay207 _ _ x _) (good_read hge (by decide) (by decide) (off190_eq k) _))
    refine good_step 1 3 (by decide) ?_ (off189_eq k) (congrArg (fun x => k0_pay207 _ _ x _) (good_read hge (by decide) (by decide) (off189_eq k) _))
    refine good_step 1 2 (by decide) ?_ (off188_eq k) (congrArg (fun x => k0_pay207 _ _ x _) (good_read hge (by decide) (by decide) (off188_eq k) _))
    refine good_step 1 1 (by decide) ?_ (off187_eq k) (congrArg (fun x => k0_pay207 _ _ x _) (good_read hge (by decide) (by decide) (off187_eq k) _))
    refine good_step 1 0 (by decide) ?_ (off186_eq k) (congrArg (fun x => k0_pay207 _ _ x _) (good_read hge (by decide) (by decide) (off186_eq k) _))
    refine good_step 0 7 (by decide) ?_ (off185_eq k) (congrArg (fun x => k0_pay207 _ _ x _) (good_read hge (by decide) (by decide) (off185_eq k) _))
    refine good_step 0 6 (by decide) ?_ (off184_eq k) (congrArg (fun x => k0_pay207 _ _ x _) (good_read hge (by decide) (by decide) (off184_eq k) _))
    refine good_step 0 5 (by decide) ?_ (off183_eq k) (congrArg (fun x => k0_pay207 _ _ x _) (good_read hge (by decide) (by decide) (off183_eq k) _))
    refine good_step 0 4 (by decide) ?_ (off182_eq k) (congrArg (fun x => k0_pay207 _ _ x _) (good_read hge (by decide) (by decide) (off182_eq k) _))
    refine good_step 0 3 (by decide) ?_ (off181_eq k) (congrArg (fun x => k0_pay207 _ _ x _) (good_read hge (by decide) (by decide) (off181_eq k) _))
    refine good_step 0 2 (by decide) ?_ (off180_eq k) (congrArg (fun x => k0_pay207 _ _ x _) (good_read hge (by decide) (by decide) (off180_eq k) _))
    refine good_step 0 1 (by decide) ?_ (off179_eq k) (congrArg (fun x => k0_pay207 _ _ x _) (good_read hge (by decide) (by decide) (off179_eq k) _))
    refine good_step 0 0 (by decide) ?_ (off178_eq k) (congrArg (fun x => k0_pay207 _ _ x _) (good_read hge (by decide) (by decide) (off178_eq k) _))
    exact good_zero _ _ _ _
  rw [hids] at hgo
  ihave HO := (o_fix c OOK k.val (t2_step.sl.HO_w32 c G W arg3 arg4 SC NW hG k v183 hw17 os ee) ((good_rows_o (hgo fun _ => hG _)).symm ▸ hO k.val)) $$ HO
  icases HO with ⟨%oo, HO, %hok'⟩

  icases HNO with ⟨%fno, HNO⟩
  sl_exec (disch := first | exact chk_row (hG _) | exact chk_pair (hG _) | exact fun _ => chk_row (hG _))
  ihave HR0 := (rows_any c (8 * k.val + 0) (slab c G W (8 * k.val + 0))) $$ HR0
  ihave HR1 := (rows_any c (8 * k.val + 1) (slab c G W (8 * k.val + 1))) $$ HR1
  ihave HR2 := (rows_any c (8 * k.val + 2) (slab c G W (8 * k.val + 2))) $$ HR2
  ihave HR3 := (rows_any c (8 * k.val + 3) (slab c G W (8 * k.val + 3))) $$ HR3
  ihave HR4 := (rows_any c (8 * k.val + 4) (slab c G W (8 * k.val + 4))) $$ HR4
  ihave HR5 := (rows_any c (8 * k.val + 5) (slab c G W (8 * k.val + 5))) $$ HR5
  ihave HR6 := (rows_any c (8 * k.val + 6) (slab c G W (8 * k.val + 6))) $$ HR6
  ihave HR7 := (rows_any c (8 * k.val + 7) (slab c G W (8 * k.val + 7))) $$ HR7
  ihave HG : freeG c W k.val $$ [HB HR0 HR1 HR2 HR3 HR4 HR5 HR6 HR7 HT0 HT1 HT2 HT3 HT4 HT5 HT6 HT7]
  · unfold freeG
    isplitl [HB]; · iexact HB
    isplitl [HR0 HR1 HR2 HR3 HR4 HR5 HR6 HR7]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      iexact HR7
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    iexact HT7
  ihave HG := (Entails.of_eq (freeG_per c W (show k.val % 32 = (k.val + 32) % 32 by omega))) $$ HG
  iapply (wp_wand_r frame _ Set.univ (Q := fun _ => iprop(idsP c G ∗ (∃ o, owes c 0 o) ∗ gNext c G W k.val)))
  isplitl [HI Howe HG]
  · by_cases h32 : k.val + 32 < 2048
    · have hc := (cond2_iff k).2 h32
      unfold freeG
      icases HG with ⟨HC, ⟨⟨%f0, HR0⟩, ⟨%f1, HR1⟩, ⟨%f2, HR2⟩, ⟨%f3, HR3⟩, ⟨%f4, HR4⟩, ⟨%f5, HR5⟩, ⟨%f6, HR6⟩, ⟨%f7, HR7⟩⟩, HT0, HT1, HT2, HT3, HT4, HT5, HT6, HT7⟩
      ihave HT0 := (wTok_split c G W (8 * (k.val + 32) + 0)) $$ HT0
      icases HT0 with ⟨HP0, HW0⟩
      ihave HT1 := (wTok_split c G W (8 * (k.val + 32) + 1)) $$ HT1
      icases HT1 with ⟨HP1, HW1⟩
      ihave HT2 := (wTok_split c G W (8 * (k.val + 32) + 2)) $$ HT2
      icases HT2 with ⟨HP2, HW2⟩
      ihave HT3 := (wTok_split c G W (8 * (k.val + 32) + 3)) $$ HT3
      icases HT3 with ⟨HP3, HW3⟩
      ihave HT4 := (wTok_split c G W (8 * (k.val + 32) + 4)) $$ HT4
      icases HT4 with ⟨HP4, HW4⟩
      ihave HT5 := (wTok_split c G W (8 * (k.val + 32) + 5)) $$ HT5
      icases HT5 with ⟨HP5, HW5⟩
      ihave HT6 := (wTok_split c G W (8 * (k.val + 32) + 6)) $$ HT6
      icases HT6 with ⟨HP6, HW6⟩
      ihave HT7 := (wTok_split c G W (8 * (k.val + 32) + 7)) $$ HT7
      icases HT7 with ⟨HP7, HW7⟩
      imod (Transfers.batch_alloc' (Lvl := ℕ) (countersEmb (U := UU nD τ)) (c : Thread nD τ) () gN (gD c G W (k.val + 32)) (sm := .dma (qcell (k.val + 32)).sem) (E := Set.univ)) $$ HC with HB
      sl_exec
      have e0 : t2_step.sl.r_207 G k hc = idAt G (8 * (k.val + 32) + 0) := id_read G (off202_eq k) (by omega) _ _
      have c0 : k0_chk25 k (idAt G (8 * (k.val + 32) + 0)) := fun _ => chk_row (hG _)
      rw [e0]
      sl_exec
      have e1 : t2_step.sl.r_208 G k hc = idAt G (8 * (k.val + 32) + 1) := id_read G (off206_eq k) (by omega) _ _
      have c1 : k0_chk26 k (idAt G (8 * (k.val + 32) + 1)) := fun _ => chk_row (hG _)
      rw [e1]
      sl_exec
      have e2 : t2_step.sl.r_210 G k hc = idAt G (8 * (k.val + 32) + 2) := id_read G (off210_eq k) (by omega) _ _
      have c2 : k0_chk27 k (idAt G (8 * (k.val + 32) + 2)) := fun _ => chk_row (hG _)
      rw [e2]
      sl_exec
      have e3 : t2_step.sl.r_211 G k hc = idAt G (8 * (k.val + 32) + 3) := id_read G (off214_eq k) (by omega) _ _
      have c3 : k0_chk28 k (idAt G (8 * (k.val + 32) + 3)) := fun _ => chk_row (hG _)
      rw [e3]
      sl_exec
      have e4 : t2_step.sl.r_212 G k hc = idAt G (8 * (k.val + 32) + 4) := id_read G (off218_eq k) (by omega) _ _
      have c4 : k0_chk29 k (idAt G (8 * (k.val + 32) + 4)) := fun _ => chk_row (hG _)
      rw [e4]
      sl_exec
      have e5 : t2_step.sl.r_214 G k hc = idAt G (8 * (k.val + 32) + 5) := id_read G (off222_eq k) (by omega) _ _
      have c5 : k0_chk30 k (idAt G (8 * (k.val + 32) + 5)) := fun _ => chk_row (hG _)
      rw [e5]
      sl_exec
      have e6 : t2_step.sl.r_215 G k hc = idAt G (8 * (k.val + 32) + 6) := id_read G (off226_eq k) (by omega) _ _
      have c6 : k0_chk31 k (idAt G (8 * (k.val + 32) + 6)) := fun _ => chk_row (hG _)
      rw [e6]
      sl_exec
      have e7 : t2_step.sl.r_216 G k hc = idAt G (8 * (k.val + 32) + 7) := id_read G (off230_eq k) (by omega) _ _
      have c7 : k0_chk32 k (idAt G (8 * (k.val + 32) + 7)) := fun _ => chk_row (hG _)
      rw [e7]
      sl_exec
      sl_step
      isplitl [HI]; · iexact HI
      isplitl [Howe]; · iexists _; iexact Howe
      unfold gNext
      rw [if_pos h32]
      unfold inG
      isplitl [HB]; · iexact HB
      isplitl [HW0]; · iexact HW0
      isplitl [HW1]; · iexact HW1
      isplitl [HW2]; · iexact HW2
      isplitl [HW3]; · iexact HW3
      isplitl [HW4]; · iexact HW4
      isplitl [HW5]; · iexact HW5
      isplitl [HW6]; · iexact HW6
      iexact HW7
    · have hc : ¬ k0_cond2 k = 1#1 := fun h => h32 ((cond2_iff k).1 h)
      sl_exec (disch := first | exact chk_row (hG _) | exact chk_pair (hG _) | exact fun _ => chk_row (hG _))
      sl_step
      isplitl [HI]; · iexact HI
      isplitl [Howe]; · iexists _; iexact Howe
      unfold gNext
      rw [if_neg h32]
      iexact HG
  iintro %x ⟨HI, ⟨%ow, Howe⟩, HG⟩
  isplitl [HI]; · iexact HI
  isplitl [HG]; · iexact HG
  isplitl [Howe]; · iexists _; iexact Howe
  isplitl [HSC]; · iexact HSC
  isplitl [HNW]; · iexact HNW
  isplitl [HE HEC HOC]
  · unfold busyO
    ihave HE := (e_to_src c k.val fullShare.left ee) $$ HE
    isplitl [HE HEC]
    · iapply (flE_of c EOK k.val k.val fne ee hok)
      isplitl [HEC]; · iexact HEC
      iexact HE
    · iapply (flO_of c OOK k.val k.val fno oo hok')
      iexact HOC
  iexact HBK
end Trip2
end Cert.Proof.RingIdeal
-- ==== Proof.Body.lean ====
module

public import proofs.«01_k».proof.Proof.Trip

/-! The whole body: the two loops by their invariants, then the last four tiles' waits. -/

@[expose] public section

noncomputable section

namespace Cert.Proof.RingIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! The last four tiles' copies, waited for at literal places. -/
@[sl_canon] theorem ecellL0 (hh) : (cc0_scratch4.slice (Rect.unit (s := S4) ![0] S1.size hh)).squeeze S_ squeezes_S1_S_ = ecell 0 := ecell_congr (u := 0) (show (![0] : Fin 1 → ℕ) = scellOff 0 from rfl) _
@[sl_canon] theorem ocellL0 (hh) : (cc0_scratch5.slice (Rect.unit (s := S4) ![0] S1.size hh)).squeeze S_ squeezes_S1_S_ = ocell 0 := ocell_congr (u := 0) (show (![0] : Fin 1 → ℕ) = scellOff 0 from rfl) _
@[sl_canon] theorem eslotL0 (hh hs) : (ebM.slice (Rect.unit (s := S4x64x8x128) ![0, 0, 0, 0] S1x64x8x128.size hh) hs).squeeze S64x8x128 squeezes_S1x64x8x128_S64x8x128 = eslot 0 := eslot_congr (u := 0) (show (![0, 0, 0, 0] : Fin 4 → ℕ) = slotAt 0 0 0 from rfl) _ _
@[sl_canon] theorem oslotL0 (hh hs) : (obM.slice (Rect.unit (s := S4x64x8x128) ![0, 0, 0, 0] S1x64x8x128.size hh) hs).squeeze S64x8x128 squeezes_S1x64x8x128_S64x8x128 = oslot 0 := oslot_congr (u := 0) (show (![0, 0, 0, 0] : Fin 4 → ℕ) = slotAt 0 0 0 from rfl) _ _
@[sl_canon] theorem eblkL0 (hh hs) : embM.slice (Rect.unit (s := S1048576x128) ![1046528, 0] S512x128.size hh) hs = eblk 2044 := eblk_congr (u := 2044) (show (![1046528, 0] : Fin 2 → ℕ) = rOff 2044 from rfl) _ _
@[sl_canon] theorem oblkL0 (hh hs) : outM.slice (Rect.unit (s := S1048576x128) ![1046528, 0] S512x128.size hh) hs = oblk 2044 := oblk_congr (u := 2044) (show (![1046528, 0] : Fin 2 → ℕ) = rOff 2044 from rfl) _ _
@[sl_canon] theorem ecellL1 (hh) : (cc0_scratch4.slice (Rect.unit (s := S4) ![1] S1.size hh)).squeeze S_ squeezes_S1_S_ = ecell 1 := ecell_congr (u := 1) (show (![1] : Fin 1 → ℕ) = scellOff 1 from rfl) _
@[sl_canon] theorem ocellL1 (hh) : (cc0_scratch5.slice (Rect.unit (s := S4) ![1] S1.size hh)).squeeze S_ squeezes_S1_S_ = ocell 1 := ocell_congr (u := 1) (show (![1] : Fin 1 → ℕ) = scellOff 1 from rfl) _
@[sl_canon] theorem eslotL1 (hh hs) : (ebM.slice (Rect.unit (s := S4x64x8x128) ![1, 0, 0, 0] S1x64x8x128.size hh) hs).squeeze S64x8x128 squeezes_S1x64x8x128_S64x8x128 = eslot 1 := eslot_congr (u := 1) (show (![1, 0, 0, 0] : Fin 4 → ℕ) = slotAt 1 0 0 from rfl) _ _
@[sl_canon] theorem oslotL1 (hh hs) : (obM.slice (Rect.unit (s := S4x64x8x128) ![1, 0, 0, 0] S1x64x8x128.size hh) hs).squeeze S64x8x128 squeezes_S1x64x8x128_S64x8x128 = oslot 1 := oslot_congr (u := 1) (show (![1, 0, 0, 0] : Fin 4 → ℕ) = slotAt 1 0 0 from rfl) _ _
@[sl_canon] theorem eblkL1 (hh hs) : embM.slice (Rect.unit (s := S1048576x128) ![1047040, 0] S512x128.size hh) hs = eblk 2045 := eblk_congr (u := 2045) (show (![1047040, 0] : Fin 2 → ℕ) = rOff 2045 from rfl) _ _
@[sl_canon] theorem oblkL1 (hh hs) : outM.slice (Rect.unit (s := S1048576x128) ![1047040, 0] S512x128.size hh) hs = oblk 2045 := oblk_congr (u := 2045) (show (![1047040, 0] : Fin 2 → ℕ) = rOff 2045 from rfl) _ _
@[sl_canon] theorem ecellL2 (hh) : (cc0_scratch4.slice (Rect.unit (s := S4) ![2] S1.size hh)).squeeze S_ squeezes_S1_S_ = ecell 2 := ecell_congr (u := 2) (show (![2] : Fin 1 → ℕ) = scellOff 2 from rfl) _
@[sl_canon] theorem ocellL2 (hh) : (cc0_scratch5.slice (Rect.unit (s := S4) ![2] S1.size hh)).squeeze S_ squeezes_S1_S_ = ocell 2 := ocell_congr (u := 2) (show (![2] : Fin 1 → ℕ) = scellOff 2 from rfl) _
@[sl_canon] theorem eslotL2 (hh hs) : (ebM.slice (Rect.unit (s := S4x64x8x128) ![2, 0, 0, 0] S1x64x8x128.size hh) hs).squeeze S64x8x128 squeezes_S1x64x8x128_S64x8x128 = eslot 2 := eslot_congr (u := 2) (show (![2, 0, 0, 0] : Fin 4 → ℕ) = slotAt 2 0 0 from rfl) _ _
@[sl_canon] theorem oslotL2 (hh hs) : (obM.slice (Rect.unit (s := S4x64x8x128) ![2, 0, 0, 0] S1x64x8x128.size hh) hs).squeeze S64x8x128 squeezes_S1x64x8x128_S64x8x128 = oslot 2 := oslot_congr (u := 2) (show (![2, 0, 0, 0] : Fin 4 → ℕ) = slotAt 2 0 0 from rfl) _ _
@[sl_canon] theorem eblkL2 (hh hs) : embM.slice (Rect.unit (s := S1048576x128) ![1047552, 0] S512x128.size hh) hs = eblk 2046 := eblk_congr (u := 2046) (show (![1047552, 0] : Fin 2 → ℕ) = rOff 2046 from rfl) _ _
@[sl_canon] theorem oblkL2 (hh hs) : outM.slice (Rect.unit (s := S1048576x128) ![1047552, 0] S512x128.size hh) hs = oblk 2046 := oblk_congr (u := 2046) (show (![1047552, 0] : Fin 2 → ℕ) = rOff 2046 from rfl) _ _
@[sl_canon] theorem ecellL3 (hh) : (cc0_scratch4.slice (Rect.unit (s := S4) ![3] S1.size hh)).squeeze S_ squeezes_S1_S_ = ecell 3 := ecell_congr (u := 3) (show (![3] : Fin 1 → ℕ) = scellOff 3 from rfl) _
@[sl_canon] theorem ocellL3 (hh) : (cc0_scratch5.slice (Rect.unit (s := S4) ![3] S1.size hh)).squeeze S_ squeezes_S1_S_ = ocell 3 := ocell_congr (u := 3) (show (![3] : Fin 1 → ℕ) = scellOff 3 from rfl) _
@[sl_canon] theorem eslotL3 (hh hs) : (ebM.slice (Rect.unit (s := S4x64x8x128) ![3, 0, 0, 0] S1x64x8x128.size hh) hs).squeeze S64x8x128 squeezes_S1x64x8x128_S64x8x128 = eslot 3 := eslot_congr (u := 3) (show (![3, 0, 0, 0] : Fin 4 → ℕ) = slotAt 3 0 0 from rfl) _ _
@[sl_canon] theorem oslotL3 (hh hs) : (obM.slice (Rect.unit (s := S4x64x8x128) ![3, 0, 0, 0] S1x64x8x128.size hh) hs).squeeze S64x8x128 squeezes_S1x64x8x128_S64x8x128 = oslot 3 := oslot_congr (u := 3) (show (![3, 0, 0, 0] : Fin 4 → ℕ) = slotAt 3 0 0 from rfl) _ _
@[sl_canon] theorem eblkL3 (hh hs) : embM.slice (Rect.unit (s := S1048576x128) ![1048064, 0] S512x128.size hh) hs = eblk 2047 := eblk_congr (u := 2047) (show (![1048064, 0] : Fin 2 → ℕ) = rOff 2047 from rfl) _ _
@[sl_canon] theorem oblkL3 (hh hs) : outM.slice (Rect.unit (s := S1048576x128) ![1048064, 0] S512x128.size hh) hs = oblk 2047 := oblk_congr (u := 2047) (show (![1048064, 0] : Fin 2 → ℕ) = rOff 2047 from rfl) _ _

section Body
variable (c : Dev nD) (G : S16384.Idx → Elt F .i32) (W : S8000x8192.Idx → Elt F .i32)
  (arg3 : Memref sig .tc .vmem S64x32000 .f32) (harg3 : arg3.IsWhole) (arg4 : Memref sig .tc .vmem S64x128 .bf16) (harg4 : arg4.IsWhole)
  (i : grid0.Coords) (SC : Buf (Elt F) (arg3.view.loc (c : Thread nD τ))) (NW : Buf (Elt F) (arg4.view.loc (c : Thread nD τ)))
  (EOK OOK : ℕ → (S512x128.Idx → Elt F .bf16) → Prop)

/-- One more at the end, one less at the front. -/
theorem range_succ (Φ : ℕ → sProp 𝕄) (k : ℕ) : bigSep (Finset.range (k + 1)) Φ = iprop(Φ k ∗ bigSep (Finset.range k) Φ) := by
  rw [Finset.range_add_one, bigSep_insert (by simp)]; rfl
theorem ico_front (Φ : ℕ → sProp 𝕄) {a b : ℕ} (h : a < b) : bigSep (Finset.Ico a b) Φ = iprop(Φ a ∗ bigSep (Finset.Ico (a + 1) b) Φ) := by
  rw [show Finset.Ico a b = insert a (Finset.Ico (a + 1) b) from by ext x; simp; omega, bigSep_insert (by simp)]; rfl
theorem ico_back (Φ : ℕ → sProp 𝕄) {a b : ℕ} (h : a ≤ b) : bigSep (Finset.Ico a (b + 1)) Φ = iprop(Φ b ∗ bigSep (Finset.Ico a b) Φ) := by
  rw [show Finset.Ico a (b + 1) = insert b (Finset.Ico a b) from by ext x; simp; omega, bigSep_insert (by simp)]; rfl

/-- What the proof asks of the arguments and of the tiles' predicates. -/
abbrev Okay (S : S64x32000.Idx → Elt F .f32) (N : S64x128.Idx → Elt F .bf16) : Prop := (∀ x, (G x).toNat < 32000)
  ∧ (∀ hG u, EOK u (embRows c G W S hG u)) ∧ (∀ hG u, OOK u (outRows c G W S N hG u))
/-- The gather slot that serves tile `t`; a tile's two blocks not yet stored. -/
def ringG (t : ℕ) : sProp 𝕄 := if t < 2048 then inG c G W t else freeG c W t
def fresh2 (t : ℕ) : sProp 𝕄 := iprop(fresh c (eblk t) ∗ fresh c (oblk t))
/-- The first loop's invariant before trip `k`, and the main loop's. -/
def t1Inv (k : ℕ) : sProp 𝕄 :=
  iprop(idsP c G ∗ bigSep (Finset.Ico k 32) (freeG c W) ∗ bigSep (Finset.range k) (inG c G W))
def t2Inv (k : ℕ) : sProp 𝕄 :=
  iprop(idsP c G ∗ bigSep (Finset.Ico k (k + 32)) (ringG c G W) ∗ (∃ o, owes c 0 o) ∗ scP c arg3 SC ∗ nwP c arg4 NW
    ∗ bigSep (Finset.Ico k (k + 4)) (slotIn c EOK OOK) ∗ bigSep (Finset.Ico k 2048) (fresh2 (F := F) c) ∗ bigSep (Finset.range (k - 4)) (doneB c EOK OOK))

theorem t1_inv [∀ e, Nonempty (Elt F e)] (hG : ∀ x, (G x).toNat < 32000) (k : Fin k0_t1_loop.trips) :
    t1Inv c G W k.val ⊢ wp frame (wpE defs₀ 𝒱₀ (c : Thread nD τ) none) Set.univ
      (k0_t1_body (F := F) i idM (Memref.isWhole_whole _) wordM (Memref.isWhole_whole _) arg3 harg3 arg4 harg4
        outM (Memref.isWhole_whole _) embM (Memref.isWhole_whole _) rowM (Memref.isWhole_whole _) ebM (Memref.isWhole_whole _)
        obM (Memref.isWhole_whole _) cc0_scratch3 cc0_scratch4 cc0_scratch5 k ()) (fun _ => t1Inv c G W (k.val + 1)) := by
  have hk : k.val < 32 := lt_of_lt_of_eq k.isLt t1_trips
  unfold t1Inv
  rw [ico_front _ hk, range_succ]
  iintro ⟨HI, ⟨HF, HFs⟩, HR⟩
  iapply (wp_wand_r frame _ Set.univ (Q := fun _ => iprop(idsP c G ∗ inG c G W k.val)))
  isplitl [HI HF]
  · iapply (t1_step c G W arg3 harg3 arg4 harg4 i hG k)
    isplitl [HI]; · iexact HI
    iexact HF
  iintro %x ⟨HI, HG⟩
  isplitl [HI]; · iexact HI
  isplitl [HFs]; · iexact HFs
  isplitl [HG]; · iexact HG
  iexact HR

theorem back_step (k : ℕ) : iprop(backB c EOK OOK k ∗ bigSep (Finset.range (k - 4)) (doneB c EOK OOK))
    ⊢ bigSep (Finset.range (k + 1 - 4)) (doneB c EOK OOK) := by
  unfold backB
  by_cases h : 4 ≤ k
  · rw [if_pos h, show k + 1 - 4 = k - 4 + 1 from by omega, range_succ]
  · rw [if_neg h, show k + 1 - 4 = 0 from by omega, show k - 4 = 0 from by omega]
    iintro ⟨-, H⟩; iexact H

theorem t2_inv [∀ e, Nonempty (Elt F e)] (hok : Okay c G W EOK OOK (arg3.view.read (Elt F) SC) (arg4.view.read (Elt F) NW)) (k : Fin k0_t2_loop.trips) :
    t2Inv c G W arg3 arg4 SC NW EOK OOK k.val ⊢ wp frame (wpE defs₀ 𝒱₀ (c : Thread nD τ) none) Set.univ
      (k0_t2_body (F := F) i idM (Memref.isWhole_whole _) wordM (Memref.isWhole_whole _) arg3 harg3 arg4 harg4
        outM (Memref.isWhole_whole _) embM (Memref.isWhole_whole _) rowM (Memref.isWhole_whole _) ebM (Memref.isWhole_whole _)
        obM (Memref.isWhole_whole _) cc0_scratch3 cc0_scratch4 cc0_scratch5 k ()) (fun _ => t2Inv c G W arg3 arg4 SC NW EOK OOK (k.val + 1)) := by
  have hk : k.val < 2048 := lt_of_lt_of_eq k.isLt t2_trips
  have eG : ringG c G W k.val = inG c G W k.val := if_pos hk
  have eS : slotIn c EOK OOK (k.val + 4) = busyO c EOK OOK k.val k.val := by
    rw [slotIn_pos c EOK OOK (by omega), show k.val + 4 - 4 = k.val from by omega, busyO_per c EOK OOK (show (k.val + 4) % 4 = k.val % 4 by omega)]
  have eN : gNext c G W k.val = ringG c G W (k.val + 32) := rfl
  unfold t2Inv
  rw [show k.val + 1 + 32 = k.val + 32 + 1 from by omega, show k.val + 1 + 4 = k.val + 4 + 1 from by omega,
    ico_back (ringG c G W) (show k.val + 1 ≤ k.val + 32 by omega), ico_back (slotIn c EOK OOK) (show k.val + 1 ≤ k.val + 4 by omega),
    ico_front (ringG c G W) (show k.val < k.val + 32 by omega), ico_front (slotIn c EOK OOK) (show k.val < k.val + 4 by omega),
    ico_front (fresh2 (F := F) c) hk, eG, eS]
  iintro ⟨HI, ⟨HG, HGs⟩, HW, HSC, HNW, ⟨HS, HSs⟩, ⟨HN, HNs⟩, HD⟩
  unfold fresh2
  icases HN with ⟨HNE, HNO⟩
  iapply (wp_wand_r frame _ Set.univ (Q := fun _ => iprop(idsP c G ∗ gNext c G W k.val ∗ (∃ o, owes c 0 o) ∗ scP c arg3 SC ∗ nwP c arg4 NW
        ∗ busyO c EOK OOK k.val k.val ∗ backB c EOK OOK k.val)))
  isplitl [HI HG HW HSC HNW HS HNE HNO]
  · iapply (t2_step c G W arg3 harg3 arg4 harg4 i SC NW EOK OOK hok.1 (hok.2.1 hok.1) (hok.2.2 hok.1) k)
    isplitl [HI]; · iexact HI
    isplitl [HG]; · iexact HG
    isplitl [HW]; · iexact HW
    isplitl [HSC]; · iexact HSC
    isplitl [HNW]; · iexact HNW
    isplitl [HS]; · iexact HS
    isplitl [HNE]; · iexact HNE
    iexact HNO
  iintro %x ⟨HI, HG, HW, HSC, HNW, HS, HB⟩
  isplitl [HI]; · iexact HI
  isplitl [HG HGs]
  · isplitl [HG]; · rw [← eN]; iexact HG
    iexact HGs
  isplitl [HW]; · iexact HW
  isplitl [HSC]; · iexact HSC
  isplitl [HNW]; · iexact HNW
  isplitl [HS HSs]
  · isplitl [HS]; · iexact HS
    iexact HSs
  isplitl [HNs]; · iexact HNs
  iapply (back_step c EOK OOK k.val)
  isplitl [HB]; · iexact HB
  iexact HD

/-- What the body is handed, and what it hands back. -/
def bodyIn : sProp 𝕄 :=
  iprop(idsP c G ∗ bigSep (Finset.range 32) (freeG c W) ∗ (∃ o, owes c 0 o) ∗ scP c arg3 SC ∗ nwP c arg4 NW
    ∗ bigSep (Finset.range 4) (idleO (F := F) c) ∗ bigSep (Finset.range 2048) (fresh2 (F := F) c))
def bodyOut : sProp 𝕄 :=
  iprop(idsP c G ∗ bigSep (Finset.range 32) (freeG c W) ∗ (∃ o, owes c 0 o) ∗ scP c arg3 SC ∗ nwP c arg4 NW
    ∗ bigSep (Finset.range 4) (idleO (F := F) c) ∗ bigSep (Finset.range 2048) (doneB c EOK OOK))

theorem t1_loop [∀ e, Nonempty (Elt F e)] (hG : ∀ x, (G x).toNat < 32000) {β : Type} (kk : PUnit → Prog (TpuEff nD τ sig (Elt F) Λ₀ .tc) β) (Q : β → sProp 𝕄) :
    iprop(t1Inv c G W 0 ∗ (t1Inv c G W 32 -∗ wp frame (wpE (defs₀ (F := F)) 𝒱₀ (c : Thread nD τ) none) Set.univ (kk ⟨⟩) Q))
      ⊢ wp frame (wpE (defs₀ (F := F)) 𝒱₀ (c : Thread nD τ) none) Set.univ
        (k0_t1_loop.for k0_t1_ok PUnit.unit (k0_t1_body (F := F) i idM (Memref.isWhole_whole _) wordM (Memref.isWhole_whole _) arg3 harg3 arg4 harg4
        outM (Memref.isWhole_whole _) embM (Memref.isWhole_whole _) rowM (Memref.isWhole_whole _) ebM (Memref.isWhole_whole _)
        obM (Memref.isWhole_whole _) cc0_scratch3 cc0_scratch4 cc0_scratch5) >>= kk) Q := by
  iintro ⟨HT, HK⟩
  iapply (Scf.wp_for_bind frame (wpE (defs₀ (F := F)) 𝒱₀ (c : Thread nD τ) none) Set.univ k0_t1_loop.lb k0_t1_loop.ub k0_t1_loop.st k0_t1_ok PUnit.unit
    (k0_t1_body (F := F) i idM (Memref.isWhole_whole _) wordM (Memref.isWhole_whole _) arg3 harg3 arg4 harg4
        outM (Memref.isWhole_whole _) embM (Memref.isWhole_whole _) rowM (Memref.isWhole_whole _) ebM (Memref.isWhole_whole _)
        obM (Memref.isWhole_whole _) cc0_scratch3 cc0_scratch4 cc0_scratch5) (fun k _ => t1Inv c G W k) (fun k _ => t1_inv c G W arg3 harg3 arg4 harg4 i hG k)) $$ HT
  iintro %x HT
  ihave HT := (Entails.of_eq (congrArg (t1Inv c G W) t1_trips)) $$ HT
  iapply HK; iexact HT
theorem t2_loop [∀ e, Nonempty (Elt F e)] (hok : Okay c G W EOK OOK (arg3.view.read (Elt F) SC) (arg4.view.read (Elt F) NW)) {β : Type} (kk : PUnit → Prog (TpuEff nD τ sig (Elt F) Λ₀ .tc) β) (Q : β → sProp 𝕄) :
    iprop(t2Inv c G W arg3 arg4 SC NW EOK OOK 0 ∗ (t2Inv c G W arg3 arg4 SC NW EOK OOK 2048 -∗ wp frame (wpE (defs₀ (F := F)) 𝒱₀ (c : Thread nD τ) none) Set.univ (kk ⟨⟩) Q))
      ⊢ wp frame (wpE (defs₀ (F := F)) 𝒱₀ (c : Thread nD τ) none) Set.univ
        (k0_t2_loop.for k0_t2_ok PUnit.unit (k0_t2_body (F := F) i idM (Memref.isWhole_whole _) wordM (Memref.isWhole_whole _) arg3 harg3 arg4 harg4
        outM (Memref.isWhole_whole _) embM (Memref.isWhole_whole _) rowM (Memref.isWhole_whole _) ebM (Memref.isWhole_whole _)
        obM (Memref.isWhole_whole _) cc0_scratch3 cc0_scratch4 cc0_scratch5) >>= kk) Q := by
  iintro ⟨HT, HK⟩
  iapply (Scf.wp_for_bind frame (wpE (defs₀ (F := F)) 𝒱₀ (c : Thread nD τ) none) Set.univ k0_t2_loop.lb k0_t2_loop.ub k0_t2_loop.st k0_t2_ok PUnit.unit
    (k0_t2_body (F := F) i idM (Memref.isWhole_whole _) wordM (Memref.isWhole_whole _) arg3 harg3 arg4 harg4
        outM (Memref.isWhole_whole _) embM (Memref.isWhole_whole _) rowM (Memref.isWhole_whole _) ebM (Memref.isWhole_whole _)
        obM (Memref.isWhole_whole _) cc0_scratch3 cc0_scratch4 cc0_scratch5) (fun k _ => t2Inv c G W arg3 arg4 SC NW EOK OOK k) (fun k _ => t2_inv c G W arg3 harg3 arg4 harg4 i SC NW EOK OOK hok k)) $$ HT
  iintro %x HT
  ihave HT := (Entails.of_eq (congrArg (t2Inv c G W arg3 arg4 SC NW EOK OOK) t2_trips)) $$ HT
  iapply HK; iexact HT

theorem ico_shift (Φ : ℕ → sProp 𝕄) (a : ℕ) : ∀ n, bigSep (Finset.Ico a (a + n)) Φ = bigSep (Finset.range n) (fun r => Φ (a + r))
  | 0 => by rw [Nat.add_zero, Finset.Ico_self, Finset.range_zero, bigSep_empty, bigSep_empty]
  | n + 1 => by rw [← Nat.add_assoc, ico_back Φ (Nat.le_add_right a n), range_succ, ico_shift Φ a n]
/-- After the last trip the gather slots are idle and the output slots hold the last four tiles. -/
theorem ring_idle : bigSep (Finset.Ico 2048 (2048 + 32)) (ringG c G W) ⊢ bigSep (Finset.range 32) (freeG c W) := by
  rw [ico_shift]
  refine Entails.of_eq (bigSep_congr fun r _ => ?_)
  unfold ringG
  rw [if_neg (by omega), freeG_per c W (show (2048 + r) % 32 = r % 32 by omega)]
theorem ring_start : bigSep (Finset.range 32) (inG c G W) ⊢ bigSep (Finset.Ico 0 (0 + 32)) (ringG c G W) := by
  rw [Finset.range_eq_Ico]
  refine Entails.of_eq (bigSep_congr fun r hr => ?_)
  unfold ringG
  rw [if_pos (by have := (Finset.mem_Ico.1 hr).2; omega)]
theorem slot_start : bigSep (Finset.range 4) (idleO (F := F) c) ⊢ bigSep (Finset.Ico 0 (0 + 4)) (slotIn c EOK OOK) := by
  rw [Finset.range_eq_Ico]
  refine Entails.of_eq (bigSep_congr fun r hr => ?_)
  rw [slotIn_neg c EOK OOK (by have := (Finset.mem_Ico.1 hr).2; omega)]
theorem slot_last (s : ℕ) (h : s < 4) : slotIn c EOK OOK (2048 + s) = busyO c EOK OOK s (2044 + s) := by
  rw [slotIn_pos c EOK OOK (by omega), show 2048 + s - 4 = 2044 + s from by omega, busyO_per c EOK OOK (show (2048 + s) % 4 = s % 4 by omega)]
theorem slot_end : bigSep (Finset.Ico 2048 (2048 + 4)) (slotIn c EOK OOK)
    ⊢ iprop(busyO c EOK OOK 0 2044 ∗ busyO c EOK OOK 1 2045 ∗ busyO c EOK OOK 2 2046 ∗ busyO c EOK OOK 3 2047) := by
  rw [ico_front _ (by omega), ico_front _ (by omega), ico_front _ (by omega), ico_front _ (by omega)]
  rw [show (2048 : ℕ) = 2048 + 0 from rfl]
  rw [slot_last c EOK OOK 0 (by omega), show 2048 + 0 + 1 = 2048 + 1 from rfl, slot_last c EOK OOK 1 (by omega), show 2048 + 1 + 1 = 2048 + 2 from rfl,
    slot_last c EOK OOK 2 (by omega), show 2048 + 2 + 1 = 2048 + 3 from rfl, slot_last c EOK OOK 3 (by omega)]
  iintro ⟨H0, H1, H2, H3, -⟩
  isplitl [H0]; · iexact H0
  isplitl [H1]; · iexact H1
  isplitl [H2]; · iexact H2
  iexact H3
theorem done_end : iprop(doneB c EOK OOK 2044 ∗ doneB c EOK OOK 2045 ∗ doneB c EOK OOK 2046 ∗ doneB c EOK OOK 2047
    ∗ bigSep (Finset.range (2048 - 4)) (doneB c EOK OOK)) ⊢ bigSep (Finset.range 2048) (doneB c EOK OOK) := by
  rw [(range_succ (doneB c EOK OOK) 2047 : bigSep (Finset.range 2048) _ = _), (range_succ (doneB c EOK OOK) 2046 : bigSep (Finset.range 2047) _ = _),
    (range_succ (doneB c EOK OOK) 2045 : bigSep (Finset.range 2046) _ = _), (range_succ (doneB c EOK OOK) 2044 : bigSep (Finset.range 2045) _ = _)]
  iintro ⟨H0, H1, H2, H3, H⟩
  isplitl [H3]; · iexact H3
  isplitl [H2]; · iexact H2
  isplitl [H1]; · iexact H1
  isplitl [H0]; · iexact H0
  iexact H
theorem idle_four : iprop(idleO (F := F) c 0 ∗ idleO c 1 ∗ idleO c 2 ∗ idleO c 3) ⊢ bigSep (Finset.range 4) (idleO (F := F) c) := by
  rw [show (4 : ℕ) = 0 + 1 + 1 + 1 + 1 from rfl, range_succ, range_succ, range_succ, range_succ, Finset.range_zero, bigSep_empty]
  iintro ⟨H0, H1, H2, H3⟩
  isplitl [H3]; · iexact H3
  isplitl [H2]; · iexact H2
  isplitl [H1]; · iexact H1
  isplitl [H0]; · iexact H0
  iempintro

/-- A slot's two copies landed: the slot is idle again and its tile's blocks are done. -/
theorem settle (s u : ℕ) (fe ee fo eo) (he : EOK u ((esrc s).view.read (Elt F) ee)) (ho : OOK u ((osrc s).view.read (Elt F) eo)) :
    iprop(heldAt c (esrc s) fullShare.left ee ∗ heldAt c (eblk u) fullShare (landed c (esrc s) (eblk u) fe ee) ∗ heldAt c (esrc s) fullShare.right ee
      ∗ semVal ((c : Thread nD τ), SemLoc.dma (ecell s).sem) 0 ∗ heldAt c (oblk u) fullShare (landed c (osrc s) (oblk u) fo eo)
      ∗ heldAt c (osrc s) fullShare eo ∗ semVal ((c : Thread nD τ), SemLoc.dma (ocell s).sem) 0)
      ⊢ iprop(idleO c s ∗ doneB c EOK OOK u) := by
  iintro ⟨HL, HD, HR, HC, HD', HS, HC'⟩
  ihave HL := (half_join c (esrc s) ee) $$ [HL HR]
  · isplitl [HL]; · iexact HL
    iexact HR
  ihave HL := (e_to_slot c s fullShare ee) $$ HL
  ihave HS := (o_to_slot c s fullShare eo) $$ HS
  unfold idleO doneB
  isplitl [HL HS HC HC']
  · isplitl [HC]; · iexact HC
    isplitl [HC']; · iexact HC'
    isplitl [HL]; · iexists ee; iexact HL
    iexists eo; iexact HS
  isplitl [HD]
  · iapply (done_of c (esrc s) (eblk u) fe ee (EOK u) he); iexact HD
  iapply (done_of c (osrc s) (oblk u) fo eo (OOK u) ho); iexact HD'

theorem body_run [∀ e, Nonempty (Elt F e)] (hok : Okay c G W EOK OOK (arg3.view.read (Elt F) SC) (arg4.view.read (Elt F) NW)) :
    bodyIn c G W arg3 arg4 SC NW ⊢ wp frame (wpE defs₀ 𝒱₀ (c : Thread nD τ) none) Set.univ
      (cc0_embed_rmsnorm (F := F) i idM (Memref.isWhole_whole _) wordM (Memref.isWhole_whole _) arg3 harg3 arg4 harg4
        outM (Memref.isWhole_whole _) embM (Memref.isWhole_whole _) rowM (Memref.isWhole_whole _) ebM (Memref.isWhole_whole _)
        obM (Memref.isWhole_whole _) cc0_scratch3 cc0_scratch4 cc0_scratch5) (fun _ => bodyOut c G W arg3 arg4 SC NW EOK OOK) := by
  unfold bodyIn
  iintro ⟨HI, HF, HW, HSC, HNW, HS, HN⟩
  ihave HT : t1Inv c G W 0 $$ [HI HF]
  · unfold t1Inv
    isplitl [HI]; · iexact HI
    isplitl [HF]; · rw [← Finset.range_eq_Ico]; iexact HF
    rw [Finset.range_zero, bigSep_empty]
    iempintro
  sl_exec
  iapply (t1_loop c G W arg3 harg3 arg4 harg4 i hok.1)
  isplitl [HT]; · iexact HT
  iintro HT
  ihave HT : t2Inv c G W arg3 arg4 SC NW EOK OOK 0 $$ [HT HW HSC HNW HS HN]
  · unfold t1Inv t2Inv
    icases HT with ⟨HI, -, HG⟩
    isplitl [HI]; · iexact HI
    isplitl [HG]; · iapply (ring_start c G W); iexact HG
    isplitl [HW]; · iexact HW
    isplitl [HSC]; · iexact HSC
    isplitl [HNW]; · iexact HNW
    isplitl [HS]; · iapply (slot_start c EOK OOK); iexact HS
    isplitl [HN]; · rw [← Finset.range_eq_Ico]; iexact HN
    rw [show (0 - 4 : ℕ) = 0 from rfl, Finset.range_zero, bigSep_empty]
    iempintro
  iapply (t2_loop c G W arg3 harg3 arg4 harg4 i SC NW EOK OOK hok)
  isplitl [HT]; · iexact HT
  iintro HT
  unfold t2Inv
  icases HT with ⟨HI, HG, ⟨%ow, Howe⟩, HSC, HNW, HS, -, HD⟩
  ihave HG := (ring_idle c G W) $$ HG
  ihave HS := (slot_end c EOK OOK) $$ HS
  unfold busyO flE flO
  icases HS with ⟨⟨⟨%fe0, %ee0, HF0, HL0, %he0⟩, ⟨%fo0, %eo0, HFo0, %ho0⟩⟩, ⟨⟨%fe1, %ee1, HF1, HL1, %he1⟩, ⟨%fo1, %eo1, HFo1, %ho1⟩⟩, ⟨⟨%fe2, %ee2, HF2, HL2, %he2⟩, ⟨%fo2, %eo2, HFo2, %ho2⟩⟩, ⟨⟨%fe3, %ee3, HF3, HL3, %he3⟩, ⟨%fo3, %eo3, HFo3, %ho3⟩⟩⟩
  sl_exec
  sl_step
  ihave HS0 := (settle c EOK OOK 0 2044 fe0 ee0 fo0 eo0 he0 ho0) $$ [HL0 HF0_dst HF0_src HF0 HFo0_dst HFo0_src HFo0]
  · isplitl [HL0]; · iexact HL0
    isplitl [HF0_dst]; · iexact HF0_dst
    isplitl [HF0_src]; · iexact HF0_src
    isplitl [HF0]; · iexact HF0
    isplitl [HFo0_dst]; · iexact HFo0_dst
    isplitl [HFo0_src]; · iexact HFo0_src
    iexact HFo0
  icases HS0 with ⟨HS0, HD0⟩
  ihave HS1 := (settle c EOK OOK 1 2045 fe1 ee1 fo1 eo1 he1 ho1) $$ [HL1 HF1_dst HF1_src HF1 HFo1_dst HFo1_src HFo1]
  · isplitl [HL1]; · iexact HL1
    isplitl [HF1_dst]; · iexact HF1_dst
    isplitl [HF1_src]; · iexact HF1_src
    isplitl [HF1]; · iexact HF1
    isplitl [HFo1_dst]; · iexact HFo1_dst
    isplitl [HFo1_src]; · iexact HFo1_src
    iexact HFo1
  icases HS1 with ⟨HS1, HD1⟩
  ihave HS2 := (settle c EOK OOK 2 2046 fe2 ee2 fo2 eo2 he2 ho2) $$ [HL2 HF2_dst HF2_src HF2 HFo2_dst HFo2_src HFo2]
  · isplitl [HL2]; · iexact HL2
    isplitl [HF2_dst]; · iexact HF2_dst
    isplitl [HF2_src]; · iexact HF2_src
    isplitl [HF2]; · iexact HF2
    isplitl [HFo2_dst]; · iexact HFo2_dst
    isplitl [HFo2_src]; · iexact HFo2_src
    iexact HFo2
  icases HS2 with ⟨HS2, HD2⟩
  ihave HS3 := (settle c EOK OOK 3 2047 fe3 ee3 fo3 eo3 he3 ho3) $$ [HL3 HF3_dst HF3_src HF3 HFo3_dst HFo3_src HFo3]
  · isplitl [HL3]; · iexact HL3
    isplitl [HF3_dst]; · iexact HF3_dst
    isplitl [HF3_src]; · iexact HF3_src
    isplitl [HF3]; · iexact HF3
    isplitl [HFo3_dst]; · iexact HFo3_dst
    isplitl [HFo3_src]; · iexact HFo3_src
    iexact HFo3
  icases HS3 with ⟨HS3, HD3⟩
  unfold bodyOut
  isplitl [HI]; · iexact HI
  isplitl [HG]; · iexact HG
  isplitl [Howe]; · iexists _; iexact Howe
  isplitl [HSC]; · iexact HSC
  isplitl [HNW]; · iexact HNW
  isplitl [HS0 HS1 HS2 HS3]
  · iapply (idle_four (F := F) c)
    isplitl [HS0]; · iexact HS0
    isplitl [HS1]; · iexact HS1
    isplitl [HS2]; · iexact HS2
    iexact HS3
  iapply (done_end c EOK OOK)
  isplitl [HD0]; · iexact HD0
  isplitl [HD1]; · iexact HD1
  isplitl [HD2]; · iexact HD2
  isplitl [HD3]; · iexact HD3
  iexact HD
end Body
end Cert.Proof.RingIdeal
-- ==== Proof.Pieces.lean ====
module

public import proofs.«01_k».proof.Proof.Body

/-! One trip of the main loop. -/

@[expose] public section

noncomputable section

namespace Cert.Proof.RingIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Blocks

variable {ℓ : Loc nD τ sig} (n : ℕ) (I : ℕ → Finset (Idx ℓ)) (own : Idx ℓ → ℕ)

/-- A buffer whole is its blocks, each element belonging to the block `own` names; and blocks at contents of their own
join to the buffer at some contents. -/
theorem blocks_eq (hm : ∀ j, j < n → ∀ y, y ∈ I j ↔ own y = j) (hb : ∀ y, own y < n) (q : PosShare TreeShare) (f : Buf (Elt F) ℓ) :
    (ℓ ↦{q} f : sProp 𝕄) = bigSep (Finset.range n) fun j => ℓ ↦[I j]{q} f := by
  rw [Ring.pointsTo_blocks (B := Fin n) (fun b => I b.val) (fun b b' h => by
      rw [Finset.disjoint_left]; intro y hy hy'
      exact h (Fin.ext (((hm _ b.isLt y).mp hy).symm.trans ((hm _ b'.isLt y).mp hy'))))
    (by ext y; simp only [Finset.mem_biUnion, Finset.mem_univ, true_and, iff_true]; exact ⟨⟨own y, hb y⟩, (hm _ (hb y) y).mpr rfl⟩)]
  exact Ring.bigSep_fin_eq_range n _ _ fun _ _ => rfl
theorem blocks_split (hm : ∀ j, j < n → ∀ y, y ∈ I j ↔ own y = j) (hb : ∀ y, own y < n) (q : PosShare TreeShare) :
    iprop(∃ f : Buf (Elt F) ℓ, ℓ ↦{q} f) ⊢ (bigSep (Finset.range n) fun j => iprop(∃ f : Buf (Elt F) ℓ, ℓ ↦[I j]{q} f) : sProp 𝕄) := by
  iintro ⟨%f, H⟩
  ihave H := (Entails.of_eq (blocks_eq (F := F) n I own hm hb q f)) $$ H
  have e : (bigSep (Finset.range n) (fun j => (ℓ ↦[I j]{q} f : sProp 𝕄))) ⊢ bigSep (Finset.range n) fun j => iprop(∃ f : Buf (Elt F) ℓ, ℓ ↦[I j]{q} f) :=
    BI.bigSep_mono fun j _ => show _ ⊢ iprop(∃ f : Buf (Elt F) ℓ, ℓ ↦[I j]{q} f) from by iintro H; iexists f; iexact H
  iapply e; iexact H
theorem blocks_join [∀ e, Nonempty (Elt F e)] (hm : ∀ j, j < n → ∀ y, y ∈ I j ↔ own y = j) (hb : ∀ y, own y < n) (q : PosShare TreeShare) :
    (bigSep (Finset.range n) fun j => iprop(∃ f : Buf (Elt F) ℓ, ℓ ↦[I j]{q} f) : sProp 𝕄) ⊢ iprop(∃ f : Buf (Elt F) ℓ, ℓ ↦{q} f) := by
  rw [← Ring.bigSep_fin_eq_range n (fun b : Fin n => iprop(∃ f : Buf (Elt F) ℓ, ℓ ↦[I b.val]{q} f)) _ fun _ _ => rfl]
  exact Ring.pointsTo_blocks_join_exists (B := Fin n) (fun b => I b.val) (fun b b' h => by
      rw [Finset.disjoint_left]; intro y hy hy'
      exact h (Fin.ext (((hm _ b.isLt y).mp hy).symm.trans ((hm _ b'.isLt y).mp hy'))))
    (by ext y; simp only [Finset.mem_biUnion, Finset.mem_univ, true_and, iff_true]; exact ⟨⟨own y, hb y⟩, (hm _ (hb y) y).mpr rfl⟩) (fun _ => Classical.choice inferInstance)

end Blocks

section Pieces
variable (c : Dev nD) (W : S8000x8192.Idx → Elt F .i32)

/-! Which elements each piece holds. -/

theorem mem_rows (j : ℕ) (h : j < 256) (y : S256x64x128.Idx) :
    y ∈ (Rect.unit (s := S256x64x128) (rowOff j) S1x64x128.size (rowOff_inb j)).set ↔ (y 0).val = j := by
  rw [Rect.mem_set_unit]
  have h1 : (y 1).val < 64 := (y 1).isLt
  have h2 : (y 2).val < 128 := (y 2).isLt
  constructor
  · intro H; have a0 : j % 256 ≤ (y 0).val ∧ (y 0).val < j % 256 + 1 := H 0; omega
  · intro H i; fin_cases i
    · show j % 256 ≤ (y 0).val ∧ (y 0).val < j % 256 + 1; omega
    · show 0 ≤ (y 1).val ∧ (y 1).val < 0 + 64; omega
    · show 0 ≤ (y 2).val ∧ (y 2).val < 0 + 128; omega
theorem mem_row (j : ℕ) (h : j < 256) (y : S256x64x128.Idx) : y ∈ (qline j).view.set ↔ (y 0).val = j :=
  (iff_of_eq (congrArg (y ∈ ·) ((View.set_reshape _ _).trans ((View.set_reshape _ _).trans (View.set_slice_whole _ _))))).trans (mem_rows j h y)
theorem mem_slot (s : ℕ) (h : s < 4) (y : S4x64x8x128.Idx) :
    y ∈ (Rect.unit (s := S4x64x8x128) (slotAt s 0 0) S1x64x8x128.size (slotAt_inb s)).set ↔ (y 0).val = s := by
  rw [Rect.mem_set_unit]
  have h1 : (y 1).val < 64 := (y 1).isLt
  have h2 : (y 2).val < 8 := (y 2).isLt
  have h3 : (y 3).val < 128 := (y 3).isLt
  constructor
  · intro H; have a0 : s % 4 ≤ (y 0).val ∧ (y 0).val < s % 4 + 1 := H 0; omega
  · intro H i; fin_cases i
    · show s % 4 ≤ (y 0).val ∧ (y 0).val < s % 4 + 1; omega
    · show 0 ≤ (y 1).val ∧ (y 1).val < 0 + 64; omega
    · show 0 ≤ (y 2).val ∧ (y 2).val < 0 + 8; omega
    · show 0 ≤ (y 3).val ∧ (y 3).val < 0 + 128; omega
theorem mem_eslot (s : ℕ) (h : s < 4) (y : S4x64x8x128.Idx) : y ∈ (eslot s).view.set ↔ (y 0).val = s :=
  (iff_of_eq (congrArg (y ∈ ·) ((View.set_reshape _ _).trans (View.set_slice_whole _ _)))).trans (mem_slot s h y)
theorem mem_oslot (s : ℕ) (h : s < 4) (y : S4x64x8x128.Idx) : y ∈ (oslot s).view.set ↔ (y 0).val = s :=
  (iff_of_eq (congrArg (y ∈ ·) ((View.set_reshape _ _).trans (View.set_slice_whole _ _)))).trans (mem_slot s h y)
theorem mem_tile (u : ℕ) (h : u < 2048) (y : S1048576x128.Idx) :
    y ∈ (Rect.unit (s := S1048576x128) (rOff u) S512x128.size (rOff_inb u)).set ↔ (y 0).val / 512 = u := by
  rw [Rect.mem_set_unit]
  have h0 : (y 0).val < 1048576 := (y 0).isLt
  have h1 : (y 1).val < 128 := (y 1).isLt
  constructor
  · intro H; have a0 : 512 * (u % 2048) ≤ (y 0).val ∧ (y 0).val < 512 * (u % 2048) + 512 := H 0; omega
  · intro H i; fin_cases i
    · show 512 * (u % 2048) ≤ (y 0).val ∧ (y 0).val < 512 * (u % 2048) + 512; omega
    · show 0 ≤ (y 1).val ∧ (y 1).val < 0 + 128; omega
theorem mem_eblk (u : ℕ) (h : u < 2048) (y : S1048576x128.Idx) : y ∈ (eblk u).view.set ↔ (y 0).val / 512 = u :=
  (iff_of_eq (congrArg (y ∈ ·) (View.set_slice_whole _ _))).trans (mem_tile u h y)
theorem mem_oblk (u : ℕ) (h : u < 2048) (y : S1048576x128.Idx) : y ∈ (oblk u).view.set ↔ (y 0).val / 512 = u :=
  (iff_of_eq (congrArg (y ∈ ·) (View.set_slice_whole _ _))).trans (mem_tile u h y)
theorem tile_lt (y : S1048576x128.Idx) : (y 0).val / 512 < 2048 := by have : (y 0).val < 1048576 := (y 0).isLt; omega

/-! The gather buffer and the packed table, as the gather slots hold them. -/

theorem range_eights (Φ : ℕ → sProp 𝕄) (n : ℕ) :
    bigSep (Finset.range (8 * n)) Φ = bigSep (Finset.range n) fun u => all8 fun r => Φ (8 * u + r) := by
  induction n with
  | zero => rfl
  | succ n ih =>
    rw [show 8 * (n + 1) = 8 * n + 1 + 1 + 1 + 1 + 1 + 1 + 1 + 1 from by omega, range_succ, range_succ, range_succ, range_succ, range_succ,
      range_succ, range_succ, range_succ, ih, range_succ (fun u => all8 fun r => Φ (8 * u + r)) n]
    refine equiv_iff.mp ⟨show (_ : sProp 𝕄) ⊢ _ from ?_, show (_ : sProp 𝕄) ⊢ _ from ?_⟩
    · iintro ⟨H7, H6, H5, H4, H3, H2, H1, H0, H⟩
      isplitr [H]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      iexact H
    · iintro ⟨⟨H0, H1, H2, H3, H4, H5, H6, H7⟩, H⟩
      isplitl [H7]; · iexact H7
      isplitl [H6]; · iexact H6
      isplitl [H5]; · iexact H5
      isplitl [H4]; · iexact H4
      isplitl [H3]; · iexact H3
      isplitl [H2]; · iexact H2
      isplitl [H1]; · iexact H1
      isplitl [H0]; · iexact H0
      iexact H

theorem rows_split : iprop(∃ f : Buf (Elt F) ((c : Thread nD τ).loc cc0_scratch0), ((c : Thread nD τ).loc cc0_scratch0) ↦{fullShare} f)
    ⊢ (bigSep (Finset.range 256) (rowAny (F := F) c) : sProp 𝕄) :=
  blocks_split (F := F) (ℓ := (c : Thread nD τ).loc cc0_scratch0) 256 (fun j => (qline j).view.set) (fun y : S256x64x128.Idx => (y 0).val) (fun j h y => mem_row j h y) (fun y : S256x64x128.Idx => (y 0).isLt) fullShare
theorem rows_join [∀ e, Nonempty (Elt F e)] : (bigSep (Finset.range 256) (rowAny (F := F) c) : sProp 𝕄)
    ⊢ iprop(∃ f : Buf (Elt F) ((c : Thread nD τ).loc cc0_scratch0), ((c : Thread nD τ).loc cc0_scratch0) ↦{fullShare} f) :=
  blocks_join (F := F) (ℓ := (c : Thread nD τ).loc cc0_scratch0) 256 (fun j => (qline j).view.set) (fun y : S256x64x128.Idx => (y 0).val) (fun j h y => mem_row j h y) (fun y : S256x64x128.Idx => (y 0).isLt) fullShare
theorem eslots_split : iprop(∃ f : Buf (Elt F) ((c : Thread nD τ).loc cc0_scratch1), ((c : Thread nD τ).loc cc0_scratch1) ↦{fullShare} f)
    ⊢ (bigSep (Finset.range 4) (fun s => heldAny (F := F) c (eslot s)) : sProp 𝕄) :=
  blocks_split (F := F) (ℓ := (c : Thread nD τ).loc cc0_scratch1) 4 (fun j => (eslot j).view.set) (fun y : S4x64x8x128.Idx => (y 0).val) (fun j h y => mem_eslot j h y) (fun y : S4x64x8x128.Idx => (y 0).isLt) fullShare
theorem eslots_join [∀ e, Nonempty (Elt F e)] : (bigSep (Finset.range 4) (fun s => heldAny (F := F) c (eslot s)) : sProp 𝕄)
    ⊢ iprop(∃ f : Buf (Elt F) ((c : Thread nD τ).loc cc0_scratch1), ((c : Thread nD τ).loc cc0_scratch1) ↦{fullShare} f) :=
  blocks_join (F := F) (ℓ := (c : Thread nD τ).loc cc0_scratch1) 4 (fun j => (eslot j).view.set) (fun y : S4x64x8x128.Idx => (y 0).val) (fun j h y => mem_eslot j h y) (fun y : S4x64x8x128.Idx => (y 0).isLt) fullShare
theorem oslots_split : iprop(∃ f : Buf (Elt F) ((c : Thread nD τ).loc cc0_scratch2), ((c : Thread nD τ).loc cc0_scratch2) ↦{fullShare} f)
    ⊢ (bigSep (Finset.range 4) (fun s => heldAny (F := F) c (oslot s)) : sProp 𝕄) :=
  blocks_split (F := F) (ℓ := (c : Thread nD τ).loc cc0_scratch2) 4 (fun j => (oslot j).view.set) (fun y : S4x64x8x128.Idx => (y 0).val) (fun j h y => mem_oslot j h y) (fun y : S4x64x8x128.Idx => (y 0).isLt) fullShare
theorem oslots_join [∀ e, Nonempty (Elt F e)] : (bigSep (Finset.range 4) (fun s => heldAny (F := F) c (oslot s)) : sProp 𝕄)
    ⊢ iprop(∃ f : Buf (Elt F) ((c : Thread nD τ).loc cc0_scratch2), ((c : Thread nD τ).loc cc0_scratch2) ↦{fullShare} f) :=
  blocks_join (F := F) (ℓ := (c : Thread nD τ).loc cc0_scratch2) 4 (fun j => (oslot j).view.set) (fun y : S4x64x8x128.Idx => (y 0).val) (fun j h y => mem_oslot j h y) (fun y : S4x64x8x128.Idx => (y 0).isLt) fullShare
theorem etiles_split : iprop(∃ f : Buf (Elt F) ((c : Thread nD τ).loc main_v6_1), ((c : Thread nD τ).loc main_v6_1) ↦{fullShare} f)
    ⊢ (bigSep (Finset.range 2048) (fun u => heldAny (F := F) c (eblk u)) : sProp 𝕄) :=
  blocks_split (F := F) (ℓ := (c : Thread nD τ).loc main_v6_1) 2048 (fun j => (eblk j).view.set) (fun y : S1048576x128.Idx => (y 0).val / 512) (fun j h y => mem_eblk j h y) tile_lt fullShare
theorem etiles_join [∀ e, Nonempty (Elt F e)] : (bigSep (Finset.range 2048) (fun u => heldAny (F := F) c (eblk u)) : sProp 𝕄)
    ⊢ iprop(∃ f : Buf (Elt F) ((c : Thread nD τ).loc main_v6_1), ((c : Thread nD τ).loc main_v6_1) ↦{fullShare} f) :=
  blocks_join (F := F) (ℓ := (c : Thread nD τ).loc main_v6_1) 2048 (fun j => (eblk j).view.set) (fun y : S1048576x128.Idx => (y 0).val / 512) (fun j h y => mem_eblk j h y) tile_lt fullShare
theorem otiles_split : iprop(∃ f : Buf (Elt F) ((c : Thread nD τ).loc main_v6_0), ((c : Thread nD τ).loc main_v6_0) ↦{fullShare} f)
    ⊢ (bigSep (Finset.range 2048) (fun u => heldAny (F := F) c (oblk u)) : sProp 𝕄) :=
  blocks_split (F := F) (ℓ := (c : Thread nD τ).loc main_v6_0) 2048 (fun j => (oblk j).view.set) (fun y : S1048576x128.Idx => (y 0).val / 512) (fun j h y => mem_oblk j h y) tile_lt fullShare
theorem otiles_join [∀ e, Nonempty (Elt F e)] : (bigSep (Finset.range 2048) (fun u => heldAny (F := F) c (oblk u)) : sProp 𝕄)
    ⊢ iprop(∃ f : Buf (Elt F) ((c : Thread nD τ).loc main_v6_0), ((c : Thread nD τ).loc main_v6_0) ↦{fullShare} f) :=
  blocks_join (F := F) (ℓ := (c : Thread nD τ).loc main_v6_0) 2048 (fun j => (oblk j).view.set) (fun y : S1048576x128.Idx => (y 0).val / 512) (fun j h y => mem_oblk j h y) tile_lt fullShare

/-- The packed table whole is one remainder and the 256 read tokens. -/
abbrev wLeft : sProp 𝕄 := wordM.view.loc (c : Thread nD τ) ↦{Transfers.shareDrop fullShare 256} W
theorem toks_eq : bigSep (Finset.range 256) (fun i => (wordM.view.loc (c : Thread nD τ) ↦{Transfers.shareTokN fullShare i} W : sProp 𝕄)) = bigSep (Finset.range 256) (wTok c W) :=
  bigSep_congr fun j hj => by unfold wTok tok; rw [Nat.mod_eq_of_lt (Finset.mem_range.mp hj)]
theorem table_split : (wordM.view.loc (c : Thread nD τ) ↦{fullShare} W : sProp 𝕄) ⊢ iprop(wLeft c W ∗ bigSep (Finset.range 256) (wTok c W)) := by
  rw [← toks_eq]; exact (Transfers.pointsTo_toks_range fullShare 256).1
theorem table_join : iprop(wLeft c W ∗ bigSep (Finset.range 256) (wTok c W)) ⊢ (wordM.view.loc (c : Thread nD τ) ↦{fullShare} W : sProp 𝕄) := by
  rw [← toks_eq]; exact (Transfers.pointsTo_toks_range fullShare 256).2

/-! The kernel's own semaphores. -/

abbrev semN (k : ℕ) : DmaSem sig := if k < 32 then (qcell k).sem else if k < 36 then (ecell (k - 32)).sem else (ocell (k - 36)).sem
abbrev osem : Fin 40 → SemLoc sig := fun k => .dma (semN k.val)
theorem ownSemFacts : Pipeline.OwnSemFacts spec0 osem := by decide
abbrev cellP (s : DmaSem sig) : sProp 𝕄 := semVal ((c : Thread nD τ), SemLoc.dma s) 0
theorem ownSems0_eq : (Pipeline.ownSems0 (Ix := Unit) (Name := ℕ) (U := UU nD τ) (Lvl := ℕ) (Val := Elt F) (τ := τ) osem c : sProp 𝕄)
    = iprop(bigSep (Finset.range 32) (fun u => cellP (F := F) c (qcell u).sem) ∗ bigSep (Finset.range 4) (fun s => cellP (F := F) c (ecell s).sem)
      ∗ bigSep (Finset.range 4) (fun s => cellP (F := F) c (ocell s).sem)) := by
  unfold Pipeline.ownSems0
  rw [← Ring.rangeSet_univ, Ring.bigSep_rangeSet_split (NB := 40) (a := 0) (b := 32) (d := 40) (by omega) (by omega),
    Ring.bigSep_rangeSet_split (NB := 40) (a := 32) (b := 36) (d := 40) (by omega) (by omega),
    Ring.bigSep_rangeSet_eq_range (NB := 40) (lo := 0) (hi := 32) (by omega) (fun k => cellP (F := F) c (semN (0 + k))) (fun _ _ => rfl),
    Ring.bigSep_rangeSet_eq_range (NB := 40) (lo := 32) (hi := 36) (by omega) (fun k => cellP (F := F) c (semN (32 + k))) (fun _ _ => rfl),
    Ring.bigSep_rangeSet_eq_range (NB := 40) (lo := 36) (hi := 40) (by omega) (fun k => cellP (F := F) c (semN (36 + k))) (fun _ _ => rfl),
    (bigSep_congr fun k hk => by have := Finset.mem_range.mp hk; rw [semN, if_pos (by omega), Nat.zero_add] :
      bigSep (Finset.range (32 - 0)) (fun k => cellP (F := F) c (semN (0 + k))) = bigSep (Finset.range 32) (fun u => cellP (F := F) c (qcell u).sem)),
    (bigSep_congr fun k hk => by have := Finset.mem_range.mp hk; rw [semN, if_neg (by omega), if_pos (by omega), Nat.add_sub_cancel_left] :
      bigSep (Finset.range (36 - 32)) (fun k => cellP (F := F) c (semN (32 + k))) = bigSep (Finset.range 4) (fun u => cellP (F := F) c (ecell u).sem)),
    (bigSep_congr fun k hk => by have := Finset.mem_range.mp hk; rw [semN, if_neg (by omega), if_neg (by omega), Nat.add_sub_cancel_left] :
      bigSep (Finset.range (40 - 36)) (fun k => cellP (F := F) c (semN (36 + k))) = bigSep (Finset.range 4) (fun u => cellP (F := F) c (ocell u).sem))]

/-! All of it, at the body's entry and at its end. -/

/-- The gather slots idle, from their semaphores, their rows and their tokens. -/
theorem free_eq : bigSep (Finset.range 32) (freeG (F := F) c W)
    = iprop(bigSep (Finset.range 32) (fun u => cellP (F := F) c (qcell u).sem) ∗ bigSep (Finset.range 256) (rowAny (F := F) c) ∗ bigSep (Finset.range 256) (wTok c W)) := by
  rw [(range_eights (rowAny (F := F) c) 32 : bigSep (Finset.range 256) _ = _), (range_eights (wTok c W) 32 : bigSep (Finset.range 256) _ = _),
    ← bigSep_sep', ← bigSep_sep']
  rfl
theorem idle_eq : bigSep (Finset.range 4) (idleO (F := F) c)
    = iprop(bigSep (Finset.range 4) (fun s => cellP (F := F) c (ecell s).sem) ∗ bigSep (Finset.range 4) (fun s => cellP (F := F) c (ocell s).sem)
      ∗ bigSep (Finset.range 4) (fun s => heldAny (F := F) c (eslot s)) ∗ bigSep (Finset.range 4) (fun s => heldAny (F := F) c (oslot s))) := by
  rw [← bigSep_sep', ← bigSep_sep', ← bigSep_sep']; rfl
theorem fresh_eq : bigSep (Finset.range 2048) (fresh2 (F := F) c)
    = iprop(bigSep (Finset.range 2048) (fun u => heldAny (F := F) c (eblk u)) ∗ bigSep (Finset.range 2048) (fun u => heldAny (F := F) c (oblk u))) := by
  rw [← bigSep_sep']; rfl

end Pieces

end Cert.Proof.RingIdeal

end
-- ==== Proof.Run.lean ====
module

public import proofs.«01_k».proof.Proof.Pieces
public import Idealize.ShloMosaic.Lib.Pipeline.FrameSuffixV
public import Idealize.ShloMosaic.Lib.StableHlo.RunRead

/-! One trip of the main loop. -/

@[expose] public section

noncomputable section

namespace Cert.Proof.RingIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Run
variable (m : (ℓ : Loc nD τ sig) → Buf (Elt F) ℓ) (ρ : Dev nD → PrngReg)
variable (X : Dev nD → sProp (MT nD τ sig Unit (Elt F) ℕ (UU nD τ) ℕ))
variable (EOK OOK : Dev nD → ℕ → (S512x128.Idx → Elt F .bf16) → Prop)

/-! What the arrays hold when the kernel is entered. -/

/-- Core `c`'s arrays after the host's lines before the kernel. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)
/-- The ids and the packed table. -/
abbrev idsV (c : Dev nD) : S16384.Idx → Elt F .i32 := V m c main_v3
abbrev tabV (c : Dev nD) : S8000x8192.Idx → Elt F .i32 := V m c main_v2
/-- The ids as the table the pipeline prefetches. -/
def adm : (p : Fin 1) → (pcfgs (F := F) p).Adm := fun _ => ⟨fun k => V m 0 (pre0.ref k), trivial⟩
abbrev cfgA : Cfg sig Λ₀ := Pipeline.pin (pcfgs (F := F)) (adm m) 0

/-- What the kernel holds besides its windows, at its entry and at its end. -/
def ΦIn (c : Dev nD) : sProp 𝕄 := iprop(X c ∗ idsP c (idsV m c) ∗ bigSep (Finset.range 32) (freeG c (tabV m c)) ∗ wLeft c (tabV m c)
  ∗ bigSep (Finset.range 4) (idleO (F := F) c) ∗ bigSep (Finset.range 2048) (fresh2 (F := F) c))
def ΦOut (c : Dev nD) : sProp 𝕄 := iprop(X c ∗ idsP c (idsV m c) ∗ bigSep (Finset.range 32) (freeG c (tabV m c)) ∗ wLeft c (tabV m c)
  ∗ bigSep (Finset.range 4) (idleO (F := F) c) ∗ bigSep (Finset.range 2048) (doneB c (EOK c) (OOK c)))

def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

def dats (_ : Fin 1) (c : Dev nD) : Dat τ (Elt F) Unit ℕ (UU nD τ) ℕ (cfgA m) c where
  A w := V m c (Pipeline.arrRef spec0 w)
  after w t := iblk m c w t
  Φ t := if t.val = 0 then ΦIn m X c else ΦOut m X EOK OOK c
  q _ := fullShare
  owed _ := 0

theorem fetch_all (w : Fin 2) (t : Fin (cfgA m).N) : ((cfgA m).win w).fetch t = true := by
  obtain rfl := fin_N0 t; fin_cases w <;> rfl
theorem before_w (c : Dev nD) (w : Fin 2) (t : Fin (cfgA m).N) (d) : (dats m X EOK OOK 0 c).before w t d = iblk m c w t := by
  unfold Dat.before; rw [if_pos (fetch_all m w t)]; unfold Dat.fetched Dat.blockOf iblk; dsimp only [dats]; fin_cases w <;> rfl
theorem after_w (c : Dev nD) (w : Fin 2) (t : Fin (cfgA m).N) : (dats m X EOK OOK 0 c).after w t = iblk m c w t := by dsimp only [dats]

abbrev st0 (t : Fin (cfgA m).N) : Memref sig .tc .vmem S64x32000 .f32 := spec0_0.stage ((cfgA m).slots t 0)
abbrev st1 (t : Fin (cfgA m).N) : Memref sig .tc .vmem S64x128 .bf16 := spec0_1.stage ((cfgA m).slots t 1)
abbrev hst0 (t : Fin (cfgA m).N) : (st0 m t).IsWhole := hstage0_0 (((cfgA m).slots t 0).cast nbuf0_0)
abbrev hst1 (t : Fin (cfgA m).N) : (st1 m t).IsWhole := hstage0_1 (((cfgA m).slots t 1).cast nbuf0_1)

theorem defs_tc : (defs₀ (F := F)) .tc (cfgA m).body = fun a => cc0_embed_rmsnorm (F := F) (grid0.coords a.1) idM (Memref.isWhole_whole _) wordM (Memref.isWhole_whole _)
    (spec0_0.stage (a.2 0)) (hstage0_0 ((a.2 0).cast nbuf0_0)) (spec0_1.stage (a.2 1)) (hstage0_1 ((a.2 1).cast nbuf0_1))
    outM (Memref.isWhole_whole _) embM (Memref.isWhole_whole _) rowM (Memref.isWhole_whole _) ebM (Memref.isWhole_whole _)
    obM (Memref.isWhole_whole _) cc0_scratch3 cc0_scratch4 cc0_scratch5 := rfl
theorem prog_eq (t : Fin (cfgA m).N) : (defs₀ (F := F)) .tc (cfgA m).body ((cfgA m).bodyArgs t ((cfgA m).slots t))
    = cc0_embed_rmsnorm (F := F) (grid0.coords t) idM (Memref.isWhole_whole _) wordM (Memref.isWhole_whole _) (st0 m t) (hst0 m t) (st1 m t) (hst1 m t)
    outM (Memref.isWhole_whole _) embM (Memref.isWhole_whole _) rowM (Memref.isWhole_whole _) ebM (Memref.isWhole_whole _)
    obM (Memref.isWhole_whole _) cc0_scratch3 cc0_scratch4 cc0_scratch5 := (congrFun (defs_tc m) _).trans rfl

/-- The staged scale table and weight are the arrays themselves. -/
abbrev scV (c : Dev nD) : S64x32000.Idx → Elt F .f32 := V m c main_v4
abbrev nwV (c : Dev nD) : S64x128.Idx → Elt F .bf16 := V m c main_v5
theorem iblk0 (c : Dev nD) (t : Fin (cfgA m).N) : iblk m c 0 t = scV m c := by
  obtain rfl := fin_N0 t
  funext (x : S64x32000.Idx)
  refine congrArg (scV m c) (funext fun a => Fin.ext ?_)
  refine (Rect.emb_apply _ _ _).trans ?_
  fin_cases a
  · exact (congrArg₂ (· + ·) (Nat.zero_mul _) (Nat.one_mul _)).trans (Nat.zero_add _)
  · exact (congrArg₂ (· + ·) (Nat.zero_mul _) (Nat.one_mul _)).trans (Nat.zero_add _)
theorem iblk1 (c : Dev nD) (t : Fin (cfgA m).N) : iblk m c 1 t = nwV m c := by
  obtain rfl := fin_N0 t
  funext (x : S64x128.Idx)
  refine congrArg (nwV m c) (funext fun a => Fin.ext ?_)
  refine (Rect.emb_apply _ _ _).trans ?_
  fin_cases a
  · exact (congrArg₂ (· + ·) (Nat.zero_mul _) (Nat.one_mul _)).trans (Nat.zero_add _)
  · exact (congrArg₂ (· + ·) (Nat.zero_mul _) (Nat.one_mul _)).trans (Nat.zero_add _)

set_option backward.isDefEq.respectTransparency.types false in
theorem body_obligation [∀ e, Nonempty (Elt F e)] (hok : ∀ c, Okay c (idsV m c) (tabV m c) (EOK c) (OOK c) (scV m c) (nwV m c)) (c : Dev nD) :
    BodyObligation (dats m X EOK OOK 0 c) (defs₀ (F := F)) 𝒱₀ () Set.univ := fun t => by
  rw [bigSep_W0, bigSep_W0]
  dsimp only
  simp only [before_w, after_w]
  have ht : t.val = 0 := by rw [fin_N0 t]; rfl
  have e0 : (dats m X EOK OOK 0 c).Φ t.castSucc = ΦIn m X c := if_pos ht
  have e1 : (dats m X EOK OOK 0 c).Φ t.succ = ΦOut m X EOK OOK c := if_neg (t := ΦIn m X c) (show ¬ t.succ.val = 0 from Nat.succ_ne_zero t.val)
  rw [e0, e1]
  unfold Dat.owesAt Pipeline.owesWithin
  rw [show (dats m X EOK OOK 0 c).owed t.castSucc = 0 from rfl, show (dats m X EOK OOK 0 c).owed t.succ = 0 from rfl]
  unfold owns ΦIn ΦOut
  iintro ⟨⟨HX, HI, HF, HL, HD, HN⟩, ⟨%o, -, HW⟩, ⟨%d0, %g0, %hg0, H0⟩, ⟨%d1, %g1, %hg1, H1⟩⟩
  have hs0 : (st0 m t).view.read (Elt F) g0 = scV m c := hg0.trans (iblk0 m c t)
  have hs1 : (st1 m t).view.read (Elt F) g1 = nwV m c := hg1.trans (iblk1 m c t)
  sl_rw [prog_eq m t]
  iapply (wp_wand_r frame _ Set.univ (Q := fun _ => bodyOut c (idsV m c) (tabV m c) (st0 m t) (st1 m t) g0 g1 (EOK c) (OOK c)))
  isplitl [HI HF HD HN HW H0 H1]
  · iapply (body_run c (idsV m c) (tabV m c) (st0 m t) (hst0 m t) (st1 m t) (hst1 m t) (grid0.coords t) g0 g1 (EOK c) (OOK c) (hs0.symm ▸ hs1.symm ▸ hok c))
    unfold bodyIn
    isplitl [HI]; · iexact HI
    isplitl [HF]; · iexact HF
    isplitl [HW]; · iexists o; iexact HW
    isplitl [H0]; · iexact H0
    isplitl [H1]; · iexact H1
    isplitl [HD]; · iexact HD
    iexact HN
  iintro %x HB
  unfold bodyOut
  icases HB with ⟨HI, HF, ⟨%o', HW⟩, H0, H1, HD, HN⟩
  isplitl [HX HI HF HL HD HN]
  · isplitl [HX]; · iexact HX
    isplitl [HI]; · iexact HI
    isplitl [HF]; · iexact HF
    isplitl [HL]; · iexact HL
    isplitl [HD]; · iexact HD
    iexact HN
  isplitl [HW]
  · iexists o'; isplitr; · ipureintro; exact fun _ _ => Or.inl trivial
    iexact HW
  isplitl [H0]
  · iexists g0; isplitr; · ipureintro; exact hg0
    iexact H0
  iexists g1; isplitr; · ipureintro; exact hg1
  iexact H1

/-! Into the body and out of it. -/

theorem enter (c : Dev nD) (W : S8000x8192.Idx → Elt F .i32) :
    iprop(Pipeline.scopedRest (Ix := Unit) (Name := ℕ) (U := UU nD τ) (Lvl := ℕ) (Val := Elt F) spec0 c
      ∗ Pipeline.ownSems0 (Ix := Unit) (Name := ℕ) (U := UU nD τ) (Lvl := ℕ) (Val := Elt F) (τ := τ) osem c
      ∗ (wordM.view.loc (c : Thread nD τ) ↦{fullShare} W)
      ∗ (∃ f : Buf (Elt F) ((c : Thread nD τ).loc main_v6_0), ((c : Thread nD τ).loc main_v6_0) ↦{fullShare} f)
      ∗ (∃ f : Buf (Elt F) ((c : Thread nD τ).loc main_v6_1), ((c : Thread nD τ).loc main_v6_1) ↦{fullShare} f))
      ⊢ (iprop(bigSep (Finset.range 32) (freeG c W) ∗ wLeft c W ∗ bigSep (Finset.range 4) (idleO (F := F) c)
        ∗ bigSep (Finset.range 2048) (fresh2 (F := F) c)) : sProp 𝕄) := by
  rw [scopedRest0_eq, ownSems0_eq, free_eq, idle_eq, fresh_eq]
  iintro ⟨⟨HR, HE, HO⟩, ⟨HQ, HCE, HCO⟩, HW, HBO, HBE⟩
  ihave HR := (rows_split (F := F) c) $$ HR
  ihave HE := (eslots_split (F := F) c) $$ HE
  ihave HO := (oslots_split (F := F) c) $$ HO
  ihave HBO := (otiles_split (F := F) c) $$ HBO
  ihave HBE := (etiles_split (F := F) c) $$ HBE
  ihave HW := (table_split c W) $$ HW
  icases HW with ⟨HL, HT⟩
  isplitl [HQ HR HT]
  · isplitl [HQ]; · iexact HQ
    isplitl [HR]; · iexact HR
    iexact HT
  isplitl [HL]; · iexact HL
  isplitl [HCE HCO HE HO]
  · isplitl [HCE]; · iexact HCE
    isplitl [HCO]; · iexact HCO
    isplitl [HE]; · iexact HE
    iexact HO
  isplitl [HBE]; · iexact HBE
  iexact HBO
theorem leave [∀ e, Nonempty (Elt F e)] (c : Dev nD) (W : S8000x8192.Idx → Elt F .i32) :
    iprop(bigSep (Finset.range 32) (freeG c W) ∗ wLeft c W ∗ bigSep (Finset.range 4) (idleO (F := F) c))
      ⊢ (iprop(Pipeline.scopedRest (Ix := Unit) (Name := ℕ) (U := UU nD τ) (Lvl := ℕ) (Val := Elt F) spec0 c
      ∗ Pipeline.ownSems0 (Ix := Unit) (Name := ℕ) (U := UU nD τ) (Lvl := ℕ) (Val := Elt F) (τ := τ) osem c
      ∗ (wordM.view.loc (c : Thread nD τ) ↦{fullShare} W)) : sProp 𝕄) := by
  rw [scopedRest0_eq, ownSems0_eq, free_eq, idle_eq]
  iintro ⟨⟨HQ, HR, HT⟩, HL, HCE, HCO, HE, HO⟩
  isplitl [HR HE HO]
  · isplitl [HR]; · iapply (rows_join (F := F) c); iexact HR
    isplitl [HE]; · iapply (eslots_join (F := F) c); iexact HE
    iapply (oslots_join (F := F) c); iexact HO
  isplitl [HQ HCE HCO]
  · isplitl [HQ]; · iexact HQ
    isplitl [HCE]; · iexact HCE
    iexact HCO
  iapply (table_join c W)
  isplitl [HL]; · iexact HL
  iexact HT

/-! The host's lines around the kernel. -/

theorem pre_fresh : (hostOps0 : List (HloOp τ sig (Elt F))).Forall fun op => op.fresh = ∅ := ⟨rfl, rfl, rfl, rfl, rfl, rfl⟩
theorem hmain : Pipeline.HMainPK (Ix := Unit) (Name := ℕ) (U := UU nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact pre_fresh) main_chain
theorem sfx_sub : ∀ ops ∈ ([hostOps1] : List (List (HloOp τ sig (Elt F)))), ∀ op ∈ ops, op.bufs ⊆ Pipeline.tailRefs sig pre0 spec0 := by
  intro ops hops op hop
  simp only [List.mem_cons, List.mem_nil_iff, _root_.or_false] at hops
  rcases hops with rfl
  refine Pipeline.sub_tailRefs pre0 spec0 op ((List.forall_iff_forall_mem.mp hostOps1_sub) op hop) ?_
  simp only [hostOps1, List.mem_cons, List.mem_nil_iff, _root_.or_false] at hop
  rcases hop with rfl | rfl | rfl | rfl | rfl | rfl
  all_goals intro j; fin_cases j <;> simp only [StableHlo.reshape_bufs, StableHlo.unary_bufs, Finset.mem_insert, Finset.mem_singleton, not_or] <;> and_intros <;> exact StableHlo.devRef_ne_of_ne (by decide)
theorem sfx_fresh : ∀ ops ∈ ([hostOps1] : List (List (HloOp τ sig (Elt F)))), ∀ op ∈ ops, op.fresh = ∅ := by
  intro ops hops op hop
  simp only [List.mem_cons, List.mem_nil_iff, _root_.or_false] at hops
  rcases hops with rfl
  simp only [hostOps1, List.mem_cons, List.mem_nil_iff, _root_.or_false] at hop
  rcases hop with rfl | rfl | rfl | rfl | rfl | rfl <;> rfl
theorem sfx_keeps : ∀ ops ∈ ([hostOps1] : List (List (HloOp τ sig (Elt F)))), ∀ op ∈ ops, ∀ w, Proc.devRef .tc (Pipeline.arrRef spec0 w) ∉ op.writes := by
  intro ops hops op hop
  simp only [List.mem_cons, List.mem_nil_iff, _root_.or_false] at hops
  rcases hops with rfl
  simp only [hostOps1, List.mem_cons, List.mem_nil_iff, _root_.or_false] at hop
  rcases hop with rfl | rfl | rfl | rfl | rfl | rfl
  all_goals intro w; fin_cases w <;> simp only [StableHlo.reshape_writes, StableHlo.unary_writes, Finset.mem_singleton] <;> exact StableHlo.devRef_ne_of_ne (by decide)

/-! The run. -/

/-- The packed table the kernel reads, the two results it writes, and what the host's lines after it write. -/
abbrev Hs : Finset (Ref sig .tc) := {main_v2}
abbrev Rs : Finset (Ref sig .tc) := {main_v6_0, main_v6_1}
abbrev Ts : Finset (Ref sig .tc) := {main_v7, main_v8, main_v9, main_v10, main_v11, main_v12}
theorem sfx_writes : ∀ ops ∈ ([hostOps1] : List (List (HloOp τ sig (Elt F)))), ∀ op ∈ ops, ∀ b : Ref sig .tc, Proc.devRef .tc b ∈ op.writes → b ∈ Ts := by
  intro ops hops op hop
  simp only [List.mem_cons, List.mem_nil_iff, _root_.or_false] at hops
  rcases hops with rfl
  simp only [hostOps1, List.mem_cons, List.mem_nil_iff, _root_.or_false] at hop
  rcases hop with rfl | rfl | rfl | rfl | rfl | rfl
  all_goals
    intro b hb
    simp only [StableHlo.reshape_writes, StableHlo.unary_writes, Finset.mem_singleton] at hb
    rw [Proc.devRef_injective _ hb]; decide
theorem Hs_sub : Hs ⊆ Pipeline.restRefsP sig pre0 spec0 := by decide
theorem Rs_sub : Rs ⊆ Pipeline.restRefsP sig pre0 spec0 \ Hs := by decide
theorem arg0_rest : main_arg0 ∈ Pipeline.restRefs sig spec0 \ (Rs ∪ Ts) := by decide
theorem arg1_rest : main_arg1 ∈ Pipeline.restRefs sig spec0 \ (Rs ∪ Ts) := by decide
theorem arg2_rest : main_arg2 ∈ Pipeline.restRefs sig spec0 \ (Rs ∪ Ts) := by decide
theorem arg3_rest : main_arg3 ∈ Pipeline.restRefs sig spec0 \ (Rs ∪ Ts) := by decide
theorem V_arg (c : Dev nD) (b : Ref sig .tc) (h : b ∉ [main_v0, main_v1, main_v2, main_v3, main_v4, main_v5]) :
    V m c b = m ((c : Thread nD τ).loc b) :=
  StableHlo.after_unwritten (ops := hostOps0) [main_v0, main_v1, main_v2, main_v3, main_v4, main_v5] rfl h _
theorem idsV_eq (c : Dev nD) : idsV m c = shapeCast S16384 (m ((c : Thread nD τ).loc main_arg0)) shapeCasts_S4x4096_S16384 := rfl
theorem ids_lt (h : ∀ (c : Dev nD) j, (m ((c : Thread nD τ).loc main_arg0) j).toNat < 32000) (c : Dev nD) (x : S16384.Idx) : (idsV m c x).toNat < 32000 := by
  rw [idsV_eq]; exact h c _

abbrev prngX (c : Dev nD) : sProp 𝕄 := iprop(∃ r, prngReg c r)
abbrev someOK : Dev nD → ℕ → (S512x128.Idx → Elt F .bf16) → Prop := fun _ _ _ => True

theorem fin_of (c : Dev nD) : bigSep Finset.univ (fun k : Fin 1 => (((c : Thread nD τ).loc (pre0.ref k)) ↦{fullShare.right} (adm m 0).1 k : sProp 𝕄)) ⊢ idsP c (idsV m c) := by
  obtain rfl : c = 0 := Subsingleton.elim _ _
  rw [show (Finset.univ : Finset (Fin 1)) = {0} from rfl, bigSep_singleton]
  exact Entails.of_eq rfl

theorem enterΦ (c : Dev nD) : iprop(Pipeline.ΦDR osem spec0 Hs Rs (V m) c ∗ Pipeline.ΦT pre0 (adm m 0).1 c) ⊢ (dats m prngX someOK someOK 0 c).Φ 0 := by
  rw [show (dats m prngX someOK someOK 0 c).Φ 0 = ΦIn m prngX c from rfl]
  unfold Pipeline.ΦDR Pipeline.ΦD Pipeline.owned ΦIn Pipeline.ΦT Pipeline.prefHeld
  rw [bigSep_singleton, show (Rs : Finset (Ref sig .tc)) = insert main_v6_0 {main_v6_1} from rfl, bigSep_insert (by decide), bigSep_singleton]
  iintro ⟨⟨⟨HS, HX, HO, HW⟩, HB⟩, HT⟩
  ihave HB := (show (_ : sProp 𝕄) ⊢ iprop((∃ f, ((c : Thread nD τ).loc main_v6_0) ↦{fullShare} f) ∗ (∃ f, ((c : Thread nD τ).loc main_v6_1) ↦{fullShare} f)) from .rfl) $$ HB
  icases HB with ⟨HB0, HB1⟩
  ihave HE := (enter c (tabV m c)) $$ [HS HO HW HB0 HB1]
  · isplitl [HS]; · iexact HS
    isplitl [HO]; · iexact HO
    isplitl [HW]; · iexact HW
    isplitl [HB0]; · iexact HB0
    iexact HB1
  icases HE with ⟨HF, HL, HD, HN⟩
  isplitl [HX]; · iexact HX
  isplitl [HT]; · iapply (fin_of m c); iexact HT
  isplitl [HF]; · iexact HF
  isplitl [HL]; · iexact HL
  isplitl [HD]; · iexact HD
  iexact HN
theorem doneB_any (c : Dev nD) (E O : ℕ → (S512x128.Idx → Elt F .bf16) → Prop) : bigSep (Finset.range 2048) (doneB c E O) ⊢ bigSep (Finset.range 2048) (fresh2 (F := F) c) :=
  BI.bigSep_mono fun u _ => show doneB c E O u ⊢ fresh2 (F := F) c u from by
    unfold doneB fresh2 doneAt fresh
    iintro ⟨⟨%f, H, -⟩, %g, HG, -⟩
    isplitl [H]; · iexists f; iexact H
    iexists g; iexact HG
theorem leaveΦ [∀ e, Nonempty (Elt F e)] (c : Dev nD) : (dats m prngX someOK someOK 0 c).Φ (Fin.last (cfgA m).N) ⊢ Pipeline.ΦDR osem spec0 Hs Rs (V m) c := by
  have e1 : (dats m prngX someOK someOK 0 c).Φ (Fin.last (cfgA m).N) = ΦOut m prngX someOK someOK c := if_neg (t := ΦIn m prngX c) (show ¬ (cfgA m).N = 0 by rw [show (cfgA m).N = 1 from N_0]; decide)
  rw [e1]
  unfold Pipeline.ΦDR Pipeline.ΦD Pipeline.owned ΦOut
  rw [bigSep_singleton, bigSep_insert (by decide), bigSep_singleton]
  iintro ⟨HX, -, HF, HL, HD, HN⟩
  ihave HN := (doneB_any c (someOK c) (someOK c)) $$ HN
  ihave HN := (Entails.of_eq (fresh_eq (F := F) c)) $$ HN
  icases HN with ⟨HBE, HBO⟩
  ihave HE := (leave c (tabV m c)) $$ [HF HL HD]
  · isplitl [HF]; · iexact HF
    isplitl [HL]; · iexact HL
    iexact HD
  icases HE with ⟨HS, HO, HW⟩
  isplitl [HS HX HO HW]
  · isplitl [HS]; · iexact HS
    isplitl [HX]; · iexact HX
    isplitl [HO]; · iexact HO
    iexact HW
  iapply (show iprop((∃ f, ((c : Thread nD τ).loc main_v6_0) ↦{fullShare} f) ∗ (∃ f, ((c : Thread nD τ).loc main_v6_1) ↦{fullShare} f)) ⊢ (_ : sProp 𝕄) from .rfl)
  isplitl [HBO]; · iapply (otiles_join (F := F) c); iexact HBO
  iapply (etiles_join (F := F) c); iexact HBE

/-- Every run ends, with the arguments as they were and every semaphore at zero. -/
theorem run_frame [∀ e, Nonempty (Elt F e)] (h : ∀ (c : Dev nD) j, (m ((c : Thread nD τ).loc main_arg0) j).toNat < 32000) :
    θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  Pipeline.θ_run_frameP_dmaR_around pcfgs (adm m) (dats m prngX someOK someOK) 0 launch0 osem defs₀ 𝒱₀ ownSemFacts Hs Rs Ts Hs_sub Rs_sub m ρ main
    (fun c => (body_obligation m prngX someOK someOK (fun c => ⟨ids_lt m h c, fun _ _ => trivial, fun _ _ => trivial⟩) c).loose)
    (fun c => (dats m prngX someOK someOK 0 c).share_full fun _ => rfl) (fun _ _ => rfl) (V0 m) [hostOps1] sfx_sub sfx_fresh sfx_keeps sfx_writes
    (hmain m) (fun _ _ => rfl) (fun c k => by obtain rfl : c = 0 := Subsingleton.elim _ _; rfl) (enterΦ m) (leaveΦ m) _
    (fun r hr => ⟨fun c => ⟨((hr.1 c).2 main_arg0 arg0_rest).trans (V_arg m c main_arg0 (by decide)), ((hr.1 c).2 main_arg1 arg1_rest).trans (V_arg m c main_arg1 (by decide)),
      ((hr.1 c).2 main_arg2 arg2_rest).trans (V_arg m c main_arg2 (by decide)), ((hr.1 c).2 main_arg3 arg3_rest).trans (V_arg m c main_arg3 (by decide))⟩, hr.2⟩)

end Run
end Cert.Proof.RingIdeal
end
-- ==== Proof.OffsBits.lean ====
module

public import proofs.«01_k».proof.Defs
public import proofs.«01_k».proof.Proof.Gen.Kernel.Launch
public import proofs.«01_k».proof.Proof.Gen.Kernel.Skeleton
public import proofs.«01_k».proof.Proof.Gen.Kernel.Loops
public import Idealize.ShloMosaic.Lib.Pipeline.KitQuiescent
public import Idealize.ShloMosaic.Lib.Ring
public import Idealize.ShloMosaic.Lib.Batch
public import Idealize.ShloMosaic.Lib.Tactic

/-! The offsets of the body's slices in closed form.  Trip `k` of either loop handles tile `k`: eight rows
`8 k … 8 k + 7`, gathered into slot `k % 32` of the row buffer and written through slot `k % 4` of the two tile
buffers.  Every name below is a function of a natural number, periodic in it where the buffer is a ring. -/

@[expose] public section

namespace Cert.Proof.RingBits

open Cert.Kernel Cert.Kernel.Gen
open Idealize.ShloMosaic

/-- Where the `n`-th token's id lies, where gathered row `j` lies, the gather semaphore of tile `u`, the store
    semaphore of tile `u`, part `(g, p)` of tile `u`'s slot, tile `u`'s block of a result. -/
abbrev idOff (n : ℕ) : Fin 1 → Nat := ![n]
abbrev rowOff (j : ℕ) : Fin 3 → Nat := ![j % 256, 0, 0]
abbrev cellOff (u : ℕ) : Fin 1 → Nat := ![u % 32]
abbrev scellOff (u : ℕ) : Fin 1 → Nat := ![u % 4]
abbrev slotAt (u g p : ℕ) : Fin 4 → Nat := ![u % 4, g, p, 0]
abbrev blkOff (u : ℕ) : Fin 2 → Nat := ![512 * u, 0]

theorem t2_trips : k0_t2_loop.trips = 2048 := by decide +kernel
theorem t1_trips : k0_t1_loop.trips = 32 := by decide +kernel
theorem trip_lt (k : Fin k0_t2_loop.trips) : k.val < 4096 := by have := k.isLt; have := t2_trips; omega
theorem trip32_lt (k : Fin k0_t2_loop.trips) : k.val + 32 < 4096 := by have := k.isLt; have := t2_trips; omega
theorem tword : ∀ k : Fin k0_t2_loop.trips,
    (Scalar.addi 0#32 (Scalar.muli (Scf.iv 0#32 1#32 k.val) 1#32)).toNat = k.val := by decide +kernel
theorem tword32 (k : Fin k0_t2_loop.trips) :
    (Scalar.addi (Scalar.addi 0#32 (Scalar.muli (Scf.iv 0#32 1#32 k.val) 1#32)) 32#32).toNat = k.val + 32 := by
  have h := tword k; have := trip_lt k
  simp only [Scalar.addi, IntOp.addi, BitVec.toNat_add, BitVec.toNat_ofNat] at h ⊢; omega

theorem lin_of {v : BitVec 32} {u : ℕ} (h : v.toNat = u) (r : ℕ) (hr : r < 8) (hu : u < 4096) :
    (Scalar.addi (Scalar.muli v 8#32) (BitVec.ofNat 32 r)).toNat = 8 * u + r := by
  simp only [Scalar.addi, IntOp.addi, Scalar.muli, IntOp.muli, BitVec.toNat_add, BitVec.toNat_mul, BitVec.toNat_ofNat, h]; omega
theorem ids_of {v : BitVec 32} {u : ℕ} (h : v.toNat = u) (r : ℕ) (hr : r < 8) (hu : u < 4096) :
    (![(Scalar.indexCast (Scalar.addi (Scalar.muli v 8#32) (BitVec.ofNat 32 r))).toNat] : Fin 1 → ℕ) = idOff (8 * u + r) :=
  congrArg (fun b => ![b]) (lin_of h r hr hu)
theorem row_of {v : BitVec 32} {u : ℕ} (h : v.toNat = u % 32) (r : ℕ) (hr : r < 8) :
    (![(Scalar.addi (Scalar.muli v 8#32) (BitVec.ofNat 32 r)).toNat, 0, 0] : Fin 3 → ℕ) = rowOff (8 * u + r) :=
  congrArg (fun b => ![b, 0, 0]) ((lin_of h r hr (by omega)).trans (by omega))
theorem pairLin_of {v : BitVec 32} {u : ℕ} (h : v.toNat = u) (p q : ℕ) (hr : p + q < 8) (hu : u < 4096) :
    (Scalar.addi (Scalar.addi (Scalar.muli v 8#32) (BitVec.ofNat 32 p)) (BitVec.ofNat 32 q)).toNat = 8 * u + (p + q) := by
  simp only [Scalar.addi, IntOp.addi, Scalar.muli, IntOp.muli, BitVec.toNat_add, BitVec.toNat_mul, BitVec.toNat_ofNat, h]; omega
theorem pairIds_of {v : BitVec 32} {u : ℕ} (h : v.toNat = u) (p q : ℕ) (hr : p + q < 8) (hu : u < 4096) :
    (![(Scalar.indexCast (Scalar.addi (Scalar.addi (Scalar.muli v 8#32) (BitVec.ofNat 32 p)) (BitVec.ofNat 32 q))).toNat] : Fin 1 → ℕ)
      = idOff (8 * u + (p + q)) :=
  congrArg (fun b => ![b]) (pairLin_of h p q hr hu)
theorem pairRow_of {v : BitVec 32} {u : ℕ} (h : v.toNat = u % 32) (p q : ℕ) (hr : p + q < 8) :
    (![(Scalar.addi (Scalar.addi (Scalar.muli v 8#32) (BitVec.ofNat 32 p)) (BitVec.ofNat 32 q)).toNat, 0, 0] : Fin 3 → ℕ)
      = rowOff (8 * u + (p + q)) :=
  congrArg (fun b => ![b, 0, 0]) ((pairLin_of h p q hr (by omega)).trans (by omega))

theorem off1_eq : ∀ k : Fin k0_t1_loop.trips, k0_off1 k = idOff (8 * k.val + 0) := by decide +kernel
theorem off2_eq : ∀ k : Fin k0_t1_loop.trips, k0_off2 k = cellOff k.val := by decide +kernel
theorem off3_eq : ∀ k : Fin k0_t1_loop.trips, k0_off3 k = rowOff (8 * k.val + 0) := by decide +kernel
theorem off5_eq : ∀ k : Fin k0_t1_loop.trips, k0_off5 k = idOff (8 * k.val + 1) := by decide +kernel
theorem off6_eq : ∀ k : Fin k0_t1_loop.trips, k0_off6 k = cellOff k.val := by decide +kernel
theorem off7_eq : ∀ k : Fin k0_t1_loop.trips, k0_off7 k = rowOff (8 * k.val + 1) := by decide +kernel
theorem off9_eq : ∀ k : Fin k0_t1_loop.trips, k0_off9 k = idOff (8 * k.val + 2) := by decide +kernel
theorem off10_eq : ∀ k : Fin k0_t1_loop.trips, k0_off10 k = cellOff k.val := by decide +kernel
theorem off11_eq : ∀ k : Fin k0_t1_loop.trips, k0_off11 k = rowOff (8 * k.val + 2) := by decide +kernel
theorem off13_eq : ∀ k : Fin k0_t1_loop.trips, k0_off13 k = idOff (8 * k.val + 3) := by decide +kernel
theorem off14_eq : ∀ k : Fin k0_t1_loop.trips, k0_off14 k = cellOff k.val := by decide +kernel
theorem off15_eq : ∀ k : Fin k0_t1_loop.trips, k0_off15 k = rowOff (8 * k.val + 3) := by decide +kernel
theorem off17_eq : ∀ k : Fin k0_t1_loop.trips, k0_off17 k = idOff (8 * k.val + 4) := by decide +kernel
theorem off18_eq : ∀ k : Fin k0_t1_loop.trips, k0_off18 k = cellOff k.val := by decide +kernel
theorem off19_eq : ∀ k : Fin k0_t1_loop.trips, k0_off19 k = rowOff (8 * k.val + 4) := by decide +kernel
theorem off21_eq : ∀ k : Fin k0_t1_loop.trips, k0_off21 k = idOff (8 * k.val + 5) := by decide +kernel
theorem off22_eq : ∀ k : Fin k0_t1_loop.trips, k0_off22 k = cellOff k.val := by decide +kernel
theorem off23_eq : ∀ k : Fin k0_t1_loop.trips, k0_off23 k = rowOff (8 * k.val + 5) := by decide +kernel
theorem off25_eq : ∀ k : Fin k0_t1_loop.trips, k0_off25 k = idOff (8 * k.val + 6) := by decide +kernel
theorem off26_eq : ∀ k : Fin k0_t1_loop.trips, k0_off26 k = cellOff k.val := by decide +kernel
theorem off27_eq : ∀ k : Fin k0_t1_loop.trips, k0_off27 k = rowOff (8 * k.val + 6) := by decide +kernel
theorem off29_eq : ∀ k : Fin k0_t1_loop.trips, k0_off29 k = idOff (8 * k.val + 7) := by decide +kernel
theorem off30_eq : ∀ k : Fin k0_t1_loop.trips, k0_off30 k = cellOff k.val := by decide +kernel
theorem off31_eq : ∀ k : Fin k0_t1_loop.trips, k0_off31 k = rowOff (8 * k.val + 7) := by decide +kernel
theorem off34_eq : ∀ k : Fin k0_t2_loop.trips, k0_off34 k = cellOff k.val := by decide +kernel
theorem off203_eq : ∀ k : Fin k0_t2_loop.trips, k0_off203 k = cellOff (k.val + 32) := by decide +kernel
theorem off65_eq : ∀ k : Fin k0_t2_loop.trips, k0_off65 k = scellOff k.val := by decide +kernel
theorem off177_eq : ∀ k : Fin k0_t2_loop.trips, k0_off177 k = blkOff k.val := by decide +kernel
theorem off66_eq : ∀ k : Fin k0_t2_loop.trips, 4 ≤ k.val → k0_off66 k = blkOff (k.val - 4) := by decide +kernel
theorem off176_eq (k : Fin k0_t2_loop.trips) : k0_off176 k = scellOff k.val := off65_eq k
theorem off38_eq (k : Fin k0_t2_loop.trips) : k0_off38 k = cellOff k.val := off34_eq k
theorem off207_eq (k : Fin k0_t2_loop.trips) : k0_off207 k = cellOff (k.val + 32) := off203_eq k
theorem off42_eq (k : Fin k0_t2_loop.trips) : k0_off42 k = cellOff k.val := off34_eq k
theorem off211_eq (k : Fin k0_t2_loop.trips) : k0_off211 k = cellOff (k.val + 32) := off203_eq k
theorem off46_eq (k : Fin k0_t2_loop.trips) : k0_off46 k = cellOff k.val := off34_eq k
theorem off215_eq (k : Fin k0_t2_loop.trips) : k0_off215 k = cellOff (k.val + 32) := off203_eq k
theorem off50_eq (k : Fin k0_t2_loop.trips) : k0_off50 k = cellOff k.val := off34_eq k
theorem off219_eq (k : Fin k0_t2_loop.trips) : k0_off219 k = cellOff (k.val + 32) := off203_eq k
theorem off54_eq (k : Fin k0_t2_loop.trips) : k0_off54 k = cellOff k.val := off34_eq k
theorem off223_eq (k : Fin k0_t2_loop.trips) : k0_off223 k = cellOff (k.val + 32) := off203_eq k
theorem off58_eq (k : Fin k0_t2_loop.trips) : k0_off58 k = cellOff k.val := off34_eq k
theorem off227_eq (k : Fin k0_t2_loop.trips) : k0_off227 k = cellOff (k.val + 32) := off203_eq k
theorem off62_eq (k : Fin k0_t2_loop.trips) : k0_off62 k = cellOff k.val := off34_eq k
theorem off231_eq (k : Fin k0_t2_loop.trips) : k0_off231 k = cellOff (k.val + 32) := off203_eq k
theorem off33_eq (k : Fin k0_t2_loop.trips) : k0_off33 k = idOff (8 * k.val + 0) := ids_of (tword k) 0 (by decide) (trip_lt k)
theorem off35_eq (k : Fin k0_t2_loop.trips) : k0_off35 k = rowOff (8 * k.val + 0) := row_of (congrFun (off34_eq k) 0) 0 (by decide)
theorem off202_eq (k : Fin k0_t2_loop.trips) : k0_off202 k = idOff (8 * (k.val + 32) + 0) := ids_of (tword32 k) 0 (by decide) (trip32_lt k)
theorem off204_eq (k : Fin k0_t2_loop.trips) : k0_off204 k = rowOff (8 * (k.val + 32) + 0) := row_of (congrFun (off203_eq k) 0) 0 (by decide)
theorem off37_eq (k : Fin k0_t2_loop.trips) : k0_off37 k = idOff (8 * k.val + 1) := ids_of (tword k) 1 (by decide) (trip_lt k)
theorem off39_eq (k : Fin k0_t2_loop.trips) : k0_off39 k = rowOff (8 * k.val + 1) := row_of (congrFun (off34_eq k) 0) 1 (by decide)
theorem off206_eq (k : Fin k0_t2_loop.trips) : k0_off206 k = idOff (8 * (k.val + 32) + 1) := ids_of (tword32 k) 1 (by decide) (trip32_lt k)
theorem off208_eq (k : Fin k0_t2_loop.trips) : k0_off208 k = rowOff (8 * (k.val + 32) + 1) := row_of (congrFun (off203_eq k) 0) 1 (by decide)
theorem off41_eq (k : Fin k0_t2_loop.trips) : k0_off41 k = idOff (8 * k.val + 2) := ids_of (tword k) 2 (by decide) (trip_lt k)
theorem off43_eq (k : Fin k0_t2_loop.trips) : k0_off43 k = rowOff (8 * k.val + 2) := row_of (congrFun (off34_eq k) 0) 2 (by decide)
theorem off210_eq (k : Fin k0_t2_loop.trips) : k0_off210 k = idOff (8 * (k.val + 32) + 2) := ids_of (tword32 k) 2 (by decide) (trip32_lt k)
theorem off212_eq (k : Fin k0_t2_loop.trips) : k0_off212 k = rowOff (8 * (k.val + 32) + 2) := row_of (congrFun (off203_eq k) 0) 2 (by decide)
theorem off45_eq (k : Fin k0_t2_loop.trips) : k0_off45 k = idOff (8 * k.val + 3) := ids_of (tword k) 3 (by decide) (trip_lt k)
theorem off47_eq (k : Fin k0_t2_loop.trips) : k0_off47 k = rowOff (8 * k.val + 3) := row_of (congrFun (off34_eq k) 0) 3 (by decide)
theorem off214_eq (k : Fin k0_t2_loop.trips) : k0_off214 k = idOff (8 * (k.val + 32) + 3) := ids_of (tword32 k) 3 (by decide) (trip32_lt k)
theorem off216_eq (k : Fin k0_t2_loop.trips) : k0_off216 k = rowOff (8 * (k.val + 32) + 3) := row_of (congrFun (off203_eq k) 0) 3 (by decide)
theorem off49_eq (k : Fin k0_t2_loop.trips) : k0_off49 k = idOff (8 * k.val + 4) := ids_of (tword k) 4 (by decide) (trip_lt k)
theorem off51_eq (k : Fin k0_t2_loop.trips) : k0_off51 k = rowOff (8 * k.val + 4) := row_of (congrFun (off34_eq k) 0) 4 (by decide)
theorem off218_eq (k : Fin k0_t2_loop.trips) : k0_off218 k = idOff (8 * (k.val + 32) + 4) := ids_of (tword32 k) 4 (by decide) (trip32_lt k)
theorem off220_eq (k : Fin k0_t2_loop.trips) : k0_off220 k = rowOff (8 * (k.val + 32) + 4) := row_of (congrFun (off203_eq k) 0) 4 (by decide)
theorem off53_eq (k : Fin k0_t2_loop.trips) : k0_off53 k = idOff (8 * k.val + 5) := ids_of (tword k) 5 (by decide) (trip_lt k)
theorem off55_eq (k : Fin k0_t2_loop.trips) : k0_off55 k = rowOff (8 * k.val + 5) := row_of (congrFun (off34_eq k) 0) 5 (by decide)
theorem off222_eq (k : Fin k0_t2_loop.trips) : k0_off222 k = idOff (8 * (k.val + 32) + 5) := ids_of (tword32 k) 5 (by decide) (trip32_lt k)
theorem off224_eq (k : Fin k0_t2_loop.trips) : k0_off224 k = rowOff (8 * (k.val + 32) + 5) := row_of (congrFun (off203_eq k) 0) 5 (by decide)
theorem off57_eq (k : Fin k0_t2_loop.trips) : k0_off57 k = idOff (8 * k.val + 6) := ids_of (tword k) 6 (by decide) (trip_lt k)
theorem off59_eq (k : Fin k0_t2_loop.trips) : k0_off59 k = rowOff (8 * k.val + 6) := row_of (congrFun (off34_eq k) 0) 6 (by decide)
theorem off226_eq (k : Fin k0_t2_loop.trips) : k0_off226 k = idOff (8 * (k.val + 32) + 6) := ids_of (tword32 k) 6 (by decide) (trip32_lt k)
theorem off228_eq (k : Fin k0_t2_loop.trips) : k0_off228 k = rowOff (8 * (k.val + 32) + 6) := row_of (congrFun (off203_eq k) 0) 6 (by decide)
theorem off61_eq (k : Fin k0_t2_loop.trips) : k0_off61 k = idOff (8 * k.val + 7) := ids_of (tword k) 7 (by decide) (trip_lt k)
theorem off63_eq (k : Fin k0_t2_loop.trips) : k0_off63 k = rowOff (8 * k.val + 7) := row_of (congrFun (off34_eq k) 0) 7 (by decide)
theorem off230_eq (k : Fin k0_t2_loop.trips) : k0_off230 k = idOff (8 * (k.val + 32) + 7) := ids_of (tword32 k) 7 (by decide) (trip32_lt k)
theorem off232_eq (k : Fin k0_t2_loop.trips) : k0_off232 k = rowOff (8 * (k.val + 32) + 7) := row_of (congrFun (off203_eq k) 0) 7 (by decide)
theorem off68_eq0 (k : Fin k0_t2_loop.trips) : k0_off68 k 0#32 = idOff (8 * k.val + 0) := pairIds_of (tword k) 0 0 (by decide) (trip_lt k)
theorem off69_eq0 (k : Fin k0_t2_loop.trips) : k0_off69 k 0#32 = rowOff (8 * k.val + 0) := pairRow_of (congrFun (off34_eq k) 0) 0 0 (by decide)
theorem off68_eq1 (k : Fin k0_t2_loop.trips) : k0_off68 k 1#32 = idOff (8 * k.val + 1) := pairIds_of (tword k) 0 1 (by decide) (trip_lt k)
theorem off69_eq1 (k : Fin k0_t2_loop.trips) : k0_off69 k 1#32 = rowOff (8 * k.val + 1) := pairRow_of (congrFun (off34_eq k) 0) 0 1 (by decide)
theorem off95_eq0 (k : Fin k0_t2_loop.trips) : k0_off95 k 0#32 = idOff (8 * k.val + 2) := pairIds_of (tword k) 2 0 (by decide) (trip_lt k)
theorem off96_eq0 (k : Fin k0_t2_loop.trips) : k0_off96 k 0#32 = rowOff (8 * k.val + 2) := pairRow_of (congrFun (off34_eq k) 0) 2 0 (by decide)
theorem off95_eq1 (k : Fin k0_t2_loop.trips) : k0_off95 k 1#32 = idOff (8 * k.val + 3) := pairIds_of (tword k) 2 1 (by decide) (trip_lt k)
theorem off96_eq1 (k : Fin k0_t2_loop.trips) : k0_off96 k 1#32 = rowOff (8 * k.val + 3) := pairRow_of (congrFun (off34_eq k) 0) 2 1 (by decide)
theorem off122_eq0 (k : Fin k0_t2_loop.trips) : k0_off122 k 0#32 = idOff (8 * k.val + 4) := pairIds_of (tword k) 4 0 (by decide) (trip_lt k)
theorem off123_eq0 (k : Fin k0_t2_loop.trips) : k0_off123 k 0#32 = rowOff (8 * k.val + 4) := pairRow_of (congrFun (off34_eq k) 0) 4 0 (by decide)
theorem off122_eq1 (k : Fin k0_t2_loop.trips) : k0_off122 k 1#32 = idOff (8 * k.val + 5) := pairIds_of (tword k) 4 1 (by decide) (trip_lt k)
theorem off123_eq1 (k : Fin k0_t2_loop.trips) : k0_off123 k 1#32 = rowOff (8 * k.val + 5) := pairRow_of (congrFun (off34_eq k) 0) 4 1 (by decide)
theorem off149_eq0 (k : Fin k0_t2_loop.trips) : k0_off149 k 0#32 = idOff (8 * k.val + 6) := pairIds_of (tword k) 6 0 (by decide) (trip_lt k)
theorem off150_eq0 (k : Fin k0_t2_loop.trips) : k0_off150 k 0#32 = rowOff (8 * k.val + 6) := pairRow_of (congrFun (off34_eq k) 0) 6 0 (by decide)
theorem off149_eq1 (k : Fin k0_t2_loop.trips) : k0_off149 k 1#32 = idOff (8 * k.val + 7) := pairIds_of (tword k) 6 1 (by decide) (trip_lt k)
theorem off150_eq1 (k : Fin k0_t2_loop.trips) : k0_off150 k 1#32 = rowOff (8 * k.val + 7) := pairRow_of (congrFun (off34_eq k) 0) 6 1 (by decide)
theorem off67_eq (k : Fin k0_t2_loop.trips) : k0_off67 k = slotAt k.val 0 0 := congrArg (fun b => ![b, 0, 0, 0]) (congrFun (off65_eq k) 0)
theorem off72_eq (k : Fin k0_t2_loop.trips) : k0_off72 k = slotAt k.val 0 0 := congrArg (fun b => ![b, 0, 0, 0]) (congrFun (off65_eq k) 0)
theorem off73_eq (k : Fin k0_t2_loop.trips) : k0_off73 k = slotAt k.val 0 0 := congrArg (fun b => ![b, 0, 0, 0]) (congrFun (off65_eq k) 0)
theorem off76_eq (k : Fin k0_t2_loop.trips) : k0_off76 k = slotAt k.val 8 0 := congrArg (fun b => ![b, 8, 0, 0]) (congrFun (off65_eq k) 0)
theorem off79_eq (k : Fin k0_t2_loop.trips) : k0_off79 k = slotAt k.val 16 0 := congrArg (fun b => ![b, 16, 0, 0]) (congrFun (off65_eq k) 0)
theorem off82_eq (k : Fin k0_t2_loop.trips) : k0_off82 k = slotAt k.val 24 0 := congrArg (fun b => ![b, 24, 0, 0]) (congrFun (off65_eq k) 0)
theorem off85_eq (k : Fin k0_t2_loop.trips) : k0_off85 k = slotAt k.val 32 0 := congrArg (fun b => ![b, 32, 0, 0]) (congrFun (off65_eq k) 0)
theorem off88_eq (k : Fin k0_t2_loop.trips) : k0_off88 k = slotAt k.val 40 0 := congrArg (fun b => ![b, 40, 0, 0]) (congrFun (off65_eq k) 0)
theorem off91_eq (k : Fin k0_t2_loop.trips) : k0_off91 k = slotAt k.val 48 0 := congrArg (fun b => ![b, 48, 0, 0]) (congrFun (off65_eq k) 0)
theorem off94_eq (k : Fin k0_t2_loop.trips) : k0_off94 k = slotAt k.val 56 0 := congrArg (fun b => ![b, 56, 0, 0]) (congrFun (off65_eq k) 0)
theorem off99_eq (k : Fin k0_t2_loop.trips) : k0_off99 k = slotAt k.val 0 0 := congrArg (fun b => ![b, 0, 0, 0]) (congrFun (off65_eq k) 0)
theorem off100_eq (k : Fin k0_t2_loop.trips) : k0_off100 k = slotAt k.val 0 2 := congrArg (fun b => ![b, 0, 2, 0]) (congrFun (off65_eq k) 0)
theorem off103_eq (k : Fin k0_t2_loop.trips) : k0_off103 k = slotAt k.val 8 2 := congrArg (fun b => ![b, 8, 2, 0]) (congrFun (off65_eq k) 0)
theorem off106_eq (k : Fin k0_t2_loop.trips) : k0_off106 k = slotAt k.val 16 2 := congrArg (fun b => ![b, 16, 2, 0]) (congrFun (off65_eq k) 0)
theorem off109_eq (k : Fin k0_t2_loop.trips) : k0_off109 k = slotAt k.val 24 2 := congrArg (fun b => ![b, 24, 2, 0]) (congrFun (off65_eq k) 0)
theorem off112_eq (k : Fin k0_t2_loop.trips) : k0_off112 k = slotAt k.val 32 2 := congrArg (fun b => ![b, 32, 2, 0]) (congrFun (off65_eq k) 0)
theorem off115_eq (k : Fin k0_t2_loop.trips) : k0_off115 k = slotAt k.val 40 2 := congrArg (fun b => ![b, 40, 2, 0]) (congrFun (off65_eq k) 0)
theorem off118_eq (k : Fin k0_t2_loop.trips) : k0_off118 k = slotAt k.val 48 2 := congrArg (fun b => ![b, 48, 2, 0]) (congrFun (off65_eq k) 0)
theorem off121_eq (k : Fin k0_t2_loop.trips) : k0_off121 k = slotAt k.val 56 2 := congrArg (fun b => ![b, 56, 2, 0]) (congrFun (off65_eq k) 0)
theorem off126_eq (k : Fin k0_t2_loop.trips) : k0_off126 k = slotAt k.val 0 0 := congrArg (fun b => ![b, 0, 0, 0]) (congrFun (off65_eq k) 0)
theorem off127_eq (k : Fin k0_t2_loop.trips) : k0_off127 k = slotAt k.val 0 4 := congrArg (fun b => ![b, 0, 4, 0]) (congrFun (off65_eq k) 0)
theorem off130_eq (k : Fin k0_t2_loop.trips) : k0_off130 k = slotAt k.val 8 4 := congrArg (fun b => ![b, 8, 4, 0]) (congrFun (off65_eq k) 0)
theorem off133_eq (k : Fin k0_t2_loop.trips) : k0_off133 k = slotAt k.val 16 4 := congrArg (fun b => ![b, 16, 4, 0]) (congrFun (off65_eq k) 0)
theorem off136_eq (k : Fin k0_t2_loop.trips) : k0_off136 k = slotAt k.val 24 4 := congrArg (fun b => ![b, 24, 4, 0]) (congrFun (off65_eq k) 0)
theorem off139_eq (k : Fin k0_t2_loop.trips) : k0_off139 k = slotAt k.val 32 4 := congrArg (fun b => ![b, 32, 4, 0]) (congrFun (off65_eq k) 0)
theorem off142_eq (k : Fin k0_t2_loop.trips) : k0_off142 k = slotAt k.val 40 4 := congrArg (fun b => ![b, 40, 4, 0]) (congrFun (off65_eq k) 0)
theorem off145_eq (k : Fin k0_t2_loop.trips) : k0_off145 k = slotAt k.val 48 4 := congrArg (fun b => ![b, 48, 4, 0]) (congrFun (off65_eq k) 0)
theorem off148_eq (k : Fin k0_t2_loop.trips) : k0_off148 k = slotAt k.val 56 4 := congrArg (fun b => ![b, 56, 4, 0]) (congrFun (off65_eq k) 0)
theorem off153_eq (k : Fin k0_t2_loop.trips) : k0_off153 k = slotAt k.val 0 0 := congrArg (fun b => ![b, 0, 0, 0]) (congrFun (off65_eq k) 0)
theorem off154_eq (k : Fin k0_t2_loop.trips) : k0_off154 k = slotAt k.val 0 6 := congrArg (fun b => ![b, 0, 6, 0]) (congrFun (off65_eq k) 0)
theorem off157_eq (k : Fin k0_t2_loop.trips) : k0_off157 k = slotAt k.val 8 6 := congrArg (fun b => ![b, 8, 6, 0]) (congrFun (off65_eq k) 0)
theorem off160_eq (k : Fin k0_t2_loop.trips) : k0_off160 k = slotAt k.val 16 6 := congrArg (fun b => ![b, 16, 6, 0]) (congrFun (off65_eq k) 0)
theorem off163_eq (k : Fin k0_t2_loop.trips) : k0_off163 k = slotAt k.val 24 6 := congrArg (fun b => ![b, 24, 6, 0]) (congrFun (off65_eq k) 0)
theorem off166_eq (k : Fin k0_t2_loop.trips) : k0_off166 k = slotAt k.val 32 6 := congrArg (fun b => ![b, 32, 6, 0]) (congrFun (off65_eq k) 0)
theorem off169_eq (k : Fin k0_t2_loop.trips) : k0_off169 k = slotAt k.val 40 6 := congrArg (fun b => ![b, 40, 6, 0]) (congrFun (off65_eq k) 0)
theorem off172_eq (k : Fin k0_t2_loop.trips) : k0_off172 k = slotAt k.val 48 6 := congrArg (fun b => ![b, 48, 6, 0]) (congrFun (off65_eq k) 0)
theorem off175_eq (k : Fin k0_t2_loop.trips) : k0_off175 k = slotAt k.val 56 6 := congrArg (fun b => ![b, 56, 6, 0]) (congrFun (off65_eq k) 0)
theorem off178_eq (k : Fin k0_t2_loop.trips) : k0_off178 k = slotAt k.val 0 0 := congrArg (fun b => ![b, 0, 0, 0]) (congrFun (off65_eq k) 0)
theorem off179_eq (k : Fin k0_t2_loop.trips) : k0_off179 k = slotAt k.val 8 0 := congrArg (fun b => ![b, 8, 0, 0]) (congrFun (off65_eq k) 0)
theorem off180_eq (k : Fin k0_t2_loop.trips) : k0_off180 k = slotAt k.val 16 0 := congrArg (fun b => ![b, 16, 0, 0]) (congrFun (off65_eq k) 0)
theorem off181_eq (k : Fin k0_t2_loop.trips) : k0_off181 k = slotAt k.val 24 0 := congrArg (fun b => ![b, 24, 0, 0]) (congrFun (off65_eq k) 0)
theorem off182_eq (k : Fin k0_t2_loop.trips) : k0_off182 k = slotAt k.val 32 0 := congrArg (fun b => ![b, 32, 0, 0]) (congrFun (off65_eq k) 0)
theorem off183_eq (k : Fin k0_t2_loop.trips) : k0_off183 k = slotAt k.val 40 0 := congrArg (fun b => ![b, 40, 0, 0]) (congrFun (off65_eq k) 0)
theorem off184_eq (k : Fin k0_t2_loop.trips) : k0_off184 k = slotAt k.val 48 0 := congrArg (fun b => ![b, 48, 0, 0]) (congrFun (off65_eq k) 0)
theorem off185_eq (k : Fin k0_t2_loop.trips) : k0_off185 k = slotAt k.val 56 0 := congrArg (fun b => ![b, 56, 0, 0]) (congrFun (off65_eq k) 0)
theorem off186_eq (k : Fin k0_t2_loop.trips) : k0_off186 k = slotAt k.val 0 2 := congrArg (fun b => ![b, 0, 2, 0]) (congrFun (off65_eq k) 0)
theorem off187_eq (k : Fin k0_t2_loop.trips) : k0_off187 k = slotAt k.val 8 2 := congrArg (fun b => ![b, 8, 2, 0]) (congrFun (off65_eq k) 0)
theorem off188_eq (k : Fin k0_t2_loop.trips) : k0_off188 k = slotAt k.val 16 2 := congrArg (fun b => ![b, 16, 2, 0]) (congrFun (off65_eq k) 0)
theorem off189_eq (k : Fin k0_t2_loop.trips) : k0_off189 k = slotAt k.val 24 2 := congrArg (fun b => ![b, 24, 2, 0]) (congrFun (off65_eq k) 0)
theorem off190_eq (k : Fin k0_t2_loop.trips) : k0_off190 k = slotAt k.val 32 2 := congrArg (fun b => ![b, 32, 2, 0]) (congrFun (off65_eq k) 0)
theorem off191_eq (k : Fin k0_t2_loop.trips) : k0_off191 k = slotAt k.val 40 2 := congrArg (fun b => ![b, 40, 2, 0]) (congrFun (off65_eq k) 0)
theorem off192_eq (k : Fin k0_t2_loop.trips) : k0_off192 k = slotAt k.val 48 2 := congrArg (fun b => ![b, 48, 2, 0]) (congrFun (off65_eq k) 0)
theorem off193_eq (k : Fin k0_t2_loop.trips) : k0_off193 k = slotAt k.val 56 2 := congrArg (fun b => ![b, 56, 2, 0]) (congrFun (off65_eq k) 0)
theorem off194_eq (k : Fin k0_t2_loop.trips) : k0_off194 k = slotAt k.val 0 4 := congrArg (fun b => ![b, 0, 4, 0]) (congrFun (off65_eq k) 0)
theorem off195_eq (k : Fin k0_t2_loop.trips) : k0_off195 k = slotAt k.val 8 4 := congrArg (fun b => ![b, 8, 4, 0]) (congrFun (off65_eq k) 0)
theorem off196_eq (k : Fin k0_t2_loop.trips) : k0_off196 k = slotAt k.val 16 4 := congrArg (fun b => ![b, 16, 4, 0]) (congrFun (off65_eq k) 0)
theorem off197_eq (k : Fin k0_t2_loop.trips) : k0_off197 k = slotAt k.val 24 4 := congrArg (fun b => ![b, 24, 4, 0]) (congrFun (off65_eq k) 0)
theorem off198_eq (k : Fin k0_t2_loop.trips) : k0_off198 k = slotAt k.val 32 4 := congrArg (fun b => ![b, 32, 4, 0]) (congrFun (off65_eq k) 0)
theorem off199_eq (k : Fin k0_t2_loop.trips) : k0_off199 k = slotAt k.val 40 4 := congrArg (fun b => ![b, 40, 4, 0]) (congrFun (off65_eq k) 0)
theorem off200_eq (k : Fin k0_t2_loop.trips) : k0_off200 k = slotAt k.val 48 4 := congrArg (fun b => ![b, 48, 4, 0]) (congrFun (off65_eq k) 0)
theorem off201_eq (k : Fin k0_t2_loop.trips) : k0_off201 k = slotAt k.val 56 4 := congrArg (fun b => ![b, 56, 4, 0]) (congrFun (off65_eq k) 0)

end Cert.Proof.RingBits
-- ==== Proof.NamesBits.lean ====
module

public import proofs.«01_k».proof.Proof.OffsBits

/-! The names the proof holds resources by: rows of the gather buffer, rows of the packed table, slots of the two
tile buffers, blocks of the two results, and the semaphores. -/

@[expose] public section

noncomputable section

namespace Cert.Proof.RingBits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

abbrev idM : Memref sig .tc .smem S16384 .i32 := Memref.whole main_v3
abbrev wordM : Memref sig .tc .hbm S8000x8192 .i32 := Memref.whole main_v2
abbrev outM : Memref sig .tc .hbm S1048576x128 .bf16 := Memref.whole main_v6_0
abbrev embM : Memref sig .tc .hbm S1048576x128 .bf16 := Memref.whole main_v6_1
abbrev rowM : Memref sig .tc .vmem S256x64x128 .i32 := Memref.whole cc0_scratch0
abbrev ebM : Memref sig .tc .vmem S4x64x8x128 .bf16 := Memref.whole cc0_scratch1
abbrev obM : Memref sig .tc .vmem S4x64x8x128 .bf16 := Memref.whole cc0_scratch2

theorem rowOff_inb (j : ℕ) : ∀ a, rowOff j a + S1x64x128.size a ≤ S256x64x128.size a := by
  intro a; fin_cases a
  · show j % 256 + 1 ≤ 256; omega
  · show 0 + 64 ≤ 64; omega
  · show 0 + 128 ≤ 128; omega
theorem rowOff_lead (j : ℕ) : (Rect.unit (s := S256x64x128) (rowOff j) S1x64x128.size (rowOff_inb j)).LeadingBlock :=
  ⟨fun _ => rfl, Or.inl ⟨le_refl _, Or.inr fun a => by fin_cases a <;> exact ⟨rfl, rfl⟩⟩⟩
theorem cellOff_inb (u : ℕ) : ∀ a, cellOff u a + S1.size a ≤ S32.size a := by
  intro a; fin_cases a; show u % 32 + 1 ≤ 32; omega
theorem scellOff_inb (u : ℕ) : ∀ a, scellOff u a + S1.size a ≤ S4.size a := by
  intro a; fin_cases a; show u % 4 + 1 ≤ 4; omega
theorem slotAt_inb (u : ℕ) : ∀ a, slotAt u 0 0 a + S1x64x8x128.size a ≤ S4x64x8x128.size a := by
  intro a; fin_cases a
  · show u % 4 + 1 ≤ 4; omega
  · show 0 + 64 ≤ 64; omega
  · show 0 + 8 ≤ 8; omega
  · show 0 + 128 ≤ 128; omega
theorem slotAt_lead (u : ℕ) : (Rect.unit (s := S4x64x8x128) (slotAt u 0 0) S1x64x8x128.size (slotAt_inb u)).LeadingBlock :=
  ⟨fun _ => rfl, Or.inl ⟨le_refl _, Or.inr fun a => by fin_cases a <;> exact ⟨rfl, rfl⟩⟩⟩
abbrev wOff (v : BitVec 32) : Fin 2 → Nat := ![v.toNat / 4 % 8000, 0]
theorem wOff_inb (v : BitVec 32) : ∀ a, wOff v a + S1x8192.size a ≤ S8000x8192.size a := by
  intro a; fin_cases a
  · show v.toNat / 4 % 8000 + 1 ≤ 8000; omega
  · show 0 + 8192 ≤ 8192; omega
/-- Tile `u`'s block of a result, the tile number read modulo the number of tiles. -/
abbrev rOff (u : ℕ) : Fin 2 → Nat := ![512 * (u % 2048), 0]
theorem rOff_inb (u : ℕ) : ∀ a, rOff u a + S512x128.size a ≤ S1048576x128.size a := by
  intro a; fin_cases a
  · show 512 * (u % 2048) + 512 ≤ 1048576; omega
  · show 0 + 128 ≤ 128; omega

/-- Gathered row `j` as the body reads it, and as the gather's destination. -/
def qrow (j : ℕ) : Memref sig .tc .vmem S64x128 .i32 :=
  (rowM.slice (Rect.unit (s := S256x64x128) (rowOff j) S1x64x128.size (rowOff_inb j)) (fun _ => rfl)).squeeze S64x128 squeezes_S1x64x128_S64x128
def qline (j : ℕ) : Memref sig .tc .vmem S1x8192 .i32 :=
  (qrow j).reshape S1x8192 reshapes_S64x128_S1x8192.1 reshapes_S64x128_S1x8192.2
    ((View.contiguous_reshape _ _).mpr ((Memref.isWhole_whole cc0_scratch0).contiguous.slice _ (rowOff_lead j)))
/-- The semaphore of tile `u`'s gathers, and of its stores of either result. -/
def qcell (u : ℕ) : DmaSems sig S_ := (cc0_scratch3.slice (Rect.unit (s := S32) (cellOff u) S1.size (cellOff_inb u))).squeeze S_ squeezes_S1_S_
def ecell (u : ℕ) : DmaSems sig S_ := (cc0_scratch4.slice (Rect.unit (s := S4) (scellOff u) S1.size (scellOff_inb u))).squeeze S_ squeezes_S1_S_
def ocell (u : ℕ) : DmaSems sig S_ := (cc0_scratch5.slice (Rect.unit (s := S4) (scellOff u) S1.size (scellOff_inb u))).squeeze S_ squeezes_S1_S_
/-- The packed table's row that holds the codes of id `v`. -/
def wrow (v : BitVec 32) : Memref sig .tc .hbm S1x8192 .i32 :=
  wordM.slice (Rect.unit (s := S8000x8192) (wOff v) S1x8192.size (wOff_inb v)) (fun _ => rfl)

/-- Tile `u`'s slot of either tile buffer as the body reads it, and as the stores' source; tile `u`'s block of either
    result. -/
def eslot (u : ℕ) : Memref sig .tc .vmem S64x8x128 .bf16 :=
  (ebM.slice (Rect.unit (s := S4x64x8x128) (slotAt u 0 0) S1x64x8x128.size (slotAt_inb u)) (fun _ => rfl)).squeeze S64x8x128 squeezes_S1x64x8x128_S64x8x128
def oslot (u : ℕ) : Memref sig .tc .vmem S64x8x128 .bf16 :=
  (obM.slice (Rect.unit (s := S4x64x8x128) (slotAt u 0 0) S1x64x8x128.size (slotAt_inb u)) (fun _ => rfl)).squeeze S64x8x128 squeezes_S1x64x8x128_S64x8x128
def esrc (u : ℕ) : Memref sig .tc .vmem S512x128 .bf16 :=
  (eslot u).reshape S512x128 reshapes_S64x8x128_S512x128.1 reshapes_S64x8x128_S512x128.2
    ((View.contiguous_reshape _ _).mpr ((Memref.isWhole_whole cc0_scratch1).contiguous.slice _ (slotAt_lead u)))
def osrc (u : ℕ) : Memref sig .tc .vmem S512x128 .bf16 :=
  (oslot u).reshape S512x128 reshapes_S64x8x128_S512x128.1 reshapes_S64x8x128_S512x128.2
    ((View.contiguous_reshape _ _).mpr ((Memref.isWhole_whole cc0_scratch2).contiguous.slice _ (slotAt_lead u)))
def eblk (u : ℕ) : Memref sig .tc .hbm S512x128 .bf16 :=
  embM.slice (Rect.unit (s := S1048576x128) (rOff u) S512x128.size (rOff_inb u)) (fun _ => rfl)
def oblk (u : ℕ) : Memref sig .tc .hbm S512x128 .bf16 :=
  outM.slice (Rect.unit (s := S1048576x128) (rOff u) S512x128.size (rOff_inb u)) (fun _ => rfl)

theorem shr2_toNat {v : BitVec 32} (h : (Scalar.shrsi v 2#32).toNat < 8000) : (Scalar.shrsi v 2#32).toNat = v.toNat / 4 := by
  have e1 : Scalar.shrsi v 2#32 = v.sshiftRight 2 := rfl
  rw [e1] at h ⊢
  by_cases hm : v.msb = true
  · exfalso
    rw [BitVec.sshiftRight_eq_of_msb_true hm, BitVec.toNat_not, BitVec.toNat_ushiftRight, BitVec.toNat_not, Nat.shiftRight_eq_div_pow] at h
    omega
  · rw [BitVec.sshiftRight_eq_of_msb_false (by simpa using hm), BitVec.toNat_ushiftRight, Nat.shiftRight_eq_div_pow]
theorem wordOff_eq {v : BitVec 32} (hh : ∀ a, (![(Scalar.shrsi v 2#32).toNat, 0] : Fin 2 → ℕ) a + S1x8192.size a ≤ S8000x8192.size a) :
    (![(Scalar.shrsi v 2#32).toNat, 0] : Fin 2 → ℕ) = wOff v := by
  have h0 : (Scalar.shrsi v 2#32).toNat + 1 ≤ 8000 := hh 0
  have e := shr2_toNat (v := v) (by omega)
  exact congrArg (fun b => ![b, 0]) (by omega)
theorem blk_of {off : Fin 2 → ℕ} {u : ℕ} (e : off = blkOff u) (hu : u < 2048) : off = rOff u := by
  rw [e]; exact congrArg (fun b => ![512 * b, 0]) (Nat.mod_eq_of_lt hu).symm
theorem trip_lt' (k : Fin k0_t2_loop.trips) : k.val < 2048 := lt_of_lt_of_eq k.isLt t2_trips

theorem row_congr {off : Fin 3 → ℕ} {j : ℕ} (e : off = rowOff j) (hh hs) :
    (rowM.slice (Rect.unit (s := S256x64x128) off S1x64x128.size hh) hs).squeeze S64x128 squeezes_S1x64x128_S64x128 = qrow j :=
  congrArg (fun M : Memref sig .tc .vmem S1x64x128 .i32 => M.squeeze S64x128 squeezes_S1x64x128_S64x128) (Memref.slice_unit_congr _ e _ _ _ _)
theorem qcell_congr {off : Fin 1 → ℕ} {u : ℕ} (e : off = cellOff u) (hh) :
    (cc0_scratch3.slice (Rect.unit (s := S32) off S1.size hh)).squeeze S_ squeezes_S1_S_ = qcell u :=
  congrArg (fun A : DmaSems sig S1 => A.squeeze S_ squeezes_S1_S_) (SemArray.slice_unit_congr _ e _ _)
theorem ecell_congr {off : Fin 1 → ℕ} {u : ℕ} (e : off = scellOff u) (hh) :
    (cc0_scratch4.slice (Rect.unit (s := S4) off S1.size hh)).squeeze S_ squeezes_S1_S_ = ecell u :=
  congrArg (fun A : DmaSems sig S1 => A.squeeze S_ squeezes_S1_S_) (SemArray.slice_unit_congr _ e _ _)
theorem ocell_congr {off : Fin 1 → ℕ} {u : ℕ} (e : off = scellOff u) (hh) :
    (cc0_scratch5.slice (Rect.unit (s := S4) off S1.size hh)).squeeze S_ squeezes_S1_S_ = ocell u :=
  congrArg (fun A : DmaSems sig S1 => A.squeeze S_ squeezes_S1_S_) (SemArray.slice_unit_congr _ e _ _)
theorem word_congr {off : Fin 2 → ℕ} {v : BitVec 32} (e : off = wOff v) (hh hs) :
    wordM.slice (Rect.unit (s := S8000x8192) off S1x8192.size hh) hs = wrow v := Memref.slice_unit_congr _ e _ _ _ (fun _ => rfl)
theorem eslot_congr {off : Fin 4 → ℕ} {u : ℕ} (e : off = slotAt u 0 0) (hh hs) :
    (ebM.slice (Rect.unit (s := S4x64x8x128) off S1x64x8x128.size hh) hs).squeeze S64x8x128 squeezes_S1x64x8x128_S64x8x128 = eslot u :=
  congrArg (fun M : Memref sig .tc .vmem S1x64x8x128 .bf16 => M.squeeze S64x8x128 squeezes_S1x64x8x128_S64x8x128) (Memref.slice_unit_congr _ e _ _ _ _)
theorem oslot_congr {off : Fin 4 → ℕ} {u : ℕ} (e : off = slotAt u 0 0) (hh hs) :
    (obM.slice (Rect.unit (s := S4x64x8x128) off S1x64x8x128.size hh) hs).squeeze S64x8x128 squeezes_S1x64x8x128_S64x8x128 = oslot u :=
  congrArg (fun M : Memref sig .tc .vmem S1x64x8x128 .bf16 => M.squeeze S64x8x128 squeezes_S1x64x8x128_S64x8x128) (Memref.slice_unit_congr _ e _ _ _ _)
theorem eblk_congr {off : Fin 2 → ℕ} {u : ℕ} (e : off = rOff u) (hh hs) :
    embM.slice (Rect.unit (s := S1048576x128) off S512x128.size hh) hs = eblk u := Memref.slice_unit_congr _ e _ _ _ (fun _ => rfl)
theorem oblk_congr {off : Fin 2 → ℕ} {u : ℕ} (e : off = rOff u) (hh hs) :
    outM.slice (Rect.unit (s := S1048576x128) off S512x128.size hh) hs = oblk u := Memref.slice_unit_congr _ e _ _ _ (fun _ => rfl)

/-! ### The body's slices are those names -/

@[sl_canon] theorem qline_mk (j : ℕ) (h1 h2 h3) : (qrow j).reshape S1x8192 h1 h2 h3 = qline j := rfl
@[sl_canon] theorem esrc_mk (u : ℕ) (h1 h2 h3) : (eslot u).reshape S512x128 h1 h2 h3 = esrc u := rfl
@[sl_canon] theorem osrc_mk (u : ℕ) (h1 h2 h3) : (oslot u).reshape S512x128 h1 h2 h3 = osrc u := rfl
@[sl_canon] theorem qcell2 (k : Fin k0_t1_loop.trips) (hh) :
    (cc0_scratch3.slice (Rect.unit (s := S32) (k0_off2 k) S1.size hh)).squeeze S_ squeezes_S1_S_ = qcell (k.val) := qcell_congr (off2_eq k) _
@[sl_canon] theorem row3 (k : Fin k0_t1_loop.trips) (hh hs) :
    (rowM.slice (Rect.unit (s := S256x64x128) (k0_off3 k) S1x64x128.size hh) hs).squeeze S64x128 squeezes_S1x64x128_S64x128 = qrow (8 * k.val + 0) := row_congr (off3_eq k) _ _
@[sl_canon] theorem word4 (v : BitVec 32) (hh hs) :
    wordM.slice (Rect.unit (s := S8000x8192) (k0_off4 v) S1x8192.size hh) hs = wrow v := word_congr (wordOff_eq hh) _ _
@[sl_canon] theorem qcell6 (k : Fin k0_t1_loop.trips) (hh) :
    (cc0_scratch3.slice (Rect.unit (s := S32) (k0_off6 k) S1.size hh)).squeeze S_ squeezes_S1_S_ = qcell (k.val) := qcell_congr (off6_eq k) _
@[sl_canon] theorem row7 (k : Fin k0_t1_loop.trips) (hh hs) :
    (rowM.slice (Rect.unit (s := S256x64x128) (k0_off7 k) S1x64x128.size hh) hs).squeeze S64x128 squeezes_S1x64x128_S64x128 = qrow (8 * k.val + 1) := row_congr (off7_eq k) _ _
@[sl_canon] theorem word8 (v : BitVec 32) (hh hs) :
    wordM.slice (Rect.unit (s := S8000x8192) (k0_off8 v) S1x8192.size hh) hs = wrow v := word_congr (wordOff_eq hh) _ _
@[sl_canon] theorem qcell10 (k : Fin k0_t1_loop.trips) (hh) :
    (cc0_scratch3.slice (Rect.unit (s := S32) (k0_off10 k) S1.size hh)).squeeze S_ squeezes_S1_S_ = qcell (k.val) := qcell_congr (off10_eq k) _
@[sl_canon] theorem row11 (k : Fin k0_t1_loop.trips) (hh hs) :
    (rowM.slice (Rect.unit (s := S256x64x128) (k0_off11 k) S1x64x128.size hh) hs).squeeze S64x128 squeezes_S1x64x128_S64x128 = qrow (8 * k.val + 2) := row_congr (off11_eq k) _ _
@[sl_canon] theorem word12 (v : BitVec 32) (hh hs) :
    wordM.slice (Rect.unit (s := S8000x8192) (k0_off12 v) S1x8192.size hh) hs = wrow v := word_congr (wordOff_eq hh) _ _
@[sl_canon] theorem qcell14 (k : Fin k0_t1_loop.trips) (hh) :
    (cc0_scratch3.slice (Rect.unit (s := S32) (k0_off14 k) S1.size hh)).squeeze S_ squeezes_S1_S_ = qcell (k.val) := qcell_congr (off14_eq k) _
@[sl_canon] theorem row15 (k : Fin k0_t1_loop.trips) (hh hs) :
    (rowM.slice (Rect.unit (s := S256x64x128) (k0_off15 k) S1x64x128.size hh) hs).squeeze S64x128 squeezes_S1x64x128_S64x128 = qrow (8 * k.val + 3) := row_congr (off15_eq k) _ _
@[sl_canon] theorem word16 (v : BitVec 32) (hh hs) :
    wordM.slice (Rect.unit (s := S8000x8192) (k0_off16 v) S1x8192.size hh) hs = wrow v := word_congr (wordOff_eq hh) _ _
@[sl_canon] theorem qcell18 (k : Fin k0_t1_loop.trips) (hh) :
    (cc0_scratch3.slice (Rect.unit (s := S32) (k0_off18 k) S1.size hh)).squeeze S_ squeezes_S1_S_ = qcell (k.val) := qcell_congr (off18_eq k) _
@[sl_canon] theorem row19 (k : Fin k0_t1_loop.trips) (hh hs) :
    (rowM.slice (Rect.unit (s := S256x64x128) (k0_off19 k) S1x64x128.size hh) hs).squeeze S64x128 squeezes_S1x64x128_S64x128 = qrow (8 * k.val + 4) := row_congr (off19_eq k) _ _
@[sl_canon] theorem word20 (v : BitVec 32) (hh hs) :
    wordM.slice (Rect.unit (s := S8000x8192) (k0_off20 v) S1x8192.size hh) hs = wrow v := word_congr (wordOff_eq hh) _ _
@[sl_canon] theorem qcell22 (k : Fin k0_t1_loop.trips) (hh) :
    (cc0_scratch3.slice (Rect.unit (s := S32) (k0_off22 k) S1.size hh)).squeeze S_ squeezes_S1_S_ = qcell (k.val) := qcell_congr (off22_eq k) _
@[sl_canon] theorem row23 (k : Fin k0_t1_loop.trips) (hh hs) :
    (rowM.slice (Rect.unit (s := S256x64x128) (k0_off23 k) S1x64x128.size hh) hs).squeeze S64x128 squeezes_S1x64x128_S64x128 = qrow (8 * k.val + 5) := row_congr (off23_eq k) _ _
@[sl_canon] theorem word24 (v : BitVec 32) (hh hs) :
    wordM.slice (Rect.unit (s := S8000x8192) (k0_off24 v) S1x8192.size hh) hs = wrow v := word_congr (wordOff_eq hh) _ _
@[sl_canon] theorem qcell26 (k : Fin k0_t1_loop.trips) (hh) :
    (cc0_scratch3.slice (Rect.unit (s := S32) (k0_off26 k) S1.size hh)).squeeze S_ squeezes_S1_S_ = qcell (k.val) := qcell_congr (off26_eq k) _
@[sl_canon] theorem row27 (k : Fin k0_t1_loop.trips) (hh hs) :
    (rowM.slice (Rect.unit (s := S256x64x128) (k0_off27 k) S1x64x128.size hh) hs).squeeze S64x128 squeezes_S1x64x128_S64x128 = qrow (8 * k.val + 6) := row_congr (off27_eq k) _ _
@[sl_canon] theorem word28 (v : BitVec 32) (hh hs) :
    wordM.slice (Rect.unit (s := S8000x8192) (k0_off28 v) S1x8192.size hh) hs = wrow v := word_congr (wordOff_eq hh) _ _
@[sl_canon] theorem qcell30 (k : Fin k0_t1_loop.trips) (hh) :
    (cc0_scratch3.slice (Rect.unit (s := S32) (k0_off30 k) S1.size hh)).squeeze S_ squeezes_S1_S_ = qcell (k.val) := qcell_congr (off30_eq k) _
@[sl_canon] theorem row31 (k : Fin k0_t1_loop.trips) (hh hs) :
    (rowM.slice (Rect.unit (s := S256x64x128) (k0_off31 k) S1x64x128.size hh) hs).squeeze S64x128 squeezes_S1x64x128_S64x128 = qrow (8 * k.val + 7) := row_congr (off31_eq k) _ _
@[sl_canon] theorem word32 (v : BitVec 32) (hh hs) :
    wordM.slice (Rect.unit (s := S8000x8192) (k0_off32 v) S1x8192.size hh) hs = wrow v := word_congr (wordOff_eq hh) _ _
@[sl_canon] theorem qcell34 (k : Fin k0_t2_loop.trips) (hh) :
    (cc0_scratch3.slice (Rect.unit (s := S32) (k0_off34 k) S1.size hh)).squeeze S_ squeezes_S1_S_ = qcell (k.val) := qcell_congr (off34_eq k) _
@[sl_canon] theorem row35 (k : Fin k0_t2_loop.trips) (hh hs) :
    (rowM.slice (Rect.unit (s := S256x64x128) (k0_off35 k) S1x64x128.size hh) hs).squeeze S64x128 squeezes_S1x64x128_S64x128 = qrow (8 * k.val + 0) := row_congr (off35_eq k) _ _
@[sl_canon] theorem word36 (v : BitVec 32) (hh hs) :
    wordM.slice (Rect.unit (s := S8000x8192) (k0_off36 v) S1x8192.size hh) hs = wrow v := word_congr (wordOff_eq hh) _ _
@[sl_canon] theorem qcell38 (k : Fin k0_t2_loop.trips) (hh) :
    (cc0_scratch3.slice (Rect.unit (s := S32) (k0_off38 k) S1.size hh)).squeeze S_ squeezes_S1_S_ = qcell (k.val) := qcell_congr (off38_eq k) _
@[sl_canon] theorem row39 (k : Fin k0_t2_loop.trips) (hh hs) :
    (rowM.slice (Rect.unit (s := S256x64x128) (k0_off39 k) S1x64x128.size hh) hs).squeeze S64x128 squeezes_S1x64x128_S64x128 = qrow (8 * k.val + 1) := row_congr (off39_eq k) _ _
@[sl_canon] theorem word40 (v : BitVec 32) (hh hs) :
    wordM.slice (Rect.unit (s := S8000x8192) (k0_off40 v) S1x8192.size hh) hs = wrow v := word_congr (wordOff_eq hh) _ _
@[sl_canon] theorem qcell42 (k : Fin k0_t2_loop.trips) (hh) :
    (cc0_scratch3.slice (Rect.unit (s := S32) (k0_off42 k) S1.size hh)).squeeze S_ squeezes_S1_S_ = qcell (k.val) := qcell_congr (off42_eq k) _
@[sl_canon] theorem row43 (k : Fin k0_t2_loop.trips) (hh hs) :
    (rowM.slice (Rect.unit (s := S256x64x128) (k0_off43 k) S1x64x128.size hh) hs).squeeze S64x128 squeezes_S1x64x128_S64x128 = qrow (8 * k.val + 2) := row_congr (off43_eq k) _ _
@[sl_canon] theorem word44 (v : BitVec 32) (hh hs) :
    wordM.slice (Rect.unit (s := S8000x8192) (k0_off44 v) S1x8192.size hh) hs = wrow v := word_congr (wordOff_eq hh) _ _
@[sl_canon] theorem qcell46 (k : Fin k0_t2_loop.trips) (hh) :
    (cc0_scratch3.slice (Rect.unit (s := S32) (k0_off46 k) S1.size hh)).squeeze S_ squeezes_S1_S_ = qcell (k.val) := qcell_congr (off46_eq k) _
@[sl_canon] theorem row47 (k : Fin k0_t2_loop.trips) (hh hs) :
    (rowM.slice (Rect.unit (s := S256x64x128) (k0_off47 k) S1x64x128.size hh) hs).squeeze S64x128 squeezes_S1x64x128_S64x128 = qrow (8 * k.val + 3) := row_congr (off47_eq k) _ _
@[sl_canon] theorem word48 (v : BitVec 32) (hh hs) :
    wordM.slice (Rect.unit (s := S8000x8192) (k0_off48 v) S1x8192.size hh) hs = wrow v := word_congr (wordOff_eq hh) _ _
@[sl_canon] theorem qcell50 (k : Fin k0_t2_loop.trips) (hh) :
    (cc0_scratch3.slice (Rect.unit (s := S32) (k0_off50 k) S1.size hh)).squeeze S_ squeezes_S1_S_ = qcell (k.val) := qcell_congr (off50_eq k) _
@[sl_canon] theorem row51 (k : Fin k0_t2_loop.trips) (hh hs) :
    (rowM.slice (Rect.unit (s := S256x64x128) (k0_off51 k) S1x64x128.size hh) hs).squeeze S64x128 squeezes_S1x64x128_S64x128 = qrow (8 * k.val + 4) := row_congr (off51_eq k) _ _
@[sl_canon] theorem word52 (v : BitVec 32) (hh hs) :
    wordM.slice (Rect.unit (s := S8000x8192) (k0_off52 v) S1x8192.size hh) hs = wrow v := word_congr (wordOff_eq hh) _ _
@[sl_canon] theorem qcell54 (k : Fin k0_t2_loop.trips) (hh) :
    (cc0_scratch3.slice (Rect.unit (s := S32) (k0_off54 k) S1.size hh)).squeeze S_ squeezes_S1_S_ = qcell (k.val) := qcell_congr (off54_eq k) _
@[sl_canon] theorem row55 (k : Fin k0_t2_loop.trips) (hh hs) :
    (rowM.slice (Rect.unit (s := S256x64x128) (k0_off55 k) S1x64x128.size hh) hs).squeeze S64x128 squeezes_S1x64x128_S64x128 = qrow (8 * k.val + 5) := row_congr (off55_eq k) _ _
@[sl_canon] theorem word56 (v : BitVec 32) (hh hs) :
    wordM.slice (Rect.unit (s := S8000x8192) (k0_off56 v) S1x8192.size hh) hs = wrow v := word_congr (wordOff_eq hh) _ _
@[sl_canon] theorem qcell58 (k : Fin k0_t2_loop.trips) (hh) :
    (cc0_scratch3.slice (Rect.unit (s := S32) (k0_off58 k) S1.size hh)).squeeze S_ squeezes_S1_S_ = qcell (k.val) := qcell_congr (off58_eq k) _
@[sl_canon] theorem row59 (k : Fin k0_t2_loop.trips) (hh hs) :
    (rowM.slice (Rect.unit (s := S256x64x128) (k0_off59 k) S1x64x128.size hh) hs).squeeze S64x128 squeezes_S1x64x128_S64x128 = qrow (8 * k.val + 6) := row_congr (off59_eq k) _ _
@[sl_canon] theorem word60 (v : BitVec 32) (hh hs) :
    wordM.slice (Rect.unit (s := S8000x8192) (k0_off60 v) S1x8192.size hh) hs = wrow v := word_congr (wordOff_eq hh) _ _
@[sl_canon] theorem qcell62 (k : Fin k0_t2_loop.trips) (hh) :
    (cc0_scratch3.slice (Rect.unit (s := S32) (k0_off62 k) S1.size hh)).squeeze S_ squeezes_S1_S_ = qcell (k.val) := qcell_congr (off62_eq k) _
@[sl_canon] theorem row63 (k : Fin k0_t2_loop.trips) (hh hs) :
    (rowM.slice (Rect.unit (s := S256x64x128) (k0_off63 k) S1x64x128.size hh) hs).squeeze S64x128 squeezes_S1x64x128_S64x128 = qrow (8 * k.val + 7) := row_congr (off63_eq k) _ _
@[sl_canon] theorem word64 (v : BitVec 32) (hh hs) :
    wordM.slice (Rect.unit (s := S8000x8192) (k0_off64 v) S1x8192.size hh) hs = wrow v := word_congr (wordOff_eq hh) _ _
@[sl_canon] theorem qcell203 (k : Fin k0_t2_loop.trips) (hh) :
    (cc0_scratch3.slice (Rect.unit (s := S32) (k0_off203 k) S1.size hh)).squeeze S_ squeezes_S1_S_ = qcell (k.val + 32) := qcell_congr (off203_eq k) _
@[sl_canon] theorem row204 (k : Fin k0_t2_loop.trips) (hh hs) :
    (rowM.slice (Rect.unit (s := S256x64x128) (k0_off204 k) S1x64x128.size hh) hs).squeeze S64x128 squeezes_S1x64x128_S64x128 = qrow (8 * (k.val + 32) + 0) := row_congr (off204_eq k) _ _
@[sl_canon] theorem word205 (v : BitVec 32) (hh hs) :
    wordM.slice (Rect.unit (s := S8000x8192) (k0_off205 v) S1x8192.size hh) hs = wrow v := word_congr (wordOff_eq hh) _ _
@[sl_canon] theorem qcell207 (k : Fin k0_t2_loop.trips) (hh) :
    (cc0_scratch3.slice (Rect.unit (s := S32) (k0_off207 k) S1.size hh)).squeeze S_ squeezes_S1_S_ = qcell (k.val + 32) := qcell_congr (off207_eq k) _
@[sl_canon] theorem row208 (k : Fin k0_t2_loop.trips) (hh hs) :
    (rowM.slice (Rect.unit (s := S256x64x128) (k0_off208 k) S1x64x128.size hh) hs).squeeze S64x128 squeezes_S1x64x128_S64x128 = qrow (8 * (k.val + 32) + 1) := row_congr (off208_eq k) _ _
@[sl_canon] theorem word209 (v : BitVec 32) (hh hs) :
    wordM.slice (Rect.unit (s := S8000x8192) (k0_off209 v) S1x8192.size hh) hs = wrow v := word_congr (wordOff_eq hh) _ _
@[sl_canon] theorem qcell211 (k : Fin k0_t2_loop.trips) (hh) :
    (cc0_scratch3.slice (Rect.unit (s := S32) (k0_off211 k) S1.size hh)).squeeze S_ squeezes_S1_S_ = qcell (k.val + 32) := qcell_congr (off211_eq k) _
@[sl_canon] theorem row212 (k : Fin k0_t2_loop.trips) (hh hs) :
    (rowM.slice (Rect.unit (s := S256x64x128) (k0_off212 k) S1x64x128.size hh) hs).squeeze S64x128 squeezes_S1x64x128_S64x128 = qrow (8 * (k.val + 32) + 2) := row_congr (off212_eq k) _ _
@[sl_canon] theorem word213 (v : BitVec 32) (hh hs) :
    wordM.slice (Rect.unit (s := S8000x8192) (k0_off213 v) S1x8192.size hh) hs = wrow v := word_congr (wordOff_eq hh) _ _
@[sl_canon] theorem qcell215 (k : Fin k0_t2_loop.trips) (hh) :
    (cc0_scratch3.slice (Rect.unit (s := S32) (k0_off215 k) S1.size hh)).squeeze S_ squeezes_S1_S_ = qcell (k.val + 32) := qcell_congr (off215_eq k) _
@[sl_canon] theorem row216 (k : Fin k0_t2_loop.trips) (hh hs) :
    (rowM.slice (Rect.unit (s := S256x64x128) (k0_off216 k) S1x64x128.size hh) hs).squeeze S64x128 squeezes_S1x64x128_S64x128 = qrow (8 * (k.val + 32) + 3) := row_congr (off216_eq k) _ _
@[sl_canon] theorem word217 (v : BitVec 32) (hh hs) :
    wordM.slice (Rect.unit (s := S8000x8192) (k0_off217 v) S1x8192.size hh) hs = wrow v := word_congr (wordOff_eq hh) _ _
@[sl_canon] theorem qcell219 (k : Fin k0_t2_loop.trips) (hh) :
    (cc0_scratch3.slice (Rect.unit (s := S32) (k0_off219 k) S1.size hh)).squeeze S_ squeezes_S1_S_ = qcell (k.val + 32) := qcell_congr (off219_eq k) _
@[sl_canon] theorem row220 (k : Fin k0_t2_loop.trips) (hh hs) :
    (rowM.slice (Rect.unit (s := S256x64x128) (k0_off220 k) S1x64x128.size hh) hs).squeeze S64x128 squeezes_S1x64x128_S64x128 = qrow (8 * (k.val + 32) + 4) := row_congr (off220_eq k) _ _
@[sl_canon] theorem word221 (v : BitVec 32) (hh hs) :
    wordM.slice (Rect.unit (s := S8000x8192) (k0_off221 v) S1x8192.size hh) hs = wrow v := word_congr (wordOff_eq hh) _ _
@[sl_canon] theorem qcell223 (k : Fin k0_t2_loop.trips) (hh) :
    (cc0_scratch3.slice (Rect.unit (s := S32) (k0_off223 k) S1.size hh)).squeeze S_ squeezes_S1_S_ = qcell (k.val + 32) := qcell_congr (off223_eq k) _
@[sl_canon] theorem row224 (k : Fin k0_t2_loop.trips) (hh hs) :
    (rowM.slice (Rect.unit (s := S256x64x128) (k0_off224 k) S1x64x128.size hh) hs).squeeze S64x128 squeezes_S1x64x128_S64x128 = qrow (8 * (k.val + 32) + 5) := row_congr (off224_eq k) _ _
@[sl_canon] theorem word225 (v : BitVec 32) (hh hs) :
    wordM.slice (Rect.unit (s := S8000x8192) (k0_off225 v) S1x8192.size hh) hs = wrow v := word_congr (wordOff_eq hh) _ _
@[sl_canon] theorem qcell227 (k : Fin k0_t2_loop.trips) (hh) :
    (cc0_scratch3.slice (Rect.unit (s := S32) (k0_off227 k) S1.size hh)).squeeze S_ squeezes_S1_S_ = qcell (k.val + 32) := qcell_congr (off227_eq k) _
@[sl_canon] theorem row228 (k : Fin k0_t2_loop.trips) (hh hs) :
    (rowM.slice (Rect.unit (s := S256x64x128) (k0_off228 k) S1x64x128.size hh) hs).squeeze S64x128 squeezes_S1x64x128_S64x128 = qrow (8 * (k.val + 32) + 6) := row_congr (off228_eq k) _ _
@[sl_canon] theorem word229 (v : BitVec 32) (hh hs) :
    wordM.slice (Rect.unit (s := S8000x8192) (k0_off229 v) S1x8192.size hh) hs = wrow v := word_congr (wordOff_eq hh) _ _
@[sl_canon] theorem qcell231 (k : Fin k0_t2_loop.trips) (hh) :
    (cc0_scratch3.slice (Rect.unit (s := S32) (k0_off231 k) S1.size hh)).squeeze S_ squeezes_S1_S_ = qcell (k.val + 32) := qcell_congr (off231_eq k) _
@[sl_canon] theorem row232 (k : Fin k0_t2_loop.trips) (hh hs) :
    (rowM.slice (Rect.unit (s := S256x64x128) (k0_off232 k) S1x64x128.size hh) hs).squeeze S64x128 squeezes_S1x64x128_S64x128 = qrow (8 * (k.val + 32) + 7) := row_congr (off232_eq k) _ _
@[sl_canon] theorem word233 (v : BitVec 32) (hh hs) :
    wordM.slice (Rect.unit (s := S8000x8192) (k0_off233 v) S1x8192.size hh) hs = wrow v := word_congr (wordOff_eq hh) _ _
@[sl_canon] theorem row69h0 (k : Fin k0_t2_loop.trips) (hh hs) :
    (rowM.slice (Rect.unit (s := S256x64x128) (k0_off69 k 0#32) S1x64x128.size hh) hs).squeeze S64x128 squeezes_S1x64x128_S64x128 = qrow (8 * k.val + 0) := row_congr (off69_eq0 k) _ _
@[sl_canon] theorem row69h1 (k : Fin k0_t2_loop.trips) (hh hs) :
    (rowM.slice (Rect.unit (s := S256x64x128) (k0_off69 k 1#32) S1x64x128.size hh) hs).squeeze S64x128 squeezes_S1x64x128_S64x128 = qrow (8 * k.val + 1) := row_congr (off69_eq1 k) _ _
@[sl_canon] theorem row96h0 (k : Fin k0_t2_loop.trips) (hh hs) :
    (rowM.slice (Rect.unit (s := S256x64x128) (k0_off96 k 0#32) S1x64x128.size hh) hs).squeeze S64x128 squeezes_S1x64x128_S64x128 = qrow (8 * k.val + 2) := row_congr (off96_eq0 k) _ _
@[sl_canon] theorem row96h1 (k : Fin k0_t2_loop.trips) (hh hs) :
    (rowM.slice (Rect.unit (s := S256x64x128) (k0_off96 k 1#32) S1x64x128.size hh) hs).squeeze S64x128 squeezes_S1x64x128_S64x128 = qrow (8 * k.val + 3) := row_congr (off96_eq1 k) _ _
@[sl_canon] theorem row123h0 (k : Fin k0_t2_loop.trips) (hh hs) :
    (rowM.slice (Rect.unit (s := S256x64x128) (k0_off123 k 0#32) S1x64x128.size hh) hs).squeeze S64x128 squeezes_S1x64x128_S64x128 = qrow (8 * k.val + 4) := row_congr (off123_eq0 k) _ _
@[sl_canon] theorem row123h1 (k : Fin k0_t2_loop.trips) (hh hs) :
    (rowM.slice (Rect.unit (s := S256x64x128) (k0_off123 k 1#32) S1x64x128.size hh) hs).squeeze S64x128 squeezes_S1x64x128_S64x128 = qrow (8 * k.val + 5) := row_congr (off123_eq1 k) _ _
@[sl_canon] theorem row150h0 (k : Fin k0_t2_loop.trips) (hh hs) :
    (rowM.slice (Rect.unit (s := S256x64x128) (k0_off150 k 0#32) S1x64x128.size hh) hs).squeeze S64x128 squeezes_S1x64x128_S64x128 = qrow (8 * k.val + 6) := row_congr (off150_eq0 k) _ _
@[sl_canon] theorem row150h1 (k : Fin k0_t2_loop.trips) (hh hs) :
    (rowM.slice (Rect.unit (s := S256x64x128) (k0_off150 k 1#32) S1x64x128.size hh) hs).squeeze S64x128 squeezes_S1x64x128_S64x128 = qrow (8 * k.val + 7) := row_congr (off150_eq1 k) _ _
@[sl_canon] theorem ecell65 (k : Fin k0_t2_loop.trips) (hh) :
    (cc0_scratch4.slice (Rect.unit (s := S4) (k0_off65 k) S1.size hh)).squeeze S_ squeezes_S1_S_ = ecell (k.val) := ecell_congr (off65_eq k) _
@[sl_canon] theorem ocell65 (k : Fin k0_t2_loop.trips) (hh) :
    (cc0_scratch5.slice (Rect.unit (s := S4) (k0_off65 k) S1.size hh)).squeeze S_ squeezes_S1_S_ = ocell (k.val) := ocell_congr (off65_eq k) _
@[sl_canon] theorem ecell176 (k : Fin k0_t2_loop.trips) (hh) :
    (cc0_scratch4.slice (Rect.unit (s := S4) (k0_off176 k) S1.size hh)).squeeze S_ squeezes_S1_S_ = ecell (k.val) := ecell_congr (off176_eq k) _
@[sl_canon] theorem ocell176 (k : Fin k0_t2_loop.trips) (hh) :
    (cc0_scratch5.slice (Rect.unit (s := S4) (k0_off176 k) S1.size hh)).squeeze S_ squeezes_S1_S_ = ocell (k.val) := ocell_congr (off176_eq k) _
@[sl_canon] theorem eslot67 (k : Fin k0_t2_loop.trips) (hh hs) :
    (ebM.slice (Rect.unit (s := S4x64x8x128) (k0_off67 k) S1x64x8x128.size hh) hs).squeeze S64x8x128 squeezes_S1x64x8x128_S64x8x128 = eslot k.val := eslot_congr (off67_eq k) _ _
@[sl_canon] theorem oslot67 (k : Fin k0_t2_loop.trips) (hh hs) :
    (obM.slice (Rect.unit (s := S4x64x8x128) (k0_off67 k) S1x64x8x128.size hh) hs).squeeze S64x8x128 squeezes_S1x64x8x128_S64x8x128 = oslot k.val := oslot_congr (off67_eq k) _ _
@[sl_canon] theorem eslot153 (k : Fin k0_t2_loop.trips) (hh hs) :
    (ebM.slice (Rect.unit (s := S4x64x8x128) (k0_off153 k) S1x64x8x128.size hh) hs).squeeze S64x8x128 squeezes_S1x64x8x128_S64x8x128 = eslot k.val := eslot_congr (off153_eq k) _ _
@[sl_canon] theorem oslot153 (k : Fin k0_t2_loop.trips) (hh hs) :
    (obM.slice (Rect.unit (s := S4x64x8x128) (k0_off153 k) S1x64x8x128.size hh) hs).squeeze S64x8x128 squeezes_S1x64x8x128_S64x8x128 = oslot k.val := oslot_congr (off153_eq k) _ _
@[sl_canon] theorem eblk177 (k : Fin k0_t2_loop.trips) (hh hs) :
    embM.slice (Rect.unit (s := S1048576x128) (k0_off177 k) S512x128.size hh) hs = eblk k.val := eblk_congr (blk_of (off177_eq k) (trip_lt' k)) _ _
@[sl_canon] theorem eblk66 (k : Fin k0_t2_loop.trips) (hk : 4 ≤ k.val) (hh hs) :
    embM.slice (Rect.unit (s := S1048576x128) (k0_off66 k) S512x128.size hh) hs = eblk (k.val - 4) := eblk_congr (blk_of (off66_eq k hk) (by have := trip_lt' k; omega)) _ _
@[sl_canon] theorem oblk177 (k : Fin k0_t2_loop.trips) (hh hs) :
    outM.slice (Rect.unit (s := S1048576x128) (k0_off177 k) S512x128.size hh) hs = oblk k.val := oblk_congr (blk_of (off177_eq k) (trip_lt' k)) _ _
@[sl_canon] theorem oblk66 (k : Fin k0_t2_loop.trips) (hk : 4 ≤ k.val) (hh hs) :
    outM.slice (Rect.unit (s := S1048576x128) (k0_off66 k) S512x128.size hh) hs = oblk (k.val - 4) := oblk_congr (blk_of (off66_eq k hk) (by have := trip_lt' k; omega)) _ _

end Cert.Proof.RingBits
-- ==== Proof.GatherBits.lean ====
module

public import proofs.«01_k».proof.Proof.NamesBits

/-! The gather ring: a tile's eight row copies ride one semaphore as a batch of eight transfers, each delivering one
row of the gather buffer written with one row of the packed table. -/

@[expose] public section

noncomputable section

namespace Cert.Proof.RingBits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

section Pieces

variable (c : Dev nD) (G : S16384.Idx → Elt F .i32) (W : S8000x8192.Idx → Elt F .i32)

/-- The `n`-th token's id. -/
abbrev idIx (n : ℕ) : S16384.Idx := fun a => ⟨n % 16384, by fin_cases a; exact Nat.mod_lt _ (by decide)⟩
abbrev idAt (n : ℕ) : Elt F .i32 := G (idIx n)

abbrev all8 (Φ : ℕ → sProp 𝕄) : sProp 𝕄 := iprop(Φ 0 ∗ Φ 1 ∗ Φ 2 ∗ Φ 3 ∗ Φ 4 ∗ Φ 5 ∗ Φ 6 ∗ Φ 7)

/-- The ids' array, whole; the packed table under row `j`'s read token; a gathered row at any contents. -/
abbrev idsP : sProp 𝕄 := idM.view.loc (c : Thread nD τ) ↦{fullShare.right} G
abbrev tok (j : ℕ) : PosShare TreeShare := Transfers.shareTokN fullShare (j % 256)
abbrev wTok (j : ℕ) : sProp 𝕄 := wordM.view.loc (c : Thread nD τ) ↦{tok j} W
abbrev rowAny (j : ℕ) : sProp 𝕄 := iprop(∃ f, (qline j).view.loc (c : Thread nD τ) ↦[(qline j).view.set]{fullShare} f)
/-- Tile `u`'s gather slot idle: its semaphore at zero, its rows and its read tokens in hand. -/
def freeG (u : ℕ) : sProp 𝕄 :=
  iprop(semVal ((c : Thread nD τ), SemLoc.dma (qcell u).sem) 0 ∗ all8 (fun r => rowAny c (8 * u + r)) ∗ all8 (fun r => wTok c W (8 * u + r)))

/-- The table's row for row `j`'s id under its token, and the rest of the table under that token. -/
abbrev wPart (j : ℕ) : sProp 𝕄 :=
  (wrow (idAt G j)).view.loc (c : Thread nD τ) ↦[(wrow (idAt G j)).view.set]{tok j} W
abbrev wRest (j : ℕ) : sProp 𝕄 :=
  wordM.view.loc (c : Thread nD τ) ↦[Finset.univ \ (wrow (idAt G j)).view.set]{tok j} W
/-- What row `j`'s copy delivers: the row written whole with the table's row, and the table's row back. -/
abbrev rowIn (j : ℕ) : sProp 𝕄 :=
  iprop((∃ f, (qline j).view.loc (c : Thread nD τ) ↦[(qline j).view.set]{fullShare}
      (qline j).view.writes (Elt F) f [⟨Rect.whole S1x8192, ReadAs.same.apply ((wrow (idAt G j)).view.read (Elt F) W)⟩]) ∗ wPart c G W j)
abbrev gD (u : ℕ) : Fin 8 → sProp 𝕄 := fun r => rowIn c G W (8 * u + r.val)
theorem pt_storable (ℓ : Loc nD τ sig) (S : Finset (Idx ℓ)) (q : PosShare TreeShare) (f : Buf (Elt F) ℓ) :
    BI.Storable (upEmb : UEmb _ 𝕄) (ℓ ↦[S]{q} f) := inferInstance
instance wPart_storable (j : ℕ) : BI.Storable (upEmb : UEmb _ 𝕄) (wPart c G W j) := pt_storable _ _ _ _
instance rowIn_storable (j : ℕ) : BI.Storable (upEmb : UEmb _ 𝕄) (rowIn c G W j) := by
  unfold rowIn
  have h := wPart_storable c G W j
  infer_instance
instance gD_storable (u : ℕ) (r : Fin 8) : BI.Storable (upEmb : UEmb _ 𝕄) (gD c G W u r) := rowIn_storable c G W _
abbrev gN : ℕ := 1024
abbrev gBatch (u j w : ℕ) : sProp 𝕄 :=
  Transfers.Batch (countersEmb (U := UU nD τ)) (c : Thread nD τ) (.dma (qcell u).sem) () gN (gD c G W u) j w
/-- Tile `u`'s gathers under way. -/
def inG (u : ℕ) : sProp 𝕄 := iprop(gBatch c G W u 8 0 ∗ all8 (fun r => wRest c G W (8 * u + r)))

theorem wTok_split (j : ℕ) : wTok c W j ⊢ iprop(wPart c G W j ∗ wRest c G W j) := by
  exact (pointsTo_split_subset (Finset.subset_univ _)).1

end Pieces

theorem id_read (G : S16384.Idx → Elt F .i32) {off : Fin 1 → ℕ} {n : ℕ} (e : off = idOff n) (hn : n < 16384) (hh)
    (hp : 0 < (Rect.unit (s := S16384) off S1.size hh).toLoadRect.shape.numel) :
    View.readAt (Elt F) idM.view (Rect.unit (s := S16384) off S1.size hh).toLoadRect G (Shape.Idx.first hp) = idAt G n := by
  subst e
  rw [show idAt G n = G (idIx n) from rfl]
  refine congrArg G (funext fun a => Fin.ext ?_)
  fin_cases a
  show _ = n % 16384
  rw [Nat.mod_eq_of_lt hn]
  rfl
theorem shr2_of_lt {v : BitVec 32} (h : v.toNat < 32000) : (Scalar.shrsi v 2#32).toNat = v.toNat / 4 := by
  have e1 : Scalar.shrsi v 2#32 = v.sshiftRight 2 := rfl
  have hm : v.msb = false := by rw [BitVec.msb_eq_decide]; simp; omega
  rw [e1, BitVec.sshiftRight_eq_of_msb_false hm, BitVec.toNat_ushiftRight, Nat.shiftRight_eq_div_pow]
theorem chk_row {v : BitVec 32} (h : v.toNat < 32000) :
    ∀ a, (![(Scalar.shrsi v 2#32).toNat, 0] : Fin 2 → ℕ) a + S1x8192.size a ≤ S8000x8192.size a := by
  intro a; fin_cases a
  · show (Scalar.shrsi v 2#32).toNat + 1 ≤ 8000; rw [shr2_of_lt h]; omega
  · show 0 + 8192 ≤ 8192; omega

/-- The first lane of a token's block in the scales' array, as the body computes it. -/
abbrev laneW (v : BitVec 32) : ℕ := (Scalar.indexCast (Scalar.muli (Scalar.shrsi v 7#32) 128#32)).toNat
theorem laneW_of_lt {v : BitVec 32} (h : v.toNat < 32000) : laneW v = v.toNat / 128 * 128 := by
  have e1 : Scalar.shrsi v 7#32 = v.sshiftRight 7 := rfl
  have hm : v.msb = false := by rw [BitVec.msb_eq_decide]; simp; omega
  have e2 : laneW v = (Scalar.shrsi v 7#32 * 128#32).toNat := rfl
  rw [e2, e1, BitVec.sshiftRight_eq_of_msb_false hm, BitVec.toNat_mul, BitVec.toNat_ushiftRight, Nat.shiftRight_eq_div_pow]
  show v.toNat / 2 ^ 7 * 128 % 2 ^ 32 = _
  omega
theorem chk_lane {v : BitVec 32} (h : v.toNat < 32000) {g : ℕ} (hg : g ≤ 56) :
    ∀ a, (![g, laneW v] : Fin 2 → ℕ) a + S8x128.size a ≤ S64x32000.size a := by
  intro a; fin_cases a
  · show g + 8 ≤ 64; omega
  · show laneW v + 128 ≤ 32000; rw [laneW_of_lt h]; omega
theorem chk_pair {v : BitVec 32} (h : v.toNat < 32000) :
    (128 ∣ laneW v) ∧
    (∀ a, (![0, laneW v] : Fin 2 → ℕ) a + S8x128.size a ≤ S64x32000.size a) ∧
    (∀ a, (![8, laneW v] : Fin 2 → ℕ) a + S8x128.size a ≤ S64x32000.size a) ∧
    (∀ a, (![16, laneW v] : Fin 2 → ℕ) a + S8x128.size a ≤ S64x32000.size a) ∧
    (∀ a, (![24, laneW v] : Fin 2 → ℕ) a + S8x128.size a ≤ S64x32000.size a) ∧
    (∀ a, (![32, laneW v] : Fin 2 → ℕ) a + S8x128.size a ≤ S64x32000.size a) ∧
    (∀ a, (![40, laneW v] : Fin 2 → ℕ) a + S8x128.size a ≤ S64x32000.size a) ∧
    (∀ a, (![48, laneW v] : Fin 2 → ℕ) a + S8x128.size a ≤ S64x32000.size a) ∧
    (∀ a, (![56, laneW v] : Fin 2 → ℕ) a + S8x128.size a ≤ S64x32000.size a) :=
  ⟨by rw [laneW_of_lt h]; exact Dvd.intro_left _ rfl, chk_lane h (by omega), chk_lane h (by omega), chk_lane h (by omega),
    chk_lane h (by omega), chk_lane h (by omega), chk_lane h (by omega), chk_lane h (by omega), chk_lane h (by omega)⟩

section Trip1
variable (c : Dev nD) (G : S16384.Idx → Elt F .i32) (W : S8000x8192.Idx → Elt F .i32)
  (arg3 : Memref sig .tc .vmem S64x32000 .f32) (harg3 : arg3.IsWhole) (arg4 : Memref sig .tc .vmem S64x128 .bf16) (harg4 : arg4.IsWhole)
  (i : grid0.Coords)

theorem t1_step [∀ e, Nonempty (Elt F e)] (hG : ∀ x, (G x).toNat < 32000) (k : Fin k0_t1_loop.trips) :
    iprop(idsP c G ∗ freeG c W k.val) ⊢ wp frame (wpE defs₀ 𝒱₀ (c : Thread nD τ) none) Set.univ
      (k0_t1_body (F := F) i idM (Memref.isWhole_whole _) wordM (Memref.isWhole_whole _) arg3 harg3 arg4 harg4
        outM (Memref.isWhole_whole _) embM (Memref.isWhole_whole _) rowM (Memref.isWhole_whole _) ebM (Memref.isWhole_whole _)
        obM (Memref.isWhole_whole _) cc0_scratch3 cc0_scratch4 cc0_scratch5 k ())
      (fun _ => iprop(idsP c G ∗ inG c G W k.val)) := by
  unfold freeG inG rowAny
  iintro ⟨HI, HC, ⟨⟨%f0, HR0⟩, ⟨%f1, HR1⟩, ⟨%f2, HR2⟩, ⟨%f3, HR3⟩, ⟨%f4, HR4⟩, ⟨%f5, HR5⟩, ⟨%f6, HR6⟩, ⟨%f7, HR7⟩⟩, HT0, HT1, HT2, HT3, HT4, HT5, HT6, HT7⟩
  ihave HT0 := (wTok_split c G W (8 * k.val + 0)) $$ HT0
  icases HT0 with ⟨HP0, HW0⟩
  ihave HT1 := (wTok_split c G W (8 * k.val + 1)) $$ HT1
  icases HT1 with ⟨HP1, HW1⟩
  ihave HT2 := (wTok_split c G W (8 * k.val + 2)) $$ HT2
  icases HT2 with ⟨HP2, HW2⟩
  ihave HT3 := (wTok_split c G W (8 * k.val + 3)) $$ HT3
  icases HT3 with ⟨HP3, HW3⟩
  ihave HT4 := (wTok_split c G W (8 * k.val + 4)) $$ HT4
  icases HT4 with ⟨HP4, HW4⟩
  ihave HT5 := (wTok_split c G W (8 * k.val + 5)) $$ HT5
  icases HT5 with ⟨HP5, HW5⟩
  ihave HT6 := (wTok_split c G W (8 * k.val + 6)) $$ HT6
  icases HT6 with ⟨HP6, HW6⟩
  ihave HT7 := (wTok_split c G W (8 * k.val + 7)) $$ HT7
  icases HT7 with ⟨HP7, HW7⟩
  imod (Transfers.batch_alloc' (Lvl := ℕ) (countersEmb (U := UU nD τ)) (c : Thread nD τ) () gN (gD c G W k.val) (sm := .dma (qcell k.val).sem) (E := Set.univ)) $$ HC with HB
  have hk : k.val < 32 := lt_of_lt_of_eq k.isLt t1_trips
  sl_unfold [k0_t1_body]
  sl_exec
  have e0 : t1_step.sl.r G k = idAt G (8 * k.val + 0) := id_read G (off1_eq k) (by omega) _ _
  have c0 : k0_chk1 (idAt G (8 * k.val + 0)) := chk_row (hG _)
  rw [e0]
  sl_exec
  have e1 : t1_step.sl.r_1 G k = idAt G (8 * k.val + 1) := id_read G (off5_eq k) (by omega) _ _
  have c1 : k0_chk2 (idAt G (8 * k.val + 1)) := chk_row (hG _)
  rw [e1]
  sl_exec
  have e2 : t1_step.sl.r_3 G k = idAt G (8 * k.val + 2) := id_read G (off9_eq k) (by omega) _ _
  have c2 : k0_chk3 (idAt G (8 * k.val + 2)) := chk_row (hG _)
  rw [e2]
  sl_exec
  have e3 : t1_step.sl.r_4 G k = idAt G (8 * k.val + 3) := id_read G (off13_eq k) (by omega) _ _
  have c3 : k0_chk4 (idAt G (8 * k.val + 3)) := chk_row (hG _)
  rw [e3]
  sl_exec
  have e4 : t1_step.sl.r_5 G k = idAt G (8 * k.val + 4) := id_read G (off17_eq k) (by omega) _ _
  have c4 : k0_chk5 (idAt G (8 * k.val + 4)) := chk_row (hG _)
  rw [e4]
  sl_exec
  have e5 : t1_step.sl.r_7 G k = idAt G (8 * k.val + 5) := id_read G (off21_eq k) (by omega) _ _
  have c5 : k0_chk6 (idAt G (8 * k.val + 5)) := chk_row (hG _)
  rw [e5]
  sl_exec
  have e6 : t1_step.sl.r_8 G k = idAt G (8 * k.val + 6) := id_read G (off25_eq k) (by omega) _ _
  have c6 : k0_chk7 (idAt G (8 * k.val + 6)) := chk_row (hG _)
  rw [e6]
  sl_exec
  have e7 : t1_step.sl.r_10 G k = idAt G (8 * k.val + 7) := id_read G (off29_eq k) (by omega) _ _
  have c7 : k0_chk8 (idAt G (8 * k.val + 7)) := chk_row (hG _)
  rw [e7]
  sl_exec
  sl_step
  isplitl [HI]; · iexact HI
  isplitl [HB]; · iexact HB
  isplitl [HW0]; · iexact HW0
  isplitl [HW1]; · iexact HW1
  isplitl [HW2]; · iexact HW2
  isplitl [HW3]; · iexact HW3
  isplitl [HW4]; · iexact HW4
  isplitl [HW5]; · iexact HW5
  isplitl [HW6]; · iexact HW6
  iexact HW7
end Trip1
end Cert.Proof.RingBits
-- ==== Proof.SlabBits.lean ====
module

public import proofs.«01_k».proof.Proof.GatherBits
public import Idealize.ShloMosaic.Lib.Pointwise.Reshape

/-! The words a gathered row holds once its copy has landed. -/

@[expose] public section

noncomputable section

namespace Cert.Proof.RingBits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]
local notation "𝕄" => MT nD τ sig Unit (Elt F) ℕ (UU nD τ) ℕ

section Slab
variable (c : Dev nD) (G : S16384.Idx → Elt F .i32) (W : S8000x8192.Idx → Elt F .i32)

/-- The packed word of token `n` at group `g` and lane `l`. -/
def wIx (v : BitVec 32) (g l : ℕ) : S8000x8192.Idx :=
  (Fin.cons ⟨v.toNat / 4 % 8000, Nat.mod_lt _ (by decide)⟩ (Fin.cons ⟨(128 * g + l) % 8192, Nat.mod_lt _ (by decide)⟩ finZeroElim))
/-- The packed word that lands at index `y` of the gather buffer. -/
def wAt (v : BitVec 32) (y : S256x64x128.Idx) : S8000x8192.Idx := wIx v (y 1).val (y 2).val
/-- Row `j` of the gather buffer once token `j`'s row has landed, at any index of the buffer. -/
def slab (j : ℕ) : Buf (Elt F) (rowM.view.loc (c : Thread nD τ)) := fun y => W (wAt (idAt G j) y)

theorem wrow_read (v : BitVec 32) (x : S1x8192.Idx) :
    (wrow v).view.read (Elt F) W x = W ((wrow v).view.emb x) := rfl
theorem reshape_row (h : S1x8192.numel = S64x128.numel) (h' : S64x128.numel = S1x64x128.numel) (x : S1x8192.Idx) :
    Shape.reshapeEquiv h' (Shape.reshapeEquiv h x) = (Fin.cons ⟨0, (by decide : 0 < 1)⟩ (Fin.cons ⟨(x 1).val / 128, by have : (x 1).val < 8192 := (x 1).isLt; show _ < 64; omega⟩
      (Fin.cons ⟨(x 1).val % 128, Nat.mod_lt _ (by decide)⟩ finZeroElim)) : S1x64x128.Idx) := by
  rw [Shape.reshapeEquiv_reshapeEquiv]
  refine Shape.reshapeEquiv_eq_of_vals _ _ _ _ _ (rowMajor_val3 _ 8192 128 rfl rfl) (rowMajor_val2 _ 8192 rfl) ?_
  have h0 : (x 0).val < 1 := (x 0).isLt
  show 0 * 8192 + (x 1).val / 128 * 128 + (x 1).val % 128 = _
  omega
theorem wIx_emb (v : BitVec 32) (j : ℕ) (x : S1x8192.Idx) : (wrow v).view.emb x = wAt v ((qline j).view.emb x) := by
  have h0 : (x 0).val < 1 := (x 0).isLt
  have h1 : (x 1).val < 8192 := (x 1).isLt
  have e : (qline j).view.emb x = (Rect.unit (s := S256x64x128) (rowOff j) S1x64x128.size (rowOff_inb j)).emb
      (Shape.reshapeEquiv (s := S1x64x128) (s' := S64x128) (by decide) (Shape.reshapeEquiv (s := S64x128) (s' := S1x8192) (by decide) x)) := rfl
  rw [e, reshape_row (by decide) (by decide)]
  have e2 : (wrow v).view.emb x = (Rect.unit (s := S8000x8192) (wOff v) S1x8192.size (wOff_inb v)).emb x := rfl
  rw [e2]
  funext a
  fin_cases a
  · apply Fin.ext
    rw [Rect.emb_apply]
    show v.toNat / 4 % 8000 + 1 * (x 0).val = v.toNat / 4 % 8000
    omega
  · apply Fin.ext
    rw [Rect.emb_apply]
    show 0 + 1 * (x 1).val = (128 * (0 + 1 * ((x 1).val / 128)) + (0 + 1 * ((x 1).val % 128))) % 8192
    omega
theorem row_slab (j : ℕ) (f) : ((qline j).view.loc (c : Thread nD τ) ↦[(qline j).view.set]{fullShare}
      (qline j).view.writes (Elt F) f [⟨Rect.whole S1x8192, ReadAs.same.apply ((wrow (idAt G j)).view.read (Elt F) W)⟩] : sProp 𝕄)
    ⊢ (qrow j).view.loc (c : Thread nD τ) ↦[(qrow j).view.set]{fullShare} slab c G W j := by
  have hs : (qline j).view.set = (qrow j).view.set := View.set_reshape _ _
  rw [← hs]
  refine Entails.of_eq (pointsTo_congr (ℓ := (qline j).view.loc (c : Thread nD τ)) (g := slab c G W j) fun y hy => ?_)
  obtain ⟨x, rfl⟩ : ∃ x, (qline j).view.emb x = y := by simpa [View.set] using hy
  have h := congrFun (View.read_writes_whole (qline j).view f (ReadAs.same.apply ((wrow (idAt G j)).view.read (Elt F) W))) x
  have h2 : W ((wrow (idAt G j)).view.emb x) = slab c G W j ((qline j).view.emb x) := by
    rw [wIx_emb _ j]; rfl
  have e : ∀ g, (qline j).view.read (Elt F) g x = g ((qline j).view.emb x) := fun _ => rfl
  rw [e] at h
  have h3 : (ReadAs.same (Val := Elt F) (e := EltTy.i32) (s := S1x8192)).apply ((wrow (idAt G j)).view.read (Elt F) W) x = W ((wrow (idAt G j)).view.emb x) := rfl
  have h4 := h.trans h3
  have h5 := h4.trans h2
  exact h5
end Slab
end Cert.Proof.RingBits
-- ==== Proof.RingBits.lean ====
module

public import proofs.«01_k».proof.Proof.SlabBits

/-! The two rings of output tiles: slots idle, tiles under way, blocks done. -/

@[expose] public section

noncomputable section

namespace Cert.Proof.RingBits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]
local notation "𝕄" => MT nD τ sig Unit (Elt F) ℕ (UU nD τ) ℕ

theorem reshape_per {sp : Space} {s s' : Shape} {e : EltTy} {m m' : Memref sig .tc sp s e} (h : m = m') (h1 : s'.numel = s.numel) (h2) (h3) (h3') :
    m.reshape s' h1 h2 h3 = m'.reshape s' h1 h2 h3' := by subst h; rfl
theorem qcell_per {u u' : ℕ} (h : u % 32 = u' % 32) : qcell u = qcell u' := qcell_congr (congrArg (fun b => ![b]) h) _
theorem ecell_per {u u' : ℕ} (h : u % 4 = u' % 4) : ecell u = ecell u' := ecell_congr (congrArg (fun b => ![b]) h) _
theorem ocell_per {u u' : ℕ} (h : u % 4 = u' % 4) : ocell u = ocell u' := ocell_congr (congrArg (fun b => ![b]) h) _
theorem qrow_per {j j' : ℕ} (h : j % 256 = j' % 256) : qrow j = qrow j' := row_congr (congrArg (fun b => ![b, 0, 0]) h) _ _
theorem qline_per {j j' : ℕ} (h : j % 256 = j' % 256) : qline j = qline j' := by unfold qline; exact reshape_per (qrow_per h) _ _ _ _
theorem eslot_per {u u' : ℕ} (h : u % 4 = u' % 4) : eslot u = eslot u' := eslot_congr (congrArg (fun b => ![b, 0, 0, 0]) h) _ _
theorem oslot_per {u u' : ℕ} (h : u % 4 = u' % 4) : oslot u = oslot u' := oslot_congr (congrArg (fun b => ![b, 0, 0, 0]) h) _ _
theorem esrc_per {u u' : ℕ} (h : u % 4 = u' % 4) : esrc u = esrc u' := by unfold esrc; exact reshape_per (eslot_per h) _ _ _ _
theorem osrc_per {u u' : ℕ} (h : u % 4 = u' % 4) : osrc u = osrc u' := by unfold osrc; exact reshape_per (oslot_per h) _ _ _ _

theorem cond1_iff (k : Fin k0_t2_loop.trips) : k0_cond1 k = 1#1 ↔ 4 ≤ k.val := by
  revert k; decide +kernel
theorem cond2_iff (k : Fin k0_t2_loop.trips) : k0_cond2 k = 1#1 ↔ k.val + 32 < 2048 := by
  revert k; decide +kernel

section Ring
variable (c : Dev nD)

/-- A memref's elements held at share `q` and contents `f`; and outright at any contents. -/
abbrev heldAt {sp : Space} {s : Shape} {e : EltTy} (m : Memref sig .tc sp s e) (q : PosShare TreeShare) (f : Buf (Elt F) (m.view.loc (c : Thread nD τ))) : sProp 𝕄 :=
  m.view.loc (c : Thread nD τ) ↦[m.view.set]{q} f
abbrev heldAny {sp : Space} {s : Shape} {e : EltTy} (m : Memref sig .tc sp s e) : sProp 𝕄 := iprop(∃ f, heldAt c m fullShare f)
/-- A block of a result that is done: it holds an array of which `OK` says what it is. -/
def doneAt (blk : Memref sig .tc .hbm S512x128 .bf16) (OK : (S512x128.Idx → Elt F .bf16) → Prop) : sProp 𝕄 :=
  iprop(∃ f, heldAt c blk fullShare f ∗ ⌜OK (blk.view.read (Elt F) f)⌝)
/-- A tile under way from its slot to its block: what the copy's wait delivers. -/
abbrev landed (src : Memref sig .tc .vmem S512x128 .bf16) (blk : Memref sig .tc .hbm S512x128 .bf16) (f : Buf (Elt F) (blk.view.loc (c : Thread nD τ)))
    (e : Buf (Elt F) (src.view.loc (c : Thread nD τ))) : Buf (Elt F) (blk.view.loc (c : Thread nD τ)) :=
  blk.view.writes (Elt F) f [⟨Rect.whole S512x128, ReadAs.same.apply (src.view.read (Elt F) e)⟩]
abbrev flight (q : DmaSems sig S_) (src : Memref sig .tc .vmem S512x128 .bf16) (blk : Memref sig .tc .hbm S512x128 .bf16) (sh : PosShare TreeShare)
    (f : Buf (Elt F) (blk.view.loc (c : Thread nD τ))) (e : Buf (Elt F) (src.view.loc (c : Thread nD τ))) : sProp 𝕄 :=
  Transfers.Flight (countersEmb (U := UU nD τ)) (c : Thread nD τ) (.dma q.sem) () 4096
    iprop(heldAt c blk fullShare (landed c src blk f e) ∗ heldAt c src sh e)
/-- The embedding's tile under way while half of its slot is still read; the result's tile under way. -/
def flE (q : DmaSems sig S_) (src : Memref sig .tc .vmem S512x128 .bf16) (blk : Memref sig .tc .hbm S512x128 .bf16) (OK : (S512x128.Idx → Elt F .bf16) → Prop) : sProp 𝕄 :=
  iprop(∃ f e, flight c q src blk fullShare.right f e ∗ heldAt c src fullShare.left e ∗ ⌜OK (src.view.read (Elt F) e)⌝)
def flO (q : DmaSems sig S_) (src : Memref sig .tc .vmem S512x128 .bf16) (blk : Memref sig .tc .hbm S512x128 .bf16) (OK : (S512x128.Idx → Elt F .bf16) → Prop) : sProp 𝕄 :=
  iprop(∃ f e, flight c q src blk fullShare f e ∗ ⌜OK (src.view.read (Elt F) e)⌝)

theorem done_of (src : Memref sig .tc .vmem S512x128 .bf16) (blk : Memref sig .tc .hbm S512x128 .bf16) (f e)
    (OK : (S512x128.Idx → Elt F .bf16) → Prop) (h : OK (src.view.read (Elt F) e)) :
    heldAt c blk fullShare (landed c src blk f e) ⊢ doneAt c blk OK := by
  unfold doneAt
  iintro H
  iexists _
  isplitl [H]; · iexact H
  ipureintro
  have e1 := View.read_writes_whole blk.view f (ReadAs.same.apply (src.view.read (Elt F) e))
  exact e1 ▸ h
theorem half_split {sp : Space} {s : Shape} {e : EltTy} (m : Memref sig .tc sp s e) (f : Buf (Elt F) (m.view.loc (c : Thread nD τ))) :
    heldAt c m fullShare f ⊢ iprop(heldAt c m fullShare.left f ∗ heldAt c m fullShare.right f) := (pointsTo_share (PosShare.mem_left_op_right _)).1
theorem half_join {sp : Space} {s : Shape} {e : EltTy} (m : Memref sig .tc sp s e) (f : Buf (Elt F) (m.view.loc (c : Thread nD τ))) :
    iprop(heldAt c m fullShare.left f ∗ heldAt c m fullShare.right f) ⊢ heldAt c m fullShare f := (pointsTo_share (PosShare.mem_left_op_right _)).2
/-- A slot's elements are its source's: the source is the slot reshaped. -/
theorem esrc_set (u : ℕ) : (esrc u).view.set = (eslot u).view.set := View.set_reshape _ _
theorem osrc_set (u : ℕ) : (osrc u).view.set = (oslot u).view.set := View.set_reshape _ _
theorem e_to_src (u : ℕ) (q) (f : Buf (Elt F) ((eslot u).view.loc (c : Thread nD τ))) : heldAt c (eslot u) q f ⊢ heldAt c (esrc u) q f := by
  show ((eslot u).view.loc (c : Thread nD τ) ↦[(eslot u).view.set]{q} f : sProp 𝕄) ⊢ ((eslot u).view.loc (c : Thread nD τ) ↦[(esrc u).view.set]{q} f)
  rw [esrc_set]
theorem e_to_slot (u : ℕ) (q) (f : Buf (Elt F) ((esrc u).view.loc (c : Thread nD τ))) : heldAt c (esrc u) q f ⊢ heldAt c (eslot u) q f := by
  show ((eslot u).view.loc (c : Thread nD τ) ↦[(esrc u).view.set]{q} f : sProp 𝕄) ⊢ ((eslot u).view.loc (c : Thread nD τ) ↦[(eslot u).view.set]{q} f)
  rw [esrc_set]
theorem o_to_src (u : ℕ) (q) (f : Buf (Elt F) ((oslot u).view.loc (c : Thread nD τ))) : heldAt c (oslot u) q f ⊢ heldAt c (osrc u) q f := by
  show ((oslot u).view.loc (c : Thread nD τ) ↦[(oslot u).view.set]{q} f : sProp 𝕄) ⊢ ((oslot u).view.loc (c : Thread nD τ) ↦[(osrc u).view.set]{q} f)
  rw [osrc_set]
theorem o_to_slot (u : ℕ) (q) (f : Buf (Elt F) ((osrc u).view.loc (c : Thread nD τ))) : heldAt c (osrc u) q f ⊢ heldAt c (oslot u) q f := by
  show ((oslot u).view.loc (c : Thread nD τ) ↦[(osrc u).view.set]{q} f : sProp 𝕄) ⊢ ((oslot u).view.loc (c : Thread nD τ) ↦[(oslot u).view.set]{q} f)
  rw [osrc_set]

theorem cond1_of {k : Fin k0_t2_loop.trips} (h : 4 ≤ k.val) : k0_cond1 k = 1#1 := (cond1_iff k).2 h

variable (EOK OOK : ℕ → (S512x128.Idx → Elt F .bf16) → Prop)

/-- Slot `s` idle: both semaphores at zero, both slots in hand. -/
def idleO (s : ℕ) : sProp 𝕄 :=
  iprop(semVal ((c : Thread nD τ), SemLoc.dma (ecell s).sem) 0 ∗ semVal ((c : Thread nD τ), SemLoc.dma (ocell s).sem) 0 ∗ heldAny c (eslot s) ∗ heldAny c (oslot s))
/-- Slot `s` with tile `u`'s two copies under way. -/
def busyO (s u : ℕ) : sProp 𝕄 := iprop(flE c (ecell s) (esrc s) (eblk u) (EOK u) ∗ flO c (ocell s) (osrc s) (oblk u) (OOK u))
/-- Tile `u`'s blocks of the two results done. -/
def doneB (u : ℕ) : sProp 𝕄 := iprop(doneAt c (eblk u) (EOK u) ∗ doneAt c (oblk u) (OOK u))
/-- What slot `k` holds when trip `k` begins, and what the trip's waits give back. -/
def slotIn (k : ℕ) : sProp 𝕄 := if 4 ≤ k then busyO c EOK OOK k (k - 4) else idleO c k
def backB (k : ℕ) : sProp 𝕄 := if 4 ≤ k then doneB c EOK OOK (k - 4) else iprop(⌜True⌝)

theorem slotIn_pos {k : ℕ} (h : 4 ≤ k) : slotIn c EOK OOK k = busyO c EOK OOK k (k - 4) := if_pos h
theorem slotIn_neg {k : ℕ} (h : ¬ 4 ≤ k) : slotIn c EOK OOK k = idleO c k := if_neg h
theorem busyO_per {s s' : ℕ} (h : s % 4 = s' % 4) (u : ℕ) : busyO c EOK OOK s u = busyO c EOK OOK s' u := by
  unfold busyO; rw [ecell_per h, ocell_per h, esrc_per h, osrc_per h]
end Ring
end Cert.Proof.RingBits
-- ==== Proof.TripBits.lean ====
module

public import proofs.«01_k».proof.Proof.RingBits

/-! One trip of the main loop. -/

@[expose] public section

noncomputable section

namespace Cert.Proof.RingBits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]
local notation "𝕄" => MT nD τ sig Unit (Elt F) ℕ (UU nD τ) ℕ

/-! The executor reads a slot access's place from its offset's closed form. -/
instance (u g p : ℕ) : ClosedOff (slotAt u g p) := ⟨![u % 4, g, p, 0], rfl⟩
instance (k : Fin k0_t2_loop.trips) : ClosedOff (k0_off72 k) := ⟨![k.val % 4, 0, 0, 0], off72_eq k⟩
instance (k : Fin k0_t2_loop.trips) : ClosedOff (k0_off73 k) := ⟨![k.val % 4, 0, 0, 0], off73_eq k⟩
instance (k : Fin k0_t2_loop.trips) : ClosedOff (k0_off76 k) := ⟨![k.val % 4, 8, 0, 0], off76_eq k⟩
instance (k : Fin k0_t2_loop.trips) : ClosedOff (k0_off79 k) := ⟨![k.val % 4, 16, 0, 0], off79_eq k⟩
instance (k : Fin k0_t2_loop.trips) : ClosedOff (k0_off82 k) := ⟨![k.val % 4, 24, 0, 0], off82_eq k⟩
instance (k : Fin k0_t2_loop.trips) : ClosedOff (k0_off85 k) := ⟨![k.val % 4, 32, 0, 0], off85_eq k⟩
instance (k : Fin k0_t2_loop.trips) : ClosedOff (k0_off88 k) := ⟨![k.val % 4, 40, 0, 0], off88_eq k⟩
instance (k : Fin k0_t2_loop.trips) : ClosedOff (k0_off91 k) := ⟨![k.val % 4, 48, 0, 0], off91_eq k⟩
instance (k : Fin k0_t2_loop.trips) : ClosedOff (k0_off94 k) := ⟨![k.val % 4, 56, 0, 0], off94_eq k⟩
instance (k : Fin k0_t2_loop.trips) : ClosedOff (k0_off99 k) := ⟨![k.val % 4, 0, 0, 0], off99_eq k⟩
instance (k : Fin k0_t2_loop.trips) : ClosedOff (k0_off100 k) := ⟨![k.val % 4, 0, 2, 0], off100_eq k⟩
instance (k : Fin k0_t2_loop.trips) : ClosedOff (k0_off103 k) := ⟨![k.val % 4, 8, 2, 0], off103_eq k⟩
instance (k : Fin k0_t2_loop.trips) : ClosedOff (k0_off106 k) := ⟨![k.val % 4, 16, 2, 0], off106_eq k⟩
instance (k : Fin k0_t2_loop.trips) : ClosedOff (k0_off109 k) := ⟨![k.val % 4, 24, 2, 0], off109_eq k⟩
instance (k : Fin k0_t2_loop.trips) : ClosedOff (k0_off112 k) := ⟨![k.val % 4, 32, 2, 0], off112_eq k⟩
instance (k : Fin k0_t2_loop.trips) : ClosedOff (k0_off115 k) := ⟨![k.val % 4, 40, 2, 0], off115_eq k⟩
instance (k : Fin k0_t2_loop.trips) : ClosedOff (k0_off118 k) := ⟨![k.val % 4, 48, 2, 0], off118_eq k⟩
instance (k : Fin k0_t2_loop.trips) : ClosedOff (k0_off121 k) := ⟨![k.val % 4, 56, 2, 0], off121_eq k⟩
instance (k : Fin k0_t2_loop.trips) : ClosedOff (k0_off126 k) := ⟨![k.val % 4, 0, 0, 0], off126_eq k⟩
instance (k : Fin k0_t2_loop.trips) : ClosedOff (k0_off127 k) := ⟨![k.val % 4, 0, 4, 0], off127_eq k⟩
instance (k : Fin k0_t2_loop.trips) : ClosedOff (k0_off130 k) := ⟨![k.val % 4, 8, 4, 0], off130_eq k⟩
instance (k : Fin k0_t2_loop.trips) : ClosedOff (k0_off133 k) := ⟨![k.val % 4, 16, 4, 0], off133_eq k⟩
instance (k : Fin k0_t2_loop.trips) : ClosedOff (k0_off136 k) := ⟨![k.val % 4, 24, 4, 0], off136_eq k⟩
instance (k : Fin k0_t2_loop.trips) : ClosedOff (k0_off139 k) := ⟨![k.val % 4, 32, 4, 0], off139_eq k⟩
instance (k : Fin k0_t2_loop.trips) : ClosedOff (k0_off142 k) := ⟨![k.val % 4, 40, 4, 0], off142_eq k⟩
instance (k : Fin k0_t2_loop.trips) : ClosedOff (k0_off145 k) := ⟨![k.val % 4, 48, 4, 0], off145_eq k⟩
instance (k : Fin k0_t2_loop.trips) : ClosedOff (k0_off148 k) := ⟨![k.val % 4, 56, 4, 0], off148_eq k⟩
instance (k : Fin k0_t2_loop.trips) : ClosedOff (k0_off154 k) := ⟨![k.val % 4, 0, 6, 0], off154_eq k⟩
instance (k : Fin k0_t2_loop.trips) : ClosedOff (k0_off157 k) := ⟨![k.val % 4, 8, 6, 0], off157_eq k⟩
instance (k : Fin k0_t2_loop.trips) : ClosedOff (k0_off160 k) := ⟨![k.val % 4, 16, 6, 0], off160_eq k⟩
instance (k : Fin k0_t2_loop.trips) : ClosedOff (k0_off163 k) := ⟨![k.val % 4, 24, 6, 0], off163_eq k⟩
instance (k : Fin k0_t2_loop.trips) : ClosedOff (k0_off166 k) := ⟨![k.val % 4, 32, 6, 0], off166_eq k⟩
instance (k : Fin k0_t2_loop.trips) : ClosedOff (k0_off169 k) := ⟨![k.val % 4, 40, 6, 0], off169_eq k⟩
instance (k : Fin k0_t2_loop.trips) : ClosedOff (k0_off172 k) := ⟨![k.val % 4, 48, 6, 0], off172_eq k⟩
instance (k : Fin k0_t2_loop.trips) : ClosedOff (k0_off175 k) := ⟨![k.val % 4, 56, 6, 0], off175_eq k⟩
instance (k : Fin k0_t2_loop.trips) : ClosedOff (k0_off178 k) := ⟨![k.val % 4, 0, 0, 0], off178_eq k⟩
instance (k : Fin k0_t2_loop.trips) : ClosedOff (k0_off179 k) := ⟨![k.val % 4, 8, 0, 0], off179_eq k⟩
instance (k : Fin k0_t2_loop.trips) : ClosedOff (k0_off180 k) := ⟨![k.val % 4, 16, 0, 0], off180_eq k⟩
instance (k : Fin k0_t2_loop.trips) : ClosedOff (k0_off181 k) := ⟨![k.val % 4, 24, 0, 0], off181_eq k⟩
instance (k : Fin k0_t2_loop.trips) : ClosedOff (k0_off182 k) := ⟨![k.val % 4, 32, 0, 0], off182_eq k⟩
instance (k : Fin k0_t2_loop.trips) : ClosedOff (k0_off183 k) := ⟨![k.val % 4, 40, 0, 0], off183_eq k⟩
instance (k : Fin k0_t2_loop.trips) : ClosedOff (k0_off184 k) := ⟨![k.val % 4, 48, 0, 0], off184_eq k⟩
instance (k : Fin k0_t2_loop.trips) : ClosedOff (k0_off185 k) := ⟨![k.val % 4, 56, 0, 0], off185_eq k⟩
instance (k : Fin k0_t2_loop.trips) : ClosedOff (k0_off186 k) := ⟨![k.val % 4, 0, 2, 0], off186_eq k⟩
instance (k : Fin k0_t2_loop.trips) : ClosedOff (k0_off187 k) := ⟨![k.val % 4, 8, 2, 0], off187_eq k⟩
instance (k : Fin k0_t2_loop.trips) : ClosedOff (k0_off188 k) := ⟨![k.val % 4, 16, 2, 0], off188_eq k⟩
instance (k : Fin k0_t2_loop.trips) : ClosedOff (k0_off189 k) := ⟨![k.val % 4, 24, 2, 0], off189_eq k⟩
instance (k : Fin k0_t2_loop.trips) : ClosedOff (k0_off190 k) := ⟨![k.val % 4, 32, 2, 0], off190_eq k⟩
instance (k : Fin k0_t2_loop.trips) : ClosedOff (k0_off191 k) := ⟨![k.val % 4, 40, 2, 0], off191_eq k⟩
instance (k : Fin k0_t2_loop.trips) : ClosedOff (k0_off192 k) := ⟨![k.val % 4, 48, 2, 0], off192_eq k⟩
instance (k : Fin k0_t2_loop.trips) : ClosedOff (k0_off193 k) := ⟨![k.val % 4, 56, 2, 0], off193_eq k⟩
instance (k : Fin k0_t2_loop.trips) : ClosedOff (k0_off194 k) := ⟨![k.val % 4, 0, 4, 0], off194_eq k⟩
instance (k : Fin k0_t2_loop.trips) : ClosedOff (k0_off195 k) := ⟨![k.val % 4, 8, 4, 0], off195_eq k⟩
instance (k : Fin k0_t2_loop.trips) : ClosedOff (k0_off196 k) := ⟨![k.val % 4, 16, 4, 0], off196_eq k⟩
instance (k : Fin k0_t2_loop.trips) : ClosedOff (k0_off197 k) := ⟨![k.val % 4, 24, 4, 0], off197_eq k⟩
instance (k : Fin k0_t2_loop.trips) : ClosedOff (k0_off198 k) := ⟨![k.val % 4, 32, 4, 0], off198_eq k⟩
instance (k : Fin k0_t2_loop.trips) : ClosedOff (k0_off199 k) := ⟨![k.val % 4, 40, 4, 0], off199_eq k⟩
instance (k : Fin k0_t2_loop.trips) : ClosedOff (k0_off200 k) := ⟨![k.val % 4, 48, 4, 0], off200_eq k⟩
instance (k : Fin k0_t2_loop.trips) : ClosedOff (k0_off201 k) := ⟨![k.val % 4, 56, 4, 0], off201_eq k⟩

section Trip2
variable (c : Dev nD) (G : S16384.Idx → Elt F .i32) (W : S8000x8192.Idx → Elt F .i32)
  (arg3 : Memref sig .tc .vmem S64x32000 .f32) (harg3 : arg3.IsWhole) (arg4 : Memref sig .tc .vmem S64x128 .bf16) (harg4 : arg4.IsWhole)
  (i : grid0.Coords) (SC : Buf (Elt F) (arg3.view.loc (c : Thread nD τ))) (NW : Buf (Elt F) (arg4.view.loc (c : Thread nD τ)))

theorem wTok_join (j : ℕ) : iprop(wPart c G W j ∗ wRest c G W j) ⊢ wTok c W j :=
  (pointsTo_split_subset (Finset.subset_univ _)).2
theorem slab_of (u : ℕ) (r : Fin 8) : iprop((∃ f, (qline (8 * u + r.val)).view.loc (c : Thread nD τ) ↦[(qline (8 * u + r.val)).view.set]{fullShare}
      (qline (8 * u + r.val)).view.writes (Elt F) f [⟨Rect.whole S1x8192, ReadAs.same.apply ((wrow (idAt G (8 * u + r.val))).view.read (Elt F) W)⟩]))
    ⊢ ((qrow (8 * u + r.val)).view.loc (c : Thread nD τ) ↦[(qrow (8 * u + r.val)).view.set]{fullShare} slab c G W (8 * u + r.val) : sProp 𝕄) := by
  iintro ⟨%f, H⟩
  iapply (row_slab c G W (8 * u + r.val) f)
  iexact H

abbrev scP : sProp 𝕄 := arg3.view.loc (c : Thread nD τ) ↦[arg3.view.set]{fullShare} SC
abbrev nwP : sProp 𝕄 := arg4.view.loc (c : Thread nD τ) ↦[arg4.view.set]{fullShare} NW
variable (EOK OOK : ℕ → (S512x128.Idx → Elt F .bf16) → Prop)

/-- A block of a result before its tile is stored; the gather ring's slot once the trip has restarted it. -/
def fresh (blk : Memref sig .tc .hbm S512x128 .bf16) : sProp 𝕄 := heldAny c blk
def gNext (k : ℕ) : sProp 𝕄 := if k + 32 < 2048 then inG c G W (k + 32) else freeG c W (k + 32)

theorem rows_any (j : ℕ) (f : Buf (Elt F) ((qrow j).view.loc (c : Thread nD τ))) : heldAt c (qrow j) fullShare f ⊢ rowAny c j := by
  have e : (qline j).view.set = (qrow j).view.set := View.set_reshape _ _
  have h : heldAt c (qrow j) fullShare f ⊢ ((qline j).view.loc (c : Thread nD τ) ↦[(qline j).view.set]{fullShare} f : sProp 𝕄) := by
    show ((qrow j).view.loc (c : Thread nD τ) ↦[(qrow j).view.set]{fullShare} f : sProp 𝕄) ⊢ ((qrow j).view.loc (c : Thread nD τ) ↦[(qline j).view.set]{fullShare} f)
    rw [e]
  iintro H
  iexists f
  iapply h
  iexact H
theorem rowAny_per {j j' : ℕ} (h : j % 256 = j' % 256) : rowAny (F := F) c j = rowAny c j' := by
  unfold rowAny; rw [qline_per h]
theorem ok_any {OK : ℕ → (S512x128.Idx → Elt F .bf16) → Prop} (h : ∀ u e, OK u e) (u : ℕ) (m : Memref sig .tc .vmem S512x128 .bf16)
    (f : Buf (Elt F) (m.view.loc (c : Thread nD τ))) : OK u (m.view.read (Elt F) f) := h u _
/-- A slot once stored, as its copy's source: only what it reads as matters from then on. -/
theorem e_fix (u : ℕ) (f : Buf (Elt F) ((eslot u).view.loc (c : Thread nD τ))) (h : EOK u ((esrc u).view.read (Elt F) f)) :
    heldAt c (eslot u) fullShare f ⊢ iprop(∃ e, heldAt c (eslot u) fullShare e ∗ ⌜e = f⌝ ∗ ⌜EOK u ((esrc u).view.read (Elt F) e)⌝) := by
  iintro H
  iexists f
  isplitl [H]; · iexact H
  isplitl; · ipureintro; rfl
  ipureintro; exact h
theorem o_fix (u : ℕ) (f : Buf (Elt F) ((oslot u).view.loc (c : Thread nD τ))) (h : OOK u ((osrc u).view.read (Elt F) f)) :
    heldAt c (oslot u) fullShare f ⊢ iprop(∃ e, heldAt c (osrc u) fullShare e ∗ ⌜OOK u ((osrc u).view.read (Elt F) e)⌝) := by
  iintro H
  iexists f
  isplitl [H]; · iapply (o_to_src c u fullShare f); iexact H
  ipureintro; exact h
theorem flE_of (s u : ℕ) (f e) (h : EOK u ((esrc s).view.read (Elt F) e)) :
    iprop(flight c (ecell s) (esrc s) (eblk u) fullShare.right f e ∗ heldAt c (esrc s) fullShare.left e) ⊢ flE c (ecell s) (esrc s) (eblk u) (EOK u) := by
  unfold flE
  iintro ⟨H, H'⟩
  iexists f, e
  isplitl [H]; · iexact H
  isplitl [H']; · iexact H'
  ipureintro; exact h
theorem flO_of (s u : ℕ) (f e) (h : OOK u ((osrc s).view.read (Elt F) e)) :
    flight c (ocell s) (osrc s) (oblk u) fullShare f e ⊢ flO c (ocell s) (osrc s) (oblk u) (OOK u) := by
  unfold flO
  iintro H
  iexists f, e
  isplitl [H]; · iexact H
  ipureintro; exact h
theorem freeG_per {u u' : ℕ} (h : u % 32 = u' % 32) : freeG c W u = freeG c W u' := by
  have e (r : ℕ) : (8 * u + r) % 256 = (8 * u' + r) % 256 := by omega
  have e1 : (fun r => rowAny (F := F) c (8 * u + r)) = fun r => rowAny c (8 * u' + r) := funext fun r => rowAny_per c (e r)
  have e2 : (fun r => wTok c W (8 * u + r)) = fun r => wTok c W (8 * u' + r) := funext fun r => by simp only [wTok, tok, e r]
  unfold freeG
  rw [qcell_per h, e1, e2]

set_option maxHeartbeats 2000000 in
theorem t2_step [∀ e, Nonempty (Elt F e)] (hG : ∀ x, (G x).toNat < 32000)
    (hE : ∀ u e, EOK u e) (hO : ∀ u e, OOK u e) (k : Fin k0_t2_loop.trips) :
    iprop(idsP c G ∗ inG c G W k.val ∗ (∃ o, owes c 0 o) ∗ scP c arg3 SC ∗ nwP c arg4 NW ∗ slotIn c EOK OOK k.val
      ∗ fresh c (eblk k.val) ∗ fresh c (oblk k.val)) ⊢ wp frame (wpE defs₀ 𝒱₀ (c : Thread nD τ) none) Set.univ
      (k0_t2_body (F := F) i idM (Memref.isWhole_whole _) wordM (Memref.isWhole_whole _) arg3 harg3 arg4 harg4
        outM (Memref.isWhole_whole _) embM (Memref.isWhole_whole _) rowM (Memref.isWhole_whole _) ebM (Memref.isWhole_whole _)
        obM (Memref.isWhole_whole _) cc0_scratch3 cc0_scratch4 cc0_scratch5 k ())
      (fun _ => iprop(idsP c G ∗ gNext c G W k.val ∗ (∃ o, owes c 0 o) ∗ scP c arg3 SC ∗ nwP c arg4 NW
        ∗ busyO c EOK OOK k.val k.val ∗ backB c EOK OOK k.val)) := by
  unfold inG
  iintro ⟨HI, ⟨HB, HW0, HW1, HW2, HW3, HW4, HW5, HW6, HW7⟩, ⟨%ow, Howe⟩, HSC, HNW, HS, HNE, HNO⟩
  have hk : k.val < 2048 := lt_of_lt_of_eq k.isLt t2_trips
  sl_unfold [k0_t2_body]
  sl_exec (disch := first | exact chk_row (hG _) | exact chk_pair (hG _) | exact fun _ => chk_row (hG _))
  -- the two output copies of four trips ago
  iapply (wp_wand_r frame _ Set.univ (Q := fun x => iprop(⌜x.1 = idAt G (8 * k.val + 0)⌝ ∗ idsP c G ∗ (∃ o, owes c 0 o)
    ∗ idleO c k.val ∗ backB c EOK OOK k.val)))
  isplitl [HI Howe HS]
  · by_cases h4 : 4 ≤ k.val
    · have hc := (cond1_iff k).2 h4
      ihave HS := (Entails.of_eq (slotIn_pos c EOK OOK h4)) $$ HS
      unfold busyO flE flO
      icases HS with ⟨⟨%fe, %ee, HF, HL, %he⟩, ⟨%fo, %eo, HFo, %ho⟩⟩
      sl_exec (disch := first | exact chk_row (hG _) | exact chk_pair (hG _) | exact fun _ => chk_row (hG _))
      sl_step
      ihave HL := (half_join c (esrc k.val) ee) $$ [HL HF_src]
      · isplitl [HL]; · iexact HL
        iexact HF_src
      ihave HL := (e_to_slot c k.val fullShare ee) $$ HL
      ihave HFo_src := (o_to_slot c k.val fullShare eo) $$ HFo_src
      isplitr
      · ipureintro; exact id_read G (off68_eq0 k) (by omega) _ _
      isplitl [HI]; · iexact HI
      isplitl [Howe]; · iexists _; iexact Howe
      isplitl [HF HFo HL HFo_src]
      · unfold idleO
        isplitl [HF]; · iexact HF
        isplitl [HFo]; · iexact HFo
        isplitl [HL]; · iexists ee; iexact HL
        iexists eo; iexact HFo_src
      unfold backB
      rw [if_pos h4]
      unfold doneB
      isplitl [HF_dst]
      · iapply (done_of c (esrc k.val) (eblk (k.val - 4)) fe ee (EOK (k.val - 4)) he); iexact HF_dst
      iapply (done_of c (osrc k.val) (oblk (k.val - 4)) fo eo (OOK (k.val - 4)) ho); iexact HFo_dst
    · have hc : ¬ k0_cond1 k = 1#1 := fun h => h4 ((cond1_iff k).1 h)
      ihave HS := (Entails.of_eq (slotIn_neg c EOK OOK h4)) $$ HS
      sl_exec (disch := first | exact chk_row (hG _) | exact chk_pair (hG _) | exact fun _ => chk_row (hG _))
      sl_step
      isplitr
      · ipureintro; exact id_read G (off68_eq0 k) (by omega) _ _
      isplitl [HI]; · iexact HI
      isplitl [Howe]; · iexists _; iexact Howe
      isplitl [HS]; · iexact HS
      unfold backB
      rw [if_neg h4]
      ipureintro; trivial
  iintro %x ⟨%hx, HI, ⟨%ow, Howe⟩, HS, HBK⟩
  obtain ⟨v183, hw17, v185⟩ := x
  dsimp only at hx
  unfold idleO
  icases HS with ⟨HEC, HOC, ⟨%es, HE⟩, ⟨%os, HO⟩⟩
  ihave HT0 := (wTok_join c G W (8 * k.val + 0)) $$ [HB_src0 HW0]
  · isplitl [HB_src0]; · iexact HB_src0
    iexact HW0
  ihave HR0 := (slab_of c G W k.val 0) $$ HB_dst0
  ihave HT1 := (wTok_join c G W (8 * k.val + 1)) $$ [HB_src1 HW1]
  · isplitl [HB_src1]; · iexact HB_src1
    iexact HW1
  ihave HR1 := (slab_of c G W k.val 1) $$ HB_dst1
  ihave HT2 := (wTok_join c G W (8 * k.val + 2)) $$ [HB_src2 HW2]
  · isplitl [HB_src2]; · iexact HB_src2
    iexact HW2
  ihave HR2 := (slab_of c G W k.val 2) $$ HB_dst2
  ihave HT3 := (wTok_join c G W (8 * k.val + 3)) $$ [HB_src3 HW3]
  · isplitl [HB_src3]; · iexact HB_src3
    iexact HW3
  ihave HR3 := (slab_of c G W k.val 3) $$ HB_dst3
  ihave HT4 := (wTok_join c G W (8 * k.val + 4)) $$ [HB_src4 HW4]
  · isplitl [HB_src4]; · iexact HB_src4
    iexact HW4
  ihave HR4 := (slab_of c G W k.val 4) $$ HB_dst4
  ihave HT5 := (wTok_join c G W (8 * k.val + 5)) $$ [HB_src5 HW5]
  · isplitl [HB_src5]; · iexact HB_src5
    iexact HW5
  ihave HR5 := (slab_of c G W k.val 5) $$ HB_dst5
  ihave HT6 := (wTok_join c G W (8 * k.val + 6)) $$ [HB_src6 HW6]
  · isplitl [HB_src6]; · iexact HB_src6
    iexact HW6
  ihave HR6 := (slab_of c G W k.val 6) $$ HB_dst6
  ihave HT7 := (wTok_join c G W (8 * k.val + 7)) $$ [HB_src7 HW7]
  · isplitl [HB_src7]; · iexact HB_src7
    iexact HW7
  ihave HR7 := (slab_of c G W k.val 7) $$ HB_dst7
  sl_exec (disch := first | exact chk_row (hG _) | exact chk_pair (hG _) | exact fun _ => chk_row (hG _))
  ihave HE := (e_fix c EOK k.val (t2_step.sl.HE_w32 c G W arg3 SC hG k v183 hw17 es) (ok_any c hE k.val (esrc k.val) _)) $$ HE
  icases HE with ⟨%ee, HE, %hee, %hok⟩
  ihave HE := (half_split c (eslot k.val) ee) $$ HE
  icases HE with ⟨HE, HEr⟩
  ihave HEr := (e_to_src c k.val fullShare.right ee) $$ HEr
  unfold fresh
  icases HNE with ⟨%fne, HNE⟩
  sl_exec (disch := first | exact chk_row (hG _) | exact chk_pair (hG _) | exact fun _ => chk_row (hG _))
  ihave HO := (o_fix c OOK k.val (t2_step.sl.HO_w32 c G W arg3 arg4 SC NW hG k v183 hw17 os ee) (ok_any c hO k.val (osrc k.val) _)) $$ HO
  icases HO with ⟨%oo, HO, %hok'⟩

  icases HNO with ⟨%fno, HNO⟩
  sl_exec (disch := first | exact chk_row (hG _) | exact chk_pair (hG _) | exact fun _ => chk_row (hG _))
  ihave HR0 := (rows_any c (8 * k.val + 0) (slab c G W (8 * k.val + 0))) $$ HR0
  ihave HR1 := (rows_any c (8 * k.val + 1) (slab c G W (8 * k.val + 1))) $$ HR1
  ihave HR2 := (rows_any c (8 * k.val + 2) (slab c G W (8 * k.val + 2))) $$ HR2
  ihave HR3 := (rows_any c (8 * k.val + 3) (slab c G W (8 * k.val + 3))) $$ HR3
  ihave HR4 := (rows_any c (8 * k.val + 4) (slab c G W (8 * k.val + 4))) $$ HR4
  ihave HR5 := (rows_any c (8 * k.val + 5) (slab c G W (8 * k.val + 5))) $$ HR5
  ihave HR6 := (rows_any c (8 * k.val + 6) (slab c G W (8 * k.val + 6))) $$ HR6
  ihave HR7 := (rows_any c (8 * k.val + 7) (slab c G W (8 * k.val + 7))) $$ HR7
  ihave HG : freeG c W k.val $$ [HB HR0 HR1 HR2 HR3 HR4 HR5 HR6 HR7 HT0 HT1 HT2 HT3 HT4 HT5 HT6 HT7]
  · unfold freeG
    isplitl [HB]; · iexact HB
    isplitl [HR0 HR1 HR2 HR3 HR4 HR5 HR6 HR7]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      iexact HR7
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    iexact HT7
  ihave HG := (Entails.of_eq (freeG_per c W (show k.val % 32 = (k.val + 32) % 32 by omega))) $$ HG
  iapply (wp_wand_r frame _ Set.univ (Q := fun _ => iprop(idsP c G ∗ (∃ o, owes c 0 o) ∗ gNext c G W k.val)))
  isplitl [HI Howe HG]
  · by_cases h32 : k.val + 32 < 2048
    · have hc := (cond2_iff k).2 h32
      unfold freeG
      icases HG with ⟨HC, ⟨⟨%f0, HR0⟩, ⟨%f1, HR1⟩, ⟨%f2, HR2⟩, ⟨%f3, HR3⟩, ⟨%f4, HR4⟩, ⟨%f5, HR5⟩, ⟨%f6, HR6⟩, ⟨%f7, HR7⟩⟩, HT0, HT1, HT2, HT3, HT4, HT5, HT6, HT7⟩
      ihave HT0 := (wTok_split c G W (8 * (k.val + 32) + 0)) $$ HT0
      icases HT0 with ⟨HP0, HW0⟩
      ihave HT1 := (wTok_split c G W (8 * (k.val + 32) + 1)) $$ HT1
      icases HT1 with ⟨HP1, HW1⟩
      ihave HT2 := (wTok_split c G W (8 * (k.val + 32) + 2)) $$ HT2
      icases HT2 with ⟨HP2, HW2⟩
      ihave HT3 := (wTok_split c G W (8 * (k.val + 32) + 3)) $$ HT3
      icases HT3 with ⟨HP3, HW3⟩
      ihave HT4 := (wTok_split c G W (8 * (k.val + 32) + 4)) $$ HT4
      icases HT4 with ⟨HP4, HW4⟩
      ihave HT5 := (wTok_split c G W (8 * (k.val + 32) + 5)) $$ HT5
      icases HT5 with ⟨HP5, HW5⟩
      ihave HT6 := (wTok_split c G W (8 * (k.val + 32) + 6)) $$ HT6
      icases HT6 with ⟨HP6, HW6⟩
      ihave HT7 := (wTok_split c G W (8 * (k.val + 32) + 7)) $$ HT7
      icases HT7 with ⟨HP7, HW7⟩
      imod (Transfers.batch_alloc' (Lvl := ℕ) (countersEmb (U := UU nD τ)) (c : Thread nD τ) () gN (gD c G W (k.val + 32)) (sm := .dma (qcell (k.val + 32)).sem) (E := Set.univ)) $$ HC with HB
      sl_exec
      have e0 : t2_step.sl.r_177 G k hc = idAt G (8 * (k.val + 32) + 0) := id_read G (off202_eq k) (by omega) _ _
      have c0 : k0_chk25 k (idAt G (8 * (k.val + 32) + 0)) := fun _ => chk_row (hG _)
      rw [e0]
      sl_exec
      have e1 : t2_step.sl.r_178 G k hc = idAt G (8 * (k.val + 32) + 1) := id_read G (off206_eq k) (by omega) _ _
      have c1 : k0_chk26 k (idAt G (8 * (k.val + 32) + 1)) := fun _ => chk_row (hG _)
      rw [e1]
      sl_exec
      have e2 : t2_step.sl.r_180 G k hc = idAt G (8 * (k.val + 32) + 2) := id_read G (off210_eq k) (by omega) _ _
      have c2 : k0_chk27 k (idAt G (8 * (k.val + 32) + 2)) := fun _ => chk_row (hG _)
      rw [e2]
      sl_exec
      have e3 : t2_step.sl.r_181 G k hc = idAt G (8 * (k.val + 32) + 3) := id_read G (off214_eq k) (by omega) _ _
      have c3 : k0_chk28 k (idAt G (8 * (k.val + 32) + 3)) := fun _ => chk_row (hG _)
      rw [e3]
      sl_exec
      have e4 : t2_step.sl.r_182 G k hc = idAt G (8 * (k.val + 32) + 4) := id_read G (off218_eq k) (by omega) _ _
      have c4 : k0_chk29 k (idAt G (8 * (k.val + 32) + 4)) := fun _ => chk_row (hG _)
      rw [e4]
      sl_exec
      have e5 : t2_step.sl.r_184 G k hc = idAt G (8 * (k.val + 32) + 5) := id_read G (off222_eq k) (by omega) _ _
      have c5 : k0_chk30 k (idAt G (8 * (k.val + 32) + 5)) := fun _ => chk_row (hG _)
      rw [e5]
      sl_exec
      have e6 : t2_step.sl.r_185 G k hc = idAt G (8 * (k.val + 32) + 6) := id_read G (off226_eq k) (by omega) _ _
      have c6 : k0_chk31 k (idAt G (8 * (k.val + 32) + 6)) := fun _ => chk_row (hG _)
      rw [e6]
      sl_exec
      have e7 : t2_step.sl.r_186 G k hc = idAt G (8 * (k.val + 32) + 7) := id_read G (off230_eq k) (by omega) _ _
      have c7 : k0_chk32 k (idAt G (8 * (k.val + 32) + 7)) := fun _ => chk_row (hG _)
      rw [e7]
      sl_exec
      sl_step
      isplitl [HI]; · iexact HI
      isplitl [Howe]; · iexists _; iexact Howe
      unfold gNext
      rw [if_pos h32]
      unfold inG
      isplitl [HB]; · iexact HB
      isplitl [HW0]; · iexact HW0
      isplitl [HW1]; · iexact HW1
      isplitl [HW2]; · iexact HW2
      isplitl [HW3]; · iexact HW3
      isplitl [HW4]; · iexact HW4
      isplitl [HW5]; · iexact HW5
      isplitl [HW6]; · iexact HW6
      iexact HW7
    · have hc : ¬ k0_cond2 k = 1#1 := fun h => h32 ((cond2_iff k).1 h)
      sl_exec (disch := first | exact chk_row (hG _) | exact chk_pair (hG _) | exact fun _ => chk_row (hG _))
      sl_step
      isplitl [HI]; · iexact HI
      isplitl [Howe]; · iexists _; iexact Howe
      unfold gNext
      rw [if_neg h32]
      iexact HG
  iintro %x ⟨HI, ⟨%ow, Howe⟩, HG⟩
  isplitl [HI]; · iexact HI
  isplitl [HG]; · iexact HG
  isplitl [Howe]; · iexists _; iexact Howe
  isplitl [HSC]; · iexact HSC
  isplitl [HNW]; · iexact HNW
  isplitl [HE HEC HOC]
  · unfold busyO
    ihave HE := (e_to_src c k.val fullShare.left ee) $$ HE
    isplitl [HE HEC]
    · iapply (flE_of c EOK k.val k.val fne ee hok)
      isplitl [HEC]; · iexact HEC
      iexact HE
    · iapply (flO_of c OOK k.val k.val fno oo hok')
      iexact HOC
  iexact HBK
end Trip2
end Cert.Proof.RingBits
-- ==== Proof.BodyBits.lean ====
module

public import proofs.«01_k».proof.Proof.TripBits

/-! The whole body: the two loops by their invariants, then the last four tiles' waits. -/

@[expose] public section

noncomputable section

namespace Cert.Proof.RingBits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]
local notation "𝕄" => MT nD τ sig Unit (Elt F) ℕ (UU nD τ) ℕ

/-! The last four tiles' copies, waited for at literal places. -/
@[sl_canon] theorem ecellL0 (hh) : (cc0_scratch4.slice (Rect.unit (s := S4) ![0] S1.size hh)).squeeze S_ squeezes_S1_S_ = ecell 0 := ecell_congr (u := 0) (show (![0] : Fin 1 → ℕ) = scellOff 0 from rfl) _
@[sl_canon] theorem ocellL0 (hh) : (cc0_scratch5.slice (Rect.unit (s := S4) ![0] S1.size hh)).squeeze S_ squeezes_S1_S_ = ocell 0 := ocell_congr (u := 0) (show (![0] : Fin 1 → ℕ) = scellOff 0 from rfl) _
@[sl_canon] theorem eslotL0 (hh hs) : (ebM.slice (Rect.unit (s := S4x64x8x128) ![0, 0, 0, 0] S1x64x8x128.size hh) hs).squeeze S64x8x128 squeezes_S1x64x8x128_S64x8x128 = eslot 0 := eslot_congr (u := 0) (show (![0, 0, 0, 0] : Fin 4 → ℕ) = slotAt 0 0 0 from rfl) _ _
@[sl_canon] theorem oslotL0 (hh hs) : (obM.slice (Rect.unit (s := S4x64x8x128) ![0, 0, 0, 0] S1x64x8x128.size hh) hs).squeeze S64x8x128 squeezes_S1x64x8x128_S64x8x128 = oslot 0 := oslot_congr (u := 0) (show (![0, 0, 0, 0] : Fin 4 → ℕ) = slotAt 0 0 0 from rfl) _ _
@[sl_canon] theorem eblkL0 (hh hs) : embM.slice (Rect.unit (s := S1048576x128) ![1046528, 0] S512x128.size hh) hs = eblk 2044 := eblk_congr (u := 2044) (show (![1046528, 0] : Fin 2 → ℕ) = rOff 2044 from rfl) _ _
@[sl_canon] theorem oblkL0 (hh hs) : outM.slice (Rect.unit (s := S1048576x128) ![1046528, 0] S512x128.size hh) hs = oblk 2044 := oblk_congr (u := 2044) (show (![1046528, 0] : Fin 2 → ℕ) = rOff 2044 from rfl) _ _
@[sl_canon] theorem ecellL1 (hh) : (cc0_scratch4.slice (Rect.unit (s := S4) ![1] S1.size hh)).squeeze S_ squeezes_S1_S_ = ecell 1 := ecell_congr (u := 1) (show (![1] : Fin 1 → ℕ) = scellOff 1 from rfl) _
@[sl_canon] theorem ocellL1 (hh) : (cc0_scratch5.slice (Rect.unit (s := S4) ![1] S1.size hh)).squeeze S_ squeezes_S1_S_ = ocell 1 := ocell_congr (u := 1) (show (![1] : Fin 1 → ℕ) = scellOff 1 from rfl) _
@[sl_canon] theorem eslotL1 (hh hs) : (ebM.slice (Rect.unit (s := S4x64x8x128) ![1, 0, 0, 0] S1x64x8x128.size hh) hs).squeeze S64x8x128 squeezes_S1x64x8x128_S64x8x128 = eslot 1 := eslot_congr (u := 1) (show (![1, 0, 0, 0] : Fin 4 → ℕ) = slotAt 1 0 0 from rfl) _ _
@[sl_canon] theorem oslotL1 (hh hs) : (obM.slice (Rect.unit (s := S4x64x8x128) ![1, 0, 0, 0] S1x64x8x128.size hh) hs).squeeze S64x8x128 squeezes_S1x64x8x128_S64x8x128 = oslot 1 := oslot_congr (u := 1) (show (![1, 0, 0, 0] : Fin 4 → ℕ) = slotAt 1 0 0 from rfl) _ _
@[sl_canon] theorem eblkL1 (hh hs) : embM.slice (Rect.unit (s := S1048576x128) ![1047040, 0] S512x128.size hh) hs = eblk 2045 := eblk_congr (u := 2045) (show (![1047040, 0] : Fin 2 → ℕ) = rOff 2045 from rfl) _ _
@[sl_canon] theorem oblkL1 (hh hs) : outM.slice (Rect.unit (s := S1048576x128) ![1047040, 0] S512x128.size hh) hs = oblk 2045 := oblk_congr (u := 2045) (show (![1047040, 0] : Fin 2 → ℕ) = rOff 2045 from rfl) _ _
@[sl_canon] theorem ecellL2 (hh) : (cc0_scratch4.slice (Rect.unit (s := S4) ![2] S1.size hh)).squeeze S_ squeezes_S1_S_ = ecell 2 := ecell_congr (u := 2) (show (![2] : Fin 1 → ℕ) = scellOff 2 from rfl) _
@[sl_canon] theorem ocellL2 (hh) : (cc0_scratch5.slice (Rect.unit (s := S4) ![2] S1.size hh)).squeeze S_ squeezes_S1_S_ = ocell 2 := ocell_congr (u := 2) (show (![2] : Fin 1 → ℕ) = scellOff 2 from rfl) _
@[sl_canon] theorem eslotL2 (hh hs) : (ebM.slice (Rect.unit (s := S4x64x8x128) ![2, 0, 0, 0] S1x64x8x128.size hh) hs).squeeze S64x8x128 squeezes_S1x64x8x128_S64x8x128 = eslot 2 := eslot_congr (u := 2) (show (![2, 0, 0, 0] : Fin 4 → ℕ) = slotAt 2 0 0 from rfl) _ _
@[sl_canon] theorem oslotL2 (hh hs) : (obM.slice (Rect.unit (s := S4x64x8x128) ![2, 0, 0, 0] S1x64x8x128.size hh) hs).squeeze S64x8x128 squeezes_S1x64x8x128_S64x8x128 = oslot 2 := oslot_congr (u := 2) (show (![2, 0, 0, 0] : Fin 4 → ℕ) = slotAt 2 0 0 from rfl) _ _
@[sl_canon] theorem eblkL2 (hh hs) : embM.slice (Rect.unit (s := S1048576x128) ![1047552, 0] S512x128.size hh) hs = eblk 2046 := eblk_congr (u := 2046) (show (![1047552, 0] : Fin 2 → ℕ) = rOff 2046 from rfl) _ _
@[sl_canon] theorem oblkL2 (hh hs) : outM.slice (Rect.unit (s := S1048576x128) ![1047552, 0] S512x128.size hh) hs = oblk 2046 := oblk_congr (u := 2046) (show (![1047552, 0] : Fin 2 → ℕ) = rOff 2046 from rfl) _ _
@[sl_canon] theorem ecellL3 (hh) : (cc0_scratch4.slice (Rect.unit (s := S4) ![3] S1.size hh)).squeeze S_ squeezes_S1_S_ = ecell 3 := ecell_congr (u := 3) (show (![3] : Fin 1 → ℕ) = scellOff 3 from rfl) _
@[sl_canon] theorem ocellL3 (hh) : (cc0_scratch5.slice (Rect.unit (s := S4) ![3] S1.size hh)).squeeze S_ squeezes_S1_S_ = ocell 3 := ocell_congr (u := 3) (show (![3] : Fin 1 → ℕ) = scellOff 3 from rfl) _
@[sl_canon] theorem eslotL3 (hh hs) : (ebM.slice (Rect.unit (s := S4x64x8x128) ![3, 0, 0, 0] S1x64x8x128.size hh) hs).squeeze S64x8x128 squeezes_S1x64x8x128_S64x8x128 = eslot 3 := eslot_congr (u := 3) (show (![3, 0, 0, 0] : Fin 4 → ℕ) = slotAt 3 0 0 from rfl) _ _
@[sl_canon] theorem oslotL3 (hh hs) : (obM.slice (Rect.unit (s := S4x64x8x128) ![3, 0, 0, 0] S1x64x8x128.size hh) hs).squeeze S64x8x128 squeezes_S1x64x8x128_S64x8x128 = oslot 3 := oslot_congr (u := 3) (show (![3, 0, 0, 0] : Fin 4 → ℕ) = slotAt 3 0 0 from rfl) _ _
@[sl_canon] theorem eblkL3 (hh hs) : embM.slice (Rect.unit (s := S1048576x128) ![1048064, 0] S512x128.size hh) hs = eblk 2047 := eblk_congr (u := 2047) (show (![1048064, 0] : Fin 2 → ℕ) = rOff 2047 from rfl) _ _
@[sl_canon] theorem oblkL3 (hh hs) : outM.slice (Rect.unit (s := S1048576x128) ![1048064, 0] S512x128.size hh) hs = oblk 2047 := oblk_congr (u := 2047) (show (![1048064, 0] : Fin 2 → ℕ) = rOff 2047 from rfl) _ _

section Body
variable (c : Dev nD) (G : S16384.Idx → Elt F .i32) (W : S8000x8192.Idx → Elt F .i32)
  (arg3 : Memref sig .tc .vmem S64x32000 .f32) (harg3 : arg3.IsWhole) (arg4 : Memref sig .tc .vmem S64x128 .bf16) (harg4 : arg4.IsWhole)
  (i : grid0.Coords) (SC : Buf (Elt F) (arg3.view.loc (c : Thread nD τ))) (NW : Buf (Elt F) (arg4.view.loc (c : Thread nD τ)))
  (EOK OOK : ℕ → (S512x128.Idx → Elt F .bf16) → Prop)

/-- One more at the end, one less at the front. -/
theorem range_succ (Φ : ℕ → sProp 𝕄) (k : ℕ) : bigSep (Finset.range (k + 1)) Φ = iprop(Φ k ∗ bigSep (Finset.range k) Φ) := by
  rw [Finset.range_add_one, bigSep_insert (by simp)]; rfl
theorem ico_front (Φ : ℕ → sProp 𝕄) {a b : ℕ} (h : a < b) : bigSep (Finset.Ico a b) Φ = iprop(Φ a ∗ bigSep (Finset.Ico (a + 1) b) Φ) := by
  rw [show Finset.Ico a b = insert a (Finset.Ico (a + 1) b) from by ext x; simp; omega, bigSep_insert (by simp)]; rfl
theorem ico_back (Φ : ℕ → sProp 𝕄) {a b : ℕ} (h : a ≤ b) : bigSep (Finset.Ico a (b + 1)) Φ = iprop(Φ b ∗ bigSep (Finset.Ico a b) Φ) := by
  rw [show Finset.Ico a (b + 1) = insert b (Finset.Ico a b) from by ext x; simp; omega, bigSep_insert (by simp)]; rfl

/-- What the proof asks of the arguments and of the tiles' predicates. -/
abbrev Okay : Prop := (∀ x, (G x).toNat < 32000) ∧ (∀ u e, EOK u e) ∧ (∀ u e, OOK u e)
/-- The gather slot that serves tile `t`; a tile's two blocks not yet stored. -/
def ringG (t : ℕ) : sProp 𝕄 := if t < 2048 then inG c G W t else freeG c W t
def fresh2 (t : ℕ) : sProp 𝕄 := iprop(fresh c (eblk t) ∗ fresh c (oblk t))
/-- The first loop's invariant before trip `k`, and the main loop's. -/
def t1Inv (k : ℕ) : sProp 𝕄 :=
  iprop(idsP c G ∗ bigSep (Finset.Ico k 32) (freeG c W) ∗ bigSep (Finset.range k) (inG c G W))
def t2Inv (k : ℕ) : sProp 𝕄 :=
  iprop(idsP c G ∗ bigSep (Finset.Ico k (k + 32)) (ringG c G W) ∗ (∃ o, owes c 0 o) ∗ scP c arg3 SC ∗ nwP c arg4 NW
    ∗ bigSep (Finset.Ico k (k + 4)) (slotIn c EOK OOK) ∗ bigSep (Finset.Ico k 2048) (fresh2 (F := F) c) ∗ bigSep (Finset.range (k - 4)) (doneB c EOK OOK))

theorem t1_inv [∀ e, Nonempty (Elt F e)] (hok : Okay G EOK OOK) (k : Fin k0_t1_loop.trips) :
    t1Inv c G W k.val ⊢ wp frame (wpE defs₀ 𝒱₀ (c : Thread nD τ) none) Set.univ
      (k0_t1_body (F := F) i idM (Memref.isWhole_whole _) wordM (Memref.isWhole_whole _) arg3 harg3 arg4 harg4
        outM (Memref.isWhole_whole _) embM (Memref.isWhole_whole _) rowM (Memref.isWhole_whole _) ebM (Memref.isWhole_whole _)
        obM (Memref.isWhole_whole _) cc0_scratch3 cc0_scratch4 cc0_scratch5 k ()) (fun _ => t1Inv c G W (k.val + 1)) := by
  have hk : k.val < 32 := lt_of_lt_of_eq k.isLt t1_trips
  unfold t1Inv
  rw [ico_front _ hk, range_succ]
  iintro ⟨HI, ⟨HF, HFs⟩, HR⟩
  iapply (wp_wand_r frame _ Set.univ (Q := fun _ => iprop(idsP c G ∗ inG c G W k.val)))
  isplitl [HI HF]
  · iapply (t1_step c G W arg3 harg3 arg4 harg4 i hok.1 k)
    isplitl [HI]; · iexact HI
    iexact HF
  iintro %x ⟨HI, HG⟩
  isplitl [HI]; · iexact HI
  isplitl [HFs]; · iexact HFs
  isplitl [HG]; · iexact HG
  iexact HR

theorem back_step (k : ℕ) : iprop(backB c EOK OOK k ∗ bigSep (Finset.range (k - 4)) (doneB c EOK OOK))
    ⊢ bigSep (Finset.range (k + 1 - 4)) (doneB c EOK OOK) := by
  unfold backB
  by_cases h : 4 ≤ k
  · rw [if_pos h, show k + 1 - 4 = k - 4 + 1 from by omega, range_succ]
  · rw [if_neg h, show k + 1 - 4 = 0 from by omega, show k - 4 = 0 from by omega]
    iintro ⟨-, H⟩; iexact H

theorem t2_inv [∀ e, Nonempty (Elt F e)] (hok : Okay G EOK OOK) (k : Fin k0_t2_loop.trips) :
    t2Inv c G W arg3 arg4 SC NW EOK OOK k.val ⊢ wp frame (wpE defs₀ 𝒱₀ (c : Thread nD τ) none) Set.univ
      (k0_t2_body (F := F) i idM (Memref.isWhole_whole _) wordM (Memref.isWhole_whole _) arg3 harg3 arg4 harg4
        outM (Memref.isWhole_whole _) embM (Memref.isWhole_whole _) rowM (Memref.isWhole_whole _) ebM (Memref.isWhole_whole _)
        obM (Memref.isWhole_whole _) cc0_scratch3 cc0_scratch4 cc0_scratch5 k ()) (fun _ => t2Inv c G W arg3 arg4 SC NW EOK OOK (k.val + 1)) := by
  have hk : k.val < 2048 := lt_of_lt_of_eq k.isLt t2_trips
  have eG : ringG c G W k.val = inG c G W k.val := if_pos hk
  have eS : slotIn c EOK OOK (k.val + 4) = busyO c EOK OOK k.val k.val := by
    rw [slotIn_pos c EOK OOK (by omega), show k.val + 4 - 4 = k.val from by omega, busyO_per c EOK OOK (show (k.val + 4) % 4 = k.val % 4 by omega)]
  have eN : gNext c G W k.val = ringG c G W (k.val + 32) := rfl
  unfold t2Inv
  rw [show k.val + 1 + 32 = k.val + 32 + 1 from by omega, show k.val + 1 + 4 = k.val + 4 + 1 from by omega,
    ico_back (ringG c G W) (show k.val + 1 ≤ k.val + 32 by omega), ico_back (slotIn c EOK OOK) (show k.val + 1 ≤ k.val + 4 by omega),
    ico_front (ringG c G W) (show k.val < k.val + 32 by omega), ico_front (slotIn c EOK OOK) (show k.val < k.val + 4 by omega),
    ico_front (fresh2 (F := F) c) hk, eG, eS]
  iintro ⟨HI, ⟨HG, HGs⟩, HW, HSC, HNW, ⟨HS, HSs⟩, ⟨HN, HNs⟩, HD⟩
  unfold fresh2
  icases HN with ⟨HNE, HNO⟩
  iapply (wp_wand_r frame _ Set.univ (Q := fun _ => iprop(idsP c G ∗ gNext c G W k.val ∗ (∃ o, owes c 0 o) ∗ scP c arg3 SC ∗ nwP c arg4 NW
        ∗ busyO c EOK OOK k.val k.val ∗ backB c EOK OOK k.val)))
  isplitl [HI HG HW HSC HNW HS HNE HNO]
  · iapply (t2_step c G W arg3 harg3 arg4 harg4 i SC NW EOK OOK hok.1 hok.2.1 hok.2.2 k)
    isplitl [HI]; · iexact HI
    isplitl [HG]; · iexact HG
    isplitl [HW]; · iexact HW
    isplitl [HSC]; · iexact HSC
    isplitl [HNW]; · iexact HNW
    isplitl [HS]; · iexact HS
    isplitl [HNE]; · iexact HNE
    iexact HNO
  iintro %x ⟨HI, HG, HW, HSC, HNW, HS, HB⟩
  isplitl [HI]; · iexact HI
  isplitl [HG HGs]
  · isplitl [HG]; · rw [← eN]; iexact HG
    iexact HGs
  isplitl [HW]; · iexact HW
  isplitl [HSC]; · iexact HSC
  isplitl [HNW]; · iexact HNW
  isplitl [HS HSs]
  · isplitl [HS]; · iexact HS
    iexact HSs
  isplitl [HNs]; · iexact HNs
  iapply (back_step c EOK OOK k.val)
  isplitl [HB]; · iexact HB
  iexact HD

/-- What the body is handed, and what it hands back. -/
def bodyIn : sProp 𝕄 :=
  iprop(idsP c G ∗ bigSep (Finset.range 32) (freeG c W) ∗ (∃ o, owes c 0 o) ∗ scP c arg3 SC ∗ nwP c arg4 NW
    ∗ bigSep (Finset.range 4) (idleO (F := F) c) ∗ bigSep (Finset.range 2048) (fresh2 (F := F) c))
def bodyOut : sProp 𝕄 :=
  iprop(idsP c G ∗ bigSep (Finset.range 32) (freeG c W) ∗ (∃ o, owes c 0 o) ∗ scP c arg3 SC ∗ nwP c arg4 NW
    ∗ bigSep (Finset.range 4) (idleO (F := F) c) ∗ bigSep (Finset.range 2048) (doneB c EOK OOK))

theorem t1_loop [∀ e, Nonempty (Elt F e)] (hok : Okay G EOK OOK) {β : Type} (kk : PUnit → Prog (TpuEff nD τ sig (Elt F) Λ₀ .tc) β) (Q : β → sProp 𝕄) :
    iprop(t1Inv c G W 0 ∗ (t1Inv c G W 32 -∗ wp frame (wpE (defs₀ (F := F)) 𝒱₀ (c : Thread nD τ) none) Set.univ (kk ⟨⟩) Q))
      ⊢ wp frame (wpE (defs₀ (F := F)) 𝒱₀ (c : Thread nD τ) none) Set.univ
        (k0_t1_loop.for k0_t1_ok PUnit.unit (k0_t1_body (F := F) i idM (Memref.isWhole_whole _) wordM (Memref.isWhole_whole _) arg3 harg3 arg4 harg4
        outM (Memref.isWhole_whole _) embM (Memref.isWhole_whole _) rowM (Memref.isWhole_whole _) ebM (Memref.isWhole_whole _)
        obM (Memref.isWhole_whole _) cc0_scratch3 cc0_scratch4 cc0_scratch5) >>= kk) Q := by
  iintro ⟨HT, HK⟩
  iapply (Scf.wp_for_bind frame (wpE (defs₀ (F := F)) 𝒱₀ (c : Thread nD τ) none) Set.univ k0_t1_loop.lb k0_t1_loop.ub k0_t1_loop.st k0_t1_ok PUnit.unit
    (k0_t1_body (F := F) i idM (Memref.isWhole_whole _) wordM (Memref.isWhole_whole _) arg3 harg3 arg4 harg4
        outM (Memref.isWhole_whole _) embM (Memref.isWhole_whole _) rowM (Memref.isWhole_whole _) ebM (Memref.isWhole_whole _)
        obM (Memref.isWhole_whole _) cc0_scratch3 cc0_scratch4 cc0_scratch5) (fun k _ => t1Inv c G W k) (fun k _ => t1_inv c G W arg3 harg3 arg4 harg4 i EOK OOK hok k)) $$ HT
  iintro %x HT
  ihave HT := (Entails.of_eq (congrArg (t1Inv c G W) t1_trips)) $$ HT
  iapply HK; iexact HT
theorem t2_loop [∀ e, Nonempty (Elt F e)] (hok : Okay G EOK OOK) {β : Type} (kk : PUnit → Prog (TpuEff nD τ sig (Elt F) Λ₀ .tc) β) (Q : β → sProp 𝕄) :
    iprop(t2Inv c G W arg3 arg4 SC NW EOK OOK 0 ∗ (t2Inv c G W arg3 arg4 SC NW EOK OOK 2048 -∗ wp frame (wpE (defs₀ (F := F)) 𝒱₀ (c : Thread nD τ) none) Set.univ (kk ⟨⟩) Q))
      ⊢ wp frame (wpE (defs₀ (F := F)) 𝒱₀ (c : Thread nD τ) none) Set.univ
        (k0_t2_loop.for k0_t2_ok PUnit.unit (k0_t2_body (F := F) i idM (Memref.isWhole_whole _) wordM (Memref.isWhole_whole _) arg3 harg3 arg4 harg4
        outM (Memref.isWhole_whole _) embM (Memref.isWhole_whole _) rowM (Memref.isWhole_whole _) ebM (Memref.isWhole_whole _)
        obM (Memref.isWhole_whole _) cc0_scratch3 cc0_scratch4 cc0_scratch5) >>= kk) Q := by
  iintro ⟨HT, HK⟩
  iapply (Scf.wp_for_bind frame (wpE (defs₀ (F := F)) 𝒱₀ (c : Thread nD τ) none) Set.univ k0_t2_loop.lb k0_t2_loop.ub k0_t2_loop.st k0_t2_ok PUnit.unit
    (k0_t2_body (F := F) i idM (Memref.isWhole_whole _) wordM (Memref.isWhole_whole _) arg3 harg3 arg4 harg4
        outM (Memref.isWhole_whole _) embM (Memref.isWhole_whole _) rowM (Memref.isWhole_whole _) ebM (Memref.isWhole_whole _)
        obM (Memref.isWhole_whole _) cc0_scratch3 cc0_scratch4 cc0_scratch5) (fun k _ => t2Inv c G W arg3 arg4 SC NW EOK OOK k) (fun k _ => t2_inv c G W arg3 harg3 arg4 harg4 i SC NW EOK OOK hok k)) $$ HT
  iintro %x HT
  ihave HT := (Entails.of_eq (congrArg (t2Inv c G W arg3 arg4 SC NW EOK OOK) t2_trips)) $$ HT
  iapply HK; iexact HT

theorem ico_shift (Φ : ℕ → sProp 𝕄) (a : ℕ) : ∀ n, bigSep (Finset.Ico a (a + n)) Φ = bigSep (Finset.range n) (fun r => Φ (a + r))
  | 0 => by rw [Nat.add_zero, Finset.Ico_self, Finset.range_zero, bigSep_empty, bigSep_empty]
  | n + 1 => by rw [← Nat.add_assoc, ico_back Φ (Nat.le_add_right a n), range_succ, ico_shift Φ a n]
/-- After the last trip the gather slots are idle and the output slots hold the last four tiles. -/
theorem ring_idle : bigSep (Finset.Ico 2048 (2048 + 32)) (ringG c G W) ⊢ bigSep (Finset.range 32) (freeG c W) := by
  rw [ico_shift]
  refine Entails.of_eq (bigSep_congr fun r _ => ?_)
  unfold ringG
  rw [if_neg (by omega), freeG_per c W (show (2048 + r) % 32 = r % 32 by omega)]
theorem ring_start : bigSep (Finset.range 32) (inG c G W) ⊢ bigSep (Finset.Ico 0 (0 + 32)) (ringG c G W) := by
  rw [Finset.range_eq_Ico]
  refine Entails.of_eq (bigSep_congr fun r hr => ?_)
  unfold ringG
  rw [if_pos (by have := (Finset.mem_Ico.1 hr).2; omega)]
theorem slot_start : bigSep (Finset.range 4) (idleO (F := F) c) ⊢ bigSep (Finset.Ico 0 (0 + 4)) (slotIn c EOK OOK) := by
  rw [Finset.range_eq_Ico]
  refine Entails.of_eq (bigSep_congr fun r hr => ?_)
  rw [slotIn_neg c EOK OOK (by have := (Finset.mem_Ico.1 hr).2; omega)]
theorem slot_last (s : ℕ) (h : s < 4) : slotIn c EOK OOK (2048 + s) = busyO c EOK OOK s (2044 + s) := by
  rw [slotIn_pos c EOK OOK (by omega), show 2048 + s - 4 = 2044 + s from by omega, busyO_per c EOK OOK (show (2048 + s) % 4 = s % 4 by omega)]
theorem slot_end : bigSep (Finset.Ico 2048 (2048 + 4)) (slotIn c EOK OOK)
    ⊢ iprop(busyO c EOK OOK 0 2044 ∗ busyO c EOK OOK 1 2045 ∗ busyO c EOK OOK 2 2046 ∗ busyO c EOK OOK 3 2047) := by
  rw [ico_front _ (by omega), ico_front _ (by omega), ico_front _ (by omega), ico_front _ (by omega)]
  rw [show (2048 : ℕ) = 2048 + 0 from rfl]
  rw [slot_last c EOK OOK 0 (by omega), show 2048 + 0 + 1 = 2048 + 1 from rfl, slot_last c EOK OOK 1 (by omega), show 2048 + 1 + 1 = 2048 + 2 from rfl,
    slot_last c EOK OOK 2 (by omega), show 2048 + 2 + 1 = 2048 + 3 from rfl, slot_last c EOK OOK 3 (by omega)]
  iintro ⟨H0, H1, H2, H3, -⟩
  isplitl [H0]; · iexact H0
  isplitl [H1]; · iexact H1
  isplitl [H2]; · iexact H2
  iexact H3
theorem done_end : iprop(doneB c EOK OOK 2044 ∗ doneB c EOK OOK 2045 ∗ doneB c EOK OOK 2046 ∗ doneB c EOK OOK 2047
    ∗ bigSep (Finset.range (2048 - 4)) (doneB c EOK OOK)) ⊢ bigSep (Finset.range 2048) (doneB c EOK OOK) := by
  rw [(range_succ (doneB c EOK OOK) 2047 : bigSep (Finset.range 2048) _ = _), (range_succ (doneB c EOK OOK) 2046 : bigSep (Finset.range 2047) _ = _),
    (range_succ (doneB c EOK OOK) 2045 : bigSep (Finset.range 2046) _ = _), (range_succ (doneB c EOK OOK) 2044 : bigSep (Finset.range 2045) _ = _)]
  iintro ⟨H0, H1, H2, H3, H⟩
  isplitl [H3]; · iexact H3
  isplitl [H2]; · iexact H2
  isplitl [H1]; · iexact H1
  isplitl [H0]; · iexact H0
  iexact H
theorem idle_four : iprop(idleO (F := F) c 0 ∗ idleO c 1 ∗ idleO c 2 ∗ idleO c 3) ⊢ bigSep (Finset.range 4) (idleO (F := F) c) := by
  rw [show (4 : ℕ) = 0 + 1 + 1 + 1 + 1 from rfl, range_succ, range_succ, range_succ, range_succ, Finset.range_zero, bigSep_empty]
  iintro ⟨H0, H1, H2, H3⟩
  isplitl [H3]; · iexact H3
  isplitl [H2]; · iexact H2
  isplitl [H1]; · iexact H1
  isplitl [H0]; · iexact H0
  iempintro

/-- A slot's two copies landed: the slot is idle again and its tile's blocks are done. -/
theorem settle (s u : ℕ) (fe ee fo eo) (he : EOK u ((esrc s).view.read (Elt F) ee)) (ho : OOK u ((osrc s).view.read (Elt F) eo)) :
    iprop(heldAt c (esrc s) fullShare.left ee ∗ heldAt c (eblk u) fullShare (landed c (esrc s) (eblk u) fe ee) ∗ heldAt c (esrc s) fullShare.right ee
      ∗ semVal ((c : Thread nD τ), SemLoc.dma (ecell s).sem) 0 ∗ heldAt c (oblk u) fullShare (landed c (osrc s) (oblk u) fo eo)
      ∗ heldAt c (osrc s) fullShare eo ∗ semVal ((c : Thread nD τ), SemLoc.dma (ocell s).sem) 0)
      ⊢ iprop(idleO c s ∗ doneB c EOK OOK u) := by
  iintro ⟨HL, HD, HR, HC, HD', HS, HC'⟩
  ihave HL := (half_join c (esrc s) ee) $$ [HL HR]
  · isplitl [HL]; · iexact HL
    iexact HR
  ihave HL := (e_to_slot c s fullShare ee) $$ HL
  ihave HS := (o_to_slot c s fullShare eo) $$ HS
  unfold idleO doneB
  isplitl [HL HS HC HC']
  · isplitl [HC]; · iexact HC
    isplitl [HC']; · iexact HC'
    isplitl [HL]; · iexists ee; iexact HL
    iexists eo; iexact HS
  isplitl [HD]
  · iapply (done_of c (esrc s) (eblk u) fe ee (EOK u) he); iexact HD
  iapply (done_of c (osrc s) (oblk u) fo eo (OOK u) ho); iexact HD'

theorem body_run [∀ e, Nonempty (Elt F e)] (hok : Okay G EOK OOK) :
    bodyIn c G W arg3 arg4 SC NW ⊢ wp frame (wpE defs₀ 𝒱₀ (c : Thread nD τ) none) Set.univ
      (cc0_embed_rmsnorm (F := F) i idM (Memref.isWhole_whole _) wordM (Memref.isWhole_whole _) arg3 harg3 arg4 harg4
        outM (Memref.isWhole_whole _) embM (Memref.isWhole_whole _) rowM (Memref.isWhole_whole _) ebM (Memref.isWhole_whole _)
        obM (Memref.isWhole_whole _) cc0_scratch3 cc0_scratch4 cc0_scratch5) (fun _ => bodyOut c G W arg3 arg4 SC NW EOK OOK) := by
  unfold bodyIn
  iintro ⟨HI, HF, HW, HSC, HNW, HS, HN⟩
  ihave HT : t1Inv c G W 0 $$ [HI HF]
  · unfold t1Inv
    isplitl [HI]; · iexact HI
    isplitl [HF]; · rw [← Finset.range_eq_Ico]; iexact HF
    rw [Finset.range_zero, bigSep_empty]
    iempintro
  sl_exec
  iapply (t1_loop c G W arg3 harg3 arg4 harg4 i EOK OOK hok)
  isplitl [HT]; · iexact HT
  iintro HT
  ihave HT : t2Inv c G W arg3 arg4 SC NW EOK OOK 0 $$ [HT HW HSC HNW HS HN]
  · unfold t1Inv t2Inv
    icases HT with ⟨HI, -, HG⟩
    isplitl [HI]; · iexact HI
    isplitl [HG]; · iapply (ring_start c G W); iexact HG
    isplitl [HW]; · iexact HW
    isplitl [HSC]; · iexact HSC
    isplitl [HNW]; · iexact HNW
    isplitl [HS]; · iapply (slot_start c EOK OOK); iexact HS
    isplitl [HN]; · rw [← Finset.range_eq_Ico]; iexact HN
    rw [show (0 - 4 : ℕ) = 0 from rfl, Finset.range_zero, bigSep_empty]
    iempintro
  iapply (t2_loop c G W arg3 harg3 arg4 harg4 i SC NW EOK OOK hok)
  isplitl [HT]; · iexact HT
  iintro HT
  unfold t2Inv
  icases HT with ⟨HI, HG, ⟨%ow, Howe⟩, HSC, HNW, HS, -, HD⟩
  ihave HG := (ring_idle c G W) $$ HG
  ihave HS := (slot_end c EOK OOK) $$ HS
  unfold busyO flE flO
  icases HS with ⟨⟨⟨%fe0, %ee0, HF0, HL0, %he0⟩, ⟨%fo0, %eo0, HFo0, %ho0⟩⟩, ⟨⟨%fe1, %ee1, HF1, HL1, %he1⟩, ⟨%fo1, %eo1, HFo1, %ho1⟩⟩, ⟨⟨%fe2, %ee2, HF2, HL2, %he2⟩, ⟨%fo2, %eo2, HFo2, %ho2⟩⟩, ⟨⟨%fe3, %ee3, HF3, HL3, %he3⟩, ⟨%fo3, %eo3, HFo3, %ho3⟩⟩⟩
  sl_exec
  sl_step
  ihave HS0 := (settle c EOK OOK 0 2044 fe0 ee0 fo0 eo0 he0 ho0) $$ [HL0 HF0_dst HF0_src HF0 HFo0_dst HFo0_src HFo0]
  · isplitl [HL0]; · iexact HL0
    isplitl [HF0_dst]; · iexact HF0_dst
    isplitl [HF0_src]; · iexact HF0_src
    isplitl [HF0]; · iexact HF0
    isplitl [HFo0_dst]; · iexact HFo0_dst
    isplitl [HFo0_src]; · iexact HFo0_src
    iexact HFo0
  icases HS0 with ⟨HS0, HD0⟩
  ihave HS1 := (settle c EOK OOK 1 2045 fe1 ee1 fo1 eo1 he1 ho1) $$ [HL1 HF1_dst HF1_src HF1 HFo1_dst HFo1_src HFo1]
  · isplitl [HL1]; · iexact HL1
    isplitl [HF1_dst]; · iexact HF1_dst
    isplitl [HF1_src]; · iexact HF1_src
    isplitl [HF1]; · iexact HF1
    isplitl [HFo1_dst]; · iexact HFo1_dst
    isplitl [HFo1_src]; · iexact HFo1_src
    iexact HFo1
  icases HS1 with ⟨HS1, HD1⟩
  ihave HS2 := (settle c EOK OOK 2 2046 fe2 ee2 fo2 eo2 he2 ho2) $$ [HL2 HF2_dst HF2_src HF2 HFo2_dst HFo2_src HFo2]
  · isplitl [HL2]; · iexact HL2
    isplitl [HF2_dst]; · iexact HF2_dst
    isplitl [HF2_src]; · iexact HF2_src
    isplitl [HF2]; · iexact HF2
    isplitl [HFo2_dst]; · iexact HFo2_dst
    isplitl [HFo2_src]; · iexact HFo2_src
    iexact HFo2
  icases HS2 with ⟨HS2, HD2⟩
  ihave HS3 := (settle c EOK OOK 3 2047 fe3 ee3 fo3 eo3 he3 ho3) $$ [HL3 HF3_dst HF3_src HF3 HFo3_dst HFo3_src HFo3]
  · isplitl [HL3]; · iexact HL3
    isplitl [HF3_dst]; · iexact HF3_dst
    isplitl [HF3_src]; · iexact HF3_src
    isplitl [HF3]; · iexact HF3
    isplitl [HFo3_dst]; · iexact HFo3_dst
    isplitl [HFo3_src]; · iexact HFo3_src
    iexact HFo3
  icases HS3 with ⟨HS3, HD3⟩
  unfold bodyOut
  isplitl [HI]; · iexact HI
  isplitl [HG]; · iexact HG
  isplitl [Howe]; · iexists _; iexact Howe
  isplitl [HSC]; · iexact HSC
  isplitl [HNW]; · iexact HNW
  isplitl [HS0 HS1 HS2 HS3]
  · iapply (idle_four (F := F) c)
    isplitl [HS0]; · iexact HS0
    isplitl [HS1]; · iexact HS1
    isplitl [HS2]; · iexact HS2
    iexact HS3
  iapply (done_end c EOK OOK)
  isplitl [HD0]; · iexact HD0
  isplitl [HD1]; · iexact HD1
  isplitl [HD2]; · iexact HD2
  isplitl [HD3]; · iexact HD3
  iexact HD
end Body
end Cert.Proof.RingBits
-- ==== Proof.PiecesBits.lean ====
module

public import proofs.«01_k».proof.Proof.BodyBits

/-! One trip of the main loop. -/

@[expose] public section

noncomputable section

namespace Cert.Proof.RingBits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]
local notation "𝕄" => MT nD τ sig Unit (Elt F) ℕ (UU nD τ) ℕ

section Blocks

variable {ℓ : Loc nD τ sig} (n : ℕ) (I : ℕ → Finset (Idx ℓ)) (own : Idx ℓ → ℕ)

/-- A buffer whole is its blocks, each element belonging to the block `own` names; and blocks at contents of their own
join to the buffer at some contents. -/
theorem blocks_eq (hm : ∀ j, j < n → ∀ y, y ∈ I j ↔ own y = j) (hb : ∀ y, own y < n) (q : PosShare TreeShare) (f : Buf (Elt F) ℓ) :
    (ℓ ↦{q} f : sProp 𝕄) = bigSep (Finset.range n) fun j => ℓ ↦[I j]{q} f := by
  rw [Ring.pointsTo_blocks (B := Fin n) (fun b => I b.val) (fun b b' h => by
      rw [Finset.disjoint_left]; intro y hy hy'
      exact h (Fin.ext (((hm _ b.isLt y).mp hy).symm.trans ((hm _ b'.isLt y).mp hy'))))
    (by ext y; simp only [Finset.mem_biUnion, Finset.mem_univ, true_and, iff_true]; exact ⟨⟨own y, hb y⟩, (hm _ (hb y) y).mpr rfl⟩)]
  exact Ring.bigSep_fin_eq_range n _ _ fun _ _ => rfl
theorem blocks_split (hm : ∀ j, j < n → ∀ y, y ∈ I j ↔ own y = j) (hb : ∀ y, own y < n) (q : PosShare TreeShare) :
    iprop(∃ f : Buf (Elt F) ℓ, ℓ ↦{q} f) ⊢ (bigSep (Finset.range n) fun j => iprop(∃ f : Buf (Elt F) ℓ, ℓ ↦[I j]{q} f) : sProp 𝕄) := by
  iintro ⟨%f, H⟩
  ihave H := (Entails.of_eq (blocks_eq (F := F) n I own hm hb q f)) $$ H
  have e : (bigSep (Finset.range n) (fun j => (ℓ ↦[I j]{q} f : sProp 𝕄))) ⊢ bigSep (Finset.range n) fun j => iprop(∃ f : Buf (Elt F) ℓ, ℓ ↦[I j]{q} f) :=
    BI.bigSep_mono fun j _ => show _ ⊢ iprop(∃ f : Buf (Elt F) ℓ, ℓ ↦[I j]{q} f) from by iintro H; iexists f; iexact H
  iapply e; iexact H
theorem blocks_join [∀ e, Nonempty (Elt F e)] (hm : ∀ j, j < n → ∀ y, y ∈ I j ↔ own y = j) (hb : ∀ y, own y < n) (q : PosShare TreeShare) :
    (bigSep (Finset.range n) fun j => iprop(∃ f : Buf (Elt F) ℓ, ℓ ↦[I j]{q} f) : sProp 𝕄) ⊢ iprop(∃ f : Buf (Elt F) ℓ, ℓ ↦{q} f) := by
  rw [← Ring.bigSep_fin_eq_range n (fun b : Fin n => iprop(∃ f : Buf (Elt F) ℓ, ℓ ↦[I b.val]{q} f)) _ fun _ _ => rfl]
  exact Ring.pointsTo_blocks_join_exists (B := Fin n) (fun b => I b.val) (fun b b' h => by
      rw [Finset.disjoint_left]; intro y hy hy'
      exact h (Fin.ext (((hm _ b.isLt y).mp hy).symm.trans ((hm _ b'.isLt y).mp hy'))))
    (by ext y; simp only [Finset.mem_biUnion, Finset.mem_univ, true_and, iff_true]; exact ⟨⟨own y, hb y⟩, (hm _ (hb y) y).mpr rfl⟩) (fun _ => Classical.choice inferInstance)

end Blocks

section Pieces
variable (c : Dev nD) (W : S8000x8192.Idx → Elt F .i32)

/-! Which elements each piece holds. -/

theorem mem_rows (j : ℕ) (h : j < 256) (y : S256x64x128.Idx) :
    y ∈ (Rect.unit (s := S256x64x128) (rowOff j) S1x64x128.size (rowOff_inb j)).set ↔ (y 0).val = j := by
  rw [Rect.mem_set_unit]
  have h1 : (y 1).val < 64 := (y 1).isLt
  have h2 : (y 2).val < 128 := (y 2).isLt
  constructor
  · intro H; have a0 : j % 256 ≤ (y 0).val ∧ (y 0).val < j % 256 + 1 := H 0; omega
  · intro H i; fin_cases i
    · show j % 256 ≤ (y 0).val ∧ (y 0).val < j % 256 + 1; omega
    · show 0 ≤ (y 1).val ∧ (y 1).val < 0 + 64; omega
    · show 0 ≤ (y 2).val ∧ (y 2).val < 0 + 128; omega
theorem mem_row (j : ℕ) (h : j < 256) (y : S256x64x128.Idx) : y ∈ (qline j).view.set ↔ (y 0).val = j :=
  (iff_of_eq (congrArg (y ∈ ·) ((View.set_reshape _ _).trans ((View.set_reshape _ _).trans (View.set_slice_whole _ _))))).trans (mem_rows j h y)
theorem mem_slot (s : ℕ) (h : s < 4) (y : S4x64x8x128.Idx) :
    y ∈ (Rect.unit (s := S4x64x8x128) (slotAt s 0 0) S1x64x8x128.size (slotAt_inb s)).set ↔ (y 0).val = s := by
  rw [Rect.mem_set_unit]
  have h1 : (y 1).val < 64 := (y 1).isLt
  have h2 : (y 2).val < 8 := (y 2).isLt
  have h3 : (y 3).val < 128 := (y 3).isLt
  constructor
  · intro H; have a0 : s % 4 ≤ (y 0).val ∧ (y 0).val < s % 4 + 1 := H 0; omega
  · intro H i; fin_cases i
    · show s % 4 ≤ (y 0).val ∧ (y 0).val < s % 4 + 1; omega
    · show 0 ≤ (y 1).val ∧ (y 1).val < 0 + 64; omega
    · show 0 ≤ (y 2).val ∧ (y 2).val < 0 + 8; omega
    · show 0 ≤ (y 3).val ∧ (y 3).val < 0 + 128; omega
theorem mem_eslot (s : ℕ) (h : s < 4) (y : S4x64x8x128.Idx) : y ∈ (eslot s).view.set ↔ (y 0).val = s :=
  (iff_of_eq (congrArg (y ∈ ·) ((View.set_reshape _ _).trans (View.set_slice_whole _ _)))).trans (mem_slot s h y)
theorem mem_oslot (s : ℕ) (h : s < 4) (y : S4x64x8x128.Idx) : y ∈ (oslot s).view.set ↔ (y 0).val = s :=
  (iff_of_eq (congrArg (y ∈ ·) ((View.set_reshape _ _).trans (View.set_slice_whole _ _)))).trans (mem_slot s h y)
theorem mem_tile (u : ℕ) (h : u < 2048) (y : S1048576x128.Idx) :
    y ∈ (Rect.unit (s := S1048576x128) (rOff u) S512x128.size (rOff_inb u)).set ↔ (y 0).val / 512 = u := by
  rw [Rect.mem_set_unit]
  have h0 : (y 0).val < 1048576 := (y 0).isLt
  have h1 : (y 1).val < 128 := (y 1).isLt
  constructor
  · intro H; have a0 : 512 * (u % 2048) ≤ (y 0).val ∧ (y 0).val < 512 * (u % 2048) + 512 := H 0; omega
  · intro H i; fin_cases i
    · show 512 * (u % 2048) ≤ (y 0).val ∧ (y 0).val < 512 * (u % 2048) + 512; omega
    · show 0 ≤ (y 1).val ∧ (y 1).val < 0 + 128; omega
theorem mem_eblk (u : ℕ) (h : u < 2048) (y : S1048576x128.Idx) : y ∈ (eblk u).view.set ↔ (y 0).val / 512 = u :=
  (iff_of_eq (congrArg (y ∈ ·) (View.set_slice_whole _ _))).trans (mem_tile u h y)
theorem mem_oblk (u : ℕ) (h : u < 2048) (y : S1048576x128.Idx) : y ∈ (oblk u).view.set ↔ (y 0).val / 512 = u :=
  (iff_of_eq (congrArg (y ∈ ·) (View.set_slice_whole _ _))).trans (mem_tile u h y)
theorem tile_lt (y : S1048576x128.Idx) : (y 0).val / 512 < 2048 := by have : (y 0).val < 1048576 := (y 0).isLt; omega

/-! The gather buffer and the packed table, as the gather slots hold them. -/

theorem range_eights (Φ : ℕ → sProp 𝕄) (n : ℕ) :
    bigSep (Finset.range (8 * n)) Φ = bigSep (Finset.range n) fun u => all8 fun r => Φ (8 * u + r) := by
  induction n with
  | zero => rfl
  | succ n ih =>
    rw [show 8 * (n + 1) = 8 * n + 1 + 1 + 1 + 1 + 1 + 1 + 1 + 1 from by omega, range_succ, range_succ, range_succ, range_succ, range_succ,
      range_succ, range_succ, range_succ, ih, range_succ (fun u => all8 fun r => Φ (8 * u + r)) n]
    refine equiv_iff.mp ⟨show (_ : sProp 𝕄) ⊢ _ from ?_, show (_ : sProp 𝕄) ⊢ _ from ?_⟩
    · iintro ⟨H7, H6, H5, H4, H3, H2, H1, H0, H⟩
      isplitr [H]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      iexact H
    · iintro ⟨⟨H0, H1, H2, H3, H4, H5, H6, H7⟩, H⟩
      isplitl [H7]; · iexact H7
      isplitl [H6]; · iexact H6
      isplitl [H5]; · iexact H5
      isplitl [H4]; · iexact H4
      isplitl [H3]; · iexact H3
      isplitl [H2]; · iexact H2
      isplitl [H1]; · iexact H1
      isplitl [H0]; · iexact H0
      iexact H

theorem rows_split : iprop(∃ f : Buf (Elt F) ((c : Thread nD τ).loc cc0_scratch0), ((c : Thread nD τ).loc cc0_scratch0) ↦{fullShare} f)
    ⊢ (bigSep (Finset.range 256) (rowAny (F := F) c) : sProp 𝕄) :=
  blocks_split (F := F) (ℓ := (c : Thread nD τ).loc cc0_scratch0) 256 (fun j => (qline j).view.set) (fun y : S256x64x128.Idx => (y 0).val) (fun j h y => mem_row j h y) (fun y : S256x64x128.Idx => (y 0).isLt) fullShare
theorem rows_join [∀ e, Nonempty (Elt F e)] : (bigSep (Finset.range 256) (rowAny (F := F) c) : sProp 𝕄)
    ⊢ iprop(∃ f : Buf (Elt F) ((c : Thread nD τ).loc cc0_scratch0), ((c : Thread nD τ).loc cc0_scratch0) ↦{fullShare} f) :=
  blocks_join (F := F) (ℓ := (c : Thread nD τ).loc cc0_scratch0) 256 (fun j => (qline j).view.set) (fun y : S256x64x128.Idx => (y 0).val) (fun j h y => mem_row j h y) (fun y : S256x64x128.Idx => (y 0).isLt) fullShare
theorem eslots_split : iprop(∃ f : Buf (Elt F) ((c : Thread nD τ).loc cc0_scratch1), ((c : Thread nD τ).loc cc0_scratch1) ↦{fullShare} f)
    ⊢ (bigSep (Finset.range 4) (fun s => heldAny (F := F) c (eslot s)) : sProp 𝕄) :=
  blocks_split (F := F) (ℓ := (c : Thread nD τ).loc cc0_scratch1) 4 (fun j => (eslot j).view.set) (fun y : S4x64x8x128.Idx => (y 0).val) (fun j h y => mem_eslot j h y) (fun y : S4x64x8x128.Idx => (y 0).isLt) fullShare
theorem eslots_join [∀ e, Nonempty (Elt F e)] : (bigSep (Finset.range 4) (fun s => heldAny (F := F) c (eslot s)) : sProp 𝕄)
    ⊢ iprop(∃ f : Buf (Elt F) ((c : Thread nD τ).loc cc0_scratch1), ((c : Thread nD τ).loc cc0_scratch1) ↦{fullShare} f) :=
  blocks_join (F := F) (ℓ := (c : Thread nD τ).loc cc0_scratch1) 4 (fun j => (eslot j).view.set) (fun y : S4x64x8x128.Idx => (y 0).val) (fun j h y => mem_eslot j h y) (fun y : S4x64x8x128.Idx => (y 0).isLt) fullShare
theorem oslots_split : iprop(∃ f : Buf (Elt F) ((c : Thread nD τ).loc cc0_scratch2), ((c : Thread nD τ).loc cc0_scratch2) ↦{fullShare} f)
    ⊢ (bigSep (Finset.range 4) (fun s => heldAny (F := F) c (oslot s)) : sProp 𝕄) :=
  blocks_split (F := F) (ℓ := (c : Thread nD τ).loc cc0_scratch2) 4 (fun j => (oslot j).view.set) (fun y : S4x64x8x128.Idx => (y 0).val) (fun j h y => mem_oslot j h y) (fun y : S4x64x8x128.Idx => (y 0).isLt) fullShare
theorem oslots_join [∀ e, Nonempty (Elt F e)] : (bigSep (Finset.range 4) (fun s => heldAny (F := F) c (oslot s)) : sProp 𝕄)
    ⊢ iprop(∃ f : Buf (Elt F) ((c : Thread nD τ).loc cc0_scratch2), ((c : Thread nD τ).loc cc0_scratch2) ↦{fullShare} f) :=
  blocks_join (F := F) (ℓ := (c : Thread nD τ).loc cc0_scratch2) 4 (fun j => (oslot j).view.set) (fun y : S4x64x8x128.Idx => (y 0).val) (fun j h y => mem_oslot j h y) (fun y : S4x64x8x128.Idx => (y 0).isLt) fullShare
theorem etiles_split : iprop(∃ f : Buf (Elt F) ((c : Thread nD τ).loc main_v6_1), ((c : Thread nD τ).loc main_v6_1) ↦{fullShare} f)
    ⊢ (bigSep (Finset.range 2048) (fun u => heldAny (F := F) c (eblk u)) : sProp 𝕄) :=
  blocks_split (F := F) (ℓ := (c : Thread nD τ).loc main_v6_1) 2048 (fun j => (eblk j).view.set) (fun y : S1048576x128.Idx => (y 0).val / 512) (fun j h y => mem_eblk j h y) tile_lt fullShare
theorem etiles_join [∀ e, Nonempty (Elt F e)] : (bigSep (Finset.range 2048) (fun u => heldAny (F := F) c (eblk u)) : sProp 𝕄)
    ⊢ iprop(∃ f : Buf (Elt F) ((c : Thread nD τ).loc main_v6_1), ((c : Thread nD τ).loc main_v6_1) ↦{fullShare} f) :=
  blocks_join (F := F) (ℓ := (c : Thread nD τ).loc main_v6_1) 2048 (fun j => (eblk j).view.set) (fun y : S1048576x128.Idx => (y 0).val / 512) (fun j h y => mem_eblk j h y) tile_lt fullShare
theorem otiles_split : iprop(∃ f : Buf (Elt F) ((c : Thread nD τ).loc main_v6_0), ((c : Thread nD τ).loc main_v6_0) ↦{fullShare} f)
    ⊢ (bigSep (Finset.range 2048) (fun u => heldAny (F := F) c (oblk u)) : sProp 𝕄) :=
  blocks_split (F := F) (ℓ := (c : Thread nD τ).loc main_v6_0) 2048 (fun j => (oblk j).view.set) (fun y : S1048576x128.Idx => (y 0).val / 512) (fun j h y => mem_oblk j h y) tile_lt fullShare
theorem otiles_join [∀ e, Nonempty (Elt F e)] : (bigSep (Finset.range 2048) (fun u => heldAny (F := F) c (oblk u)) : sProp 𝕄)
    ⊢ iprop(∃ f : Buf (Elt F) ((c : Thread nD τ).loc main_v6_0), ((c : Thread nD τ).loc main_v6_0) ↦{fullShare} f) :=
  blocks_join (F := F) (ℓ := (c : Thread nD τ).loc main_v6_0) 2048 (fun j => (oblk j).view.set) (fun y : S1048576x128.Idx => (y 0).val / 512) (fun j h y => mem_oblk j h y) tile_lt fullShare

/-- The packed table whole is one remainder and the 256 read tokens. -/
abbrev wLeft : sProp 𝕄 := wordM.view.loc (c : Thread nD τ) ↦{Transfers.shareDrop fullShare 256} W
theorem toks_eq : bigSep (Finset.range 256) (fun i => (wordM.view.loc (c : Thread nD τ) ↦{Transfers.shareTokN fullShare i} W : sProp 𝕄)) = bigSep (Finset.range 256) (wTok c W) :=
  bigSep_congr fun j hj => by unfold wTok tok; rw [Nat.mod_eq_of_lt (Finset.mem_range.mp hj)]
theorem table_split : (wordM.view.loc (c : Thread nD τ) ↦{fullShare} W : sProp 𝕄) ⊢ iprop(wLeft c W ∗ bigSep (Finset.range 256) (wTok c W)) := by
  rw [← toks_eq]; exact (Transfers.pointsTo_toks_range fullShare 256).1
theorem table_join : iprop(wLeft c W ∗ bigSep (Finset.range 256) (wTok c W)) ⊢ (wordM.view.loc (c : Thread nD τ) ↦{fullShare} W : sProp 𝕄) := by
  rw [← toks_eq]; exact (Transfers.pointsTo_toks_range fullShare 256).2

/-! The kernel's own semaphores. -/

abbrev semN (k : ℕ) : DmaSem sig := if k < 32 then (qcell k).sem else if k < 36 then (ecell (k - 32)).sem else (ocell (k - 36)).sem
abbrev osem : Fin 40 → SemLoc sig := fun k => .dma (semN k.val)
theorem ownSemFacts : Pipeline.OwnSemFacts spec0 osem := by decide
abbrev cellP (s : DmaSem sig) : sProp 𝕄 := semVal ((c : Thread nD τ), SemLoc.dma s) 0
theorem ownSems0_eq : (Pipeline.ownSems0 (Ix := Unit) (Name := ℕ) (U := UU nD τ) (Lvl := ℕ) (Val := Elt F) (τ := τ) osem c : sProp 𝕄)
    = iprop(bigSep (Finset.range 32) (fun u => cellP (F := F) c (qcell u).sem) ∗ bigSep (Finset.range 4) (fun s => cellP (F := F) c (ecell s).sem)
      ∗ bigSep (Finset.range 4) (fun s => cellP (F := F) c (ocell s).sem)) := by
  unfold Pipeline.ownSems0
  rw [← Ring.rangeSet_univ, Ring.bigSep_rangeSet_split (NB := 40) (a := 0) (b := 32) (d := 40) (by omega) (by omega),
    Ring.bigSep_rangeSet_split (NB := 40) (a := 32) (b := 36) (d := 40) (by omega) (by omega),
    Ring.bigSep_rangeSet_eq_range (NB := 40) (lo := 0) (hi := 32) (by omega) (fun k => cellP (F := F) c (semN (0 + k))) (fun _ _ => rfl),
    Ring.bigSep_rangeSet_eq_range (NB := 40) (lo := 32) (hi := 36) (by omega) (fun k => cellP (F := F) c (semN (32 + k))) (fun _ _ => rfl),
    Ring.bigSep_rangeSet_eq_range (NB := 40) (lo := 36) (hi := 40) (by omega) (fun k => cellP (F := F) c (semN (36 + k))) (fun _ _ => rfl),
    (bigSep_congr fun k hk => by have := Finset.mem_range.mp hk; rw [semN, if_pos (by omega), Nat.zero_add] :
      bigSep (Finset.range (32 - 0)) (fun k => cellP (F := F) c (semN (0 + k))) = bigSep (Finset.range 32) (fun u => cellP (F := F) c (qcell u).sem)),
    (bigSep_congr fun k hk => by have := Finset.mem_range.mp hk; rw [semN, if_neg (by omega), if_pos (by omega), Nat.add_sub_cancel_left] :
      bigSep (Finset.range (36 - 32)) (fun k => cellP (F := F) c (semN (32 + k))) = bigSep (Finset.range 4) (fun u => cellP (F := F) c (ecell u).sem)),
    (bigSep_congr fun k hk => by have := Finset.mem_range.mp hk; rw [semN, if_neg (by omega), if_neg (by omega), Nat.add_sub_cancel_left] :
      bigSep (Finset.range (40 - 36)) (fun k => cellP (F := F) c (semN (36 + k))) = bigSep (Finset.range 4) (fun u => cellP (F := F) c (ocell u).sem))]

/-! All of it, at the body's entry and at its end. -/

/-- The gather slots idle, from their semaphores, their rows and their tokens. -/
theorem free_eq : bigSep (Finset.range 32) (freeG (F := F) c W)
    = iprop(bigSep (Finset.range 32) (fun u => cellP (F := F) c (qcell u).sem) ∗ bigSep (Finset.range 256) (rowAny (F := F) c) ∗ bigSep (Finset.range 256) (wTok c W)) := by
  rw [(range_eights (rowAny (F := F) c) 32 : bigSep (Finset.range 256) _ = _), (range_eights (wTok c W) 32 : bigSep (Finset.range 256) _ = _),
    ← bigSep_sep', ← bigSep_sep']
  rfl
theorem idle_eq : bigSep (Finset.range 4) (idleO (F := F) c)
    = iprop(bigSep (Finset.range 4) (fun s => cellP (F := F) c (ecell s).sem) ∗ bigSep (Finset.range 4) (fun s => cellP (F := F) c (ocell s).sem)
      ∗ bigSep (Finset.range 4) (fun s => heldAny (F := F) c (eslot s)) ∗ bigSep (Finset.range 4) (fun s => heldAny (F := F) c (oslot s))) := by
  rw [← bigSep_sep', ← bigSep_sep', ← bigSep_sep']; rfl
theorem fresh_eq : bigSep (Finset.range 2048) (fresh2 (F := F) c)
    = iprop(bigSep (Finset.range 2048) (fun u => heldAny (F := F) c (eblk u)) ∗ bigSep (Finset.range 2048) (fun u => heldAny (F := F) c (oblk u))) := by
  rw [← bigSep_sep']; rfl

end Pieces

end Cert.Proof.RingBits

end
-- ==== Proof.RunBits.lean ====
module

public import proofs.«01_k».proof.Proof.PiecesBits
public import Idealize.ShloMosaic.Lib.Pipeline.FrameSuffixV
public import Idealize.ShloMosaic.Lib.StableHlo.RunRead

/-! One trip of the main loop. -/

@[expose] public section

noncomputable section

namespace Cert.Proof.RingBits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]
local notation "𝕄" => MT nD τ sig Unit (Elt F) ℕ (UU nD τ) ℕ

section Run
variable (m : (ℓ : Loc nD τ sig) → Buf (Elt F) ℓ) (ρ : Dev nD → PrngReg)
variable (X : Dev nD → sProp (MT nD τ sig Unit (Elt F) ℕ (UU nD τ) ℕ))
variable (EOK OOK : Dev nD → ℕ → (S512x128.Idx → Elt F .bf16) → Prop)

/-! What the arrays hold when the kernel is entered. -/

/-- Core `c`'s arrays after the host's lines before the kernel. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)
/-- The ids and the packed table. -/
abbrev idsV (c : Dev nD) : S16384.Idx → Elt F .i32 := V m c main_v3
abbrev tabV (c : Dev nD) : S8000x8192.Idx → Elt F .i32 := V m c main_v2
/-- The ids as the table the pipeline prefetches. -/
def adm : (p : Fin 1) → (pcfgs (F := F) p).Adm := fun _ => ⟨fun k => V m 0 (pre0.ref k), trivial⟩
abbrev cfgA : Cfg sig Λ₀ := Pipeline.pin (pcfgs (F := F)) (adm m) 0

/-- What the kernel holds besides its windows, at its entry and at its end. -/
def ΦIn (c : Dev nD) : sProp 𝕄 := iprop(X c ∗ idsP c (idsV m c) ∗ bigSep (Finset.range 32) (freeG c (tabV m c)) ∗ wLeft c (tabV m c)
  ∗ bigSep (Finset.range 4) (idleO (F := F) c) ∗ bigSep (Finset.range 2048) (fresh2 (F := F) c))
def ΦOut (c : Dev nD) : sProp 𝕄 := iprop(X c ∗ idsP c (idsV m c) ∗ bigSep (Finset.range 32) (freeG c (tabV m c)) ∗ wLeft c (tabV m c)
  ∗ bigSep (Finset.range 4) (idleO (F := F) c) ∗ bigSep (Finset.range 2048) (doneB c (EOK c) (OOK c)))

def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

def dats (_ : Fin 1) (c : Dev nD) : Dat τ (Elt F) Unit ℕ (UU nD τ) ℕ (cfgA m) c where
  A w := V m c (Pipeline.arrRef spec0 w)
  after w t := iblk m c w t
  Φ t := if t.val = 0 then ΦIn m X c else ΦOut m X EOK OOK c
  q _ := fullShare
  owed _ := 0

theorem fetch_all (w : Fin 2) (t : Fin (cfgA m).N) : ((cfgA m).win w).fetch t = true := by
  obtain rfl := fin_N0 t; fin_cases w <;> rfl
theorem before_w (c : Dev nD) (w : Fin 2) (t : Fin (cfgA m).N) (d) : (dats m X EOK OOK 0 c).before w t d = iblk m c w t := by
  unfold Dat.before; rw [if_pos (fetch_all m w t)]; unfold Dat.fetched Dat.blockOf iblk; dsimp only [dats]; fin_cases w <;> rfl
theorem after_w (c : Dev nD) (w : Fin 2) (t : Fin (cfgA m).N) : (dats m X EOK OOK 0 c).after w t = iblk m c w t := by dsimp only [dats]

abbrev st0 (t : Fin (cfgA m).N) : Memref sig .tc .vmem S64x32000 .f32 := spec0_0.stage ((cfgA m).slots t 0)
abbrev st1 (t : Fin (cfgA m).N) : Memref sig .tc .vmem S64x128 .bf16 := spec0_1.stage ((cfgA m).slots t 1)
abbrev hst0 (t : Fin (cfgA m).N) : (st0 m t).IsWhole := hstage0_0 (((cfgA m).slots t 0).cast nbuf0_0)
abbrev hst1 (t : Fin (cfgA m).N) : (st1 m t).IsWhole := hstage0_1 (((cfgA m).slots t 1).cast nbuf0_1)

theorem defs_tc : (defs₀ (F := F)) .tc (cfgA m).body = fun a => cc0_embed_rmsnorm (F := F) (grid0.coords a.1) idM (Memref.isWhole_whole _) wordM (Memref.isWhole_whole _)
    (spec0_0.stage (a.2 0)) (hstage0_0 ((a.2 0).cast nbuf0_0)) (spec0_1.stage (a.2 1)) (hstage0_1 ((a.2 1).cast nbuf0_1))
    outM (Memref.isWhole_whole _) embM (Memref.isWhole_whole _) rowM (Memref.isWhole_whole _) ebM (Memref.isWhole_whole _)
    obM (Memref.isWhole_whole _) cc0_scratch3 cc0_scratch4 cc0_scratch5 := rfl
theorem prog_eq (t : Fin (cfgA m).N) : (defs₀ (F := F)) .tc (cfgA m).body ((cfgA m).bodyArgs t ((cfgA m).slots t))
    = cc0_embed_rmsnorm (F := F) (grid0.coords t) idM (Memref.isWhole_whole _) wordM (Memref.isWhole_whole _) (st0 m t) (hst0 m t) (st1 m t) (hst1 m t)
    outM (Memref.isWhole_whole _) embM (Memref.isWhole_whole _) rowM (Memref.isWhole_whole _) ebM (Memref.isWhole_whole _)
    obM (Memref.isWhole_whole _) cc0_scratch3 cc0_scratch4 cc0_scratch5 := (congrFun (defs_tc m) _).trans rfl

set_option backward.isDefEq.respectTransparency.types false in
theorem body_obligation [∀ e, Nonempty (Elt F e)] (hok : ∀ c, Okay (idsV m c) (EOK c) (OOK c)) (c : Dev nD) :
    BodyObligation (dats m X EOK OOK 0 c) (defs₀ (F := F)) 𝒱₀ () Set.univ := fun t => by
  rw [bigSep_W0, bigSep_W0]
  dsimp only
  simp only [before_w, after_w]
  have ht : t.val = 0 := by rw [fin_N0 t]; rfl
  have e0 : (dats m X EOK OOK 0 c).Φ t.castSucc = ΦIn m X c := if_pos ht
  have e1 : (dats m X EOK OOK 0 c).Φ t.succ = ΦOut m X EOK OOK c := if_neg (t := ΦIn m X c) (show ¬ t.succ.val = 0 from Nat.succ_ne_zero t.val)
  rw [e0, e1]
  unfold Dat.owesAt Pipeline.owesWithin
  rw [show (dats m X EOK OOK 0 c).owed t.castSucc = 0 from rfl, show (dats m X EOK OOK 0 c).owed t.succ = 0 from rfl]
  unfold owns ΦIn ΦOut
  iintro ⟨⟨HX, HI, HF, HL, HD, HN⟩, ⟨%o, -, HW⟩, ⟨%d0, %g0, %hg0, H0⟩, ⟨%d1, %g1, %hg1, H1⟩⟩
  sl_rw [prog_eq m t]
  iapply (wp_wand_r frame _ Set.univ (Q := fun _ => bodyOut c (idsV m c) (tabV m c) (st0 m t) (st1 m t) g0 g1 (EOK c) (OOK c)))
  isplitl [HI HF HD HN HW H0 H1]
  · iapply (body_run c (idsV m c) (tabV m c) (st0 m t) (hst0 m t) (st1 m t) (hst1 m t) (grid0.coords t) g0 g1 (EOK c) (OOK c) (hok c))
    unfold bodyIn
    isplitl [HI]; · iexact HI
    isplitl [HF]; · iexact HF
    isplitl [HW]; · iexists o; iexact HW
    isplitl [H0]; · iexact H0
    isplitl [H1]; · iexact H1
    isplitl [HD]; · iexact HD
    iexact HN
  iintro %x HB
  unfold bodyOut
  icases HB with ⟨HI, HF, ⟨%o', HW⟩, H0, H1, HD, HN⟩
  isplitl [HX HI HF HL HD HN]
  · isplitl [HX]; · iexact HX
    isplitl [HI]; · iexact HI
    isplitl [HF]; · iexact HF
    isplitl [HL]; · iexact HL
    isplitl [HD]; · iexact HD
    iexact HN
  isplitl [HW]
  · iexists o'; isplitr; · ipureintro; exact fun _ _ => Or.inl trivial
    iexact HW
  isplitl [H0]
  · iexists g0; isplitr; · ipureintro; exact hg0
    iexact H0
  iexists g1; isplitr; · ipureintro; exact hg1
  iexact H1

/-! Into the body and out of it. -/

theorem enter (c : Dev nD) (W : S8000x8192.Idx → Elt F .i32) :
    iprop(Pipeline.scopedRest (Ix := Unit) (Name := ℕ) (U := UU nD τ) (Lvl := ℕ) (Val := Elt F) spec0 c
      ∗ Pipeline.ownSems0 (Ix := Unit) (Name := ℕ) (U := UU nD τ) (Lvl := ℕ) (Val := Elt F) (τ := τ) osem c
      ∗ (wordM.view.loc (c : Thread nD τ) ↦{fullShare} W)
      ∗ (∃ f : Buf (Elt F) ((c : Thread nD τ).loc main_v6_0), ((c : Thread nD τ).loc main_v6_0) ↦{fullShare} f)
      ∗ (∃ f : Buf (Elt F) ((c : Thread nD τ).loc main_v6_1), ((c : Thread nD τ).loc main_v6_1) ↦{fullShare} f))
      ⊢ (iprop(bigSep (Finset.range 32) (freeG c W) ∗ wLeft c W ∗ bigSep (Finset.range 4) (idleO (F := F) c)
        ∗ bigSep (Finset.range 2048) (fresh2 (F := F) c)) : sProp 𝕄) := by
  rw [scopedRest0_eq, ownSems0_eq, free_eq, idle_eq, fresh_eq]
  iintro ⟨⟨HR, HE, HO⟩, ⟨HQ, HCE, HCO⟩, HW, HBO, HBE⟩
  ihave HR := (rows_split (F := F) c) $$ HR
  ihave HE := (eslots_split (F := F) c) $$ HE
  ihave HO := (oslots_split (F := F) c) $$ HO
  ihave HBO := (otiles_split (F := F) c) $$ HBO
  ihave HBE := (etiles_split (F := F) c) $$ HBE
  ihave HW := (table_split c W) $$ HW
  icases HW with ⟨HL, HT⟩
  isplitl [HQ HR HT]
  · isplitl [HQ]; · iexact HQ
    isplitl [HR]; · iexact HR
    iexact HT
  isplitl [HL]; · iexact HL
  isplitl [HCE HCO HE HO]
  · isplitl [HCE]; · iexact HCE
    isplitl [HCO]; · iexact HCO
    isplitl [HE]; · iexact HE
    iexact HO
  isplitl [HBE]; · iexact HBE
  iexact HBO
theorem leave [∀ e, Nonempty (Elt F e)] (c : Dev nD) (W : S8000x8192.Idx → Elt F .i32) :
    iprop(bigSep (Finset.range 32) (freeG c W) ∗ wLeft c W ∗ bigSep (Finset.range 4) (idleO (F := F) c))
      ⊢ (iprop(Pipeline.scopedRest (Ix := Unit) (Name := ℕ) (U := UU nD τ) (Lvl := ℕ) (Val := Elt F) spec0 c
      ∗ Pipeline.ownSems0 (Ix := Unit) (Name := ℕ) (U := UU nD τ) (Lvl := ℕ) (Val := Elt F) (τ := τ) osem c
      ∗ (wordM.view.loc (c : Thread nD τ) ↦{fullShare} W)) : sProp 𝕄) := by
  rw [scopedRest0_eq, ownSems0_eq, free_eq, idle_eq]
  iintro ⟨⟨HQ, HR, HT⟩, HL, HCE, HCO, HE, HO⟩
  isplitl [HR HE HO]
  · isplitl [HR]; · iapply (rows_join (F := F) c); iexact HR
    isplitl [HE]; · iapply (eslots_join (F := F) c); iexact HE
    iapply (oslots_join (F := F) c); iexact HO
  isplitl [HQ HCE HCO]
  · isplitl [HQ]; · iexact HQ
    isplitl [HCE]; · iexact HCE
    iexact HCO
  iapply (table_join c W)
  isplitl [HL]; · iexact HL
  iexact HT

/-! The host's lines around the kernel. -/

theorem pre_fresh : (hostOps0 : List (HloOp τ sig (Elt F))).Forall fun op => op.fresh = ∅ := ⟨rfl, rfl, rfl, rfl, rfl, rfl⟩
theorem hmain : Pipeline.HMainPK (Ix := Unit) (Name := ℕ) (U := UU nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact pre_fresh) main_chain
theorem sfx_sub : ∀ ops ∈ ([hostOps1] : List (List (HloOp τ sig (Elt F)))), ∀ op ∈ ops, op.bufs ⊆ Pipeline.tailRefs sig pre0 spec0 := by
  intro ops hops op hop
  simp only [List.mem_cons, List.mem_nil_iff, _root_.or_false] at hops
  rcases hops with rfl
  refine Pipeline.sub_tailRefs pre0 spec0 op ((List.forall_iff_forall_mem.mp hostOps1_sub) op hop) ?_
  simp only [hostOps1, List.mem_cons, List.mem_nil_iff, _root_.or_false] at hop
  rcases hop with rfl | rfl | rfl | rfl | rfl | rfl
  all_goals intro j; fin_cases j <;> simp only [StableHlo.reshape_bufs, StableHlo.unary_bufs, Finset.mem_insert, Finset.mem_singleton, not_or] <;> and_intros <;> exact StableHlo.devRef_ne_of_ne (by decide)
theorem sfx_fresh : ∀ ops ∈ ([hostOps1] : List (List (HloOp τ sig (Elt F)))), ∀ op ∈ ops, op.fresh = ∅ := by
  intro ops hops op hop
  simp only [List.mem_cons, List.mem_nil_iff, _root_.or_false] at hops
  rcases hops with rfl
  simp only [hostOps1, List.mem_cons, List.mem_nil_iff, _root_.or_false] at hop
  rcases hop with rfl | rfl | rfl | rfl | rfl | rfl <;> rfl
theorem sfx_keeps : ∀ ops ∈ ([hostOps1] : List (List (HloOp τ sig (Elt F)))), ∀ op ∈ ops, ∀ w, Proc.devRef .tc (Pipeline.arrRef spec0 w) ∉ op.writes := by
  intro ops hops op hop
  simp only [List.mem_cons, List.mem_nil_iff, _root_.or_false] at hops
  rcases hops with rfl
  simp only [hostOps1, List.mem_cons, List.mem_nil_iff, _root_.or_false] at hop
  rcases hop with rfl | rfl | rfl | rfl | rfl | rfl
  all_goals intro w; fin_cases w <;> simp only [StableHlo.reshape_writes, StableHlo.unary_writes, Finset.mem_singleton] <;> exact StableHlo.devRef_ne_of_ne (by decide)

/-! The run. -/

/-- The packed table the kernel reads, the two results it writes, and what the host's lines after it write. -/
abbrev Hs : Finset (Ref sig .tc) := {main_v2}
abbrev Rs : Finset (Ref sig .tc) := {main_v6_0, main_v6_1}
abbrev Ts : Finset (Ref sig .tc) := {main_v7, main_v8, main_v9, main_v10, main_v11, main_v12}
theorem sfx_writes : ∀ ops ∈ ([hostOps1] : List (List (HloOp τ sig (Elt F)))), ∀ op ∈ ops, ∀ b : Ref sig .tc, Proc.devRef .tc b ∈ op.writes → b ∈ Ts := by
  intro ops hops op hop
  simp only [List.mem_cons, List.mem_nil_iff, _root_.or_false] at hops
  rcases hops with rfl
  simp only [hostOps1, List.mem_cons, List.mem_nil_iff, _root_.or_false] at hop
  rcases hop with rfl | rfl | rfl | rfl | rfl | rfl
  all_goals
    intro b hb
    simp only [StableHlo.reshape_writes, StableHlo.unary_writes, Finset.mem_singleton] at hb
    rw [Proc.devRef_injective _ hb]; decide
theorem Hs_sub : Hs ⊆ Pipeline.restRefsP sig pre0 spec0 := by decide
theorem Rs_sub : Rs ⊆ Pipeline.restRefsP sig pre0 spec0 \ Hs := by decide
theorem arg0_rest : main_arg0 ∈ Pipeline.restRefs sig spec0 \ (Rs ∪ Ts) := by decide
theorem arg1_rest : main_arg1 ∈ Pipeline.restRefs sig spec0 \ (Rs ∪ Ts) := by decide
theorem arg2_rest : main_arg2 ∈ Pipeline.restRefs sig spec0 \ (Rs ∪ Ts) := by decide
theorem arg3_rest : main_arg3 ∈ Pipeline.restRefs sig spec0 \ (Rs ∪ Ts) := by decide
theorem V_arg (c : Dev nD) (b : Ref sig .tc) (h : b ∉ [main_v0, main_v1, main_v2, main_v3, main_v4, main_v5]) :
    V m c b = m ((c : Thread nD τ).loc b) :=
  StableHlo.after_unwritten (ops := hostOps0) [main_v0, main_v1, main_v2, main_v3, main_v4, main_v5] rfl h _
theorem idsV_eq (c : Dev nD) : idsV m c = shapeCast S16384 (m ((c : Thread nD τ).loc main_arg0)) shapeCasts_S4x4096_S16384 := rfl
theorem ids_lt (h : ∀ (c : Dev nD) j, (m ((c : Thread nD τ).loc main_arg0) j).toNat < 32000) (c : Dev nD) (x : S16384.Idx) : (idsV m c x).toNat < 32000 := by
  rw [idsV_eq]; exact h c _

abbrev prngX (c : Dev nD) : sProp 𝕄 := iprop(∃ r, prngReg c r)
abbrev someOK : Dev nD → ℕ → (S512x128.Idx → Elt F .bf16) → Prop := fun _ _ _ => True

theorem fin_of (c : Dev nD) : bigSep Finset.univ (fun k : Fin 1 => (((c : Thread nD τ).loc (pre0.ref k)) ↦{fullShare.right} (adm m 0).1 k : sProp 𝕄)) ⊢ idsP c (idsV m c) := by
  obtain rfl : c = 0 := Subsingleton.elim _ _
  rw [show (Finset.univ : Finset (Fin 1)) = {0} from rfl, bigSep_singleton]
  exact Entails.of_eq rfl

theorem enterΦ (c : Dev nD) : iprop(Pipeline.ΦDR osem spec0 Hs Rs (V m) c ∗ Pipeline.ΦT pre0 (adm m 0).1 c) ⊢ (dats m prngX someOK someOK 0 c).Φ 0 := by
  rw [show (dats m prngX someOK someOK 0 c).Φ 0 = ΦIn m prngX c from rfl]
  unfold Pipeline.ΦDR Pipeline.ΦD Pipeline.owned ΦIn Pipeline.ΦT Pipeline.prefHeld
  rw [bigSep_singleton, show (Rs : Finset (Ref sig .tc)) = insert main_v6_0 {main_v6_1} from rfl, bigSep_insert (by decide), bigSep_singleton]
  iintro ⟨⟨⟨HS, HX, HO, HW⟩, HB⟩, HT⟩
  ihave HB := (show (_ : sProp 𝕄) ⊢ iprop((∃ f, ((c : Thread nD τ).loc main_v6_0) ↦{fullShare} f) ∗ (∃ f, ((c : Thread nD τ).loc main_v6_1) ↦{fullShare} f)) from .rfl) $$ HB
  icases HB with ⟨HB0, HB1⟩
  ihave HE := (enter c (tabV m c)) $$ [HS HO HW HB0 HB1]
  · isplitl [HS]; · iexact HS
    isplitl [HO]; · iexact HO
    isplitl [HW]; · iexact HW
    isplitl [HB0]; · iexact HB0
    iexact HB1
  icases HE with ⟨HF, HL, HD, HN⟩
  isplitl [HX]; · iexact HX
  isplitl [HT]; · iapply (fin_of m c); iexact HT
  isplitl [HF]; · iexact HF
  isplitl [HL]; · iexact HL
  isplitl [HD]; · iexact HD
  iexact HN
theorem doneB_any (c : Dev nD) (E O : ℕ → (S512x128.Idx → Elt F .bf16) → Prop) : bigSep (Finset.range 2048) (doneB c E O) ⊢ bigSep (Finset.range 2048) (fresh2 (F := F) c) :=
  BI.bigSep_mono fun u _ => show doneB c E O u ⊢ fresh2 (F := F) c u from by
    unfold doneB fresh2 doneAt fresh
    iintro ⟨⟨%f, H, -⟩, %g, HG, -⟩
    isplitl [H]; · iexists f; iexact H
    iexists g; iexact HG
theorem leaveΦ [∀ e, Nonempty (Elt F e)] (c : Dev nD) : (dats m prngX someOK someOK 0 c).Φ (Fin.last (cfgA m).N) ⊢ Pipeline.ΦDR osem spec0 Hs Rs (V m) c := by
  have e1 : (dats m prngX someOK someOK 0 c).Φ (Fin.last (cfgA m).N) = ΦOut m prngX someOK someOK c := if_neg (t := ΦIn m prngX c) (show ¬ (cfgA m).N = 0 by rw [show (cfgA m).N = 1 from N_0]; decide)
  rw [e1]
  unfold Pipeline.ΦDR Pipeline.ΦD Pipeline.owned ΦOut
  rw [bigSep_singleton, bigSep_insert (by decide), bigSep_singleton]
  iintro ⟨HX, -, HF, HL, HD, HN⟩
  ihave HN := (doneB_any c (someOK c) (someOK c)) $$ HN
  ihave HN := (Entails.of_eq (fresh_eq (F := F) c)) $$ HN
  icases HN with ⟨HBE, HBO⟩
  ihave HE := (leave c (tabV m c)) $$ [HF HL HD]
  · isplitl [HF]; · iexact HF
    isplitl [HL]; · iexact HL
    iexact HD
  icases HE with ⟨HS, HO, HW⟩
  isplitl [HS HX HO HW]
  · isplitl [HS]; · iexact HS
    isplitl [HX]; · iexact HX
    isplitl [HO]; · iexact HO
    iexact HW
  iapply (show iprop((∃ f, ((c : Thread nD τ).loc main_v6_0) ↦{fullShare} f) ∗ (∃ f, ((c : Thread nD τ).loc main_v6_1) ↦{fullShare} f)) ⊢ (_ : sProp 𝕄) from .rfl)
  isplitl [HBO]; · iapply (otiles_join (F := F) c); iexact HBO
  iapply (etiles_join (F := F) c); iexact HBE

/-- Every run ends, with the arguments as they were and every semaphore at zero. -/
theorem run_frame [∀ e, Nonempty (Elt F e)] (h : ∀ (c : Dev nD) j, (m ((c : Thread nD τ).loc main_arg0) j).toNat < 32000) :
    θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  Pipeline.θ_run_frameP_dmaR_around pcfgs (adm m) (dats m prngX someOK someOK) 0 launch0 osem defs₀ 𝒱₀ ownSemFacts Hs Rs Ts Hs_sub Rs_sub m ρ main
    (fun c => (body_obligation m prngX someOK someOK (fun c => ⟨ids_lt m h c, fun _ _ => trivial, fun _ _ => trivial⟩) c).loose)
    (fun c => (dats m prngX someOK someOK 0 c).share_full fun _ => rfl) (fun _ _ => rfl) (V0 m) [hostOps1] sfx_sub sfx_fresh sfx_keeps sfx_writes
    (hmain m) (fun _ _ => rfl) (fun c k => by obtain rfl : c = 0 := Subsingleton.elim _ _; rfl) (enterΦ m) (leaveΦ m) _
    (fun r hr => ⟨fun c => ⟨((hr.1 c).2 main_arg0 arg0_rest).trans (V_arg m c main_arg0 (by decide)), ((hr.1 c).2 main_arg1 arg1_rest).trans (V_arg m c main_arg1 (by decide)),
      ((hr.1 c).2 main_arg2 arg2_rest).trans (V_arg m c main_arg2 (by decide)), ((hr.1 c).2 main_arg3 arg3_rest).trans (V_arg m c main_arg3 (by decide))⟩, hr.2⟩)

end Run
end Cert.Proof.RingBits
end
-- ==== Proof.RunV.lean ====
module

public import proofs.«01_k».proof.Proof.Run
public import Idealize.ShloMosaic.Lib.Pipeline.FrameSuffixV
public import Idealize.ShloMosaic.Lib.StableHlo.RunRead

/-! What the two result arrays hold when the kernel ends. -/

@[expose] public section

noncomputable section

namespace Cert.Proof.RingIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Join
variable {ℓ : Loc nD τ sig} (n : ℕ) (I : ℕ → Finset (Idx ℓ)) (own : Idx ℓ → ℕ)
/-- Blocks that agree with one array's contents join to it at those contents. -/
theorem blocks_join_at (hm : ∀ j, j < n → ∀ y, y ∈ I j ↔ own y = j) (hb : ∀ y, own y < n) (q : PosShare TreeShare) (g : Buf (Elt F) ℓ)
    (Φ : ℕ → sProp 𝕄) (h : ∀ j, j < n → Φ j ⊢ iprop(∃ f : Buf (Elt F) ℓ, (ℓ ↦[I j]{q} f) ∗ ⌜∀ y ∈ I j, f y = g y⌝)) :
    bigSep (Finset.range n) Φ ⊢ (ℓ ↦{q} g : sProp 𝕄) := by
  rw [blocks_eq (F := F) n I own hm hb q g]
  refine BI.bigSep_mono fun j hj => (h j (Finset.mem_range.1 hj)).trans ?_
  iintro ⟨%f, H, %hf⟩
  exact (Entails.of_eq (show (ℓ ↦[I j]{q} f : sProp 𝕄) = ℓ ↦[I j]{q} g from pointsTo_congr hf))
end Join

section RunV
variable (m : (ℓ : Loc nD τ sig) → Buf (Elt F) ℓ) (ρ : Dev nD → PrngReg)
/-- Row `x` of a result belongs to tile `x / 512`. -/
def inTile (y : S1048576x128.Idx) : S512x128.Idx :=
  Fin.cons ⟨(y 0).val % 512, Nat.mod_lt _ (by decide)⟩ (Fin.cons ⟨(y 1).val, (y 1).isLt⟩ finZeroElim)
def whole (E : ℕ → S512x128.Idx → Elt F .bf16) : S1048576x128.Idx → Elt F .bf16 := fun y => E ((y 0).val / 512) (inTile y)
theorem tile_emb (u : ℕ) (hu : u < 2048) (inb) (x : S512x128.Idx) :
    inTile ((Rect.unit (s := S1048576x128) (rOff u) S512x128.size inb).emb x) = x ∧ ((Rect.unit (s := S1048576x128) (rOff u) S512x128.size inb).emb x 0).val / 512 = u := by
  have h0 : (x 0).val < 512 := (x 0).isLt
  have e0 : ((Rect.unit (s := S1048576x128) (rOff u) S512x128.size inb).emb x 0).val = 512 * (u % 2048) + 1 * (x 0).val := Rect.emb_apply _ _ _
  have e1 : ((Rect.unit (s := S1048576x128) (rOff u) S512x128.size inb).emb x 1).val = 0 + 1 * (x 1).val := Rect.emb_apply _ _ _
  refine ⟨?_, by rw [e0]; omega⟩
  funext a; apply Fin.ext
  fin_cases a
  · show _ % 512 = (x 0).val; rw [e0]; omega
  · exact e1.trans ((Nat.zero_add _).trans (Nat.one_mul _))
theorem etiles_at (c : Dev nD) (E : ℕ → S512x128.Idx → Elt F .bf16) :
    bigSep (Finset.range 2048) (fun u => doneAt c (eblk u) (fun e => e = E u)) ⊢ ((c : Thread nD τ).loc main_v6_1 ↦{fullShare} (whole E) : sProp 𝕄) := by
  refine blocks_join_at (F := F) (ℓ := (c : Thread nD τ).loc main_v6_1) 2048 (fun j => (eblk j).view.set) (fun y : S1048576x128.Idx => (y 0).val / 512) (fun j h y => mem_eblk j h y) tile_lt fullShare (whole E) _ fun j hj => ?_
  unfold doneAt
  iintro ⟨%f, H, %hf⟩
  iexists f
  isplitl [H]; · iexact H
  ipureintro
  intro y hy
  obtain ⟨x, -, rfl⟩ := Finset.mem_map.1 hy
  have ht := tile_emb j hj (rOff_inb j) x
  refine (congrFun hf x).trans ?_
  show E j x = E (((Rect.unit (s := S1048576x128) (rOff j) S512x128.size (rOff_inb j)).emb x 0).val / 512) (inTile ((Rect.unit (s := S1048576x128) (rOff j) S512x128.size (rOff_inb j)).emb x))
  rw [ht.1, ht.2]
theorem otiles_at (c : Dev nD) (E : ℕ → S512x128.Idx → Elt F .bf16) :
    bigSep (Finset.range 2048) (fun u => doneAt c (oblk u) (fun e => e = E u)) ⊢ ((c : Thread nD τ).loc main_v6_0 ↦{fullShare} (whole E) : sProp 𝕄) := by
  refine blocks_join_at (F := F) (ℓ := (c : Thread nD τ).loc main_v6_0) 2048 (fun j => (oblk j).view.set) (fun y : S1048576x128.Idx => (y 0).val / 512) (fun j h y => mem_oblk j h y) tile_lt fullShare (whole E) _ fun j hj => ?_
  unfold doneAt
  iintro ⟨%f, H, %hf⟩
  iexists f
  isplitl [H]; · iexact H
  ipureintro
  intro y hy
  obtain ⟨x, -, rfl⟩ := Finset.mem_map.1 hy
  have ht := tile_emb j hj (rOff_inb j) x
  refine (congrFun hf x).trans ?_
  show E j x = E (((Rect.unit (s := S1048576x128) (rOff j) S512x128.size (rOff_inb j)).emb x 0).val / 512) (inTile ((Rect.unit (s := S1048576x128) (rOff j) S512x128.size (rOff_inb j)).emb x))
  rw [ht.1, ht.2]

variable (h : ∀ (c : Dev nD) j, (m ((c : Thread nD τ).loc main_arg0) j).toNat < 32000)
def embV (c : Dev nD) (u : ℕ) : S512x128.Idx → Elt F .bf16 := embRows c (idsV m c) (tabV m c) (scV m c) (ids_lt m h c) u
def outV (c : Dev nD) (u : ℕ) : S512x128.Idx → Elt F .bf16 := outRows c (idsV m c) (tabV m c) (scV m c) (nwV m c) (ids_lt m h c) u
abbrev isE (c : Dev nD) (u : ℕ) (e : S512x128.Idx → Elt F .bf16) : Prop := e = embV m h c u
abbrev isO (c : Dev nD) (u : ℕ) (e : S512x128.Idx → Elt F .bf16) : Prop := e = outV m h c u
/-- The arrays' contents after the kernel: the two results rewritten. -/
def Gv (c : Dev nD) (b : Ref sig .tc) : Buf (Elt F) ((c : Thread nD τ).loc b) :=
  if h0 : b = main_v6_0 then h0 ▸ whole (outV m h c) else if h1 : b = main_v6_1 then h1 ▸ whole (embV m h c) else V m c b
theorem Gv0 (c : Dev nD) : Gv m h c main_v6_0 = whole (outV m h c) := by unfold Gv; rw [dif_pos rfl]
theorem Gv1 (c : Dev nD) : Gv m h c main_v6_1 = whole (embV m h c) := by unfold Gv; rw [dif_neg (by decide), dif_pos rfl]

abbrev noX (_ : Dev nD) : sProp 𝕄 := iprop(emp)
theorem enterV (c : Dev nD) : iprop(Pipeline.ΦDRV osem spec0 Hs Rs (V m) (V m) c ∗ Pipeline.ΦT pre0 (adm m 0).1 c) ⊢ (dats m noX (isE m h) (isO m h) 0 c).Φ 0 := by
  rw [show (dats m noX (isE m h) (isO m h) 0 c).Φ 0 = ΦIn m noX c from rfl]
  unfold Pipeline.ΦDRV ΦIn Pipeline.ΦT Pipeline.prefHeld
  rw [bigSep_singleton, show (Rs : Finset (Ref sig .tc)) = insert main_v6_0 {main_v6_1} from rfl, bigSep_insert (by decide), bigSep_singleton]
  iintro ⟨⟨HS, HO, HW, HB⟩, HT⟩
  ihave HB := (show (_ : sProp 𝕄) ⊢ iprop((((c : Thread nD τ).loc main_v6_0) ↦{fullShare} V m c main_v6_0) ∗ (((c : Thread nD τ).loc main_v6_1) ↦{fullShare} V m c main_v6_1)) from .rfl) $$ HB
  icases HB with ⟨HB0, HB1⟩
  ihave HE := (enter c (tabV m c)) $$ [HS HO HW HB0 HB1]
  · isplitl [HS]; · iexact HS
    isplitl [HO]; · iexact HO
    isplitl [HW]; · iexact HW
    isplitl [HB0]; · iexists _; iexact HB0
    iexists _; iexact HB1
  icases HE with ⟨HF, HL, HD, HN⟩
  isplitr; · iempintro
  isplitl [HT]; · iapply (fin_of m c); iexact HT
  isplitl [HF]; · iexact HF
  isplitl [HL]; · iexact HL
  isplitl [HD]; · iexact HD
  iexact HN
theorem done_split (c : Dev nD) (E O : ℕ → (S512x128.Idx → Elt F .bf16) → Prop) : bigSep (Finset.range 2048) (doneB c E O)
    ⊢ iprop(bigSep (Finset.range 2048) (fun u => doneAt c (eblk u) (E u)) ∗ bigSep (Finset.range 2048) (fun u => doneAt c (oblk u) (O u))) :=
  Entails.of_eq (bigSep_sep _ _ _)
theorem leaveV [∀ e, Nonempty (Elt F e)] (c : Dev nD) : (dats m noX (isE m h) (isO m h) 0 c).Φ (Fin.last (cfgA m).N) ⊢ Pipeline.ΦDRV osem spec0 Hs Rs (V m) (Gv m h) c := by
  have e1 : (dats m noX (isE m h) (isO m h) 0 c).Φ (Fin.last (cfgA m).N) = ΦOut m noX (isE m h) (isO m h) c := if_neg (t := ΦIn m noX c) (show ¬ (cfgA m).N = 0 by rw [show (cfgA m).N = 1 from N_0]; decide)
  rw [e1]
  unfold Pipeline.ΦDRV ΦOut
  rw [bigSep_singleton, bigSep_insert (by decide), bigSep_singleton, Gv0, Gv1]
  iintro ⟨HX, -, HF, HL, HD, HN⟩
  ihave HN := (done_split c (isE m h c) (isO m h c)) $$ HN
  icases HN with ⟨HBE, HBO⟩
  ihave HE := (leave c (tabV m c)) $$ [HF HL HD]
  · isplitl [HF]; · iexact HF
    isplitl [HL]; · iexact HL
    iexact HD
  icases HE with ⟨HS, HO, HW⟩
  isplitl [HS]; · iexact HS
  isplitl [HO]; · iexact HO
  isplitl [HW]; · iexact HW
  iapply (show iprop((((c : Thread nD τ).loc main_v6_0) ↦{fullShare} whole (outV m h c)) ∗ (((c : Thread nD τ).loc main_v6_1) ↦{fullShare} whole (embV m h c))) ⊢ (_ : sProp 𝕄) from .rfl)
  isplitl [HBO]; · iapply (otiles_at c (outV m h c)); iexact HBO
  iapply (etiles_at c (embV m h c)); iexact HBE

theorem Rs_sub' : Rs ⊆ Pipeline.restRefsP sig pre0 spec0 \ Hs := Rs_sub
theorem v9_rest : main_v9 ∈ Pipeline.restRefsP sig pre0 spec0 := by decide
theorem v12_rest : main_v12 ∈ Pipeline.restRefsP sig pre0 spec0 := by decide
/-- What the buffers hold after the whole run: the host's last lines over the kernel's results. -/
def fin (c : Dev nD) : Valuation τ sig (Elt F) :=
  StableHlo.after (List.flatten [hostOps1]) (Pipeline.withArrays spec0 c (Pipeline.withR (V0 m c) Rs c (Gv m h c)) fun w => (dats m noX (isE m h) (isO m h) 0 c).arrAt w (cfgA m).N)
theorem run_val [∀ e, Nonempty (Elt F e)] :
    θ_run (defs (F := F)) (onTc (τ := τ) (main (F := F))) ⟨m, fun _ => 0, ρ⟩ (fun r => ∀ c : Dev nD, ∀ b ∈ Pipeline.restRefsP sig pre0 spec0,
      r.2.mem ((c : Thread nD τ).loc b) = fin m h c (Proc.devRef .tc b)) :=
  Pipeline.θ_run_frameP_dmaR_aroundV pcfgs (adm m) (dats m noX (isE m h) (isO m h)) 0 launch0 osem defs₀ 𝒱₀ ownSemFacts Hs Rs Hs_sub Rs_sub m ρ main
    (fun c => (body_obligation m noX (isE m h) (isO m h) (fun c => ⟨ids_lt m h c, fun _ _ => rfl, fun _ _ => rfl⟩) c).loose)
    (fun c => (dats m noX (isE m h) (isO m h) 0 c).share_full fun _ => rfl) (fun _ _ => rfl) (V0 m) [hostOps1] sfx_sub sfx_fresh sfx_keeps (Gv m h)
    (hmain m) (fun _ _ => rfl) (fun c k => by obtain rfl : c = 0 := Subsingleton.elim _ _; rfl) (enterV m h) (leaveV m h) _
    (fun r hr c b hb => (hr.1 c).2 b hb)
end RunV
end Cert.Proof.RingIdeal
end
-- ==== Proof.Point.lean ====
module

public import proofs.«01_k».proof.Proof.Vals
public import Idealize.ShloMosaic.Lib.BitcastFour
public import Idealize.ShloMosaic.Lib.Pointwise.ElementwiseCore
public import Idealize.ShloMosaic.Lib.Pointwise.ShapeOpsCore
public import Idealize.ShloMosaic.Lib.Pointwise.Reshape

/-! The kernel's stored values element by element. -/

@[expose] public section

noncomputable section

namespace Cert.Proof.RingIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Point
/-! Indices by their coordinates. -/
def at8 (a b : ℕ) : S8x128.Idx := Fin.cons ⟨a % 8, Nat.mod_lt _ (by decide)⟩ (Fin.cons ⟨b % 128, Nat.mod_lt _ (by decide)⟩ finZeroElim)
def at16 (a b : ℕ) : S16x128.Idx := Fin.cons ⟨a % 16, Nat.mod_lt _ (by decide)⟩ (Fin.cons ⟨b % 128, Nat.mod_lt _ (by decide)⟩ finZeroElim)
def at32 (a b : ℕ) : S32x128.Idx := Fin.cons ⟨a % 32, Nat.mod_lt _ (by decide)⟩ (Fin.cons ⟨b % 128, Nat.mod_lt _ (by decide)⟩ finZeroElim)

theorem lt8 (j : S8x128.Idx) : (j 0).val < 8 ∧ (j 1).val < 128 := ⟨(j 0).isLt, (j 1).isLt⟩
theorem lt16 (j : S16x128.Idx) : (j 0).val < 16 ∧ (j 1).val < 128 := ⟨(j 0).isLt, (j 1).isLt⟩
theorem eq8 {x y : S8x128.Idx} (h0 : (x 0).val = (y 0).val) (h1 : (x 1).val = (y 1).val) : x = y := by
  funext a; apply Fin.ext; fin_cases a; exact h0; exact h1
theorem eq16 {x y : S16x128.Idx} (h0 : (x 0).val = (y 0).val) (h1 : (x 1).val = (y 1).val) : x = y := by
  funext a; apply Fin.ext; fin_cases a; exact h0; exact h1
theorem eq32 {x y : S32x128.Idx} (h0 : (x 0).val = (y 0).val) (h1 : (x 1).val = (y 1).val) : x = y := by
  funext a; apply Fin.ext; fin_cases a; exact h0; exact h1

theorem cat_bit (a b c d : BitVec 8) (q : ℕ) (hq : q < 8) :
    (d ++ c ++ b ++ a).getLsbD q = a.getLsbD q ∧ (d ++ c ++ b ++ a).getLsbD (8 + q) = b.getLsbD q ∧
    (d ++ c ++ b ++ a).getLsbD (16 + q) = c.getLsbD q ∧ (d ++ c ++ b ++ a).getLsbD (24 + q) = d.getLsbD q := by
  simp only [BitVec.getLsbD_append]
  refine ⟨if_pos hq, ?_, ?_, ?_⟩
  · rw [if_neg (by omega), if_pos (by omega), show 8 + q - 8 = q by omega]
  · rw [if_neg (by omega), if_neg (by omega), if_pos (by omega), show 16 + q - 8 - 8 = q by omega]
  · rw [if_neg (by omega), if_neg (by omega), if_neg (by omega), show 24 + q - 8 - 8 - 8 = q by omega]
theorem low_bit (x : BitVec 32) (q : ℕ) (hq : q < 8) : (x.setWidth 8).getLsbD q = x.getLsbD q := by
  rw [BitVec.getLsbD_setWidth]; simp [hq]
/-- A word of four packed bytes at the row one of them reads. -/
theorem bytes_at (x0 x1 x2 x3 : IVec S8x128 32) (h) (j : S32x128.Idx) :
    bitcast S32x128 8 (packElementwiseInt 8 ![x0, x1, x2, x3] h) bitcasts_S8x128_w32_S32x128_w8 j
      = ((![x0, x1, x2, x3] ⟨(j 0).val % 4, Nat.mod_lt _ (by decide)⟩ : IVec S8x128 32) (at8 ((j 0).val / 4) (j 1).val)).setWidth 8 := by
  have h0 : (j 0).val < 32 := (j 0).isLt
  have h1 : (j 1).val < 128 := (j 1).isLt
  apply BitVec.eq_of_getLsbD_eq
  intro q hq
  rw [bitcast_getLsbD _ _ _ q hq (by decide)]
  have hrow : S32x128.row j = (j 0).val := rfl
  have hi : (bitcasts_S8x128_w32_S32x128_w8.srcIdx j ((S32x128.row j * 8 + q) / 32) (fun a ha => (Nat.div_lt_iff_lt_mul (by decide)).2 (bitcasts_S8x128_w32_S32x128_w8.pos_lt j q hq a ha)))
      = at8 ((j 0).val / 4) (j 1).val := by
    refine eq8 ?_ ?_
    · show ((j 0).val * 8 + q) / 32 = (j 0).val / 4 % 8; omega
    · show (j 1).val = (j 1).val % 128; omega
  rw [hi, packElementwiseInt8_apply, hrow]
  have hp : ((j 0).val * 8 + q) % 32 = 8 * ((j 0).val % 4) + q := by omega
  rw [hp]
  obtain ⟨b, hb⟩ : ∃ b : Fin 4, b = ⟨(j 0).val % 4, Nat.mod_lt _ (by decide)⟩ := ⟨_, rfl⟩
  rw [← hb, show (j 0).val % 4 = b.val from by rw [hb]]
  fin_cases b
  · exact ((congrArg _ (Nat.zero_add q)).trans (cat_bit _ _ _ _ q hq).1)
  · exact (cat_bit _ _ _ _ q hq).2.1
  · exact (cat_bit _ _ _ _ q hq).2.2.1
  · exact (cat_bit _ _ _ _ q hq).2.2.2
theorem inter16 {α : Type} (lo hi : S8x128.Idx → α) (j : S16x128.Idx) : interleaveRows S16x128 lo hi bitcasts_S16x128_w16_S8x128_w32 j
    = if (j 0).val % 2 = 0 then lo (at8 ((j 0).val / 2) (j 1).val) else hi (at8 ((j 0).val / 2) (j 1).val) := by
  have h := lt16 j
  have e : (Shape.Idx.norm (s := S8x128) fun b => if hb : (b.cast bitcasts_S16x128_w16_S8x128_w32.1).val + 2 = S16x128.rank then
      ⟨(j (b.cast bitcasts_S16x128_w16_S8x128_w32.1)).val / 2, by
        have hs : S16x128.size (b.cast bitcasts_S16x128_w16_S8x128_w32.1) * 16 = S8x128.size b * 32 := by
          have hs := bitcasts_S16x128_w16_S8x128_w32.2.2 (b.cast bitcasts_S16x128_w16_S8x128_w32.1); rw [if_pos hb] at hs; exact hs
        have hi := (j (b.cast bitcasts_S16x128_w16_S8x128_w32.1)).isLt
        omega⟩
      else (j (b.cast bitcasts_S16x128_w16_S8x128_w32.1)).cast (by have hs := bitcasts_S16x128_w16_S8x128_w32.2.2 (b.cast bitcasts_S16x128_w16_S8x128_w32.1); rw [if_neg hb] at hs; exact hs))
      = at8 ((j 0).val / 2) (j 1).val := by
    refine eq8 ?_ ?_
    · show (j 0).val / 2 = (j 0).val / 2 % 8; omega
    · show (j 1).val = (j 1).val % 128; omega
  rw [interleaveRows_apply, e]; rfl
theorem parity16 {α : Type} (p : Fin 2) (x : S16x128.Idx → α) (j : S8x128.Idx) : rowsOfParity p S8x128 x bitcasts_S16x128_w16_S8x128_w32 j = x (at16 (2 * (j 0).val + p.val) (j 1).val) := by
  have h := lt8 j
  refine congrArg x (eq16 ?_ ?_)
  · show 2 * (j 0).val + p.val = (2 * (j 0).val + p.val) % 16; omega
  · show (j 1).val = (j 1).val % 128; omega
/-- A stored block at an index: its first or second row. -/
theorem inter4 {α : Type} (lo hi : S8x128.Idx → α) (x : S1x8x2x128.Idx) :
    interleaveRows S1x8x2x128 (shapeCast S1x8x1x128 (shapeCast S8x1x128 lo shapeCasts_S8x128_S8x1x128) shapeCasts_S8x1x128_S1x8x1x128)
      (shapeCast S1x8x1x128 (shapeCast S8x1x128 hi shapeCasts_S8x128_S8x1x128) shapeCasts_S8x1x128_S1x8x1x128) bitcasts_S1x8x2x128_w16_S1x8x1x128_w32 x
    = if (x 2).val % 2 = 0 then lo (at8 (x 1).val (x 3).val) else hi (at8 (x 1).val (x 3).val) := by
  have x0 : (x 0).val < 1 := (x 0).isLt
  have x1 : (x 1).val < 8 := (x 1).isLt
  have x2 : (x 2).val < 2 := (x 2).isLt
  have x3 : (x 3).val < 128 := (x 3).isLt
  have key (z : S8x128.Idx → α) (y : S1x8x1x128.Idx) (y1 : (y 1).val = (x 1).val) (y3 : (y 3).val = (x 3).val) :
      shapeCast S1x8x1x128 (shapeCast S8x1x128 z shapeCasts_S8x128_S8x1x128) shapeCasts_S8x1x128_S1x8x1x128 y = z (at8 (x 1).val (x 3).val) := by
    rw [Pointwise.shapeCast_apply, Pointwise.shapeCast_apply, Shape.reshapeEquiv_reshapeEquiv]
    have y0 : (y 0).val < 1 := (y 0).isLt
    have y2 : (y 2).val < 1 := (y 2).isLt
    refine congrArg z (Shape.reshapeEquiv_eq_of_vals (s := S8x128) (s' := S1x8x1x128) _ _ _ _ _ (rowMajor_val2 _ 128 rfl) (rowMajor_val4 _ 1024 128 128 rfl rfl rfl) ?_)
    show (x 1).val % 8 * 128 + (x 3).val % 128 = (y 0).val * 1024 + (y 1).val * 128 + (y 2).val * 128 + (y 3).val
    omega
  rw [interleaveRows_apply]
  refine if_congr Iff.rfl (key lo _ ?_ ?_) (key hi _ ?_ ?_) <;> rfl
theorem storeV_apply {F : FTy → Type} [FloatOps F] (t : FVec F S16x128 .bf16) (x : S1x8x2x128.Idx) : storeV t x = t (at16 (2 * (x 1).val + (x 2).val) (x 3).val) := by
  have x1 : (x 1).val < 8 := (x 1).isLt
  have x2 : (x 2).val < 2 := (x 2).isLt
  have x3 : (x 3).val < 128 := (x 3).isLt
  refine (inter4 _ _ x).trans ?_
  rw [parity16, parity16]
  split
  · refine congrArg t (eq16 ?_ ?_)
    · show (2 * ((x 1).val % 8) + 0) % 16 = (2 * (x 1).val + (x 2).val) % 16; omega
    · show (x 3).val % 128 % 128 = (x 3).val % 128; omega
  · refine congrArg t (eq16 ?_ ?_)
    · show (2 * ((x 1).val % 8) + 1) % 16 = (2 * (x 1).val + (x 2).val) % 16; omega
    · show (x 3).val % 128 % 128 = (x 3).val % 128; omega

variable (c : Dev nD) (G : S16384.Idx → Elt F .i32) (W : S8000x8192.Idx → Elt F .i32) (S : S64x32000.Idx → Elt F .f32)
/-- Element `l` of group `g` of token `v`: its code in the packed table, and its scale's place. -/
def codeAt (v : BitVec 32) (g l : ℕ) : BitVec 8 := (IntOp.shrsi .vector (W (wIx v g l)) (shW v)).setWidth 8
def scIx (v : BitVec 32) (g : ℕ) : S64x32000.Idx := Fin.cons ⟨g % 64, Nat.mod_lt _ (by decide)⟩ (Fin.cons ⟨v.toNat % 32000, Nat.mod_lt _ (by decide)⟩ finZeroElim)
def elemAt (v : BitVec 32) (g l : ℕ) : F .bf16 :=
  FloatOps.mulf (FloatOps.sitofp .bf16 (codeAt W v g l)) (FloatOps.truncf .bf16 bitsLt_bf16_f32 (S (scIx v g)))

/-- Where an element of a gathered row's array sits in the gathered rows. -/
def rowAt (j : ℕ) (z : S64x128.Idx) : S256x64x128.Idx := (qrow j).view.emb z
theorem qrow_emb (j : ℕ) (z : S64x128.Idx) : (rowAt j z 1).val = (z 0).val ∧ (rowAt j z 2).val = (z 1).val := by
  have z0 : (z 0).val < 64 := (z 0).isLt
  have e : rowAt j z = (Rect.unit (s := S256x64x128) (rowOff j) S1x64x128.size (rowOff_inb j)).emb
      (Shape.reshapeEquiv (s := S1x64x128) (s' := S64x128) (by decide) z) := rfl
  have r : Shape.reshapeEquiv (s := S1x64x128) (s' := S64x128) (by decide) z = (Fin.cons ⟨0, (by decide : 0 < 1)⟩ (Fin.cons ⟨(z 0).val, z0⟩ (Fin.cons ⟨(z 1).val, (z 1).isLt⟩ finZeroElim)) : S1x64x128.Idx) := by
    refine Shape.reshapeEquiv_eq_of_vals (s := S1x64x128) (s' := S64x128) _ _ _ _ _ (rowMajor_val3 _ 8192 128 rfl rfl) (rowMajor_val2 _ 128 rfl) ?_
    show 0 * 8192 + (z 0).val * 128 + (z 1).val = _
    omega
  rw [e, r, Rect.emb_apply, Rect.emb_apply]
  exact ⟨(congrArg₂ (· + ·) rfl (Nat.one_mul _)).trans (Nat.zero_add _), (congrArg₂ (· + ·) rfl (Nat.one_mul _)).trans (Nat.zero_add _)⟩
theorem grp_apply (j b : ℕ) (hb : b < 50) (x : S8x128.Idx) : grp c G W j b x = W (wIx (idAt G j) (b + 2 * (x 0).val) (x 1).val) := by
  have x0 := lt8 x
  let r : LoadRect S64x128 := { off := ![b % 50, 0], size := S8x128.size, stride := ![2, 1], inb := grp_inb b }
  have e : grp c G W j b x = W (wIx (idAt G j) (rowAt j (r.idx x) 1).val (rowAt j (r.idx x) 2).val) := rfl
  have q := qrow_emb j (r.idx x)
  have e0 : (r.idx x 0).val = b % 50 + 2 * (x 0).val := rfl
  have e1 : (r.idx x 1).val = 0 + 1 * (x 1).val := rfl
  rw [e, q.1, q.2, e0, e1, Nat.mod_eq_of_lt hb, Nat.zero_add, Nat.one_mul]

/-- The codes of one load of two tokens' rows: row `4 i + 2 o + h` is group `b + 2 i + o` of token `h`. -/
theorem codes_apply (j j' b : ℕ) (hb : b < 49) (v0 v1 : BitVec 32) (x : S32x128.Idx) :
    (k0_pay16 (shW v0) (shW v1) (grp c G W j b) (grp c G W j' b) (grp c G W j (b + 1)) (grp c G W j' (b + 1)) : FVec F S32x128 .bf16) x
      = FloatOps.sitofp .bf16 ((IntOp.shrsi .vector (W (wIx (if (x 0).val % 2 = 0 then idAt G j else idAt G j') (b + (x 0).val / 2) (x 1).val))
          (shW (if (x 0).val % 2 = 0 then v0 else v1))).setWidth 8) := by
  have h0 : (x 0).val < 32 := (x 0).isLt
  have h1 : (x 1).val < 128 := (x 1).isLt
  refine congrArg (FloatOps.sitofp .bf16) ((bytes_at _ _ _ _ _ x).trans (congrArg (BitVec.setWidth 8) ?_))
  obtain ⟨n, hn⟩ : ∃ n : Fin 4, n = ⟨(x 0).val % 4, Nat.mod_lt _ (by decide)⟩ := ⟨_, rfl⟩
  have hv : (x 0).val % 4 = n.val := by rw [hn]
  rw [← hn]
  have a0 : (at8 ((x 0).val / 4) (x 1).val 0).val = (x 0).val / 4 % 8 := rfl
  have a1 : (at8 ((x 0).val / 4) (x 1).val 1).val = (x 1).val % 128 := rfl
  fin_cases n
  · rw [if_pos (by simp at hv; omega), if_pos (by simp at hv; omega), show b + (x 0).val / 2 = b + 2 * ((x 0).val / 4 % 8) from by simp at hv; omega]
    refine congrArg (IntOp.shrsi .vector · (shW v0)) ((grp_apply c G W j b (by omega) _).trans ?_)
    rw [a0, a1, Nat.mod_eq_of_lt h1]
  · rw [if_neg (by simp at hv; omega), if_neg (by simp at hv; omega), show b + (x 0).val / 2 = b + 2 * ((x 0).val / 4 % 8) from by simp at hv; omega]
    refine congrArg (IntOp.shrsi .vector · (shW v1)) ((grp_apply c G W j' b (by omega) _).trans ?_)
    rw [a0, a1, Nat.mod_eq_of_lt h1]
  · rw [if_pos (by simp at hv; omega), if_pos (by simp at hv; omega), show b + (x 0).val / 2 = b + 1 + 2 * ((x 0).val / 4 % 8) from by simp at hv; omega]
    refine congrArg (IntOp.shrsi .vector · (shW v0)) ((grp_apply c G W j (b + 1) (by omega) _).trans ?_)
    rw [a0, a1, Nat.mod_eq_of_lt h1]
  · rw [if_neg (by simp at hv; omega), if_neg (by simp at hv; omega), show b + (x 0).val / 2 = b + 1 + 2 * ((x 0).val / 4 % 8) from by simp at hv; omega]
    refine congrArg (IntOp.shrsi .vector · (shW v1)) ((grp_apply c G W j' (b + 1) (by omega) _).trans ?_)
    rw [a0, a1, Nat.mod_eq_of_lt h1]

/-- The lane a token's scale is picked from. -/
theorem laneOf_val (v : BitVec 32) : (Scalar.andi v 127#32).toNat = v.toNat % 128 := by
  show (v &&& 127#32).toNat = _
  rw [BitVec.toNat_and, show (127#32).toNat = 2 ^ 7 - 1 from rfl, Nat.and_two_pow_sub_one_eq_mod]
theorem pick_word (w : BitVec 32) (h : w.toNat < 128) : (if IntOp.cmpi .slt w 0#32 = 1#1 then IntOp.addi w 128#32 else w) = w := by
  refine if_neg ?_
  have : w.slt 0#32 = false := by
    rw [BitVec.slt_eq_decide, BitVec.toInt_eq_toNat_of_lt (by omega)]; simp
  show ¬ BitVec.ofBool (w.slt 0#32) = 1#1
  rw [this]; decide
/-- The scale gathered for a token at any element. -/
theorem pick_apply (v : BitVec 32) (hv : v.toNat < 32000) (q : ℕ) (hq : q < 8) (x : S8x128.Idx) :
    dynamicGather (s := S8x128) 1 (shapeCast S8x128 (scAt S v hv q) shapeCasts_S8x128_S8x128)
      (shapeCast S8x128 (shapeCast S8x128x1 (select (cmpi .slt (laneOf v) (broadcast S8x128 0#32)) (addi (laneOf v) (broadcast S8x128 128#32)) (laneOf v)) shapeCasts_S8x128_S8x128x1) shapeCasts_S8x128x1_S8x128) x
      = S (scIx v (8 * q + (x 0).val)) := by
  have hx := lt8 x
  have hw : (shapeCast S8x128 (shapeCast S8x128x1 (select (cmpi .slt (laneOf v) (broadcast S8x128 0#32)) (addi (laneOf v) (broadcast S8x128 128#32)) (laneOf v)) shapeCasts_S8x128_S8x128x1) shapeCasts_S8x128x1_S8x128) x
      = Scalar.andi v 127#32 := pick_word (Scalar.andi v 127#32) (by rw [laneOf_val]; omega)
  rw [dynamicGather_apply, hw, laneOf_val, Pointwise.shapeCast_apply]
  have hr (y : S8x128.Idx) : Shape.reshapeEquiv (s := S8x128) (s' := S8x128) shapeCasts_S8x128_S8x128 y = y :=
    Shape.reshapeEquiv_eq_of_vals (s := S8x128) (s' := S8x128) _ _ _ _ _ rfl rfl rfl
  rw [hr]
  have l := laneW_of_lt hv
  refine congrArg S (funext fun a => Fin.ext ?_)
  fin_cases a
  · show 8 * (q % 8) + 1 * (x 0).val = (8 * q + (x 0).val) % 64; omega
  · show laneW v + 1 * (v.toNat % 128 % 128) = v.toNat % 32000; omega
/-- A tile at an index: row `2 i + h` is group `8 q + i` of token `h`. -/
theorem tileV_apply (j j' q : ℕ) (hq : q < 8) (v0 v1 : BitVec 32) (h0 : v0.toNat < 32000) (h1 : v1.toNat < 32000) (e0 : idAt G j = v0) (e1 : idAt G j' = v1) (x : S16x128.Idx) :
    tileV c G W S j j' q v0 v1 h0 h1 x = elemAt W S (if (x 0).val % 2 = 0 then v0 else v1) (8 * q + (x 0).val / 2) (x 1).val := by
  have hx := lt16 x
  have hs (T : S16x128.Idx → F .bf16) (lo hi : S8x128.Idx → F .f32) (hT : T = interleaveRows S16x128 (truncf .bf16 lo bitsLt_bf16_f32) (truncf .bf16 hi bitsLt_bf16_f32) bitcasts_S16x128_w16_S8x128_w32)
      (hlo : ∀ y, lo y = S (scIx v0 (8 * q + (y 0).val))) (hhi : ∀ y, hi y = S (scIx v1 (8 * q + (y 0).val))) :
      T x = FloatOps.truncf .bf16 bitsLt_bf16_f32 (S (scIx (if (x 0).val % 2 = 0 then v0 else v1) (8 * q + (x 0).val / 2))) := by
    rw [hT, inter16]
    have a : (at8 ((x 0).val / 2) (x 1).val 0).val = (x 0).val / 2 := Nat.mod_eq_of_lt (by omega)
    split
    · exact congrArg _ ((hlo _).trans (by rw [a]))
    · exact congrArg _ ((hhi _).trans (by rw [a]))
  have hc (y : S32x128.Idx) (y0 : (y 0).val = 16 * (q % 2) + (x 0).val) (y1 : (y 1).val = (x 1).val) :
      (k0_pay16 (shW v0) (shW v1) (grp c G W j (16 * (q / 2))) (grp c G W j' (16 * (q / 2))) (grp c G W j (16 * (q / 2) + 1)) (grp c G W j' (16 * (q / 2) + 1)) : FVec F S32x128 .bf16) y
        = FloatOps.sitofp .bf16 (codeAt W (if (x 0).val % 2 = 0 then v0 else v1) (8 * q + (x 0).val / 2) (x 1).val) := by
    rw [codes_apply c G W j j' (16 * (q / 2)) (by omega), e0, e1, y0, y1, show (16 * (q % 2) + (x 0).val) % 2 = (x 0).val % 2 by omega,
      show 16 * (q / 2) + (16 * (q % 2) + (x 0).val) / 2 = 8 * q + (x 0).val / 2 by omega]
    rfl
  unfold tileV elemAt
  split
  · exact congrArg₂ FloatOps.mulf (hc _ (show 0 + (x 0).val = _ by omega) (Nat.zero_add _)) (hs _ _ _ rfl (pick_apply S v0 h0 q hq) (pick_apply S v1 h1 q hq))
  · exact congrArg₂ FloatOps.mulf (hc _ (show 16 + (x 0).val = _ by omega) (Nat.zero_add _)) (hs _ _ _ rfl (pick_apply S v0 h0 q hq) (pick_apply S v1 h1 q hq))
/-- Row `8 g + r` of a tile of the second result is group `g` of the tile's token `r`. -/
theorem embRows_apply (hG : ∀ x, (G x).toNat < 32000) (u : ℕ) (x : S512x128.Idx) :
    embRows c G W S hG u x = elemAt W S (idAt G (8 * u + (x 0).val % 8)) ((x 0).val / 8) (x 1).val := by
  have h0 : (x 0).val < 512 := (x 0).isLt
  have h1 : (x 1).val < 128 := (x 1).isLt
  refine (storeV_apply _ _).trans ?_
  refine (tileV_apply c G W S _ _ ((rowIx u x 1).val / 8) (show (x 0).val / 8 / 8 < 8 by omega) _ _ _ _ rfl rfl _).trans ?_
  have e0 : (at16 (2 * (locIx (rowIx u x) 1).val + (locIx (rowIx u x) 2).val) (locIx (rowIx u x) 3).val 0).val = (2 * ((x 0).val / 8 % 8) + (x 0).val % 8 % 2) % 16 := rfl
  have e1 : (at16 (2 * (locIx (rowIx u x) 1).val + (locIx (rowIx u x) 2).val) (locIx (rowIx u x) 3).val 1).val = (x 1).val % 128 := rfl
  have r2 : (rowIx u x 2).val = (x 0).val % 8 := rfl
  have r1 : (rowIx u x 1).val = (x 0).val / 8 := rfl
  rw [e0, e1, r2, r1, Nat.mod_eq_of_lt h1, show 8 * ((x 0).val / 8 / 8) + (2 * ((x 0).val / 8 % 8) + (x 0).val % 8 % 2) % 16 / 2 = (x 0).val / 8 by omega]
  refine congrArg (fun w => elemAt W S w _ _) ?_
  split
  · exact congrArg (fun k => idAt G (8 * u + k)) (by omega)
  · exact congrArg (fun k => idAt G (8 * u + k)) (by omega)
end Point
end Cert.Proof.RingIdeal
end
-- ==== Proof.KVal.lean ====
module

public import proofs.«01_k».proof.Proof.RunV
public import proofs.«01_k».proof.Proof.Point
public import Idealize.ShloMosaic.Lib.BitcastConvert

/-! The kernel's two results read at an index of the arrays it returns. -/

@[expose] public section

noncomputable section

namespace Cert.Proof.RingIdeal

open Cert.KernelIdeal Cert.KernelIdeal.Gen
open Idealize.ShloMosaic
open Idealize.ShloMosaic.TcCoe Idealize.ShloMosaic.Tactic

variable {F : FTy → Type} [FloatOps F]

section KVal
variable (m : (ℓ : Loc nD τ sig) → Buf (Elt F) ℓ)
/-- Token `v`'s entry in column `d` of the codes, and its group `g` of the scales. -/
def cIx (v : BitVec 32) (d : ℕ) : S32000x8192.Idx :=
  Fin.cons ⟨v.toNat % 32000, Nat.mod_lt _ (by decide)⟩ (Fin.cons ⟨d % 8192, Nat.mod_lt _ (by decide)⟩ finZeroElim)
def sIx (v : BitVec 32) (g : ℕ) : S32000x64.Idx :=
  Fin.cons ⟨v.toNat % 32000, Nat.mod_lt _ (by decide)⟩ (Fin.cons ⟨g % 64, Nat.mod_lt _ (by decide)⟩ finZeroElim)
theorem tabV_eq (c : Dev nD) : tabV m c = Host.bitcastConvertWiden S8000x8192 32 (transpose S8000x8192x4 [0, 2, 1]
    (shapeCast S8000x4x8192 (m ((c : Thread nD τ).loc main_arg1)) shapeCasts_S32000x8192_S8000x4x8192) transposes_S8000x4x8192_S8000x8192x4_0_2_1)
    splits_S8000x8192_w32_S8000x8192x4_w8 := rfl
theorem shW_val (v : BitVec 32) : (shW v).toNat = 8 * (v.toNat % 4) := by
  show ((v &&& 3#32) * 8#32).toNat = _
  rw [BitVec.toNat_mul, BitVec.toNat_and, show (3#32).toNat = 2 ^ 2 - 1 from rfl, Nat.and_two_pow_sub_one_eq_mod, show (8#32).toNat = 8 from rfl]
  omega
/-- The byte of the packed table that holds a code is that code. -/
theorem code_tab (c : Dev nD) (v : BitVec 32) (hv : v.toNat < 32000) (g l : ℕ) (hd : 128 * g + l < 8192) :
    codeAt (tabV m c) v g l = m ((c : Thread nD τ).loc main_arg1) (cIx v (128 * g + l)) := by
  have hs := shW_val v
  apply BitVec.eq_of_getLsbD_eq
  intro q hq
  unfold codeAt
  rw [low_bit _ q hq]
  have e : (IntOp.shrsi .vector (tabV m c (wIx v g l)) (shW v)).getLsbD q = (tabV m c (wIx v g l)).getLsbD (8 * (v.toNat % 4) + q) := by
    show (if (shW v).toNat < 32 then (tabV m c (wIx v g l)).sshiftRight' (shW v) else _).getLsbD q = _
    rw [if_pos (by omega), BitVec.sshiftRight', BitVec.getLsbD_sshiftRight, hs]
    rw [show decide (32 ≤ q) = false from decide_eq_false (by omega), if_pos (by omega)]; simp
  rw [e, tabV_eq, Host.bitcastConvertWiden_getLsbD _ _ _ _ _ _ (by omega), show (8 * (v.toNat % 4) + q) % 8 = q by omega]
  refine congrArg (fun w : BitVec 8 => w.getLsbD q) (congrArg (m ((c : Thread nD τ).loc main_arg1)) ?_)
  refine Shape.reshapeEquiv_eq_of_vals (s := S32000x8192) (s' := S8000x4x8192) _ _ _ _ _ (rowMajor_val2 _ 8192 rfl) (rowMajor_val3 _ 32768 8192 rfl rfl) ?_
  show v.toNat % 32000 * 8192 + (128 * g + l) % 8192 = v.toNat / 4 % 8000 * 32768 + (8 * (v.toNat % 4) + q) / 8 * 8192 + (128 * g + l) % 8192
  omega
theorem sc_tab (c : Dev nD) (v : BitVec 32) (g : ℕ) : scV m c (scIx v g) = m ((c : Thread nD τ).loc main_arg2) (sIx v g) := by
  refine congrArg (m ((c : Thread nD τ).loc main_arg2)) (funext fun a => Fin.ext ?_)
  fin_cases a <;> rfl
/-- Token `t`'s id. -/
def tokIx (t : ℕ) : S4x4096.Idx :=
  Fin.cons ⟨t / 4096 % 4, Nat.mod_lt _ (by decide)⟩ (Fin.cons ⟨t % 4096, Nat.mod_lt _ (by decide)⟩ finZeroElim)
theorem id_tab (c : Dev nD) (t : ℕ) (ht : t < 16384) : idAt (idsV m c) t = m ((c : Thread nD τ).loc main_arg0) (tokIx t) := by
  refine congrArg (m ((c : Thread nD τ).loc main_arg0)) ?_
  refine Shape.reshapeEquiv_eq_of_vals (s := S4x4096) (s' := S16384) _ _ _ _ _ (rowMajor_val2 _ 4096 rfl) (rowMajor_val1 _) ?_
  show t / 4096 % 4 * 4096 + t % 4096 = t % 16384
  omega
/-- The embedding of token `t` in column `d`. -/
def emb (c : Dev nD) (t d : ℕ) : F .bf16 :=
  FloatOps.mulf (FloatOps.sitofp .bf16 (m ((c : Thread nD τ).loc main_arg1) (cIx (m ((c : Thread nD τ).loc main_arg0) (tokIx t)) d)))
    (FloatOps.truncf .bf16 bitsLt_bf16_f32 (m ((c : Thread nD τ).loc main_arg2) (sIx (m ((c : Thread nD τ).loc main_arg0) (tokIx t)) (d / 128))))
theorem elem_tab (h : ∀ (c : Dev nD) j, (m ((c : Thread nD τ).loc main_arg0) j).toNat < 32000) (c : Dev nD) (t g l : ℕ) (ht : t < 16384) (hg : g < 64) (hl : l < 128) :
    elemAt (tabV m c) (scV m c) (idAt (idsV m c) t) g l = emb m c t (128 * g + l) := by
  unfold elemAt emb
  rw [id_tab m c t ht, code_tab m c _ (h c _) g l (by omega), sc_tab, show (128 * g + l) / 128 = g by omega]
/-- A result array of tiles, as the kernel returns it. -/
def back (E : S1048576x128.Idx → Elt F .bf16) : S4x4096x8192.Idx → Elt F .bf16 :=
  shapeCast S4x4096x8192 (transpose S2048x8x64x128 [0, 2, 1, 3] (shapeCast S2048x64x8x128 E shapeCasts_S1048576x128_S2048x64x8x128)
    transposes_S2048x64x8x128_S2048x8x64x128_0_2_1_3) shapeCasts_S2048x8x64x128_S4x4096x8192
/-- Row `8 g + r`, lane `l` of a tile. -/
def inT (r g l : ℕ) : S512x128.Idx :=
  Fin.cons ⟨(8 * g + r) % 512, Nat.mod_lt _ (by decide)⟩ (Fin.cons ⟨l % 128, Nat.mod_lt _ (by decide)⟩ finZeroElim)
/-- The token of an index of a result. -/
def tokOf (y : S4x4096x8192.Idx) : ℕ := 4096 * (y 0).val + (y 1).val
theorem back_apply (E : ℕ → S512x128.Idx → Elt F .bf16) (y : S4x4096x8192.Idx) :
    back (whole E) y = E (tokOf y / 8) (inT (tokOf y % 8) ((y 2).val / 128) ((y 2).val % 128)) := by
  have y0 : (y 0).val < 4 := (y 0).isLt
  have y1 : (y 1).val < 4096 := (y 1).isLt
  have y2 : (y 2).val < 8192 := (y 2).isLt
  have a : tokOf y = 4096 * (y 0).val + (y 1).val := rfl
  have e1 : Shape.reshapeEquiv (s := S2048x8x64x128) (s' := S4x4096x8192) shapeCasts_S2048x8x64x128_S4x4096x8192 y
      = (Fin.cons ⟨tokOf y / 8, (by omega : tokOf y / 8 < 2048)⟩ (Fin.cons ⟨tokOf y % 8, (by omega : tokOf y % 8 < 8)⟩
        (Fin.cons ⟨(y 2).val / 128, (by omega : (y 2).val / 128 < 64)⟩ (Fin.cons ⟨(y 2).val % 128, (by omega : (y 2).val % 128 < 128)⟩ finZeroElim))) : S2048x8x64x128.Idx) := by
    refine Shape.reshapeEquiv_eq_of_vals (s := S2048x8x64x128) (s' := S4x4096x8192) _ _ _ _ _ (rowMajor_val4 _ 65536 8192 128 rfl rfl rfl) (rowMajor_val3 _ 33554432 8192 rfl rfl) ?_
    show tokOf y / 8 * 65536 + tokOf y % 8 * 8192 + (y 2).val / 128 * 128 + (y 2).val % 128 = (y 0).val * 33554432 + (y 1).val * 8192 + (y 2).val
    omega
  unfold back
  rw [Pointwise.shapeCast_apply, e1]
  have e2 : ∀ z : S2048x64x8x128.Idx, (z 0).val = tokOf y / 8 → (z 1).val = (y 2).val / 128 → (z 2).val = tokOf y % 8 → (z 3).val = (y 2).val % 128 →
      shapeCast S2048x64x8x128 (whole E) shapeCasts_S1048576x128_S2048x64x8x128 z = E (tokOf y / 8) (inT (tokOf y % 8) ((y 2).val / 128) ((y 2).val % 128)) := by
    intro z z0 z1 z2 z3
    have e3 : Shape.reshapeEquiv (s := S1048576x128) (s' := S2048x64x8x128) shapeCasts_S1048576x128_S2048x64x8x128 z
        = (Fin.cons ⟨512 * (tokOf y / 8) + 8 * ((y 2).val / 128) + tokOf y % 8, (by omega : _ < 1048576)⟩ (Fin.cons ⟨(y 2).val % 128, (by omega : (y 2).val % 128 < 128)⟩ finZeroElim) : S1048576x128.Idx) := by
      refine Shape.reshapeEquiv_eq_of_vals (s := S1048576x128) (s' := S2048x64x8x128) _ _ _ _ _ (rowMajor_val2 _ 128 rfl) (rowMajor_val4 _ 65536 1024 128 rfl rfl rfl) ?_
      rw [z0, z1, z2, z3]
      show (512 * (tokOf y / 8) + 8 * ((y 2).val / 128) + tokOf y % 8) * 128 + (y 2).val % 128 = _
      omega
    rw [Pointwise.shapeCast_apply, e3]
    unfold whole
    refine congrArg₂ E (show (512 * (tokOf y / 8) + 8 * ((y 2).val / 128) + tokOf y % 8) / 512 = tokOf y / 8 by omega) (funext fun a => Fin.ext ?_)
    fin_cases a
    · show (512 * (tokOf y / 8) + 8 * ((y 2).val / 128) + tokOf y % 8) % 512 = (8 * ((y 2).val / 128) + tokOf y % 8) % 512; omega
    · show (y 2).val % 128 = (y 2).val % 128 % 128; omega
  exact e2 _ rfl rfl rfl rfl
variable (h : ∀ (c : Dev nD) j, (m ((c : Thread nD τ).loc main_arg0) j).toNat < 32000)
theorem emb_back (c : Dev nD) (y : S4x4096x8192.Idx) : back (whole (embV m h c)) y = emb m c (tokOf y) (y 2).val := by
  have y0 : (y 0).val < 4 := (y 0).isLt
  have y1 : (y 1).val < 4096 := (y 1).isLt
  have y2 : (y 2).val < 8192 := (y 2).isLt
  have a : tokOf y = 4096 * (y 0).val + (y 1).val := rfl
  rw [back_apply]
  refine (embRows_apply c _ _ _ _ _ _).trans ?_
  have e0 : (inT (tokOf y % 8) ((y 2).val / 128) ((y 2).val % 128) 0).val = (8 * ((y 2).val / 128) + tokOf y % 8) % 512 := rfl
  have e1 : (inT (tokOf y % 8) ((y 2).val / 128) ((y 2).val % 128) 1).val = (y 2).val % 128 % 128 := rfl
  rw [e0, e1, show 8 * (tokOf y / 8) + (8 * ((y 2).val / 128) + tokOf y % 8) % 512 % 8 = tokOf y by omega,
    show (8 * ((y 2).val / 128) + tokOf y % 8) % 512 / 8 = (y 2).val / 128 by omega, elem_tab m h c _ _ _ (by omega) (by omega) (by omega)]
  exact congrArg (emb m c (tokOf y)) (by omega)
end KVal
end Cert.Proof.RingIdeal
end
-- ==== Proof.KFin.lean ====
module

public import proofs.«01_k».proof.Proof.KVal

/-! What the run ends with, by buffer. -/

@[expose] public section

noncomputable section

namespace Cert.Proof.RingIdeal

open Cert.KernelIdeal Cert.KernelIdeal.Gen
open Idealize.ShloMosaic
open Idealize.ShloMosaic.TcCoe Idealize.ShloMosaic.Tactic

variable {F : FTy → Type} [FloatOps F]

section KFin
variable (m : (ℓ : Loc nD τ sig) → Buf (Elt F) ℓ)
theorem after_v12 (W : Valuation τ sig (Elt F)) : StableHlo.after (List.flatten [hostOps1]) W (Proc.devRef .tc main_v12) = back (W (Proc.devRef .tc main_v6_1)) := rfl
theorem after_v9 (W : Valuation τ sig (Elt F)) : StableHlo.after (List.flatten [hostOps1]) W (Proc.devRef .tc main_v9) = back (W (Proc.devRef .tc main_v6_0)) := rfl
variable (h : ∀ (c : Dev nD) j, (m ((c : Thread nD τ).loc main_arg0) j).toNat < 32000)
theorem ne0 : ∀ w, Pipeline.arrRef spec0 w ≠ main_v6_0 := by decide
theorem ne1 : ∀ w, Pipeline.arrRef spec0 w ≠ main_v6_1 := by decide
theorem mem0 : main_v6_0 ∈ Rs := by decide
theorem mem1 : main_v6_1 ∈ Rs := by decide
theorem fin_v12 (c : Dev nD) : fin m h c (Proc.devRef .tc main_v12) = back (whole (embV m h c)) :=
  (after_v12 _).trans (congrArg back ((Pipeline.withArrays_of_ne spec0 c _ _ main_v6_1 ne1).trans ((Pipeline.withR_of_mem _ Rs c _ main_v6_1 mem1).trans (Gv1 m h c))))
theorem fin_v9 (c : Dev nD) : fin m h c (Proc.devRef .tc main_v9) = back (whole (outV m h c)) :=
  (after_v9 _).trans (congrArg back ((Pipeline.withArrays_of_ne spec0 c _ _ main_v6_0 ne0).trans ((Pipeline.withR_of_mem _ Rs c _ main_v6_0 mem0).trans (Gv0 m h c))))
theorem fin_arg (c : Dev nD) (b : Ref sig .tc) (h1 : b ∉ [main_v7, main_v8, main_v9, main_v10, main_v11, main_v12]) (h2 : ∀ w, Pipeline.arrRef spec0 w ≠ b) (h3 : b ∉ Rs)
    (h4 : b ∉ [main_v0, main_v1, main_v2, main_v3, main_v4, main_v5]) : fin m h c (Proc.devRef .tc b) = m ((c : Thread nD τ).loc b) := by
  refine (StableHlo.after_unwritten (ops := hostOps1) [main_v7, main_v8, main_v9, main_v10, main_v11, main_v12] rfl h1 _).trans ?_
  exact (Pipeline.withArrays_of_ne spec0 c _ _ b h2).trans ((Pipeline.withR_of_not_mem _ Rs c _ b h3).trans (V_arg m c b h4))
end KFin
end Cert.Proof.RingIdeal
end
-- ==== Proof.Ref.lean ====
module

public import proofs.«01_k».proof.Proof.Gen.ReferenceIdeal.Run
public import Idealize.ShloMosaic.Lib.ValueIdxCore
public import Idealize.ShloMosaic.Lib.Pointwise.ElementwiseCore
public import Idealize.ShloMosaic.Lib.Pipeline.Value
public import Idealize.ShloMosaic.PureOps.Ideal.Laws

/-! The reference's two results read at an index. -/

@[expose] public section

noncomputable section

namespace Cert.Proof.RefIdeal

open Cert.ReferenceIdeal Cert.ReferenceIdeal.Gen
open Idealize.ShloMosaic Idealize.ShloMosaic.TcCoe Idealize.SL.Sem

/-- The entry of a table of `K` columns at token id `v` and column `k`. -/
def rowIx {K : ℕ} (hK : 0 < K) (v : BitVec 32) (k : ℕ) : (⟨2, ![32000, K]⟩ : Shape).Idx :=
  Fin.cons ⟨v.toNat % 32000, Nat.mod_lt _ (by decide)⟩ (Fin.cons ⟨k % K, Nat.mod_lt _ hK⟩ finZeroElim)
abbrev rowDims (K : ℕ) (wf : GatherDims.WF ⟨2, ![32000, K]⟩ ⟨3, ![4, 4096, 1]⟩ ⟨3, ![4, 4096, K]⟩ [2] [0] [] [0] [] 2 ![1, K]) :
    GatherDims ⟨2, ![32000, K]⟩ ⟨3, ![4, 4096, 1]⟩ ⟨3, ![4, 4096, K]⟩ where
  offsetDims := [2]
  collapsedSliceDims := [0]
  operandBatchingDims := []
  startIndicesBatchingDims := []
  startIndexMap := [0]
  indexVectorDim := 2
  sliceSizes := ![1, K]
  wf := wf
/-- The word a result index's token id is read from. -/
def idxOf {K : ℕ} (y : (⟨3, ![4, 4096, K]⟩ : Shape).Idx) : (⟨3, ![4, 4096, 1]⟩ : Shape).Idx :=
  fun a => match a with | ⟨0, _⟩ => ⟨(y 0).val, (y 0).isLt⟩ | ⟨1, _⟩ => ⟨(y 1).val, (y 1).isLt⟩ | ⟨2, _⟩ => ⟨0, Nat.one_pos⟩
/-- Rows gathered by token id, read at an index. -/
theorem gather_rows {α : Type} {K : ℕ} (hK : 0 < K) (wf) (x : (⟨2, ![32000, K]⟩ : Shape).Idx → α) (idx : IVec ⟨3, ![4, 4096, 1]⟩ 32)
    (y : (⟨3, ![4, 4096, K]⟩ : Shape).Idx) (hv : (idx (idxOf y)).toNat < 32000) :
    Host.gather (rowDims K wf) x idx y = x (rowIx hK (idx (idxOf y)) (y 2).val) := by
  have y2 : (y 2).val < K := (y 2).isLt
  unfold Host.gather
  refine congrArg x (funext fun a => Fin.ext ?_)
  match a with
  | ⟨0, _⟩ =>
    show (rowDims K wf).start y idx 0 + (rowDims K wf).batchCoord y 0 + (rowDims K wf).offCoord y 0 = (idx (idxOf y)).toNat % 32000
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims K wf).startIndexMap from List.mem_singleton.mpr rfl)]
    have hsi : (rowDims K wf).siIdx y ⟨List.idxOf (0 : Fin 2) (rowDims K wf).startIndexMap,
        List.idxOf_lt_length_iff.2 (List.mem_singleton.mpr rfl)⟩ = idxOf y := by
      funext b; refine Fin.ext ?_
      match b with
      | ⟨0, _⟩ => rfl
      | ⟨1, _⟩ => rfl
      | ⟨2, _⟩ => rfl
    rw [hsi, BitVec.toInt_eq_toNat_of_lt (by omega)]
    show min ((idx (idxOf y)).toNat : ℤ).toNat (32000 - 1) = _
    omega
  | ⟨1, _⟩ =>
    show (rowDims K wf).start y idx 1 + (rowDims K wf).batchCoord y 1 + (rowDims K wf).offCoord y 1 = (y 2).val % K
    rw [GatherDims.batchCoord_eq_zero _ _ _ List.not_mem_nil, Nat.mod_eq_of_lt y2]
    unfold GatherDims.start
    rw [dif_neg (show (1 : Fin 2) ∉ (rowDims K wf).startIndexMap from by simp), Nat.add_zero, Nat.zero_add]
    rfl
def sgn (w : BitVec 32) : BitVec 32 := if w = 0 then 0 else if w.msb then -1 else 1
/-- Column `d`'s group as the reference computes it: `d` divided by 128, rounded down. -/
def fdiv (w : BitVec 32) : BitVec 32 :=
  if IntOp.andi (IntOp.cmpi .ne (sgn w) (sgn 128#32)) (IntOp.cmpi .ne (IntOp.remsi .host w 128#32) 0#32) = 1#1
    then IntOp.subi (IntOp.divsi .host w 128#32) 1#32 else IntOp.divsi .host w 128#32
theorem fdiv_eq : ∀ g : Fin 64, ∀ l : Fin 128, fdiv (BitVec.ofNat 32 (128 * g.val + l.val)) = BitVec.ofNat 32 g.val := by decide +kernel
/-- The one-hot matrix of groups: row `k` is one in the columns of group `k` and zero elsewhere. -/
def hot : FVec Ideal S64x8192 .bf16 :=
  uitofp .bf16 (cmpi .eq (broadcastInDim S64x8192 ![0, 1] bcast_S64x1_S64x8192_0_1 (broadcastInDim S64x1 ![0] bcast_S64_S64x1_0 (iotaInDim S64 32 0))) (broadcastInDim S64x8192 ![0, 1] bcast_S1x8192_S64x8192_0_1 (select (andi (cmpi .ne (signi (broadcastInDim S1x8192 ![1] bcast_S8192_S1x8192_1 (iotaInDim S8192 32 0))) (broadcastInDim S1x8192 ![] bcast_S_S1x8192 (signi (id (constantI S_ 32 128#32))))) (cmpi .ne (Host.remsi (broadcastInDim S1x8192 ![1] bcast_S8192_S1x8192_1 (iotaInDim S8192 32 0)) (broadcastInDim S1x8192 ![] bcast_S_S1x8192 (id (constantI S_ 32 128#32)))) (broadcastInDim S1x8192 ![] bcast_S_S1x8192 (constantI S_ 32 0#32)))) (subi (Host.divsi (broadcastInDim S1x8192 ![1] bcast_S8192_S1x8192_1 (iotaInDim S8192 32 0)) (broadcastInDim S1x8192 ![] bcast_S_S1x8192 (id (constantI S_ 32 128#32)))) (broadcastInDim S1x8192 ![] bcast_S_S1x8192 (constantI S_ 32 1#32))) (Host.divsi (broadcastInDim S1x8192 ![1] bcast_S8192_S1x8192_1 (iotaInDim S8192 32 0)) (broadcastInDim S1x8192 ![] bcast_S_S1x8192 (id (constantI S_ 32 128#32)))))))
theorem hot_apply (y : S64x8192.Idx) : hot y = if (y 0).val = (y 1).val / 128 then (1 : EReal) else 0 := by
  have y0 : (y 0).val < 64 := (y 0).isLt
  have y1 : (y 1).val < 8192 := (y 1).isLt
  have e : hot y = (((IntOp.cmpi .eq (BitVec.ofNat 32 (y 0).val) (fdiv (BitVec.ofNat 32 (y 1).val))).toNat : ℝ) : EReal) := rfl
  have f := fdiv_eq ⟨(y 1).val / 128, by omega⟩ ⟨(y 1).val % 128, by omega⟩
  rw [show 128 * ((y 1).val / 128) + (y 1).val % 128 = (y 1).val by omega] at f
  rw [e, f]
  show (((BitVec.ofBool (decide (BitVec.ofNat 32 (y 0).val = BitVec.ofNat 32 ((y 1).val / 128)))).toNat : ℝ) : EReal) = _
  have q : BitVec.ofNat 32 (y 0).val = BitVec.ofNat 32 ((y 1).val / 128) ↔ (y 0).val = (y 1).val / 128 := by
    rw [← BitVec.toNat_inj, BitVec.toNat_ofNat, BitVec.toNat_ofNat]; omega
  by_cases k : (y 0).val = (y 1).val / 128
  · rw [if_pos k, decide_eq_true (q.2 k)]; simp
  · rw [if_neg k, decide_eq_false (fun h => k (q.1 h))]; simp
section Vals
variable (ids : IVec S4x4096 32) (cod : IVec S32000x8192 8) (sca : FVec Ideal S32000x64 .f32)
/-- The ids as the reference reads them: a negative id would count from the end. -/
def idx : IVec S4x4096x1 32 :=
  broadcastInDim S4x4096x1 ![0, 1] bcast_S4x4096_S4x4096x1_0_1 (select (cmpi .slt ids (broadcastInDim S4x4096 ![] bcast_S_S4x4096 (constantI S_ 32 0#32))) (addi ids (broadcastInDim S4x4096 ![] bcast_S_S4x4096 (constantI S_ 32 32000#32))) ids)
/-- The second result. -/
def embR : FVec Ideal S4x4096x8192 .bf16 :=
  mulf (sitofp .bf16 (extsi 32 (Host.gather gather_S32000x8192_S4x4096x1_S4x4096x8192_2_0_n_n_0_2_18192 cod (idx ids)) natLt_8_32))
    (truncf .bf16 (Host.dotGeneral dot_S4x4096x64_S64x8192_S4x4096x8192_2_0_01_1_n_n none (truncf .bf16 (Host.gather gather_S32000x64_S4x4096x1_S4x4096x64_2_0_n_n_0_2_164 sca (idx ids)) bitsLt_bf16_f32) hot) bitsLt_bf16_f32)
/-- The id of an index of a result. -/
def idIx {K : ℕ} (y : (⟨3, ![4, 4096, K]⟩ : Shape).Idx) : S4x4096.Idx :=
  Fin.cons ⟨(y 0).val, (y 0).isLt⟩ (Fin.cons ⟨(y 1).val, (y 1).isLt⟩ finZeroElim)
variable (h : ∀ j, (ids j).toNat < 32000)
include h
theorem idx_apply {K : ℕ} (y : (⟨3, ![4, 4096, K]⟩ : Shape).Idx) : idx ids (idxOf y) = ids (idIx y) := by
  have e : idx ids (idxOf y) = if IntOp.cmpi .slt (ids (idIx y)) 0#32 = 1#1 then IntOp.addi (ids (idIx y)) 32000#32 else ids (idIx y) := by
    have q : ∀ z : S4x4096.Idx, z = idIx y → (select (cmpi .slt ids (broadcastInDim S4x4096 ![] bcast_S_S4x4096 (constantI S_ 32 0#32))) (addi ids (broadcastInDim S4x4096 ![] bcast_S_S4x4096 (constantI S_ 32 32000#32))) ids) z
        = if IntOp.cmpi .slt (ids (idIx y)) 0#32 = 1#1 then IntOp.addi (ids (idIx y)) 32000#32 else ids (idIx y) := by
      rintro z rfl; rfl
    refine q _ (funext fun a => Fin.ext ?_)
    fin_cases a <;> rfl
  rw [e]
  refine if_neg ?_
  have hn := h (idIx y)
  have : (ids (idIx y)).slt 0#32 = false := by
    rw [BitVec.slt_eq_decide, BitVec.toInt_eq_toNat_of_lt (by omega)]; simp
  show ¬ BitVec.ofBool ((ids (idIx y)).slt 0#32) = 1#1
  rw [this]; decide
theorem cod_apply (y : S4x4096x8192.Idx) : Host.gather gather_S32000x8192_S4x4096x1_S4x4096x8192_2_0_n_n_0_2_18192 cod (idx ids) y
    = cod (rowIx (by decide) (ids (idIx y)) (y 2).val) := by
  have e := idx_apply ids h y
  exact (gather_rows (K := 8192) (by decide) _ cod (idx ids) y (by rw [e]; exact h _)).trans (by rw [e])
theorem sca_apply (y : S4x4096x64.Idx) : Host.gather gather_S32000x64_S4x4096x1_S4x4096x64_2_0_n_n_0_2_164 sca (idx ids) y
    = sca (rowIx (by decide) (ids (idIx y)) (y 2).val) := by
  have e := idx_apply ids h y
  exact (gather_rows (K := 64) (by decide) _ sca (idx ids) y (by rw [e]; exact h _)).trans (by rw [e])
omit h in
/-- A row of scales times the one-hot matrix picks the column's group. -/
theorem dot_hot (A : FVec Ideal S4x4096x64 .bf16) (y : S4x4096x8192.Idx) (z : S4x4096x64.Idx) (z0 : (z 0).val = (y 0).val) (z1 : (z 1).val = (y 1).val) (z2 : (z 2).val = (y 2).val / 128) :
    (Host.dotGeneral dot_S4x4096x64_S64x8192_S4x4096x8192_2_0_01_1_n_n none A hot : FVec Ideal S4x4096x8192 .f32) y = A z := by
  have y2 : (y 2).val < 8192 := (y 2).isLt
  refine (Ideal.dotGeneral_apply _ none _ A hot y).trans ?_
  rw [← Equiv.sum_comp (ValueIdx.contrEquiv1 dot_S4x4096x64_S64x8192_S4x4096x8192_2_0_01_1_n_n 64 rfl rfl).symm]
  have c1 := ValueIdx.contrEquiv1_symm_val dot_S4x4096x64_S64x8192_S4x4096x8192_2_0_01_1_n_n 64 rfl rfl
  rw [Finset.sum_eq_single (⟨(y 2).val / 128, by omega⟩ : Fin 64)]
  · rw [hot_apply]
    refine ((congrArg (_ * ·) (if_pos (c1 _))).trans (mul_one _)).trans ?_
    refine congrArg A (funext fun a => Fin.ext ?_)
    match a with
    | ⟨0, _⟩ => exact z0.symm
    | ⟨1, _⟩ => exact z1.symm
    | ⟨2, _⟩ => exact (c1 _).trans z2.symm
  · intro k _ hk
    rw [hot_apply]
    refine (congrArg (_ * ·) (if_neg ?_)).trans (mul_zero _)
    intro e
    exact hk (Fin.ext ((c1 k).symm.trans e))
  · intro hn; exact absurd (Finset.mem_univ _) hn
theorem embR_apply (y : S4x4096x8192.Idx) : embR ids cod sca y
    = (((cod (rowIx (by decide) (ids (idIx y)) (y 2).val)).toInt : ℝ) : EReal) * sca (rowIx (by decide) (ids (idIx y)) ((y 2).val / 128)) := by
  have y2 : (y 2).val < 8192 := (y 2).isLt
  let z : S4x4096x64.Idx := Fin.cons ⟨(y 0).val, (y 0).isLt⟩ (Fin.cons ⟨(y 1).val, (y 1).isLt⟩ (Fin.cons ⟨(y 2).val / 128, (by omega : (y 2).val / 128 < 64)⟩ finZeroElim))
  have a : (((((Host.gather gather_S32000x8192_S4x4096x1_S4x4096x8192_2_0_n_n_0_2_18192 cod (idx ids) y).signExtend 32).toInt : ℤ) : ℝ) : EReal)
      = (((cod (rowIx (by decide) (ids (idIx y)) (y 2).val)).toInt : ℝ) : EReal) := by
    rw [cod_apply ids cod h, BitVec.toInt_signExtend_of_le (by decide)]
  have b := (dot_hot (truncf .bf16 (Host.gather gather_S32000x64_S4x4096x1_S4x4096x64_2_0_n_n_0_2_164 sca (idx ids)) bitsLt_bf16_f32) y z rfl rfl rfl).trans (sca_apply ids sca h z)
  exact congrArg₂ (· * ·) a b
end Vals
end Cert.Proof.RefIdeal
end
-- ==== Proof.RefOut.lean ====
module

public import proofs.«01_k».proof.Proof.Ref

/-! The reference's first result read at an index, and the sums it and the kernel take in different orders. -/

@[expose] public section

noncomputable section

namespace Cert.Proof.RefIdeal

open Cert.ReferenceIdeal Cert.ReferenceIdeal.Gen
open Idealize.ShloMosaic Idealize.ShloMosaic.TcCoe Idealize.SL.Sem

/-- A token's 8192 squares, scaled and shifted, and the reciprocal of its root. -/
def rms (s : EReal) : EReal := Ideal.rsqrt (s * Ideal.ofBits .f32 0x39000000#32 + Ideal.ofBits .f32 0x358637BD#32)
theorem bits_8192 : Ideal.ofBits .f32 0x46000000#32 = ((8192 : ℝ) : EReal) := by
  simp [Ideal.ofBits, Ideal.ieee, -EReal.coe_mul]; norm_num
theorem bits_inv : Ideal.ofBits .f32 0x39000000#32 = ((8192⁻¹ : ℝ) : EReal) := by
  simp [Ideal.ofBits, Ideal.ieee, -EReal.coe_mul]; norm_num
/-- Dividing by 8192 is multiplying by the constant the kernel multiplies by. -/
theorem div_8192 (s : EReal) : Ideal.div s (Ideal.ofBits .f32 0x46000000#32) = s * Ideal.ofBits .f32 0x39000000#32 := by
  rw [bits_8192, bits_inv]
  unfold Ideal.div
  rw [if_neg (by norm_cast), EReal.coe_inv]
/-- Column `k` of a token. -/
def colIx (j : S4x4096.Idx) (k : ℕ) : S4x4096x8192.Idx :=
  Fin.cons ⟨(j 0).val, (j 0).isLt⟩ (Fin.cons ⟨(j 1).val, (j 1).isLt⟩ (Fin.cons ⟨k % 8192, Nat.mod_lt _ (by decide)⟩ finZeroElim))
theorem red_tok : S4x4096x8192.Reduces [2] S4x4096 := by decide
theorem red_apply (X : S4x4096x8192.Idx → EReal) (j : S4x4096.Idx) :
    Ideal.hostReduceAdd reducesTo_S4x4096x8192_S4x4096_d2 X (Ideal.ofBits .f32 0x00000000#32) j = ∑ k ∈ Finset.range 8192, X (colIx j k) := by
  rw [Ideal.hostReduceAdd_single _ red_tok, Ideal.ofBits_zero_f32, zero_add, ← Fin.sum_univ_eq_sum_range (fun k => X (colIx j k))]
  refine Finset.sum_congr rfl fun k _ => congrArg X (funext fun a => Fin.ext ?_)
  match a with
  | ⟨0, _⟩ => rfl
  | ⟨1, _⟩ => rfl
  | ⟨2, _⟩ => exact (Nat.mod_eq_of_lt k.isLt).symm
/-- The first result, of the second and the norm's weights. -/
def outR (E : FVec Ideal S4x4096x8192 .bf16) (w : FVec Ideal S8192 .bf16) : FVec Ideal S4x4096x8192 .bf16 :=
  truncf .bf16 (mulf (mulf (extf .f32 E bitsLt_bf16_f32) (broadcastInDim S4x4096x8192 ![0, 1, 2] bcast_S4x4096x1_S4x4096x8192_0_1_2 (Host.rsqrt (addf (Host.divf (broadcastInDim S4x4096x1 ![0, 1] bcast_S4x4096_S4x4096x1_0_1 (Host.reduceAdd (mulf (extf .f32 E bitsLt_bf16_f32) (extf .f32 E bitsLt_bf16_f32)) (constant S_ .f32 0x00000000#32) reducesTo_S4x4096x8192_S4x4096_d2 h_S_)) (broadcastInDim S4x4096x1 ![] bcast_S_S4x4096x1 (constant S_ .f32 0x46000000#32))) (broadcastInDim S4x4096x1 ![] bcast_S_S4x4096x1 (constant S_ .f32 0x358637BD#32)))))) (broadcastInDim S4x4096x8192 ![0, 1, 2] bcast_S1x1x8192_S4x4096x8192_0_1_2 (broadcastInDim S1x1x8192 ![2] bcast_S8192_S1x1x8192_2 (extf .f32 w bitsLt_bf16_f32)))) bitsLt_bf16_f32
def wtIx (k : ℕ) : S8192.Idx := Fin.cons ⟨k % 8192, Nat.mod_lt _ (by decide)⟩ finZeroElim
theorem outR_apply (E : FVec Ideal S4x4096x8192 .bf16) (w : FVec Ideal S8192 .bf16) (y : S4x4096x8192.Idx) :
    outR E w y = E y * rms (∑ k ∈ Finset.range 8192, (E (colIx (idIx y) k) : EReal) * (E (colIx (idIx y) k) : EReal)) * w (wtIx (y 2).val) := by
  have q : ∀ (j : S4x4096.Idx) (k : S8192.Idx), j = idIx y → k = wtIx (y 2).val →
      (E y : EReal) * Ideal.rsqrt (Ideal.div (Ideal.hostReduceAdd reducesTo_S4x4096x8192_S4x4096_d2 (fun x => (E x : EReal) * (E x : EReal)) (Ideal.ofBits .f32 0x00000000#32) j)
        (Ideal.ofBits .f32 0x46000000#32) + Ideal.ofBits .f32 0x358637BD#32) * w k
      = E y * rms (∑ k ∈ Finset.range 8192, (E (colIx (idIx y) k) : EReal) * (E (colIx (idIx y) k) : EReal)) * w (wtIx (y 2).val) := by
    rintro j k rfl rfl
    rw [red_apply, div_8192]; rfl
  refine q _ _ (funext fun a => Fin.ext ?_) (funext fun a => Fin.ext ?_)
  · fin_cases a <;> rfl
  · fin_cases a; exact (Nat.mod_eq_of_lt (y 2).isLt).symm
theorem res_eq (m : (ℓ : Loc nD τ sig) → Buf (Elt Ideal) ℓ) (c : Dev nD) : Value.res_main_v44 m c
    = outR (embR (m ((c.tc : Thread nD τ).loc main_arg0)) (m ((c.tc : Thread nD τ).loc main_arg1)) (m ((c.tc : Thread nD τ).loc main_arg2))) (m ((c.tc : Thread nD τ).loc main_arg3)) := by
  unfold Value.res_main_v44; rfl

/-- A sum over `a * b` numbers, `b` at a time. -/
theorem sum_blocks {M : Type} [AddCommMonoid M] (f : ℕ → M) (a b : ℕ) : ∑ k ∈ Finset.range (a * b), f k = ∑ i ∈ Finset.range a, ∑ j ∈ Finset.range b, f (b * i + j) := by
  induction a with
  | zero => simp
  | succ a ih => rw [Nat.succ_mul, Finset.sum_range_add, ih, Finset.sum_range_succ, Nat.mul_comm a b]
/-- The sum over 64 groups of 128 lanes, as rows of parity `p` of eight-row tiles hold them. -/
theorem sum_tiles {M : Type} [AddCommMonoid M] (f : ℕ → M) (p : ℕ) (hp : p < 2) :
    ∑ a ∈ Finset.range 8, (if a % 2 = p then ∑ l ∈ Finset.range 128, ∑ q ∈ Finset.range 8, (f (128 * (8 * q + a / 2) + l) + f (128 * (8 * q + (a + 8) / 2) + l)) else 0)
      = ∑ d ∈ Finset.range 8192, f d := by
  rw [show 8192 = 64 * 128 from rfl, sum_blocks f 64 128, show 64 = 8 * 8 from rfl, sum_blocks (fun g => ∑ j ∈ Finset.range 128, f (128 * g + j)) 8 8]
  generalize hG : (fun g => ∑ j ∈ Finset.range 128, f (128 * g + j)) = G
  have e : ∀ a, (∑ l ∈ Finset.range 128, ∑ q ∈ Finset.range 8, (f (128 * (8 * q + a / 2) + l) + f (128 * (8 * q + (a + 8) / 2) + l)))
      = ∑ q ∈ Finset.range 8, (G (8 * q + a / 2) + G (8 * q + (a + 8) / 2)) := by
    intro a
    rw [Finset.sum_comm, ← hG]
    exact Finset.sum_congr rfl fun q _ => Finset.sum_add_distrib
  have e' : ∀ i, (∑ j ∈ Finset.range 8, ∑ k ∈ Finset.range 128, f (128 * (8 * i + j) + k)) = ∑ j ∈ Finset.range 8, G (8 * i + j) := by
    intro i; rw [← hG]
  simp only [e, e']
  have s : ∀ A : ℕ → M, (∑ a ∈ Finset.range 8, if a % 2 = p then A (a / 2) else 0) = A 0 + A 1 + A 2 + A 3 := by
    intro A
    interval_cases p <;> simp [Finset.sum_range_succ]
  have t : ∀ a, (∑ q ∈ Finset.range 8, (G (8 * q + a / 2) + G (8 * q + (a + 8) / 2))) = (fun i => ∑ q ∈ Finset.range 8, (G (8 * q + i) + G (8 * q + (i + 4)))) (a / 2) := by
    intro a; rw [show (a + 8) / 2 = a / 2 + 4 by omega]
  refine (Finset.sum_congr rfl fun a _ => by rw [t a]).trans ((s fun i => ∑ q ∈ Finset.range 8, (G (8 * q + i) + G (8 * q + (i + 4)))).trans ?_)
  rw [← Finset.sum_add_distrib, ← Finset.sum_add_distrib, ← Finset.sum_add_distrib]
  refine Finset.sum_congr rfl fun q _ => ?_
  simp only [Finset.sum_range_succ, Finset.sum_range_zero, zero_add, Nat.add_zero]
  abel
end Cert.Proof.RefIdeal
end
-- ==== Proof.KOut.lean ====
module

public import proofs.«01_k».proof.Proof.KVal
public import proofs.«01_k».proof.Proof.RefOut

/-! The kernel's first result read at an index, at the ideal values. -/

@[expose] public section

noncomputable section

namespace Cert.Proof.RingIdeal

open Cert.KernelIdeal Cert.KernelIdeal.Gen
open Idealize.ShloMosaic
open Idealize.ShloMosaic.TcCoe Idealize.ShloMosaic.Tactic

section Tiles
variable (c : Dev nD) (G : S16384.Idx → Elt Ideal .i32) (W : S8000x8192.Idx → Elt Ideal .i32) (S : S64x32000.Idx → Elt Ideal .f32)
variable (j j' : ℕ) (v0 v1 : BitVec 32) (h0 : v0.toNat < 32000) (h1 : v1.toNat < 32000)
/-- A pair's tile `q` at row `a` and lane `l`. -/
def tl (q a l : ℕ) : EReal := tileV c G W S j j' q v0 v1 h0 h1 (at16 a l)
theorem add_tile (A : FVec Ideal S8x128 .f32) (q : ℕ) (x : S8x128.Idx) :
    k0_pay15 A (tileV c G W S j j' q v0 v1 h0 h1) x = (A x : EReal)
      + tl c G W S j j' v0 v1 h0 h1 q (x 0).val (x 1).val * tl c G W S j j' v0 v1 h0 h1 q (x 0).val (x 1).val
      + tl c G W S j j' v0 v1 h0 h1 q ((x 0).val + 8) (x 1).val * tl c G W S j j' v0 v1 h0 h1 q ((x 0).val + 8) (x 1).val := by
  have hx := lt8 x
  have q0 : ∀ y z : S16x128.Idx, y = at16 (x 0).val (x 1).val → z = at16 ((x 0).val + 8) (x 1).val →
      (A x : EReal) + (tileV c G W S j j' q v0 v1 h0 h1 y : EReal) * (tileV c G W S j j' q v0 v1 h0 h1 y : EReal) + (tileV c G W S j j' q v0 v1 h0 h1 z : EReal) * (tileV c G W S j j' q v0 v1 h0 h1 z : EReal)
      = (A x : EReal) + tl c G W S j j' v0 v1 h0 h1 q (x 0).val (x 1).val * tl c G W S j j' v0 v1 h0 h1 q (x 0).val (x 1).val
      + tl c G W S j j' v0 v1 h0 h1 q ((x 0).val + 8) (x 1).val * tl c G W S j j' v0 v1 h0 h1 q ((x 0).val + 8) (x 1).val := by
    rintro y z rfl rfl; rfl
  refine q0 _ _ (eq16 ?_ ?_) (eq16 ?_ ?_)
  · show 0 + (x 0).val = (x 0).val % 16; omega
  · show 0 + (x 1).val = (x 1).val % 128; omega
  · show 8 + (x 0).val = ((x 0).val + 8) % 16; omega
  · show 0 + (x 1).val = (x 1).val % 128; omega
/-- The running sum of squares at an element. -/
theorem acc_apply (n : ℕ) (x : S8x128.Idx) : accV c G W S j j' v0 v1 h0 h1 n x
    = ∑ q ∈ Finset.range (n + 1), (tl c G W S j j' v0 v1 h0 h1 q (x 0).val (x 1).val * tl c G W S j j' v0 v1 h0 h1 q (x 0).val (x 1).val
      + tl c G W S j j' v0 v1 h0 h1 q ((x 0).val + 8) (x 1).val * tl c G W S j j' v0 v1 h0 h1 q ((x 0).val + 8) (x 1).val : EReal) := by
  induction n with
  | zero =>
    have e : k0_pay10 (tileV c G W S j j' 0 v0 v1 h0 h1) x = k0_pay15 (fun _ => (0 : EReal)) (tileV c G W S j j' 0 v0 v1 h0 h1) x :=
      congrArg (fun w : EReal => w + _) (zero_add (_ : EReal)).symm
    rw [Finset.sum_range_one]
    refine (e.trans (add_tile c G W S j j' v0 v1 h0 h1 _ 0 x)).trans ?_
    rw [zero_add]
  | succ n ih =>
    rw [Finset.sum_range_succ, ← ih]
    exact (add_tile c G W S j j' v0 v1 h0 h1 _ (n + 1) x).trans (add_assoc _ _ _)
/-- The row sums of the whole sum of squares, read at a row. -/
theorem row_apply (z : S8x1.Idx) : k0_pay48 (accV c G W S j j' v0 v1 h0 h1 6) (tileV c G W S j j' 7 v0 v1 h0 h1) z
    = ∑ l ∈ Finset.range 128, ∑ q ∈ Finset.range 8, (tl c G W S j j' v0 v1 h0 h1 q (z 0).val l * tl c G W S j j' v0 v1 h0 h1 q (z 0).val l
      + tl c G W S j j' v0 v1 h0 h1 q ((z 0).val + 8) l * tl c G W S j j' v0 v1 h0 h1 q ((z 0).val + 8) l : EReal) := by
  have e : k0_pay48 (accV c G W S j j' v0 v1 h0 h1 6) (tileV c G W S j j' 7 v0 v1 h0 h1)
      = shapeCast S8x1 (multiReduction .add [1] S8 (accV c G W S j j' v0 v1 h0 h1 7) 0x00000000#32 reduces_S8x128_S8 (.inl rfl) rfl) shapeCasts_S8_S8x1 := rfl
  have z1 : (z 1).val < 1 := (z 1).isLt
  have i : Shape.reshapeEquiv (s := S8) (s' := S8x1) shapeCasts_S8_S8x1 z = (Fin.cons ⟨(z 0).val, (z 0).isLt⟩ finZeroElim : S8.Idx) := by
    refine Shape.reshapeEquiv_eq_of_vals (s := S8) (s' := S8x1) _ _ _ _ _ (rowMajor_val1 _) (rowMajor_val2 _ 1 rfl) ?_
    show (z 0).val = (z 0).val * 1 + (z 1).val
    omega
  rw [e, Pointwise.shapeCast_apply, i]
  refine (Ideal.multiReduction_add_single _ _ _ _ _ _).trans ?_
  rw [← Fin.sum_univ_eq_sum_range (fun l => ∑ q ∈ Finset.range 8, (tl c G W S j j' v0 v1 h0 h1 q (z 0).val l * tl c G W S j j' v0 v1 h0 h1 q (z 0).val l
      + tl c G W S j j' v0 v1 h0 h1 q ((z 0).val + 8) l * tl c G W S j j' v0 v1 h0 h1 q ((z 0).val + 8) l : EReal))]
  exact Finset.sum_congr rfl fun l _ => acc_apply c G W S j j' v0 v1 h0 h1 7 _
/-- The sum of the rows of one parity. -/
theorem par_apply (p : ℕ) (hp : p < 2) (z : S1.Idx) :
    multiReduction (F := Ideal) .add [0] S1 (select (cmpi .eq k0_pay49 (broadcast S8x1 (BitVec.ofNat 32 p))) (k0_pay48 (accV c G W S j j' v0 v1 h0 h1 6) (tileV c G W S j j' 7 v0 v1 h0 h1))
      (broadcast S8x1 (Scalar.ofBits (F := Ideal) .f32 0x00000000#32))) 0x00000000#32 reduces_S8x1_S1 (.inl rfl) rfl z
    = ∑ a ∈ Finset.range 8, (if a % 2 = p then ∑ l ∈ Finset.range 128, ∑ q ∈ Finset.range 8, (tl c G W S j j' v0 v1 h0 h1 q a l * tl c G W S j j' v0 v1 h0 h1 q a l
      + tl c G W S j j' v0 v1 h0 h1 q (a + 8) l * tl c G W S j j' v0 v1 h0 h1 q (a + 8) l : EReal) else 0) := by
  refine (Ideal.multiReduction_add_single _ _ _ _ _ _).trans ?_
  rw [← Fin.sum_univ_eq_sum_range (fun a => if a % 2 = p then ∑ l ∈ Finset.range 128, ∑ q ∈ Finset.range 8, (tl c G W S j j' v0 v1 h0 h1 q a l * tl c G W S j j' v0 v1 h0 h1 q a l
      + tl c G W S j j' v0 v1 h0 h1 q (a + 8) l * tl c G W S j j' v0 v1 h0 h1 q (a + 8) l : EReal) else 0)]
  refine Finset.sum_congr rfl fun a _ => ?_
  have m : ∀ (a : Fin 8) (p : Fin 2), (IntOp.cmpi .eq (IntOp.andi (BitVec.ofNat 32 a.val) 1#32) (BitVec.ofNat 32 p.val) = 1#1) ↔ a.val % 2 = p.val := by decide
  have k : ∀ w : S8x1.Idx, (w 0).val = a.val → (select (cmpi .eq k0_pay49 (broadcast S8x1 (BitVec.ofNat 32 p))) (k0_pay48 (accV c G W S j j' v0 v1 h0 h1 6) (tileV c G W S j j' 7 v0 v1 h0 h1))
      (broadcast S8x1 (Scalar.ofBits (F := Ideal) .f32 0x00000000#32)) : FVec Ideal S8x1 .f32) w
      = if a.val % 2 = p then k0_pay48 (accV c G W S j j' v0 v1 h0 h1 6) (tileV c G W S j j' 7 v0 v1 h0 h1) w else (0 : EReal) := by
    intro w hw
    have e : k0_pay49 w = IntOp.andi (BitVec.ofNat 32 a.val) 1#32 := by
      rw [← hw]
      refine Eq.trans (show _ = IntOp.andi (BitVec.ofNat 32 (0 * 8 + (w 0).val)) 1#32 from rfl) ?_
      rw [Nat.zero_mul, Nat.zero_add]
    show (if IntOp.cmpi .eq (k0_pay49 w) (BitVec.ofNat 32 p) = 1#1 then _ else Ideal.ofBits .f32 0x00000000#32) = _
    rw [e, Ideal.ofBits_zero_f32]
    exact if_congr (m ⟨a.val, a.isLt⟩ ⟨p, hp⟩) rfl rfl
  rw [k _ rfl, row_apply]
  rfl
/-- The square of an entry of a token's embedding. -/
def sqAt (v : BitVec 32) (d : ℕ) : EReal := (elemAt W S v (d / 128) (d % 128) : EReal) * elemAt W S v (d / 128) (d % 128)
theorem tl_sq (e0 : idAt G j = v0) (e1 : idAt G j' = v1) (q a l : ℕ) (hq : q < 8) (ha : a < 16) (hl : l < 128) :
    tl c G W S j j' v0 v1 h0 h1 q a l * tl c G W S j j' v0 v1 h0 h1 q a l = sqAt W S (if a % 2 = 0 then v0 else v1) (128 * (8 * q + a / 2) + l) := by
  have e : tl c G W S j j' v0 v1 h0 h1 q a l = elemAt W S (if a % 2 = 0 then v0 else v1) (8 * q + a / 2) l := by
    refine (tileV_apply c G W S j j' q hq v0 v1 h0 h1 e0 e1 (at16 a l)).trans ?_
    have a0 : (at16 a l 0).val = a % 16 := rfl
    have a1 : (at16 a l 1).val = l % 128 := rfl
    rw [a0, a1, Nat.mod_eq_of_lt ha, Nat.mod_eq_of_lt hl]
  rw [e, sqAt, show (128 * (8 * q + a / 2) + l) / 128 = 8 * q + a / 2 by omega, show (128 * (8 * q + a / 2) + l) % 128 = l by omega]
/-- The sum of one token's squares. -/
theorem par_sum (e0 : idAt G j = v0) (e1 : idAt G j' = v1) (p : ℕ) (hp : p < 2) (z : S1.Idx) :
    multiReduction (F := Ideal) .add [0] S1 (select (cmpi .eq k0_pay49 (broadcast S8x1 (BitVec.ofNat 32 p))) (k0_pay48 (accV c G W S j j' v0 v1 h0 h1 6) (tileV c G W S j j' 7 v0 v1 h0 h1))
      (broadcast S8x1 (Scalar.ofBits (F := Ideal) .f32 0x00000000#32))) 0x00000000#32 reduces_S8x1_S1 (.inl rfl) rfl z
    = ∑ d ∈ Finset.range 8192, sqAt W S (if p = 0 then v0 else v1) d := by
  refine (par_apply c G W S j j' v0 v1 h0 h1 p hp z).trans (Eq.trans (Finset.sum_congr rfl fun a ha => ?_) (Cert.Proof.RefIdeal.sum_tiles (sqAt W S (if p = 0 then v0 else v1)) p hp))
  have ha := Finset.mem_range.1 ha
  by_cases hap : a % 2 = p
  · rw [if_pos hap, if_pos hap]
    refine Finset.sum_congr rfl fun l hl => Finset.sum_congr rfl fun q hq => ?_
    have hl := Finset.mem_range.1 hl
    have hq := Finset.mem_range.1 hq
    rw [tl_sq c G W S j j' v0 v1 h0 h1 e0 e1 q a l hq (by omega) hl, tl_sq c G W S j j' v0 v1 h0 h1 e0 e1 q (a + 8) l hq (by omega) hl,
      show (a + 8) % 2 = p by omega, hap]
  · rw [if_neg hap, if_neg hap]
theorem ms0_apply (e0 : idAt G j = v0) (e1 : idAt G j' = v1) (z : S1x1.Idx) :
    ms0V c G W S j j' v0 v1 h0 h1 z = Cert.Proof.RefIdeal.rms (∑ d ∈ Finset.range 8192, sqAt W S v0 d) :=
  congrArg Cert.Proof.RefIdeal.rms (par_sum c G W S j j' v0 v1 h0 h1 e0 e1 0 (by decide) (Shape.reshapeEquiv (s := S1) (s' := S1x1) shapeCasts_S1_S1x1 z))
theorem ms1_apply (e0 : idAt G j = v0) (e1 : idAt G j' = v1) (z : S1x1.Idx) :
    ms1V c G W S j j' v0 v1 h0 h1 z = Cert.Proof.RefIdeal.rms (∑ d ∈ Finset.range 8192, sqAt W S v1 d) :=
  congrArg Cert.Proof.RefIdeal.rms (par_sum c G W S j j' v0 v1 h0 h1 e0 e1 1 (by decide) (Shape.reshapeEquiv (s := S1) (s' := S1x1) shapeCasts_S1_S1x1 z))
end Tiles

/-- One row of a loaded block. -/
theorem load_row {α : Type} (p : Fin 2) (raw : S1x8x2x128.Idx → α) (x : S1x8x2x128.Idx) (hx : (x 2).val = p.val) :
    shapeCast S8x128 (shapeCast S8x1x128 (rowsOfParity p S1x8x1x128 raw bitcasts_S1x8x2x128_w16_S1x8x1x128_w32) shapeCasts_S1x8x1x128_S8x1x128) shapeCasts_S8x1x128_S8x128
      (at8 (x 1).val (x 3).val) = raw x := by
  have x0 : (x 0).val < 1 := (x 0).isLt
  have x1 : (x 1).val < 8 := (x 1).isLt
  have x3 : (x 3).val < 128 := (x 3).isLt
  rw [Pointwise.shapeCast_apply, Pointwise.shapeCast_apply, Shape.reshapeEquiv_reshapeEquiv]
  have e : Shape.reshapeEquiv (s := S1x8x1x128) (s' := S8x128) (shapeCasts_S8x1x128_S8x128.trans shapeCasts_S1x8x1x128_S8x1x128) (at8 (x 1).val (x 3).val)
      = (Fin.cons ⟨0, (by decide : 0 < 1)⟩ (Fin.cons ⟨(x 1).val, x1⟩ (Fin.cons ⟨0, (by decide : 0 < 1)⟩ (Fin.cons ⟨(x 3).val, x3⟩ finZeroElim))) : S1x8x1x128.Idx) := by
    refine Shape.reshapeEquiv_eq_of_vals (s := S1x8x1x128) (s' := S8x128) _ _ _ _ _ (rowMajor_val4 _ 1024 128 128 rfl rfl rfl) (rowMajor_val2 _ 128 rfl) ?_
    show 0 * 1024 + (x 1).val * 128 + 0 * 128 + (x 3).val = (x 1).val % 8 * 128 + (x 3).val % 128
    omega
  refine Eq.trans (congrArg (rowsOfParity p S1x8x1x128 raw bitcasts_S1x8x2x128_w16_S1x8x1x128_w32) e) (congrArg raw (funext fun a => Fin.ext ?_))
  fin_cases a
  · show 0 = (x 0).val; omega
  · rfl
  · show 2 * 0 + p.val = (x 2).val; omega
  · rfl
/-- A normalised block at an index. -/
theorem norm_apply (r0 r1 : FVec Ideal S1x1 .f32) (raw : Vec Ideal S1x8x2x128 .bf16) (w : Vec Ideal S8x128 .bf16) (a0 a1 : EReal) (k0 : ∀ z, r0 z = a0) (k1 : ∀ z, r1 z = a1)
    (x : S1x8x2x128.Idx) : k0_pay207 r0 r1 raw w x = (raw x : EReal) * (if (x 2).val % 2 = 0 then a0 else a1) * w (at8 (x 1).val (x 3).val) := by
  have x2 : (x 2).val < 2 := (x 2).isLt
  refine (inter4 _ _ x).trans ?_
  have hw : (shapeCast S8x128 w shapeCasts_S8x128_S8x128) (at8 (x 1).val (x 3).val) = w (at8 (x 1).val (x 3).val) := by
    rw [Pointwise.shapeCast_apply]
    exact congrArg w (Shape.reshapeEquiv_eq_of_vals (s := S8x128) (s' := S8x128) _ _ _ _ _ (rowMajor_val2 _ 128 rfl) (rowMajor_val2 _ 128 rfl) rfl)
  by_cases hp : (x 2).val % 2 = 0
  · rw [if_pos hp, if_pos hp]
    exact congrArg₂ (fun u v : EReal => u * v) (congrArg₂ (fun u v : EReal => u * v) (load_row 0 raw x (show (x 2).val = 0 by omega)) (k0 _)) hw
  · rw [if_neg hp, if_neg hp]
    exact congrArg₂ (fun u v : EReal => u * v) (congrArg₂ (fun u v : EReal => u * v) (load_row 1 raw x (show (x 2).val = 1 by omega)) (k1 _)) hw

/-- Weight `l` of group `g`. -/
def nwIx (g l : ℕ) : S64x128.Idx := Fin.cons ⟨g % 64, Nat.mod_lt _ (by decide)⟩ (Fin.cons ⟨l % 128, Nat.mod_lt _ (by decide)⟩ finZeroElim)
section Rows
variable (c : Dev nD) (G : S16384.Idx → Elt Ideal .i32) (W : S8000x8192.Idx → Elt Ideal .i32) (S : S64x32000.Idx → Elt Ideal .f32) (N : S64x128.Idx → Elt Ideal .bf16)
theorem outRows_apply (hG : ∀ x, (G x).toNat < 32000) (u : ℕ) (x : S512x128.Idx) :
    outRows c G W S N hG u x = (embRows c G W S hG u x : EReal)
      * Cert.Proof.RefIdeal.rms (∑ d ∈ Finset.range 8192, sqAt W S (idAt G (8 * u + (x 0).val % 8)) d) * N (nwIx ((x 0).val / 8) (x 1).val) := by
  have h0 : (x 0).val < 512 := (x 0).isLt
  have h1 : (x 1).val < 128 := (x 1).isLt
  have r2 : (rowIx u x 2).val = (x 0).val % 8 := rfl
  have l2 : (locIx (rowIx u x) 2).val = (x 0).val % 8 % 2 := rfl
  refine (norm_apply _ _ _ _ _ _ (ms0_apply c G W S _ _ _ _ _ _ rfl rfl) (ms1_apply c G W S _ _ _ _ _ _ rfl rfl) (locIx (rowIx u x))).trans ?_
  refine congrArg₂ (fun u v : EReal => u * v) (congrArg₂ (fun u v : EReal => u * v) rfl ?_) (congrArg N (funext fun a => Fin.ext ?_))
  · rw [l2]
    split
    · refine congrArg (fun k => Cert.Proof.RefIdeal.rms (∑ d ∈ Finset.range 8192, sqAt W S (idAt G (8 * u + k)) d)) (?_ : 2 * ((rowIx u x 2).val / 2) = _)
      rw [r2]; omega
    · refine congrArg (fun k => Cert.Proof.RefIdeal.rms (∑ d ∈ Finset.range 8192, sqAt W S (idAt G (8 * u + k)) d)) (?_ : 2 * ((rowIx u x 2).val / 2) + 1 = _)
      rw [r2]; omega
  · fin_cases a
    · show 8 * ((x 0).val / 8 / 8 % 8) + 1 * ((x 0).val / 8 % 8 % 8) = (x 0).val / 8 % 64; omega
    · show 0 + 1 * ((x 1).val % 128) = (x 1).val % 128; omega
end Rows

variable (m : (ℓ : Loc nD τ sig) → Buf (Elt Ideal) ℓ) (h : ∀ (c : Dev nD) j, (m ((c : Thread nD τ).loc main_arg0) j).toNat < 32000)
theorem nw_tab (c : Dev nD) (g l : ℕ) : nwV m c (nwIx g l) = m ((c : Thread nD τ).loc main_arg3) (Cert.Proof.RefIdeal.wtIx (g % 64 * 128 + l % 128)) := by
  refine congrArg (m ((c : Thread nD τ).loc main_arg3)) ?_
  refine Shape.reshapeEquiv_eq_of_vals (s := S8192) (s' := S64x128) _ _ _ _ _ (rowMajor_val1 _) (rowMajor_val2 _ 128 rfl) ?_
  show (g % 64 * 128 + l % 128) % 8192 = g % 64 * 128 + l % 128
  omega
/-- The kernel's first result at an index. -/
theorem out_back (c : Dev nD) (y : S4x4096x8192.Idx) : back (whole (outV m h c)) y = (emb m c (tokOf y) (y 2).val : EReal)
      * Cert.Proof.RefIdeal.rms (∑ d ∈ Finset.range 8192, (emb m c (tokOf y) d : EReal) * emb m c (tokOf y) d)
      * m ((c : Thread nD τ).loc main_arg3) (Cert.Proof.RefIdeal.wtIx (y 2).val) := by
  have y0 : (y 0).val < 4 := (y 0).isLt
  have y1 : (y 1).val < 4096 := (y 1).isLt
  have y2 : (y 2).val < 8192 := (y 2).isLt
  have a : tokOf y = 4096 * (y 0).val + (y 1).val := rfl
  have e0 : (inT (tokOf y % 8) ((y 2).val / 128) ((y 2).val % 128) 0).val = (8 * ((y 2).val / 128) + tokOf y % 8) % 512 := rfl
  have e1 : (inT (tokOf y % 8) ((y 2).val / 128) ((y 2).val % 128) 1).val = (y 2).val % 128 % 128 := rfl
  rw [back_apply]
  refine (outRows_apply c _ _ _ _ _ _ _).trans ?_
  rw [e0, e1, show 8 * (tokOf y / 8) + (8 * ((y 2).val / 128) + tokOf y % 8) % 512 % 8 = tokOf y by omega]
  refine congrArg₂ (fun u v : EReal => u * v) (congrArg₂ (fun u v : EReal => u * v) ?_ (congrArg Cert.Proof.RefIdeal.rms (Finset.sum_congr rfl fun d hd => ?_))) ((nw_tab m c _ _).trans ?_)
  · exact (back_apply (embV m h c) y).symm.trans (emb_back m h c y)
  · have hd := Finset.mem_range.1 hd
    rw [sqAt, elem_tab m h c _ _ _ (by omega) (by omega) (by omega), show 128 * (d / 128) + d % 128 = d by omega]
  · exact congrArg (fun k => m ((c : Thread nD τ).loc main_arg3) (Cert.Proof.RefIdeal.wtIx k)) (by omega)
end Cert.Proof.RingIdeal
end
-- ==== Proof.Alg.lean ====
module

public import proofs.«01_k».proof.Proof.KFin
public import proofs.«01_k».proof.Proof.KOut

/-! The kernel's two results are the reference's, at the ideal values. -/

@[expose] public section

noncomputable section

namespace Cert.Proof.RingIdeal

open Cert.KernelIdeal Cert.KernelIdeal.Gen
open Idealize.ShloMosaic
open Idealize.ShloMosaic.TcCoe Idealize.ShloMosaic.Tactic

section Alg
variable (m : (ℓ : Loc nD τ sig) → Buf (Elt Ideal) ℓ)
theorem arg0_restP : main_arg0 ∈ Pipeline.restRefsP sig pre0 spec0 := by decide
theorem arg1_restP : main_arg1 ∈ Pipeline.restRefsP sig pre0 spec0 := by decide
theorem arg2_restP : main_arg2 ∈ Pipeline.restRefsP sig pre0 spec0 := by decide
theorem arg3_restP : main_arg3 ∈ Pipeline.restRefsP sig pre0 spec0 := by decide
theorem tok_id (y : S4x4096x8192.Idx) : tokIx (tokOf y) = Cert.Proof.RefIdeal.idIx y := by
  have y0 : (y 0).val < 4 := (y 0).isLt
  have y1 : (y 1).val < 4096 := (y 1).isLt
  funext a; apply Fin.ext
  fin_cases a
  · show (4096 * (y 0).val + (y 1).val) / 4096 % 4 = (y 0).val; omega
  · show (4096 * (y 0).val + (y 1).val) % 4096 = (y 1).val; omega
variable (h : ∀ (c : Dev nD) j, (m ((c : Thread nD τ).loc main_arg0) j).toNat < 32000)
include h
theorem emb_ref (c : Dev nD) (y : S4x4096x8192.Idx) :
    Cert.Proof.RefIdeal.embR (m ((c : Thread nD τ).loc main_arg0)) (m ((c : Thread nD τ).loc main_arg1)) (m ((c : Thread nD τ).loc main_arg2)) y = emb m c (tokOf y) (y 2).val := by
  refine (Cert.Proof.RefIdeal.embR_apply _ _ _ (h c) y).trans ?_
  rw [← tok_id]
  rfl
theorem emb_eq (c : Dev nD) :
    Cert.Proof.RefIdeal.embR (m ((c : Thread nD τ).loc main_arg0)) (m ((c : Thread nD τ).loc main_arg1)) (m ((c : Thread nD τ).loc main_arg2)) = back (whole (embV m h c)) :=
  funext fun y => (emb_ref m h c y).trans (emb_back m h c y).symm
theorem out_eq (c : Dev nD) :
    Cert.Proof.RefIdeal.outR (Cert.Proof.RefIdeal.embR (m ((c : Thread nD τ).loc main_arg0)) (m ((c : Thread nD τ).loc main_arg1)) (m ((c : Thread nD τ).loc main_arg2)))
      (m ((c : Thread nD τ).loc main_arg3)) = back (whole (outV m h c)) := by
  funext y
  refine (Cert.Proof.RefIdeal.outR_apply _ _ y).trans (Eq.trans ?_ (out_back m h c y).symm)
  have e : ∀ k ∈ Finset.range 8192, Cert.Proof.RefIdeal.embR (m ((c : Thread nD τ).loc main_arg0)) (m ((c : Thread nD τ).loc main_arg1)) (m ((c : Thread nD τ).loc main_arg2))
      (Cert.Proof.RefIdeal.colIx (Cert.Proof.RefIdeal.idIx y) k) = emb m c (tokOf y) k := by
    intro k hk
    refine (emb_ref m h c _).trans ?_
    exact congrArg (emb m c (tokOf y)) (Nat.mod_eq_of_lt (Finset.mem_range.1 hk) : k % 8192 = k)
  exact congrArg₂ (fun u v : EReal => u * v) (congrArg₂ (fun u v : EReal => u * v) (emb_ref m h c y) (congrArg Cert.Proof.RefIdeal.rms
    (Finset.sum_congr rfl fun k hk => congrArg₂ (fun u v : EReal => u * v) (e k hk) (e k hk)))) rfl
/-- The kernel's run: its two results and its arguments. -/
theorem kernel_run (ρ : Dev nD → PrngReg) :
    θ_run (defs (F := Ideal)) (onTc (τ := τ) (main (F := Ideal))) ⟨m, fun _ => 0, ρ⟩ (fun r => ∀ c : Dev nD,
      r.2.mem ((c : Thread nD τ).loc main_v9) = back (whole (outV m h c))
      ∧ r.2.mem ((c : Thread nD τ).loc main_v12) = back (whole (embV m h c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run (defs (F := Ideal)) _ _).mono (fun r q c =>
    ⟨(q c main_v9 v9_rest).trans (fin_v9 m h c), (q c main_v12 v12_rest).trans (fin_v12 m h c),
      (q c main_arg0 arg0_restP).trans (fin_arg m h c main_arg0 (by decide) (by decide) (by decide) (by decide)),
      (q c main_arg1 arg1_restP).trans (fin_arg m h c main_arg1 (by decide) (by decide) (by decide) (by decide)),
      (q c main_arg2 arg2_restP).trans (fin_arg m h c main_arg2 (by decide) (by decide) (by decide) (by decide)),
      (q c main_arg3 arg3_restP).trans (fin_arg m h c main_arg3 (by decide) (by decide) (by decide) (by decide))⟩) (run_val m ρ h)
end Alg
end Cert.Proof.RingIdeal
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_ids_in_range
public import proofs.«01_k».proof.Proof.Run
public import proofs.«01_k».proof.Proof.RunBits
public import proofs.«01_k».proof.Proof.Alg
public import Idealize.ShloMosaic.Lib.Bf16Pair
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash

@[expose] public section

noncomputable section

namespace Cert.Proof

open Idealize.ShloMosaic Idealize.ShloMosaic.TcCoe Idealize.SL.Sem

/-- What the precondition says of one id: its word, non-negative as a signed word and below 32000, is below 32000. -/
theorem id_lt {F : FTy → Type} [FloatOps F] {i : IVec Cert.Pre_ids_in_range.S4x4096 32} {a1 a2 a3}
    (h : Cert.Pre_ids_in_range.fn (F := F) i a1 a2 a3 = fun _ => 1#1) (x : Cert.Pre_ids_in_range.S4x4096.Idx) : (i x).toNat < 32000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 32000#32) = 1#1 → v.toNat < 32000 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have e := congrFun h x
  simp only [Cert.Pre_ids_in_range.fn, andi, cmpi, broadcastInDim, constantI] at e
  exact key _ e

theorem frame_P : Cert.quiescent_Kernel := fun m g h => RingBits.run_frame m g fun c j => id_lt (h c) j
theorem frame_PI : Cert.quiescent_KernelIdeal := fun m g h => RingIdeal.run_frame m g fun c j => id_lt (h c) j
theorem frame_RI : Cert.quiescent_ReferenceIdeal := fun m g _ =>
  (θ_run Cert.ReferenceIdeal.defs _ _).mono (fun r h => ⟨fun c => (h c).2.2, sem_eq_zero_of_no_sems (by decide) r.2⟩) (Cert.ReferenceIdeal.Value.run m g)
theorem frame_RI_pre : Cert.quiescent_ReferenceIdeal_pre_ids_in_range := fun m g _ =>
  (θ_run Cert.ReferenceIdeal.defs _ _).mono (fun r h => ⟨fun c => (h c).2.2, sem_eq_zero_of_no_sems (by decide) r.2⟩) (Cert.ReferenceIdeal.Value.run m g)
theorem preserves : Cert.preserves_Kernel_KernelIdeal :=
  ⟨IdealRules.bf16_pair.packStatement _, IdealRules.bf16_pair.statement _ _, IdealRules.bf16_pair.statement _ _⟩

theorem algebraic : Cert.algebraic_KernelIdeal_ReferenceIdeal := fun m g m' g' hp e =>
  have h : ∀ (c : Dev Cert.KernelIdeal.nD) j, (m ((c : Thread Cert.KernelIdeal.nD Cert.KernelIdeal.τ).loc Cert.KernelIdeal.main_arg0) j).toNat < 32000 := fun c j => id_lt (hp c) j
  ⟨fun c => RingIdeal.back (RingIdeal.whole (RingIdeal.outV m h c)), fun c => RingIdeal.back (RingIdeal.whole (RingIdeal.embV m h c)), RingIdeal.kernel_run m h g,
    (θ_run Cert.ReferenceIdeal.defs _ _).mono (fun r q c => by
      obtain ⟨q0, q1, q2⟩ := q c
      obtain ⟨e0, e1, e2, e3⟩ := e c
      refine ⟨q0.trans ((RefIdeal.res_eq m' c).trans ?_), q1.trans (Eq.trans (?_ : _ = RefIdeal.embR (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))) ?_), q2⟩
      · rw [e0, e1, e2, e3]; exact RingIdeal.out_eq m h c
      · rfl
      · rw [e0, e1, e2]; exact RingIdeal.emb_eq m h c) (Cert.ReferenceIdeal.Value.run m' g')⟩

theorem claim : Cert.Claim :=
  ⟨Cert.Kernel.Gen.facts, Cert.KernelIdeal.Gen.facts, Cert.ReferenceIdeal.Gen.facts, Cert.Pre_ids_in_range.Gen.facts,
    frame_P, frame_PI, frame_RI, frame_RI_pre, preserves, algebraic⟩

end Cert.Proof
end
